-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v99) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v164) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v36)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v194) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S4x8192x16x96 : Shape := ⟨4, ![4, 8192, 16, 96]⟩
abbrev S4x8192x16x64 : Shape := ⟨4, ![4, 8192, 16, 64]⟩
abbrev S4x256x16x96 : Shape := ⟨4, ![4, 256, 16, 96]⟩
abbrev S4x256x16x64 : Shape := ⟨4, ![4, 256, 16, 64]⟩
abbrev S_ : Shape := ⟨0, ![]⟩

class Facts : Prop where
  bcast_S_S4x8192x16x96 : S_.BroadcastsInDim S4x8192x16x96 (![] : Fin 0 → Fin S4x8192x16x96.rank)
  reducesTo_S4x8192x16x96_S_d0_1_2_3 : S4x8192x16x96.ReducesTo [0, 1, 2, 3] S_
  h_S_ : 0 < S_.numel
  bcast_S_S4x256x16x96 : S_.BroadcastsInDim S4x256x16x96 (![] : Fin 0 → Fin S4x256x16x96.rank)
  reducesTo_S4x256x16x96_S_d0_1_2_3 : S4x256x16x96.ReducesTo [0, 1, 2, 3] S_

variable [Facts]

def fn {F : FTy → Type} [FloatOps F] (main_arg0 : FVec F S4x8192x16x96 .f32) (main_arg1 : FVec F S4x8192x16x96 .f32) (main_arg2 : FVec F S4x8192x16x64 .f32) (main_arg3 : FVec F S4x256x16x96 .f32) (main_arg4 : FVec F S4x256x16x96 .f32) (main_arg5 : FVec F S4x256x16x64 .f32) : IVec S_ 1 :=
  let main_v0 : FVec F S4x8192x16x96 .f32 := Host.absf main_arg0
  let main_cst : FVec F S_ .f32 := constant S_ .f32 0x7F800000#32
  let main_v1 : FVec F S4x8192x16x96 .f32 := broadcastInDim S4x8192x16x96 ![] bcast_S_S4x8192x16x96 main_cst
  let main_v2 : IVec S4x8192x16x96 1 := cmpf .olt main_v0 main_v1
  let main_c : IVec S_ 1 := constantI S_ 1 1#1
  let main_v3 : IVec S_ 1 := (fun x v => Host.reduce IntOp.andi x v reducesTo_S4x8192x16x96_S_d0_1_2_3 h_S_) main_v2 main_c
  let main_v4 : FVec F S4x8192x16x96 .f32 := Host.absf main_arg1
  let main_cst_0 : FVec F S_ .f32 := constant S_ .f32 0x7F800000#32
  let main_v5 : FVec F S4x8192x16x96 .f32 := broadcastInDim S4x8192x16x96 ![] bcast_S_S4x8192x16x96 main_cst_0
  let main_v6 : IVec S4x8192x16x96 1 := cmpf .olt main_v4 main_v5
  let main_c_1 : IVec S_ 1 := constantI S_ 1 1#1
  let main_v7 : IVec S_ 1 := (fun x v => Host.reduce IntOp.andi x v reducesTo_S4x8192x16x96_S_d0_1_2_3 h_S_) main_v6 main_c_1
  let main_v8 : IVec S_ 1 := andi main_v3 main_v7
  let main_v9 : FVec F S4x256x16x96 .f32 := Host.absf main_arg4
  let main_cst_2 : FVec F S_ .f32 := constant S_ .f32 0x7F800000#32
  let main_v10 : FVec F S4x256x16x96 .f32 := broadcastInDim S4x256x16x96 ![] bcast_S_S4x256x16x96 main_cst_2
  let main_v11 : IVec S4x256x16x96 1 := cmpf .olt main_v9 main_v10
  let main_c_3 : IVec S_ 1 := constantI S_ 1 1#1
  let main_v12 : IVec S_ 1 := (fun x v => Host.reduce IntOp.andi x v reducesTo_S4x256x16x96_S_d0_1_2_3 h_S_) main_v11 main_c_3
  let main_v13 : IVec S_ 1 := andi main_v8 main_v12
  main_v13
-- ==== Kernel.lean ====
abbrev S4x8192x16x96 : Shape := ⟨4, ![4, 8192, 16, 96]⟩
abbrev S4x8192x16x64 : Shape := ⟨4, ![4, 8192, 16, 64]⟩
abbrev S4x256x16x96 : Shape := ⟨4, ![4, 256, 16, 96]⟩
abbrev S4x256x16x64 : Shape := ⟨4, ![4, 256, 16, 64]⟩
abbrev S32 : Shape := ⟨1, ![32]⟩
abbrev S_ : Shape := ⟨0, ![]⟩
abbrev S4x8192x16x32 : Shape := ⟨4, ![4, 8192, 16, 32]⟩
abbrev S4x8192x16x128 : Shape := ⟨4, ![4, 8192, 16, 128]⟩
abbrev S32768x2048 : Shape := ⟨2, ![32768, 2048]⟩
abbrev S4x256x16x32 : Shape := ⟨4, ![4, 256, 16, 32]⟩
abbrev S4x256x16x128 : Shape := ⟨4, ![4, 256, 16, 128]⟩
abbrev S1024x2048 : Shape := ⟨2, ![1024, 2048]⟩
abbrev S33792x2048 : Shape := ⟨2, ![33792, 2048]⟩
abbrev S64 : Shape := ⟨1, ![64]⟩
abbrev S2048x33792 : Shape := ⟨2, ![2048, 33792]⟩
abbrev S32768x1024 : Shape := ⟨2, ![32768, 1024]⟩
abbrev S2048x256 : Shape := ⟨2, ![2048, 256]⟩
abbrev S256x256 : Shape := ⟨2, ![256, 256]⟩
abbrev S8192x256 : Shape := ⟨2, ![8192, 256]⟩
abbrev S256x8192 : Shape := ⟨2, ![256, 8192]⟩
abbrev S2048x128 : Shape := ⟨2, ![2048, 128]⟩
abbrev S2x512x2048 : Shape := ⟨3, ![2, 512, 2048]⟩
abbrev S1x2048 : Shape := ⟨2, ![1, 2048]⟩
abbrev S72x2048 : Shape := ⟨2, ![72, 2048]⟩
abbrev S256x128 : Shape := ⟨2, ![256, 128]⟩
abbrev S256x2048 : Shape := ⟨2, ![256, 2048]⟩
abbrev S512x256 : Shape := ⟨2, ![512, 256]⟩
abbrev S512x128 : Shape := ⟨2, ![512, 128]⟩
abbrev S512x2048 : Shape := ⟨2, ![512, 2048]⟩
abbrev S1x512x2048 : Shape := ⟨3, ![1, 512, 2048]⟩
abbrev S2048 : Shape := ⟨1, ![2048]⟩
abbrev S72x256 : Shape := ⟨2, ![72, 256]⟩
abbrev S256x512 : Shape := ⟨2, ![256, 512]⟩
abbrev S1x512 : Shape := ⟨2, ![1, 512]⟩
abbrev S72x512 : Shape := ⟨2, ![72, 512]⟩
abbrev S512x512 : Shape := ⟨2, ![512, 512]⟩
abbrev S64x2048 : Shape := ⟨2, ![64, 2048]⟩
abbrev S128x2048 : Shape := ⟨2, ![128, 2048]⟩

abbrev nBuf : Space → Nat
  | .hbm => 69
  | .vmem => 14
  | .smem => 0
  | _ => 0

abbrev bufTy : (tb : Table) → Fin (tcTables nBuf tb) → BufTy
  | .hbm, ⟨0, _⟩ => ⟨S4x8192x16x96, .f32⟩
  | .hbm, ⟨1, _⟩ => ⟨S4x8192x16x96, .f32⟩
  | .hbm, ⟨2, _⟩ => ⟨S4x8192x16x64, .f32⟩
  | .hbm, ⟨3, _⟩ => ⟨S4x256x16x96, .f32⟩
  | .hbm, ⟨4, _⟩ => ⟨S4x256x16x96, .f32⟩
  | .hbm, ⟨5, _⟩ => ⟨S4x256x16x64, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S32, .f32⟩
  | .hbm, ⟨11, _⟩ => ⟨S4x8192x16x32, .f32⟩
  | .hbm, ⟨12, _⟩ => ⟨S4x8192x16x128, .f32⟩
  | .hbm, ⟨13, _⟩ => ⟨S32768x2048, .f32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .f32⟩
  | .hbm, ⟨19, _⟩ => ⟨S4x256x16x32, .f32⟩
  | .hbm, ⟨20, _⟩ => ⟨S4x256x16x128, .f32⟩
  | .hbm, ⟨21, _⟩ => ⟨S1024x2048, .f32⟩
  | .hbm, ⟨22, _⟩ => ⟨S33792x2048, .f32⟩
  | .hbm, ⟨23, _⟩ => ⟨S_, .f32⟩
  | .hbm, ⟨24, _⟩ => ⟨S33792x2048, .f32⟩
  | .hbm, ⟨25, _⟩ => ⟨S33792x2048, .f32⟩
  | .hbm, ⟨26, _⟩ => ⟨S_, .f32⟩
  | .hbm, ⟨27, _⟩ => ⟨S_, .f32⟩
  | .hbm, ⟨28, _⟩ => ⟨S33792x2048, .f32⟩
  | .hbm, ⟨29, _⟩ => ⟨S33792x2048, .f32⟩
  | .hbm, ⟨30, _⟩ => ⟨S33792x2048, .bf16⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i1⟩
  | .hbm, ⟨35, _⟩ => ⟨S32, .f32⟩
  | .hbm, ⟨36, _⟩ => ⟨S4x8192x16x32, .f32⟩
  | .hbm, ⟨37, _⟩ => ⟨S4x8192x16x128, .f32⟩
  | .hbm, ⟨38, _⟩ => ⟨S32768x2048, .f32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .f32⟩
  | .hbm, ⟨44, _⟩ => ⟨S4x256x16x32, .f32⟩
  | .hbm, ⟨45, _⟩ => ⟨S4x256x16x128, .f32⟩
  | .hbm, ⟨46, _⟩ => ⟨S1024x2048, .f32⟩
  | .hbm, ⟨47, _⟩ => ⟨S33792x2048, .f32⟩
  | .hbm, ⟨48, _⟩ => ⟨S33792x2048, .bf16⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S64, .f32⟩
  | .hbm, ⟨54, _⟩ => ⟨S4x8192x16x64, .f32⟩
  | .hbm, ⟨55, _⟩ => ⟨S4x8192x16x128, .f32⟩
  | .hbm, ⟨56, _⟩ => ⟨S32768x2048, .f32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i1⟩
  | .hbm, ⟨61, _⟩ => ⟨S64, .f32⟩
  | .hbm, ⟨62, _⟩ => ⟨S4x256x16x64, .f32⟩
  | .hbm, ⟨63, _⟩ => ⟨S4x256x16x128, .f32⟩
  | .hbm, ⟨64, _⟩ => ⟨S1024x2048, .f32⟩
  | .hbm, ⟨65, _⟩ => ⟨S33792x2048, .f32⟩
  | .hbm, ⟨66, _⟩ => ⟨S2048x33792, .f32⟩
  | .hbm, ⟨67, _⟩ => ⟨S2048x33792, .bf16⟩
  | .hbm, ⟨68, _⟩ => ⟨S32768x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S8192x256, .bf16⟩
  | .local _ .vmem, ⟨7, _⟩ => ⟨S8192x256, .bf16⟩
  | .local _ .vmem, ⟨8, _⟩ => ⟨S256x8192, .bf16⟩
  | .local _ .vmem, ⟨9, _⟩ => ⟨S256x8192, .bf16⟩
  | .local _ .vmem, ⟨10, _⟩ => ⟨S2048x128, .bf16⟩
  | .local _ .vmem, ⟨11, _⟩ => ⟨S2048x128, .bf16⟩
  | .local _ .vmem, ⟨12, _⟩ => ⟨S2x512x2048, .f32⟩
  | .local _ .vmem, ⟨13, _⟩ => ⟨S2x512x2048, .f32⟩
  | _, _ => ⟨S4x8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32 : BitVec 32 := 0#32
  c0_i32
@[reducible] def k0_t1_loop : Scf.Loop 32 :=
  let c0_i32_29 : BitVec 32 := 0#32
  let c3_i32 : BitVec 32 := 3#32
  let v142 : BitVec 32 := Scalar.addi c0_i32_29 c3_i32
  let c1_i32 : BitVec 32 := 1#32
  ⟨c0_i32_29, v142, c1_i32⟩
def k0_mult2 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c0_i32_262 : BitVec 32 := 0#32
  let v715 : BitVec 32 := Scalar.addi v714 c0_i32_262
  let c1_i32_263 : BitVec 32 := 1#32
  let v716 : BitVec 32 := Scalar.addi v715 c1_i32_263
  let c512_i32 : BitVec 32 := 512#32
  let v717 : BitVec 32 := Scalar.muli v716 c512_i32
  v717
def k0_off1 (k0_t1 : Fin k0_t1_loop.trips) (c0_i32_262 : BitVec 32) : Fin 2 → Nat :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let v715 : BitVec 32 := Scalar.addi v714 c0_i32_262
  let c1_i32_263 : BitVec 32 := 1#32
  let v716 : BitVec 32 := Scalar.addi v715 c1_i32_263
  let c512_i32 : BitVec 32 := 512#32
  let v717 : BitVec 32 := Scalar.muli v716 c512_i32
  let v718 : BitVec 32 := v717
  let v719 : Index := Scalar.indexCast v718
  let c0_264 : Index := 0#32
  ![v719.toNat, 0]
def k0_mult3 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c0_i32_275 : BitVec 32 := 0#32
  let v736 : BitVec 32 := Scalar.addi v714 c0_i32_275
  let c512_i32_276 : BitVec 32 := 512#32
  let v737 : BitVec 32 := Scalar.muli v736 c512_i32_276
  v737
def k0_off2 (k0_t1 : Fin k0_t1_loop.trips) (c0_i32_275 : BitVec 32) : Fin 2 → Nat :=
  let c0_277 : Index := 0#32
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let v736 : BitVec 32 := Scalar.addi v714 c0_i32_275
  let c512_i32_276 : BitVec 32 := 512#32
  let v737 : BitVec 32 := Scalar.muli v736 c512_i32_276
  let v738 : BitVec 32 := v737
  let v739 : Index := Scalar.indexCast v738
  ![0, v739.toNat]
def k0_mult4 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c1_i32_326 : BitVec 32 := 1#32
  let v864 : BitVec 32 := Scalar.addi v714 c1_i32_326
  let c1_i32_327 : BitVec 32 := 1#32
  let v865 : BitVec 32 := Scalar.addi v864 c1_i32_327
  let c512_i32_328 : BitVec 32 := 512#32
  let v866 : BitVec 32 := Scalar.muli v865 c512_i32_328
  v866
def k0_mult5 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c1_i32_340 : BitVec 32 := 1#32
  let v885 : BitVec 32 := Scalar.addi v714 c1_i32_340
  let c512_i32_341 : BitVec 32 := 512#32
  let v886 : BitVec 32 := Scalar.muli v885 c512_i32_341
  v886
def k0_mult6 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c2_i32 : BitVec 32 := 2#32
  let v1013 : BitVec 32 := Scalar.addi v714 c2_i32
  let c1_i32_391 : BitVec 32 := 1#32
  let v1014 : BitVec 32 := Scalar.addi v1013 c1_i32_391
  let c512_i32_392 : BitVec 32 := 512#32
  let v1015 : BitVec 32 := Scalar.muli v1014 c512_i32_392
  v1015
def k0_mult7 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c2_i32_404 : BitVec 32 := 2#32
  let v1034 : BitVec 32 := Scalar.addi v714 c2_i32_404
  let c512_i32_405 : BitVec 32 := 512#32
  let v1035 : BitVec 32 := Scalar.muli v1034 c512_i32_405
  v1035
def k0_mult8 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c3_i32_455 : BitVec 32 := 3#32
  let v1162 : BitVec 32 := Scalar.addi v714 c3_i32_455
  let c1_i32_456 : BitVec 32 := 1#32
  let v1163 : BitVec 32 := Scalar.addi v1162 c1_i32_456
  let c512_i32_457 : BitVec 32 := 512#32
  let v1164 : BitVec 32 := Scalar.muli v1163 c512_i32_457
  v1164
def k0_mult9 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c4_i32 : BitVec 32 := 4#32
  let v714 : BitVec 32 := Scalar.muli arg11 c4_i32
  let c3_i32_469 : BitVec 32 := 3#32
  let v1183 : BitVec 32 := Scalar.addi v714 c3_i32_469
  let c512_i32_470 : BitVec 32 := 512#32
  let v1184 : BitVec 32 := Scalar.muli v1183 c512_i32_470
  v1184
def k0_mult10 : BitVec 32 :=
  let c6656_i32 : BitVec 32 := 6656#32
  c6656_i32
def k0_mult11 : BitVec 32 :=
  let c6144_i32 : BitVec 32 := 6144#32
  c6144_i32
def k0_mult12 : BitVec 32 :=
  let c7168_i32 : BitVec 32 := 7168#32
  c7168_i32
def k0_mult13 : BitVec 32 :=
  let c6656_i32_99 : BitVec 32 := 6656#32
  c6656_i32_99
def k0_mult14 : BitVec 32 :=
  let c7680_i32 : BitVec 32 := 7680#32
  c7680_i32
def k0_mult15 : BitVec 32 :=
  let c7168_i32_160 : BitVec 32 := 7168#32
  c7168_i32_160
def k0_mult16 : BitVec 32 :=
  let c7680_i32_210 : BitVec 32 := 7680#32
  c7680_i32_210
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x16x96 : Shape := ⟨4, ![4, 8192, 16, 96]⟩
abbrev S4x8192x16x64 : Shape := ⟨4, ![4, 8192, 16, 64]⟩
abbrev S4x256x16x96 : Shape := ⟨4, ![4, 256, 16, 96]⟩
abbrev S4x256x16x64 : Shape := ⟨4, ![4, 256, 16, 64]⟩
abbrev S4x8448x16x96 : Shape := ⟨4, ![4, 8448, 16, 96]⟩
abbrev S4x8448x16x64 : Shape := ⟨4, ![4, 8448, 16, 64]⟩
abbrev S_ : Shape := ⟨0, ![]⟩
abbrev S4x16x8192x8448 : Shape := ⟨4, ![4, 16, 8192, 8448]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩
abbrev S32768x1024 : Shape := ⟨2, ![32768, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x16x96, .f32⟩
  | .hbm, ⟨1, _⟩ => ⟨S4x8192x16x96, .f32⟩
  | .hbm, ⟨2, _⟩ => ⟨S4x8192x16x64, .f32⟩
  | .hbm, ⟨3, _⟩ => ⟨S4x256x16x96, .f32⟩
  | .hbm, ⟨4, _⟩ => ⟨S4x256x16x96, .f32⟩
  | .hbm, ⟨5, _⟩ => ⟨S4x256x16x64, .f32⟩
  | .hbm, ⟨6, _⟩ => ⟨S4x8448x16x96, .f32⟩
  | .hbm, ⟨7, _⟩ => ⟨S4x8448x16x64, .f32⟩
  | .hbm, ⟨8, _⟩ => ⟨S_, .f32⟩
  | .hbm, ⟨9, _⟩ => ⟨S4x8192x16x96, .f32⟩
  | .hbm, ⟨10, _⟩ => ⟨S4x8192x16x96, .f32⟩
  | .hbm, ⟨11, _⟩ => ⟨S4x16x8192x8448, .f32⟩
  | .hbm, ⟨12, _⟩ => ⟨S_, .f32⟩
  | .hbm, ⟨13, _⟩ => ⟨S4x16x8192, .f32⟩
  | .hbm, ⟨14, _⟩ => ⟨S_, .f32⟩
  | .hbm, ⟨15, _⟩ => ⟨S4x16x8192, .f32⟩
  | .hbm, ⟨16, _⟩ => ⟨S4x16x8192, .f32⟩
  | .hbm, ⟨17, _⟩ => ⟨S4x16x8192x1, .f32⟩
  | .hbm, ⟨18, _⟩ => ⟨S4x16x8192x8448, .f32⟩
  | .hbm, ⟨19, _⟩ => ⟨S4x16x8192x8448, .f32⟩
  | .hbm, ⟨20, _⟩ => ⟨S4x16x8192x8448, .f32⟩
  | .hbm, ⟨21, _⟩ => ⟨S_, .f32⟩
  | .hbm, ⟨22, _⟩ => ⟨S4x16x8192, .f32⟩
  | .hbm, ⟨23, _⟩ => ⟨S4x16x8192x1, .f32⟩
  | .hbm, ⟨24, _⟩ => ⟨S4x16x8192x8448, .f32⟩
  | .hbm, ⟨25, _⟩ => ⟨S4x16x8192x8448, .f32⟩
  | .hbm, ⟨26, _⟩ => ⟨S4x16x64x8192, .f32⟩
  | .hbm, ⟨27, _⟩ => ⟨S4x8192x16x64, .f32⟩
  | .hbm, ⟨28, _⟩ => ⟨S32768x1024, .f32⟩
  | .hbm, ⟨29, _⟩ => ⟨S32768x1024, .bf16⟩
  | _, _ => ⟨S4x8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8x8192x128 : Shape := ⟨4, ![4, 8, 8192, 128]⟩
abbrev S4x6x1024 : Shape := ⟨3, ![4, 6, 1024]⟩
abbrev S128 : Shape := ⟨1, ![128]⟩
abbrev S1024x1024 : Shape := ⟨2, ![1024, 1024]⟩
abbrev S2x1024 : Shape := ⟨2, ![2, 1024]⟩
abbrev S1024x5632 : Shape := ⟨2, ![1024, 5632]⟩
abbrev S2816x1024 : Shape := ⟨2, ![2816, 1024]⟩
abbrev S4x8192x8x128 : Shape := ⟨4, ![4, 8192, 8, 128]⟩
abbrev S32768x1024 : Shape := ⟨2, ![32768, 1024]⟩
abbrev S_ : Shape := ⟨0, ![]⟩
abbrev S33792x1024 : Shape := ⟨2, ![33792, 1024]⟩
abbrev S33792x3072 : Shape := ⟨2, ![33792, 3072]⟩
abbrev S8x6x1024 : Shape := ⟨3, ![8, 6, 1024]⟩
abbrev S1x128 : Shape := ⟨2, ![1, 128]⟩
abbrev S1x1024 : Shape := ⟨2, ![1, 1024]⟩
abbrev S1024 : Shape := ⟨1, ![1024]⟩
abbrev S512x1024 : Shape := ⟨2, ![512, 1024]⟩
abbrev S1x6x1024 : Shape := ⟨3, ![1, 6, 1024]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 52
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8x8192x128, .f32⟩
  | .hbm, ⟨2, _⟩ => ⟨S4x8x8192x128, .f32⟩
  | .hbm, ⟨3, _⟩ => ⟨S4x8192x1024, .f32⟩
  | .hbm, ⟨4, _⟩ => ⟨S4x6x1024, .f32⟩
  | .hbm, ⟨5, _⟩ => ⟨S128, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x5632, .f32⟩
  | .hbm, ⟨10, _⟩ => ⟨S2816x1024, .f32⟩
  | .hbm, ⟨11, _⟩ => ⟨S4x8192x8x128, .f32⟩
  | .hbm, ⟨12, _⟩ => ⟨S32768x1024, .f32⟩
  | .hbm, ⟨13, _⟩ => ⟨S32768x1024, .bf16⟩
  | .hbm, ⟨14, _⟩ => ⟨S_, .i32⟩
  | .hbm, ⟨15, _⟩ => ⟨S_, .bf16⟩
  | .hbm, ⟨16, _⟩ => ⟨S33792x1024, .bf16⟩
  | .hbm, ⟨17, _⟩ => ⟨S4x8192x8x128, .f32⟩
  | .hbm, ⟨18, _⟩ => ⟨S32768x1024, .f32⟩
  | .hbm, ⟨19, _⟩ => ⟨S32768x1024, .bf16⟩
  | .hbm, ⟨20, _⟩ => ⟨S_, .i32⟩
  | .hbm, ⟨21, _⟩ => ⟨S_, .bf16⟩
  | .hbm, ⟨22, _⟩ => ⟨S33792x1024, .bf16⟩
  | .hbm, ⟨23, _⟩ => ⟨S32768x1024, .f32⟩
  | .hbm, ⟨24, _⟩ => ⟨S32768x1024, .bf16⟩
  | .hbm, ⟨25, _⟩ => ⟨S_, .i32⟩
  | .hbm, ⟨26, _⟩ => ⟨S_, .bf16⟩
  | .hbm, ⟨27, _⟩ => ⟨S33792x3072, .bf16⟩
  | .hbm, ⟨28, _⟩ => ⟨S32768x1024, .f32⟩
  | .hbm, ⟨29, _⟩ => ⟨S_, .i32⟩
  | .hbm, ⟨30, _⟩ => ⟨S_, .f32⟩
  | .hbm, ⟨31, _⟩ => ⟨S33792x1024, .f32⟩
  | .hbm, ⟨32, _⟩ => ⟨S_, .i32⟩
  | .hbm, ⟨33, _⟩ => ⟨S_, .f32⟩
  | .hbm, ⟨34, _⟩ => ⟨S8x6x1024, .f32⟩
  | .hbm, ⟨35, _⟩ => ⟨S1024x1024, .bf16⟩
  | .hbm, ⟨36, _⟩ => ⟨S1024x5632, .bf16⟩
  | .hbm, ⟨37, _⟩ => ⟨S2816x1024, .bf16⟩
  | .hbm, ⟨38, _⟩ => ⟨S1x128, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_call3_v0 : Ref sig .tc := ⟨.hbm, 30, rfl⟩
abbrev main_v12 : Ref sig .tc := ⟨.hbm, 31, rfl⟩
abbrev main_c_3 : Ref sig .tc := ⟨.hbm, 32, rfl⟩
abbrev main_call4_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x8192x1024 : Shape := ⟨3, ![4, 8192, 1024]⟩
abbrev S4x8x8192x128 : Shape := ⟨4, ![4, 8, 8192, 128]⟩
abbrev S4x6x1024 : Shape := ⟨3, ![4, 6, 1024]⟩
abbrev S128 : Shape := ⟨1, ![128]⟩
abbrev S1024x1024 : Shape := ⟨2, ![1024, 1024]⟩
abbrev S2x1024 : Shape := ⟨2, ![2, 1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x8x8192 : Shape := ⟨3, ![4, 8, 8192]⟩
abbrev S4x8x8192x1 : Shape := ⟨4, ![4, 8, 8192, 1]⟩
abbrev S1x1x1x128 : Shape := ⟨4, ![1, 1, 1, 128]⟩
abbrev S4x8192x8x128 : Shape := ⟨4, ![4, 8192, 8, 128]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 143
  | .vmem => 0
  | .smem => 0
  | _ => 0

abbrev hbmTy0_0 (i : Nat) : BufTy := match i % 128 with
  | 0 => ⟨S4x8192x1024, .f32⟩
  | 1 => ⟨S4x8x8192x128, .f32⟩
  | 2 => ⟨S4x8x8192x128, .f32⟩
  | 3 => ⟨S4x8192x1024, .f32⟩
  | 4 => ⟨S4x6x1024, .f32⟩
  | 5 => ⟨S128, .f32⟩
  | 6 => ⟨S1024x1024, .f32⟩
  | 7 => ⟨S2x1024, .f32⟩
  | 8 => ⟨S2x1024, .f32⟩
  | 9 => ⟨S1024x5632, .f32⟩
  | 10 => ⟨S2816x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x8x8192x128, .f32⟩
  | 18 => ⟨S4x8x8192x128, .f32⟩
  | 19 => ⟨S_, .f32⟩
  | 20 => ⟨S4x8x8192, .f32⟩
  | 21 => ⟨S4x8x8192x1, .f32⟩
  | 22 => ⟨S_, .f32⟩
  | 23 => ⟨S4x8x8192x1, .f32⟩
  | 24 => ⟨S4x8x8192x1, .f32⟩
  | 25 => ⟨S_, .f32⟩
  | 26 => ⟨S4x8x8192x1, .f32⟩
  | 27 => ⟨S4x8x8192x1, .f32⟩
  | 28 => ⟨S4x8x8192x1, .f32⟩
  | 29 => ⟨S4x8x8192x128, .f32⟩
  | 30 => ⟨S4x8x8192x128, .f32⟩
  | 31 => ⟨S1x1x1x128, .f32⟩
  | 32 => ⟨S4x8x8192x128, .f32⟩
  | 33 => ⟨S4x8x8192x128, .f32⟩
  | 34 => ⟨S4x8192x8x128, .f32⟩
  | 35 => ⟨S4x8192x1024, .f32⟩
  | 36 => ⟨S4x8192x1024, .f32⟩
  | 37 => ⟨S4x8192x1024, .f32⟩
  | 38 => ⟨S_, .f32⟩
  | 39 => ⟨S4x8192x1024, .f32⟩
  | 40 => ⟨S4x8192x1024, .f32⟩
  | 41 => ⟨S_, .f32⟩
  | 42 => ⟨S4x8192x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S1x1024, .f32⟩
  | 54 => ⟨S1024, .f32⟩
  | 55 => ⟨S1x1024, .f32⟩
  | 56 => ⟨S1024, .f32⟩
  | 57 => ⟨S_, .f32⟩
  | 58 => ⟨S4x8192, .f32⟩
  | 59 => ⟨S4x8192x1, .f32⟩
  | 60 => ⟨S_, .f32⟩
  | 61 => ⟨S4x8192x1, .f32⟩
  | 62 => ⟨S4x8192x1, .f32⟩
  | 63 => ⟨S4x8192x1024, .f32⟩
  | 64 => ⟨S4x8192x1024, .f32⟩
  | 65 => ⟨S4x8192x1024, .f32⟩
  | 66 => ⟨S_, .f32⟩
  | 67 => ⟨S4x8192, .f32⟩
  | 68 => ⟨S4x8192x1, .f32⟩
  | 69 => ⟨S_, .f32⟩
  | 70 => ⟨S4x8192x1, .f32⟩
  | 71 => ⟨S4x8192x1, .f32⟩
  | 72 => ⟨S_, .f32⟩
  | 73 => ⟨S4x8192x1, .f32⟩
  | 74 => ⟨S4x8192x1, .f32⟩
  | 75 => ⟨S4x8192x1, .f32⟩
  | 76 => ⟨S4x8192x1024, .f32⟩
  | 77 => ⟨S4x8192x1024, .f32⟩
  | 78 => ⟨S1x1x1024, .f32⟩
  | 79 => ⟨S4x8192x1024, .f32⟩
  | 80 => ⟨S4x8192x1024, .f32⟩
  | 81 => ⟨S1x1x1024, .f32⟩
  | 82 => ⟨S4x8192x1024, .f32⟩
  | 83 => ⟨S4x8192x1024, .f32⟩
  | 84 => ⟨S_, .f32⟩
  | 85 => ⟨S4x1x1024, .f32⟩
  | 86 => ⟨S4x1x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x5632, .f32⟩
  | 92 => ⟨S4x8192x2816, .f32⟩
  | 93 => ⟨S4x8192x2816, .f32⟩
  | 94 => ⟨S4x8192x2816, .f32⟩
  | 95 => ⟨S4x8192x2816, .f32⟩
  | 96 => ⟨S_, .f32⟩
  | 97 => ⟨S4x8192x2816, .f32⟩
  | 98 => ⟨S4x8192x2816, .f32⟩
  | 99 => ⟨S_, .f32⟩
  | 100 => ⟨S4x8192x2816, .f32⟩
  | 101 => ⟨S4x8192x2816, .f32⟩
  | 102 => ⟨S4x8192x2816, .f32⟩
  | 103 => ⟨S4x8192x2816, .f32⟩
  | 104 => ⟨S4x8192x1024, .f32⟩
  | 105 => ⟨S_, .f32⟩
  | 106 => ⟨S4x8192x1024, .f32⟩
  | 107 => ⟨S4x8192x1024, .f32⟩
  | 108 => ⟨S4x8192x1024, .f32⟩
  | 109 => ⟨S4x8192x1024, .f32⟩
  | 110 => ⟨S4x8192x1024, .f32⟩
  | 111 => ⟨S1x1024, .f32⟩
  | 112 => ⟨S1024, .f32⟩
  | 113 => ⟨S1x1024, .f32⟩
  | 114 => ⟨S1024, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S4x8192x1024, .f32⟩
  | 122 => ⟨S4x8192x1024, .f32⟩
  | 123 => ⟨S4x8192x1024, .f32⟩
  | 124 => ⟨S_, .f32⟩
  | 125 => ⟨S4x8192, .f32⟩
  | 126 => ⟨S4x8192x1, .f32⟩
  | 127 => ⟨S_, .f32⟩
  | _ => ⟨S4x8192x1024, .f32⟩

abbrev hbmTy0_1 (i : Nat) : BufTy := match i % 128 with
  | 0 => ⟨S4x8192x1, .f32⟩
  | 1 => ⟨S4x8192x1, .f32⟩
  | 2 => ⟨S_, .f32⟩
  | 3 => ⟨S4x8192x1, .f32⟩
  | 4 => ⟨S4x8192x1, .f32⟩
  | 5 => ⟨S4x8192x1, .f32⟩
  | 6 => ⟨S4x8192x1024, .f32⟩
  | 7 => ⟨S4x8192x1024, .f32⟩
  | 8 => ⟨S1x1x1024, .f32⟩
  | 9 => ⟨S4x8192x1024, .f32⟩
  | 10 => ⟨S4x8192x1024, .f32⟩
  | 11 => ⟨S1x1x1024, .f32⟩
  | 12 => ⟨S4x8192x1024, .f32⟩
  | 13 => ⟨S4x8192x1024, .f32⟩
  | 14 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_9 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_10 : Ref sig .tc := ⟨.hbm, 115, rfl⟩
abbrev main_v77 : Ref sig .tc := ⟨.hbm, 116, rfl⟩
abbrev main_v78 : Ref sig .tc := ⟨.hbm, 117, rfl⟩
abbrev main_cst_11 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_12 : Ref sig .tc := ⟨.hbm, 124, rfl⟩
abbrev main_v84 : Ref sig .tc := ⟨.hbm, 125, rfl⟩
abbrev main_v85 : Ref sig .tc := ⟨.hbm, 126, rfl⟩
abbrev main_cst_13 : Ref sig .tc := ⟨.hbm, 127, rfl⟩
abbrev main_v86 : Ref sig .tc := ⟨.hbm, 128, rfl⟩
abbrev main_v87 : Ref sig .tc := ⟨.hbm, 129, rfl⟩
abbrev main_cst_14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S1x6x1024 : Shape := ⟨3, ![1, 6, 1024]⟩
abbrev S1024x1024 : Shape := ⟨2, ![1024, 1024]⟩
abbrev S2x1024 : Shape := ⟨2, ![2, 1024]⟩
abbrev S1024x5632 : Shape := ⟨2, ![1024, 5632]⟩
abbrev S2816x1024 : Shape := ⟨2, ![2816, 1024]⟩
abbrev S32768x1024 : Shape := ⟨2, ![32768, 1024]⟩
abbrev S33792x1024 : Shape := ⟨2, ![33792, 1024]⟩
abbrev S5x6x1024 : Shape := ⟨3, ![5, 6, 1024]⟩
abbrev S_ : Shape := ⟨0, ![]⟩
abbrev S8x6x1024 : Shape := ⟨3, ![8, 6, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 38
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x8192x1024, .f32⟩
  | .hbm, ⟨3, _⟩ => ⟨S4x256x1024, .f32⟩
  | .hbm, ⟨4, _⟩ => ⟨S4x6x1024, .f32⟩
  | .hbm, ⟨5, _⟩ => ⟨S1x6x1024, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x5632, .f32⟩
  | .hbm, ⟨10, _⟩ => ⟨S2816x1024, .f32⟩
  | .hbm, ⟨11, _⟩ => ⟨S32768x1024, .f32⟩
  | .hbm, ⟨12, _⟩ => ⟨S1024x1024, .f32⟩
  | .hbm, ⟨13, _⟩ => ⟨S33792x1024, .f32⟩
  | .hbm, ⟨14, _⟩ => ⟨S5x6x1024, .f32⟩
  | .hbm, ⟨15, _⟩ => ⟨S_, .i32⟩
  | .hbm, ⟨16, _⟩ => ⟨S_, .f32⟩
  | .hbm, ⟨17, _⟩ => ⟨S8x6x1024, .f32⟩
  | .hbm, ⟨18, _⟩ => ⟨S32768x1024, .f32⟩
  | .hbm, ⟨19, _⟩ => ⟨S32768x1024, .bf16⟩
  | .hbm, ⟨20, _⟩ => ⟨S1024x1024, .f32⟩
  | .hbm, ⟨21, _⟩ => ⟨S1024x1024, .bf16⟩
  | .hbm, ⟨22, _⟩ => ⟨S1024x1024, .bf16⟩
  | .hbm, ⟨23, _⟩ => ⟨S1024x5632, .bf16⟩
  | .hbm, ⟨24, _⟩ => ⟨S2816x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S1x6x1024 : Shape := ⟨3, ![1, 6, 1024]⟩
abbrev S1024x1024 : Shape := ⟨2, ![1024, 1024]⟩
abbrev S2x1024 : Shape := ⟨2, ![2, 1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S33792x1024 : Shape := ⟨2, ![33792, 1024]⟩

abbrev nBuf : Space → Nat
  | .hbm => 218
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x8192x1024, .f32⟩
  | 3 => ⟨S4x256x1024, .f32⟩
  | 4 => ⟨S4x6x1024, .f32⟩
  | 5 => ⟨S1x6x1024, .f32⟩
  | 6 => ⟨S1024x1024, .f32⟩
  | 7 => ⟨S2x1024, .f32⟩
  | 8 => ⟨S2x1024, .f32⟩
  | 9 => ⟨S1024x5632, .f32⟩
  | 10 => ⟨S2816x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S_, .f32⟩
  | 18 => ⟨S4x8192x1024, .f32⟩
  | 19 => ⟨S4x8192x1024, .f32⟩
  | 20 => ⟨S4x8192x1024, .f32⟩
  | 21 => ⟨S4x8192x1024, .f32⟩
  | 22 => ⟨S4x8192x1024, .f32⟩
  | 23 => ⟨S4x8192x1024, .f32⟩
  | 24 => ⟨S1x1024, .f32⟩
  | 25 => ⟨S1024, .f32⟩
  | 26 => ⟨S1x1024, .f32⟩
  | 27 => ⟨S1024, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S4x8192x1024, .f32⟩
  | 35 => ⟨S4x8192x1024, .f32⟩
  | 36 => ⟨S4x8192x1024, .f32⟩
  | 37 => ⟨S_, .f32⟩
  | 38 => ⟨S4x8192, .f32⟩
  | 39 => ⟨S4x8192x1, .f32⟩
  | 40 => ⟨S_, .f32⟩
  | 41 => ⟨S4x8192x1, .f32⟩
  | 42 => ⟨S4x8192x1, .f32⟩
  | 43 => ⟨S_, .f32⟩
  | 44 => ⟨S4x8192x1, .f32⟩
  | 45 => ⟨S4x8192x1, .f32⟩
  | 46 => ⟨S4x8192x1, .f32⟩
  | 47 => ⟨S4x8192x1024, .f32⟩
  | 48 => ⟨S4x8192x1024, .f32⟩
  | 49 => ⟨S1x1x1024, .f32⟩
  | 50 => ⟨S4x8192x1024, .f32⟩
  | 51 => ⟨S4x8192x1024, .f32⟩
  | 52 => ⟨S1x1x1024, .f32⟩
  | 53 => ⟨S4x8192x1024, .f32⟩
  | 54 => ⟨S4x8192x1024, .f32⟩
  | 55 => ⟨S_, .f32⟩
  | 56 => ⟨S4x1x1024, .f32⟩
  | 57 => ⟨S4x1x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S4x8192x5632, .f32⟩
  | 63 => ⟨S4x8192x2816, .f32⟩
  | 64 => ⟨S4x8192x2816, .f32⟩
  | 65 => ⟨S4x8192x2816, .f32⟩
  | 66 => ⟨S4x8192x2816, .f32⟩
  | 67 => ⟨S_, .f32⟩
  | 68 => ⟨S4x8192x2816, .f32⟩
  | 69 => ⟨S4x8192x2816, .f32⟩
  | 70 => ⟨S_, .f32⟩
  | 71 => ⟨S4x8192x2816, .f32⟩
  | 72 => ⟨S4x8192x2816, .f32⟩
  | 73 => ⟨S4x8192x2816, .f32⟩
  | 74 => ⟨S4x8192x2816, .f32⟩
  | 75 => ⟨S4x8192x1024, .f32⟩
  | 76 => ⟨S_, .f32⟩
  | 77 => ⟨S4x8192x1024, .f32⟩
  | 78 => ⟨S4x8192x1024, .f32⟩
  | 79 => ⟨S4x8192x1024, .f32⟩
  | 80 => ⟨S4x8192x1024, .f32⟩
  | 81 => ⟨S4x8192x1024, .f32⟩
  | 82 => ⟨S1x1024, .f32⟩
  | 83 => ⟨S1024, .f32⟩
  | 84 => ⟨S1x1024, .f32⟩
  | 85 => ⟨S1024, .f32⟩
  | 86 => ⟨S_, .f32⟩
  | 87 => ⟨S4x8192, .f32⟩
  | 88 => ⟨S4x8192x1, .f32⟩
  | 89 => ⟨S_, .f32⟩
  | 90 => ⟨S4x8192x1, .f32⟩
  | 91 => ⟨S4x8192x1, .f32⟩
  | 92 => ⟨S4x8192x1024, .f32⟩
  | 93 => ⟨S4x8192x1024, .f32⟩
  | 94 => ⟨S4x8192x1024, .f32⟩
  | 95 => ⟨S_, .f32⟩
  | 96 => ⟨S4x8192, .f32⟩
  | 97 => ⟨S4x8192x1, .f32⟩
  | 98 => ⟨S_, .f32⟩
  | 99 => ⟨S4x8192x1, .f32⟩
  | 100 => ⟨S4x8192x1, .f32⟩
  | 101 => ⟨S_, .f32⟩
  | 102 => ⟨S4x8192x1, .f32⟩
  | 103 => ⟨S4x8192x1, .f32⟩
  | 104 => ⟨S4x8192x1, .f32⟩
  | 105 => ⟨S4x8192x1024, .f32⟩
  | 106 => ⟨S4x8192x1024, .f32⟩
  | 107 => ⟨S1x1x1024, .f32⟩
  | 108 => ⟨S4x8192x1024, .f32⟩
  | 109 => ⟨S4x8192x1024, .f32⟩
  | 110 => ⟨S1x1x1024, .f32⟩
  | 111 => ⟨S4x8192x1024, .f32⟩
  | 112 => ⟨S4x8192x1024, .f32⟩
  | 113 => ⟨S32768x1024, .f32⟩
  | 114 => ⟨S1x1x1024, .f32⟩
  | 115 => ⟨S1x1x1024, .f32⟩
  | 116 => ⟨S1x1x1024, .f32⟩
  | 117 => ⟨S1x1x1024, .f32⟩
  | 118 => ⟨S1x1x1024, .f32⟩
  | 119 => ⟨S1x1x1024, .f32⟩
  | 120 => ⟨S_, .f32⟩
  | 121 => ⟨S4x256x1024, .f32⟩
  | 122 => ⟨S4x256x1024, .f32⟩
  | 123 => ⟨S4x256x1024, .f32⟩
  | 124 => ⟨S4x256x1024, .f32⟩
  | 125 => ⟨S4x256x1024, .f32⟩
  | 126 => ⟨S4x256x1024, .f32⟩
  | 127 => ⟨S1x1024, .f32⟩
  | _ => ⟨S4x8192x1024, .f32⟩

abbrev hbmTy0_1 (i : Nat) : BufTy := match i % 128 with
  | 0 => ⟨S1024, .f32⟩
  | 1 => ⟨S1x1024, .f32⟩
  | 2 => ⟨S1024, .f32⟩
  | 3 => ⟨S_, .f32⟩
  | 4 => ⟨S4x256, .f32⟩
  | 5 => ⟨S4x256x1, .f32⟩
  | 6 => ⟨S_, .f32⟩
  | 7 => ⟨S4x256x1, .f32⟩
  | 8 => ⟨S4x256x1, .f32⟩
  | 9 => ⟨S4x256x1024, .f32⟩
  | 10 => ⟨S4x256x1024, .f32⟩
  | 11 => ⟨S4x256x1024, .f32⟩
  | 12 => ⟨S_, .f32⟩
  | 13 => ⟨S4x256, .f32⟩
  | 14 => ⟨S4x256x1, .f32⟩
  | 15 => ⟨S_, .f32⟩
  | 16 => ⟨S4x256x1, .f32⟩
  | 17 => ⟨S4x256x1, .f32⟩
  | 18 => ⟨S_, .f32⟩
  | 19 => ⟨S4x256x1, .f32⟩
  | 20 => ⟨S4x256x1, .f32⟩
  | 21 => ⟨S4x256x1, .f32⟩
  | 22 => ⟨S4x256x1024, .f32⟩
  | 23 => ⟨S4x256x1024, .f32⟩
  | 24 => ⟨S1x1x1024, .f32⟩
  | 25 => ⟨S4x256x1024, .f32⟩
  | 26 => ⟨S4x256x1024, .f32⟩
  | 27 => ⟨S1x1x1024, .f32⟩
  | 28 => ⟨S4x256x1024, .f32⟩
  | 29 => ⟨S4x256x1024, .f32⟩
  | 30 => ⟨S_, .f32⟩
  | 31 => ⟨S1x1x1024, .f32⟩
  | 32 => ⟨S1x1x1024, .f32⟩
  | 33 => ⟨S4x256x1024, .f32⟩
  | 34 => ⟨S4x256x1024, .f32⟩
  | 35 => ⟨S4x256x1024, .f32⟩
  | 36 => ⟨S4x256x1024, .f32⟩
  | 37 => ⟨S4x256x5632, .f32⟩
  | 38 => ⟨S4x256x2816, .f32⟩
  | 39 => ⟨S4x256x2816, .f32⟩
  | 40 => ⟨S4x256x2816, .f32⟩
  | 41 => ⟨S4x256x2816, .f32⟩
  | 42 => ⟨S_, .f32⟩
  | 43 => ⟨S4x256x2816, .f32⟩
  | 44 => ⟨S4x256x2816, .f32⟩
  | 45 => ⟨S_, .f32⟩
  | 46 => ⟨S4x256x2816, .f32⟩
  | 47 => ⟨S4x256x2816, .f32⟩
  | 48 => ⟨S4x256x2816, .f32⟩
  | 49 => ⟨S4x256x2816, .f32⟩
  | 50 => ⟨S4x256x1024, .f32⟩
  | 51 => ⟨S_, .f32⟩
  | 52 => ⟨S4x256x1024, .f32⟩
  | 53 => ⟨S4x256x1024, .f32⟩
  | 54 => ⟨S4x256x1024, .f32⟩
  | 55 => ⟨S4x256x1024, .f32⟩
  | 56 => ⟨S4x256x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S4x256, .f32⟩
  | 63 => ⟨S4x256x1, .f32⟩
  | 64 => ⟨S_, .f32⟩
  | 65 => ⟨S4x256x1, .f32⟩
  | 66 => ⟨S4x256x1, .f32⟩
  | 67 => ⟨S4x256x1024, .f32⟩
  | 68 => ⟨S4x256x1024, .f32⟩
  | 69 => ⟨S4x256x1024, .f32⟩
  | 70 => ⟨S_, .f32⟩
  | 71 => ⟨S4x256, .f32⟩
  | 72 => ⟨S4x256x1, .f32⟩
  | 73 => ⟨S_, .f32⟩
  | 74 => ⟨S4x256x1, .f32⟩
  | 75 => ⟨S4x256x1, .f32⟩
  | 76 => ⟨S_, .f32⟩
  | 77 => ⟨S4x256x1, .f32⟩
  | 78 => ⟨S4x256x1, .f32⟩
  | 79 => ⟨S4x256x1, .f32⟩
  | 80 => ⟨S4x256x1024, .f32⟩
  | 81 => ⟨S4x256x1024, .f32⟩
  | 82 => ⟨S1x1x1024, .f32⟩
  | 83 => ⟨S4x256x1024, .f32⟩
  | 84 => ⟨S4x256x1024, .f32⟩
  | 85 => ⟨S1x1x1024, .f32⟩
  | 86 => ⟨S4x256x1024, .f32⟩
  | 87 => ⟨S4x256x1024, .f32⟩
  | 88 => ⟨S1024x1024, .f32⟩
  | 89 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_cst_14 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_15 : Ref sig .tc := ⟨.hbm, 140, rfl⟩
abbrev main_v105 : Ref sig .tc := ⟨.hbm, 141, rfl⟩
abbrev main_v106 : Ref sig .tc := ⟨.hbm, 142, rfl⟩
abbrev main_cst_16 : Ref sig .tc := ⟨.hbm, 143, rfl⟩
abbrev main_v107 : Ref sig .tc := ⟨.hbm, 144, rfl⟩
abbrev main_v108 : Ref sig .tc := ⟨.hbm, 145, rfl⟩
abbrev main_cst_17 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_18 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_call1_v0 : Ref sig .tc := ⟨.hbm, 168, rfl⟩
abbrev main_call1_v1 : Ref sig .tc := ⟨.hbm, 169, rfl⟩
abbrev main_call1_cst : Ref sig .tc := ⟨.hbm, 170, rfl⟩
abbrev main_call1_v2 : Ref sig .tc := ⟨.hbm, 171, rfl⟩
abbrev main_call1_v3 : Ref sig .tc := ⟨.hbm, 172, rfl⟩
abbrev main_call1_cst_0 : Ref sig .tc := ⟨.hbm, 173, rfl⟩
abbrev main_call1_v4 : Ref sig .tc := ⟨.hbm, 174, rfl⟩
abbrev main_call1_v5 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_19 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_20 : Ref sig .tc := ⟨.hbm, 189, rfl⟩
abbrev main_v141 : Ref sig .tc := ⟨.hbm, 190, rfl⟩
abbrev main_v142 : Ref sig .tc := ⟨.hbm, 191, rfl⟩
abbrev main_cst_21 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_22 : Ref sig .tc := ⟨.hbm, 198, rfl⟩
abbrev main_v148 : Ref sig .tc := ⟨.hbm, 199, rfl⟩
abbrev main_v149 : Ref sig .tc := ⟨.hbm, 200, rfl⟩
abbrev main_cst_23 : Ref sig .tc := ⟨.hbm, 201, rfl⟩
abbrev main_v150 : Ref sig .tc := ⟨.hbm, 202, rfl⟩
abbrev main_v151 : Ref sig .tc := ⟨.hbm, 203, rfl⟩
abbrev main_cst_24 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S4x4x8192x512 : Shape := ⟨4, ![4, 4, 8192, 512]⟩
abbrev S4x4x256x512 : Shape := ⟨4, ![4, 4, 256, 512]⟩
abbrev S4x8192x2048 : Shape := ⟨3, ![4, 8192, 2048]⟩
abbrev S4x256x2048 : Shape := ⟨3, ![4, 256, 2048]⟩
abbrev S4x6x1024 : Shape := ⟨3, ![4, 6, 1024]⟩
abbrev S1x6x1024 : Shape := ⟨3, ![1, 6, 1024]⟩
abbrev S2048x1024 : Shape := ⟨2, ![2048, 1024]⟩
abbrev S2x1024 : Shape := ⟨2, ![2, 1024]⟩
abbrev S1024x5632 : Shape := ⟨2, ![1024, 5632]⟩
abbrev S2816x1024 : Shape := ⟨2, ![2816, 1024]⟩
abbrev S32768x2048 : Shape := ⟨2, ![32768, 2048]⟩
abbrev S1024x2048 : Shape := ⟨2, ![1024, 2048]⟩
abbrev S33792x2048 : Shape := ⟨2, ![33792, 2048]⟩
abbrev S_ : Shape := ⟨0, ![]⟩
abbrev S33792x6144 : Shape := ⟨2, ![33792, 6144]⟩
abbrev S4x8192x4x512 : Shape := ⟨4, ![4, 8192, 4, 512]⟩
abbrev S4x256x4x512 : Shape := ⟨4, ![4, 256, 4, 512]⟩
abbrev S5x6x1024 : Shape := ⟨3, ![5, 6, 1024]⟩
abbrev S8x6x1024 : Shape := ⟨3, ![8, 6, 1024]⟩
abbrev S32768x1024 : Shape := ⟨2, ![32768, 1024]⟩
abbrev S1024x1024 : Shape := ⟨2, ![1024, 1024]⟩
abbrev S1x1024 : Shape := ⟨2, ![1, 1024]⟩
abbrev S1024 : Shape := ⟨1, ![1024]⟩
abbrev S33792x1024 : Shape := ⟨2, ![33792, 1024]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 56
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x4x8192x512, .f32⟩
  | .hbm, ⟨3, _⟩ => ⟨S4x4x256x512, .f32⟩
  | .hbm, ⟨4, _⟩ => ⟨S4x4x8192x512, .f32⟩
  | .hbm, ⟨5, _⟩ => ⟨S4x4x256x512, .f32⟩
  | .hbm, ⟨6, _⟩ => ⟨S4x8192x2048, .f32⟩
  | .hbm, ⟨7, _⟩ => ⟨S4x256x2048, .f32⟩
  | .hbm, ⟨8, _⟩ => ⟨S4x6x1024, .f32⟩
  | .hbm, ⟨9, _⟩ => ⟨S1x6x1024, .f32⟩
  | .hbm, ⟨10, _⟩ => ⟨S2048x1024, .f32⟩
  | .hbm, ⟨11, _⟩ => ⟨S2x1024, .f32⟩
  | .hbm, ⟨12, _⟩ => ⟨S2x1024, .f32⟩
  | .hbm, ⟨13, _⟩ => ⟨S1024x5632, .f32⟩
  | .hbm, ⟨14, _⟩ => ⟨S2816x1024, .f32⟩
  | .hbm, ⟨15, _⟩ => ⟨S32768x2048, .f32⟩
  | .hbm, ⟨16, _⟩ => ⟨S1024x2048, .f32⟩
  | .hbm, ⟨17, _⟩ => ⟨S33792x2048, .f32⟩
  | .hbm, ⟨18, _⟩ => ⟨S33792x2048, .bf16⟩
  | .hbm, ⟨19, _⟩ => ⟨S_, .i32⟩
  | .hbm, ⟨20, _⟩ => ⟨S_, .bf16⟩
  | .hbm, ⟨21, _⟩ => ⟨S33792x6144, .bf16⟩
  | .hbm, ⟨22, _⟩ => ⟨S4x8192x4x512, .f32⟩
  | .hbm, ⟨23, _⟩ => ⟨S32768x2048, .f32⟩
  | .hbm, ⟨24, _⟩ => ⟨S4x256x4x512, .f32⟩
  | .hbm, ⟨25, _⟩ => ⟨S1024x2048, .f32⟩
  | .hbm, ⟨26, _⟩ => ⟨S33792x2048, .f32⟩
  | .hbm, ⟨27, _⟩ => ⟨S33792x2048, .bf16⟩
  | .hbm, ⟨28, _⟩ => ⟨S4x8192x4x512, .f32⟩
  | .hbm, ⟨29, _⟩ => ⟨S32768x2048, .f32⟩
  | .hbm, ⟨30, _⟩ => ⟨S4x256x4x512, .f32⟩
  | .hbm, ⟨31, _⟩ => ⟨S1024x2048, .f32⟩
  | .hbm, ⟨32, _⟩ => ⟨S33792x2048, .f32⟩
  | .hbm, ⟨33, _⟩ => ⟨S33792x2048, .bf16⟩
  | .hbm, ⟨34, _⟩ => ⟨S5x6x1024, .f32⟩
  | .hbm, ⟨35, _⟩ => ⟨S_, .i32⟩
  | .hbm, ⟨36, _⟩ => ⟨S_, .f32⟩
  | .hbm, ⟨37, _⟩ => ⟨S8x6x1024, .f32⟩
  | .hbm, ⟨38, _⟩ => ⟨S32768x1024, .f32⟩
  | .hbm, ⟨39, _⟩ => ⟨S1024x1024, .f32⟩
  | .hbm, ⟨40, _⟩ => ⟨S2048x1024, .bf16⟩
  | .hbm, ⟨41, _⟩ => ⟨S1024x5632, .bf16⟩
  | .hbm, ⟨42, _⟩ => ⟨S2816x1024, .bf16⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S4x8192x1024 : Shape := ⟨3, ![4, 8192, 1024]⟩
abbrev S4x256x1024 : Shape := ⟨3, ![4, 256, 1024]⟩
abbrev S4x4x8192x512 : Shape := ⟨4, ![4, 4, 8192, 512]⟩
abbrev S4x4x256x512 : Shape := ⟨4, ![4, 4, 256, 512]⟩
abbrev S4x8192x2048 : Shape := ⟨3, ![4, 8192, 2048]⟩
abbrev S4x256x2048 : Shape := ⟨3, ![4, 256, 2048]⟩
abbrev S4x6x1024 : Shape := ⟨3, ![4, 6, 1024]⟩
abbrev S1x6x1024 : Shape := ⟨3, ![1, 6, 1024]⟩
abbrev S2048x1024 : Shape := ⟨2, ![2048, 1024]⟩
abbrev S2x1024 : Shape := ⟨2, ![2, 1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x4x8192 : Shape := ⟨3, ![4, 4, 8192]⟩
abbrev S4x4x8192x1 : Shape := ⟨4, ![4, 4, 8192, 1]⟩
abbrev S4x8192x4x512 : Shape := ⟨4, ![4, 8192, 4, 512]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩
abbrev S4x4x256 : Shape := ⟨3, ![4, 4, 256]⟩
abbrev S4x4x256x1 : Shape := ⟨4, ![4, 4, 256, 1]⟩
abbrev S4x256x4x512 : Shape := ⟨4, ![4, 256, 4, 512]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S1024x1024 : Shape := ⟨2, ![1024, 1024]⟩
abbrev S33792x1024 : Shape := ⟨2, ![33792, 1024]⟩

abbrev nBuf : Space → Nat
  | .hbm => 274
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x4x8192x512, .f32⟩
  | 3 => ⟨S4x4x256x512, .f32⟩
  | 4 => ⟨S4x4x8192x512, .f32⟩
  | 5 => ⟨S4x4x256x512, .f32⟩
  | 6 => ⟨S4x8192x2048, .f32⟩
  | 7 => ⟨S4x256x2048, .f32⟩
  | 8 => ⟨S4x6x1024, .f32⟩
  | 9 => ⟨S1x6x1024, .f32⟩
  | 10 => ⟨S2048x1024, .f32⟩
  | 11 => ⟨S2x1024, .f32⟩
  | 12 => ⟨S2x1024, .f32⟩
  | 13 => ⟨S1024x5632, .f32⟩
  | 14 => ⟨S2816x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S4x4x8192x512, .f32⟩
  | 22 => ⟨S4x4x8192x512, .f32⟩
  | 23 => ⟨S_, .f32⟩
  | 24 => ⟨S4x4x8192, .f32⟩
  | 25 => ⟨S4x4x8192x1, .f32⟩
  | 26 => ⟨S_, .f32⟩
  | 27 => ⟨S4x4x8192x1, .f32⟩
  | 28 => ⟨S4x4x8192x1, .f32⟩
  | 29 => ⟨S_, .f32⟩
  | 30 => ⟨S4x4x8192x1, .f32⟩
  | 31 => ⟨S4x4x8192x1, .f32⟩
  | 32 => ⟨S4x4x8192x1, .f32⟩
  | 33 => ⟨S4x4x8192x512, .f32⟩
  | 34 => ⟨S4x4x8192x512, .f32⟩
  | 35 => ⟨S4x8192x4x512, .f32⟩
  | 36 => ⟨S4x8192x2048, .f32⟩
  | 37 => ⟨S4x8192x2048, .f32⟩
  | 38 => ⟨S4x8192x2048, .f32⟩
  | 39 => ⟨S_, .f32⟩
  | 40 => ⟨S4x8192x2048, .f32⟩
  | 41 => ⟨S4x8192x2048, .f32⟩
  | 42 => ⟨S_, .f32⟩
  | 43 => ⟨S4x8192x2048, .f32⟩
  | 44 => ⟨S4x8192x2048, .f32⟩
  | 45 => ⟨S4x8192x2048, .f32⟩
  | 46 => ⟨S4x8192x2048, .f32⟩
  | 47 => ⟨S4x8192x1024, .f32⟩
  | 48 => ⟨S_, .f32⟩
  | 49 => ⟨S4x8192x1024, .f32⟩
  | 50 => ⟨S4x8192x1024, .f32⟩
  | 51 => ⟨S4x8192x1024, .f32⟩
  | 52 => ⟨S4x8192x1024, .f32⟩
  | 53 => ⟨S4x8192x1024, .f32⟩
  | 54 => ⟨S1x1024, .f32⟩
  | 55 => ⟨S1024, .f32⟩
  | 56 => ⟨S1x1024, .f32⟩
  | 57 => ⟨S1024, .f32⟩
  | 58 => ⟨S_, .f32⟩
  | 59 => ⟨S4x8192, .f32⟩
  | 60 => ⟨S4x8192x1, .f32⟩
  | 61 => ⟨S_, .f32⟩
  | 62 => ⟨S4x8192x1, .f32⟩
  | 63 => ⟨S4x8192x1, .f32⟩
  | 64 => ⟨S4x8192x1024, .f32⟩
  | 65 => ⟨S4x8192x1024, .f32⟩
  | 66 => ⟨S4x8192x1024, .f32⟩
  | 67 => ⟨S_, .f32⟩
  | 68 => ⟨S4x8192, .f32⟩
  | 69 => ⟨S4x8192x1, .f32⟩
  | 70 => ⟨S_, .f32⟩
  | 71 => ⟨S4x8192x1, .f32⟩
  | 72 => ⟨S4x8192x1, .f32⟩
  | 73 => ⟨S_, .f32⟩
  | 74 => ⟨S4x8192x1, .f32⟩
  | 75 => ⟨S4x8192x1, .f32⟩
  | 76 => ⟨S4x8192x1, .f32⟩
  | 77 => ⟨S4x8192x1024, .f32⟩
  | 78 => ⟨S4x8192x1024, .f32⟩
  | 79 => ⟨S1x1x1024, .f32⟩
  | 80 => ⟨S4x8192x1024, .f32⟩
  | 81 => ⟨S4x8192x1024, .f32⟩
  | 82 => ⟨S1x1x1024, .f32⟩
  | 83 => ⟨S4x8192x1024, .f32⟩
  | 84 => ⟨S4x8192x1024, .f32⟩
  | 85 => ⟨S_, .f32⟩
  | 86 => ⟨S4x1x1024, .f32⟩
  | 87 => ⟨S4x1x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x5632, .f32⟩
  | 93 => ⟨S4x8192x2816, .f32⟩
  | 94 => ⟨S4x8192x2816, .f32⟩
  | 95 => ⟨S4x8192x2816, .f32⟩
  | 96 => ⟨S4x8192x2816, .f32⟩
  | 97 => ⟨S_, .f32⟩
  | 98 => ⟨S4x8192x2816, .f32⟩
  | 99 => ⟨S4x8192x2816, .f32⟩
  | 100 => ⟨S_, .f32⟩
  | 101 => ⟨S4x8192x2816, .f32⟩
  | 102 => ⟨S4x8192x2816, .f32⟩
  | 103 => ⟨S4x8192x2816, .f32⟩
  | 104 => ⟨S4x8192x2816, .f32⟩
  | 105 => ⟨S4x8192x1024, .f32⟩
  | 106 => ⟨S_, .f32⟩
  | 107 => ⟨S4x8192x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S4x8192, .f32⟩
  | 118 => ⟨S4x8192x1, .f32⟩
  | 119 => ⟨S_, .f32⟩
  | 120 => ⟨S4x8192x1, .f32⟩
  | 121 => ⟨S4x8192x1, .f32⟩
  | 122 => ⟨S4x8192x1024, .f32⟩
  | 123 => ⟨S4x8192x1024, .f32⟩
  | 124 => ⟨S4x8192x1024, .f32⟩
  | 125 => ⟨S_, .f32⟩
  | 126 => ⟨S4x8192, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S_, .f32⟩
  | 4 => ⟨S4x8192x1, .f32⟩
  | 5 => ⟨S4x8192x1, .f32⟩
  | 6 => ⟨S4x8192x1, .f32⟩
  | 7 => ⟨S4x8192x1024, .f32⟩
  | 8 => ⟨S4x8192x1024, .f32⟩
  | 9 => ⟨S1x1x1024, .f32⟩
  | 10 => ⟨S4x8192x1024, .f32⟩
  | 11 => ⟨S4x8192x1024, .f32⟩
  | 12 => ⟨S1x1x1024, .f32⟩
  | 13 => ⟨S4x8192x1024, .f32⟩
  | 14 => ⟨S4x8192x1024, .f32⟩
  | 15 => ⟨S32768x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x1x1024, .f32⟩
  | 22 => ⟨S4x4x256x512, .f32⟩
  | 23 => ⟨S4x4x256x512, .f32⟩
  | 24 => ⟨S_, .f32⟩
  | 25 => ⟨S4x4x256, .f32⟩
  | 26 => ⟨S4x4x256x1, .f32⟩
  | 27 => ⟨S_, .f32⟩
  | 28 => ⟨S4x4x256x1, .f32⟩
  | 29 => ⟨S4x4x256x1, .f32⟩
  | 30 => ⟨S_, .f32⟩
  | 31 => ⟨S4x4x256x1, .f32⟩
  | 32 => ⟨S4x4x256x1, .f32⟩
  | 33 => ⟨S4x4x256x1, .f32⟩
  | 34 => ⟨S4x4x256x512, .f32⟩
  | 35 => ⟨S4x4x256x512, .f32⟩
  | 36 => ⟨S4x256x4x512, .f32⟩
  | 37 => ⟨S4x256x2048, .f32⟩
  | 38 => ⟨S4x256x2048, .f32⟩
  | 39 => ⟨S4x256x2048, .f32⟩
  | 40 => ⟨S_, .f32⟩
  | 41 => ⟨S4x256x2048, .f32⟩
  | 42 => ⟨S4x256x2048, .f32⟩
  | 43 => ⟨S_, .f32⟩
  | 44 => ⟨S4x256x2048, .f32⟩
  | 45 => ⟨S4x256x2048, .f32⟩
  | 46 => ⟨S4x256x2048, .f32⟩
  | 47 => ⟨S4x256x2048, .f32⟩
  | 48 => ⟨S4x256x1024, .f32⟩
  | 49 => ⟨S_, .f32⟩
  | 50 => ⟨S4x256x1024, .f32⟩
  | 51 => ⟨S4x256x1024, .f32⟩
  | 52 => ⟨S4x256x1024, .f32⟩
  | 53 => ⟨S4x256x1024, .f32⟩
  | 54 => ⟨S4x256x1024, .f32⟩
  | 55 => ⟨S1x1024, .f32⟩
  | 56 => ⟨S1024, .f32⟩
  | 57 => ⟨S1x1024, .f32⟩
  | 58 => ⟨S1024, .f32⟩
  | 59 => ⟨S_, .f32⟩
  | 60 => ⟨S4x256, .f32⟩
  | 61 => ⟨S4x256x1, .f32⟩
  | 62 => ⟨S_, .f32⟩
  | 63 => ⟨S4x256x1, .f32⟩
  | 64 => ⟨S4x256x1, .f32⟩
  | 65 => ⟨S4x256x1024, .f32⟩
  | 66 => ⟨S4x256x1024, .f32⟩
  | 67 => ⟨S4x256x1024, .f32⟩
  | 68 => ⟨S_, .f32⟩
  | 69 => ⟨S4x256, .f32⟩
  | 70 => ⟨S4x256x1, .f32⟩
  | 71 => ⟨S_, .f32⟩
  | 72 => ⟨S4x256x1, .f32⟩
  | 73 => ⟨S4x256x1, .f32⟩
  | 74 => ⟨S_, .f32⟩
  | 75 => ⟨S4x256x1, .f32⟩
  | 76 => ⟨S4x256x1, .f32⟩
  | 77 => ⟨S4x256x1, .f32⟩
  | 78 => ⟨S4x256x1024, .f32⟩
  | 79 => ⟨S4x256x1024, .f32⟩
  | 80 => ⟨S1x1x1024, .f32⟩
  | 81 => ⟨S4x256x1024, .f32⟩
  | 82 => ⟨S4x256x1024, .f32⟩
  | 83 => ⟨S1x1x1024, .f32⟩
  | 84 => ⟨S4x256x1024, .f32⟩
  | 85 => ⟨S4x256x1024, .f32⟩
  | 86 => ⟨S_, .f32⟩
  | 87 => ⟨S1x1x1024, .f32⟩
  | 88 => ⟨S1x1x1024, .f32⟩
  | 89 => ⟨S4x256x1024, .f32⟩
  | 90 => ⟨S4x256x1024, .f32⟩
  | 91 => ⟨S4x256x1024, .f32⟩
  | 92 => ⟨S4x256x1024, .f32⟩
  | 93 => ⟨S4x256x5632, .f32⟩
  | 94 => ⟨S4x256x2816, .f32⟩
  | 95 => ⟨S4x256x2816, .f32⟩
  | 96 => ⟨S4x256x2816, .f32⟩
  | 97 => ⟨S4x256x2816, .f32⟩
  | 98 => ⟨S_, .f32⟩
  | 99 => ⟨S4x256x2816, .f32⟩
  | 100 => ⟨S4x256x2816, .f32⟩
  | 101 => ⟨S_, .f32⟩
  | 102 => ⟨S4x256x2816, .f32⟩
  | 103 => ⟨S4x256x2816, .f32⟩
  | 104 => ⟨S4x256x2816, .f32⟩
  | 105 => ⟨S4x256x2816, .f32⟩
  | 106 => ⟨S4x256x1024, .f32⟩
  | 107 => ⟨S_, .f32⟩
  | 108 => ⟨S4x256x1024, .f32⟩
  | 109 => ⟨S4x256x1024, .f32⟩
  | 110 => ⟨S4x256x1024, .f32⟩
  | 111 => ⟨S4x256x1024, .f32⟩
  | 112 => ⟨S4x256x1024, .f32⟩
  | 113 => ⟨S1x1024, .f32⟩
  | 114 => ⟨S1024, .f32⟩
  | 115 => ⟨S1x1024, .f32⟩
  | 116 => ⟨S1024, .f32⟩
  | 117 => ⟨S_, .f32⟩
  | 118 => ⟨S4x256, .f32⟩
  | 119 => ⟨S4x256x1, .f32⟩
  | 120 => ⟨S_, .f32⟩
  | 121 => ⟨S4x256x1, .f32⟩
  | 122 => ⟨S4x256x1, .f32⟩
  | 123 => ⟨S4x256x1024, .f32⟩
  | 124 => ⟨S4x256x1024, .f32⟩
  | 125 => ⟨S4x256x1024, .f32⟩
  | 126 => ⟨S_, .f32⟩
  | 127 => ⟨S4x256, .f32⟩
  | _ => ⟨S4x8192x1024, .f32⟩

abbrev hbmTy0_2 (i : Nat) : BufTy := match i % 128 with
  | 0 => ⟨S4x256x1, .f32⟩
  | 1 => ⟨S_, .f32⟩
  | 2 => ⟨S4x256x1, .f32⟩
  | 3 => ⟨S4x256x1, .f32⟩
  | 4 => ⟨S_, .f32⟩
  | 5 => ⟨S4x256x1, .f32⟩
  | 6 => ⟨S4x256x1, .f32⟩
  | 7 => ⟨S4x256x1, .f32⟩
  | 8 => ⟨S4x256x1024, .f32⟩
  | 9 => ⟨S4x256x1024, .f32⟩
  | 10 => ⟨S1x1x1024, .f32⟩
  | 11 => ⟨S4x256x1024, .f32⟩
  | 12 => ⟨S4x256x1024, .f32⟩
  | 13 => ⟨S1x1x1024, .f32⟩
  | 14 => ⟨S4x256x1024, .f32⟩
  | 15 => ⟨S4x256x1024, .f32⟩
  | 16 => ⟨S1024x1024, .f32⟩
  | 17 => ⟨S33792x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_v74 : Ref sig .tc := ⟨.hbm, 117, rfl⟩
abbrev main_v75 : Ref sig .tc := ⟨.hbm, 118, rfl⟩
abbrev main_cst_11 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_12 : Ref sig .tc := ⟨.hbm, 125, rfl⟩
abbrev main_v81 : Ref sig .tc := ⟨.hbm, 126, rfl⟩
abbrev main_v82 : Ref sig .tc := ⟨.hbm, 127, rfl⟩
abbrev main_cst_13 : Ref sig .tc := ⟨.hbm, 128, rfl⟩
abbrev main_v83 : Ref sig .tc := ⟨.hbm, 129, rfl⟩
abbrev main_v84 : Ref sig .tc := ⟨.hbm, 130, rfl⟩
abbrev main_cst_14 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_15 : Ref sig .tc := ⟨.hbm, 152, rfl⟩
abbrev main_v105 : Ref sig .tc := ⟨.hbm, 153, rfl⟩
abbrev main_v106 : Ref sig .tc := ⟨.hbm, 154, rfl⟩
abbrev main_cst_16 : Ref sig .tc := ⟨.hbm, 155, rfl⟩
abbrev main_v107 : Ref sig .tc := ⟨.hbm, 156, rfl⟩
abbrev main_v108 : Ref sig .tc := ⟨.hbm, 157, rfl⟩
abbrev main_cst_17 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_call2_v5 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_18 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_19 : Ref sig .tc := ⟨.hbm, 187, rfl⟩
abbrev main_v128 : Ref sig .tc := ⟨.hbm, 188, rfl⟩
abbrev main_v129 : Ref sig .tc := ⟨.hbm, 189, rfl⟩
abbrev main_cst_20 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_21 : Ref sig .tc := ⟨.hbm, 196, rfl⟩
abbrev main_v135 : Ref sig .tc := ⟨.hbm, 197, rfl⟩
abbrev main_v136 : Ref sig .tc := ⟨.hbm, 198, rfl⟩
abbrev main_cst_22 : Ref sig .tc := ⟨.hbm, 199, rfl⟩
abbrev main_v137 : Ref sig .tc := ⟨.hbm, 200, rfl⟩
abbrev main_v138 : Ref sig .tc := ⟨.hbm, 201, rfl⟩
abbrev main_cst_23 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_24 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_call3_v0 : Ref sig .tc := ⟨.hbm, 224, rfl⟩
abbrev main_call3_v1 : Ref sig .tc := ⟨.hbm, 225, rfl⟩
abbrev main_call3_cst : Ref sig .tc := ⟨.hbm, 226, rfl⟩
abbrev main_call3_v2 : Ref sig .tc := ⟨.hbm, 227, rfl⟩
abbrev main_call3_v3 : Ref sig .tc := ⟨.hbm, 228, rfl⟩
abbrev main_call3_cst_0 : Ref sig .tc := ⟨.hbm, 229, rfl⟩
abbrev main_call3_v4 : Ref sig .tc := ⟨.hbm, 230, rfl⟩
abbrev main_call3_v5 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_25 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_26 : Ref sig .tc := ⟨.hbm, 245, rfl⟩
abbrev main_v171 : Ref sig .tc := ⟨.hbm, 246, rfl⟩
abbrev main_v172 : Ref sig .tc := ⟨.hbm, 247, rfl⟩
abbrev main_cst_27 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_cst_28 : Ref sig .tc := ⟨.hbm, 254, rfl⟩
abbrev main_v178 : Ref sig .tc := ⟨.hbm, 255, rfl⟩
abbrev main_v179 : Ref sig .tc := ⟨.hbm, 256, rfl⟩
abbrev main_cst_29 : Ref sig .tc := ⟨.hbm, 257, rfl⟩
abbrev main_v180 : Ref sig .tc := ⟨.hbm, 258, rfl⟩
abbrev main_v181 : Ref sig .tc := ⟨.hbm, 259, rfl⟩
abbrev main_cst_30 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S1x6x1024 : Shape := ⟨3, ![1, 6, 1024]⟩
abbrev S1024x5120 : Shape := ⟨2, ![1024, 5120]⟩
abbrev S32768x1024 : Shape := ⟨2, ![32768, 1024]⟩
abbrev S1024x1024 : Shape := ⟨2, ![1024, 1024]⟩
abbrev S33792x1024 : Shape := ⟨2, ![33792, 1024]⟩
abbrev S5x6x1024 : Shape := ⟨3, ![5, 6, 1024]⟩
abbrev S_ : Shape := ⟨0, ![]⟩
abbrev S8x6x1024 : Shape := ⟨3, ![8, 6, 1024]⟩
abbrev S33792x3072 : Shape := ⟨2, ![33792, 3072]⟩
abbrev S33792x2048 : Shape := ⟨2, ![33792, 2048]⟩
abbrev S512x1024 : Shape := ⟨2, ![512, 1024]⟩
abbrev S512x3072 : Shape := ⟨2, ![512, 3072]⟩
abbrev S512x2048 : Shape := ⟨2, ![512, 2048]⟩
abbrev S1x1x1024 : Shape := ⟨3, ![1, 1, 1024]⟩
abbrev S1x1024 : Shape := ⟨2, ![1, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6x1024, .f32⟩
  | .hbm, ⟨3, _⟩ => ⟨S1x6x1024, .f32⟩
  | .hbm, ⟨4, _⟩ => ⟨S1024x5120, .f32⟩
  | .hbm, ⟨5, _⟩ => ⟨S32768x1024, .f32⟩
  | .hbm, ⟨6, _⟩ => ⟨S1024x1024, .f32⟩
  | .hbm, ⟨7, _⟩ => ⟨S33792x1024, .f32⟩
  | .hbm, ⟨8, _⟩ => ⟨S5x6x1024, .f32⟩
  | .hbm, ⟨9, _⟩ => ⟨S_, .i32⟩
  | .hbm, ⟨10, _⟩ => ⟨S_, .f32⟩
  | .hbm, ⟨11, _⟩ => ⟨S8x6x1024, .f32⟩
  | .hbm, ⟨12, _⟩ => ⟨S1024x5120, .bf16⟩
  | .hbm, ⟨13, _⟩ => ⟨S33792x3072, .bf16⟩
  | .hbm, ⟨14, _⟩ => ⟨S33792x2048, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x5120, .bf16⟩
  | .local _ .vmem, ⟨5, _⟩ => ⟨S512x3072, .bf16⟩
  | .local _ .vmem, ⟨6, _⟩ => ⟨S512x3072, .bf16⟩
  | .local _ .vmem, ⟨7, _⟩ => ⟨S512x2048, .f32⟩
  | .local _ .vmem, ⟨8, _⟩ => ⟨S512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S1x6x1024 : Shape := ⟨3, ![1, 6, 1024]⟩
abbrev S1024x5120 : Shape := ⟨2, ![1024, 5120]⟩
abbrev S4x1x1024 : Shape := ⟨3, ![4, 1, 1024]⟩
abbrev S_ : Shape := ⟨0, ![]⟩
abbrev S4x8192x5120 : Shape := ⟨3, ![4, 8192, 5120]⟩
abbrev S32768x5120 : Shape := ⟨2, ![32768, 5120]⟩
abbrev S1x1x1024 : Shape := ⟨3, ![1, 1, 1024]⟩
abbrev S4x256x5120 : Shape := ⟨3, ![4, 256, 5120]⟩
abbrev S33792x5120 : Shape := ⟨2, ![33792, 5120]⟩
abbrev S33792x1024 : Shape := ⟨2, ![33792, 1024]⟩
abbrev S33792x3072 : Shape := ⟨2, ![33792, 3072]⟩
abbrev S33792x2048 : Shape := ⟨2, ![33792, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6x1024, .f32⟩
  | .hbm, ⟨3, _⟩ => ⟨S1x6x1024, .f32⟩
  | .hbm, ⟨4, _⟩ => ⟨S1024x5120, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x5120, .f32⟩
  | .hbm, ⟨19, _⟩ => ⟨S32768x5120, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S4x256x5120, .f32⟩
  | .hbm, ⟨34, _⟩ => ⟨S1024x5120, .f32⟩
  | .hbm, ⟨35, _⟩ => ⟨S33792x5120, .f32⟩
  | .hbm, ⟨36, _⟩ => ⟨S33792x1024, .f32⟩
  | .hbm, ⟨37, _⟩ => ⟨S33792x1024, .f32⟩
  | .hbm, ⟨38, _⟩ => ⟨S33792x1024, .f32⟩
  | .hbm, ⟨39, _⟩ => ⟨S33792x1024, .f32⟩
  | .hbm, ⟨40, _⟩ => ⟨S33792x1024, .f32⟩
  | .hbm, ⟨41, _⟩ => ⟨S33792x3072, .f32⟩
  | .hbm, ⟨42, _⟩ => ⟨S33792x3072, .bf16⟩
  | .hbm, ⟨43, _⟩ => ⟨S33792x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Proof.Flash.Spec.lean ====
/-
  What one grid point of the attention kernel computes, written over whole blocks for any values.  For one head:
  the scores of a block of keys against the 2048 queries, their column maxima, and the running pair of a shift and
  a rescaled sum that each block of keys updates; the context's 256 keys come first, then sixteen blocks of 512.
-/
module

public import proofs.«01_k».proof.Proof.Gen.KernelIdeal.Skeleton
public import Idealize.ShloMosaic.Lib.Pointwise.Index

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]

/-- Head `e`'s scores of 512 keys (rows) against the queries (columns). -/
def scores (e : Fin 2) (q : FVec F S2048x128 .bf16) (kb : Vec F S512x256 .bf16) : FVec F S512x2048 .f32 :=
  if e = 0 then k0_pay3 q kb else k0_pay4 q kb

/-- Head `e`'s scores of the 256 context keys. -/
def scoresCtx (e : Fin 2) (q : Vec F S2048x128 .bf16) (kb : Vec F S256x256 .bf16) : FVec F S256x2048 .f32 :=
  if e = 0 then k0_pay98 q kb else k0_pay99 q kb

/-- The largest score of each column. -/
def colmax (s : FVec F S512x2048 .f32) : FVec F S1x2048 .f32 :=
  shapeCast S1x2048 (multiReduction .maximumf [0] S2048 s 0xFF800000#32 reduces_S512x2048_S2048 (.inl rfl) rfl) shapeCasts_S2048_S1x2048

/-- The largest context score of each column. -/
def colmaxCtx (s : FVec F S256x2048 .f32) : FVec F S1x2048 .f32 :=
  shapeCast S1x2048 (multiReduction .maximumf [0] S2048 s 0xFF800000#32 reduces_S256x2048_S2048 (.inl rfl) rfl) shapeCasts_S2048_S1x2048

/-- Head `e`'s 72 rows (64 value lanes, a row of ones, padding) of 512 keys' transposed values. -/
def vals (e : Fin 2) (vb : Vec F S256x512 .bf16) : FVec F S72x512 .bf16 :=
  if e = 0 then k0_pay12 vb else k0_pay19 (k0_pay9 vb)

/-- Head `e`'s 72 rows of the context's transposed values. -/
def valsCtx (e : Fin 2) (vb : Vec F S256x256 .bf16) : FVec F S72x256 .bf16 :=
  if e = 0 then k0_pay112 vb else k0_pay121 (k0_pay109 vb)

/-- One quarter of the columns of an update: the old sum rescaled, plus the values weighted by the shifted scores'
    powers of two. -/
def part (o : Fin 2 → ℕ) (h1 : S1x2048.Slices o S1x512) (h2 : S72x2048.Slices o S72x512)
    (a : FVec F S72x2048 .f32) (mn al : FVec F S1x2048 .f32) (vte : FVec F S72x512 .bf16) (q : Vec F S512x512 .f32) : FVec F S72x512 .f32 :=
  addf (mulf (broadcastTo S72x512 (extractStridedSlice S1x512 o al h1) broadcasts_S1x512_S72x512) (extractStridedSlice S72x512 o a h2))
    (matmul dot_S72x512_S512x512_S72x512_1_0_0_1_n_n none vte
      (truncf .bf16 (exp2 (subf q (broadcastTo S512x512 (extractStridedSlice S1x512 o mn h1) broadcasts_S1x512_S512x512))) bitsLt_bf16_f32)
      (constant S72x512 .f32 0x00000000#32))

/-- The update of the sum over all four quarters. -/
def updq (a : FVec F S72x2048 .f32) (mn al : FVec F S1x2048 .f32) (vte : FVec F S72x512 .bf16) (q0 q1 q2 q3 : Vec F S512x512 .f32) :
    FVec F S72x2048 .f32 :=
  concatenate S72x2048 1 [⟨S72x512, part ![0, 0] slices_S1x2048_o0_0_S1x512 slices_S72x2048_o0_0_S72x512 a mn al vte q0⟩,
    ⟨S72x512, part ![0, 512] slices_S1x2048_o0_512_S1x512 slices_S72x2048_o0_512_S72x512 a mn al vte q1⟩,
    ⟨S72x512, part ![0, 1024] slices_S1x2048_o0_1024_S1x512 slices_S72x2048_o0_1024_S72x512 a mn al vte q2⟩,
    ⟨S72x512, part ![0, 1536] slices_S1x2048_o0_1536_S1x512 slices_S72x2048_o0_1536_S72x512 a mn al vte q3⟩]
    concatenates_S72x512_S72x512_S72x512_S72x512_S72x2048_d1

/-- One quarter of the columns of the context's update. -/
def partCtx (o : Fin 2 → ℕ) (h1 : S1x2048.Slices o S1x512) (h2 : S72x2048.Slices o S72x512) (h3 : S256x2048.Slices o S256x512)
    (a : FVec F S72x2048 .f32) (mn al : FVec F S1x2048 .f32) (vte : FVec F S72x256 .bf16) (s : FVec F S256x2048 .f32) : FVec F S72x512 .f32 :=
  addf (mulf (broadcastTo S72x512 (extractStridedSlice S1x512 o al h1) broadcasts_S1x512_S72x512) (extractStridedSlice S72x512 o a h2))
    (matmul dot_S72x256_S256x512_S72x512_1_0_0_1_n_n none vte
      (truncf .bf16 (exp2 (subf (extractStridedSlice S256x512 o s h3)
        (broadcastTo S256x512 (extractStridedSlice S1x512 o mn h1) broadcasts_S1x512_S256x512))) bitsLt_bf16_f32)
      (constant S72x512 .f32 0x00000000#32))

/-- The context's update of the sum. -/
def updCtx (a : FVec F S72x2048 .f32) (mn al : FVec F S1x2048 .f32) (vte : FVec F S72x256 .bf16) (s : FVec F S256x2048 .f32) :
    FVec F S72x2048 .f32 :=
  concatenate S72x2048 1
    [⟨S72x512, partCtx ![0, 0] slices_S1x2048_o0_0_S1x512 slices_S72x2048_o0_0_S72x512 slices_S256x2048_o0_0_S256x512 a mn al vte s⟩,
    ⟨S72x512, partCtx ![0, 512] slices_S1x2048_o0_512_S1x512 slices_S72x2048_o0_512_S72x512 slices_S256x2048_o0_512_S256x512 a mn al vte s⟩,
    ⟨S72x512, partCtx ![0, 1024] slices_S1x2048_o0_1024_S1x512 slices_S72x2048_o0_1024_S72x512 slices_S256x2048_o0_1024_S256x512 a mn al vte s⟩,
    ⟨S72x512, partCtx ![0, 1536] slices_S1x2048_o0_1536_S1x512 slices_S72x2048_o0_1536_S72x512 slices_S256x2048_o0_1536_S256x512 a mn al vte s⟩]
    concatenates_S72x512_S72x512_S72x512_S72x512_S72x2048_d1

/-- The quarter of the scores' columns that begins at `j`. -/
def quarter (j : ℕ) (hj : j + 512 ≤ 2048) (s : FVec F S512x2048 .f32) : Vec F S512x512 .f32 :=
  fun y => s (ix2 (n0 := 512) (n1 := 2048) (y 0) ⟨j + (y 1).val, by have := (y 1).isLt; change _ < 512 at this; omega⟩)

/-- A head's running shift and running sum. -/
abbrev St (F : FTy → Type) [FloatOps F] := FVec F S1x2048 .f32 × FVec F S72x2048 .f32

/-- The sum `a` at shift `m` taken to the shift `mn` and the block of keys with scores `s` added. -/
def upd (a : FVec F S72x2048 .f32) (m mn : FVec F S1x2048 .f32) (vte : FVec F S72x512 .bf16) (s : FVec F S512x2048 .f32) : FVec F S72x2048 .f32 :=
  updq a mn (exp2 (subf m mn)) vte (quarter 0 (by omega) s) (quarter 512 (by omega) s) (quarter 1024 (by omega) s) (quarter 1536 (by omega) s)

/-- The pair after a block of 512 keys. -/
def step (st : St F) (s : FVec F S512x2048 .f32) (vte : FVec F S72x512 .bf16) : St F :=
  (maximumf st.1 (colmax s), upd st.2 st.1 (maximumf st.1 (colmax s)) vte s)

/-- The pair before any key. -/
def start : St F := (broadcast S1x2048 (Scalar.ofBits .f32 0xF149F2CA#32), broadcast S72x2048 (Scalar.ofBits .f32 0x00000000#32))

/-- The pair after the context's keys. -/
def afterCtx (s : FVec F S256x2048 .f32) (vte : FVec F S72x256 .bf16) : St F :=
  (maximumf (start (F := F)).1 (colmaxCtx s),
    updCtx (start (F := F)).2 (maximumf (start (F := F)).1 (colmaxCtx s)) (exp2 (subf (start (F := F)).1 (maximumf (start (F := F)).1 (colmaxCtx s)))) vte s)

/-- Head `e`'s block of query lanes. -/
def qblk (e : Fin 2) (x0 : Vec F S2048x256 .bf16) : Vec F S2048x128 .bf16 :=
  fun y => x0 (ix2 (n0 := 2048) (n1 := 256) (y 0) ⟨128 * e.val + (y 1).val, by have := (y 1).isLt; change _ < 128 at this; have := e.isLt; omega⟩)

/-- Rows `512 c …` of the keys. -/
def kblk (c : Fin 16) (x3 : Vec F S8192x256 .bf16) : Vec F S512x256 .bf16 :=
  fun y => x3 (ix2 (n0 := 8192) (n1 := 256) ⟨512 * c.val + (y 0).val, by have := (y 0).isLt; change _ < 512 at this; have := c.isLt; omega⟩ (y 1))

/-- Columns `512 c …` of the transposed values. -/
def vblk (c : Fin 16) (x4 : Vec F S256x8192 .bf16) : Vec F S256x512 .bf16 :=
  fun y => x4 (ix2 (n0 := 256) (n1 := 8192) (y 0) ⟨512 * c.val + (y 1).val, by have := (y 1).isLt; change _ < 512 at this; have := c.isLt; omega⟩)

/-- The scores of block `c`, for a head's queries `q`. -/
def sc (e : Fin 2) (q : FVec F S2048x128 .bf16) (x3 : Vec F S8192x256 .bf16) (c : Fin 16) : FVec F S512x2048 .f32 := scores e q (kblk c x3)

/-- The pair after the blocks below `n`, from the pair `st` before any of them. -/
def fold (e : Fin 2) (q : FVec F S2048x128 .bf16) (x3 : Vec F S8192x256 .bf16) (x4 : Vec F S256x8192 .bf16) (st : St F) : ℕ → St F
  | 0 => st
  | n + 1 => step (fold e q x3 x4 st n) (sc e q x3 (Fin.ofNat 16 n)) (vals e (vblk (Fin.ofNat 16 n) x4))

/-- The output block from the two heads' sums: value rows over the row of ones, heads side by side, transposed. -/
def fin (a b : FVec F S72x2048 .f32) : FVec F S2048x128 .bf16 :=
  truncf .bf16 (transpose S2048x128 [1, 0]
    (concatenate S128x2048 0 [⟨S64x2048, divf (extractStridedSlice S64x2048 ![0, 0] a slices_S72x2048_o0_0_S64x2048)
        (broadcastTo S64x2048 (extractStridedSlice S1x2048 ![64, 0] a slices_S72x2048_o64_0_S1x2048) broadcasts_S1x2048_S64x2048)⟩,
      ⟨S64x2048, divf (extractStridedSlice S64x2048 ![0, 0] b slices_S72x2048_o0_0_S64x2048)
        (broadcastTo S64x2048 (extractStridedSlice S1x2048 ![64, 0] b slices_S72x2048_o64_0_S1x2048) broadcasts_S1x2048_S64x2048)⟩]
      concatenates_S64x2048_S64x2048_S128x2048_d0) transposes_S128x2048_p1_0_S2048x128) bitsLt_bf16_f32

/-- Head `e`'s pair after the context and all sixteen blocks. -/
def headSt (e : Fin 2) (x0 : Vec F S2048x256 .bf16) (x1 x2 : Vec F S256x256 .bf16) (x3 : Vec F S8192x256 .bf16) (x4 : Vec F S256x8192 .bf16) : St F :=
  fold e (k0_pay93 (qblk e x0)) x3 x4 (afterCtx (scoresCtx e (qblk e x0) x1) (valsCtx e x2)) 16

/-- The output block of one grid point. -/
def out (x0 : Vec F S2048x256 .bf16) (x1 x2 : Vec F S256x256 .bf16) (x3 : Vec F S8192x256 .bf16) (x4 : Vec F S256x8192 .bf16) : FVec F S2048x128 .bf16 :=
  fin (headSt 0 x0 x1 x2 x3 x4).2 (headSt 1 x0 x1 x2 x3 x4).2

end Cert.KernelIdeal.Flash

end
-- ==== Proof.Flash.Read.lean ====
/-
  The two score buffers read back: a 512 × 512 load through one head's slab of a buffer is a quarter of the scores
  last stored there, whatever the buffer held before.
-/
module

public import proofs.«01_k».proof.Proof.Flash.Spec
public import proofs.«01_k».proof.Proof.Gen.KernelIdeal.Loops
public import Idealize.ShloMosaic.Lib.Pipeline.Value

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]

variable (v : View sig .tc .vmem S2x512x2048 .f32) (f : v.ty.Contents (Elt F))

/-- A load of columns `j …` through slab `e` of a score buffer, element by element. -/
theorem slab_read (e j : ℕ) (i1 : ∀ a, (![e, 0, 0] : Fin 3 → ℕ) a + S1x512x2048.size a ≤ S2x512x2048.size a)
    (i2 : ∀ a, (![0, j] : Fin 2 → ℕ) a + S512x512.size a ≤ S512x2048.size a) (h0 hs hst)
    (hR : (Rect.unit (s := S512x2048) ![0, j] S512x512.size i2).toLoadRect.shape.numel = _) (he : e < 2) (hj : j + 512 ≤ 2048) :
    LoadRect.valAlong (lr := (Rect.unit (s := S512x2048) ![0, j] S512x512.size i2).toLoadRect) hR
      (v.readAt (Elt F) ((Rect.unit (s := S2x512x2048) ![e, 0, 0] S1x512x2048.size i1).withinL
        ((Rect.unit (s := S512x2048) ![0, j] S512x512.size i2).toLoadRect.consLift ![1, 512, 2048] h0 hs) hst) f)
      = fun y : S512x512.Idx => v.read (Elt F) f (ix3 (n0 := 2) (n1 := 512) (n2 := 2048) ⟨e, he⟩ (y 0)
          ⟨j + (y 1).val, by have := (y 1).isLt; change _ < 512 at this; omega⟩) := by
  funext y
  have hx : Shape.reshapeEquiv hR y = Fin.cons ⟨0, Nat.one_pos⟩ y := Shape.reshapeEquiv_cons_one (d := S512x512.size) _ _
  show v.readAt (Elt F) _ f (Shape.reshapeEquiv hR y) = _
  rw [hx, View.readAt_apply]
  congr 1
  funext a
  apply Fin.ext
  fin_cases a
  · show e + 0 + 1 * 0 = e; omega
  · show 0 + 0 + 1 * (y 0).val = (y 0).val; omega
  · show 0 + j + 1 * (y 1).val = j + (y 1).val; omega

/-- After both slabs are stored, slab 0 holds the first stored scores. -/
theorem pair_read0 (L : List (View.Piece (Elt F) S2x512x2048 .f32)) (s0 s1 : FVec F S512x2048 .f32) (h0 h1 i0 i1) (a : Fin 512) (b : Fin 2048) :
    v.read (Elt F) (v.writes (Elt F) f (⟨Rect.unit ![1, 0, 0] S1x512x2048.size i1, shapeCast S1x512x2048 s1 h1⟩
      :: ⟨Rect.unit ![0, 0, 0] S1x512x2048.size i0, shapeCast S1x512x2048 s0 h0⟩ :: L)) (ix3 (n0 := 2) (n1 := 512) (n2 := 2048) 0 a b)
      = s0 (ix2 a b) := by
  rw [View.read_writes_cons_miss_of_axis v f _ _ _ (0 : Fin 3) 1 1 rfl rfl rfl (by left; show 0 < 1; omega),
    View.read_writes_cons_hit_of_coords v f _ _ _ (ix3 (n0 := 1) (n1 := 512) (n2 := 2048) 0 a b) _
      (by intro x; fin_cases x; (· rfl); (· show a.val = 0 + 1 * a.val; omega); (· show b.val = 0 + 1 * b.val; omega))]
  unfold shapeCast
  refine congrArg s0 (Eq.trans ?_ (Equiv.symm_apply_apply (Shape.reshapeEquiv h0.symm) (ix2 a b)))
  rw [Shape.reshapeEquiv_cons_one (d := S512x2048.size)]
  rw [Shape.reshapeEquiv_symm]
  congr 1
  funext x; fin_cases x <;> rfl

/-- After both slabs are stored, slab 1 holds the scores stored last. -/
theorem pair_read1 (L : List (View.Piece (Elt F) S2x512x2048 .f32)) (s1 : FVec F S512x2048 .f32) (h1 i1) (a : Fin 512) (b : Fin 2048) :
    v.read (Elt F) (v.writes (Elt F) f (⟨Rect.unit ![1, 0, 0] S1x512x2048.size i1, shapeCast S1x512x2048 s1 h1⟩ :: L))
      (ix3 (n0 := 2) (n1 := 512) (n2 := 2048) 1 a b) = s1 (ix2 a b) := by
  rw [View.read_writes_cons_hit_of_coords v f _ _ _ (ix3 (n0 := 1) (n1 := 512) (n2 := 2048) 0 a b) _
      (by intro x; fin_cases x; (· rfl); (· show a.val = 0 + 1 * a.val; omega); (· show b.val = 0 + 1 * b.val; omega))]
  unfold shapeCast
  refine congrArg s1 (Eq.trans ?_ (Equiv.symm_apply_apply (Shape.reshapeEquiv h1.symm) (ix2 a b)))
  rw [Shape.reshapeEquiv_cons_one (d := S512x2048.size)]
  rw [Shape.reshapeEquiv_symm]
  congr 1
  funext x; fin_cases x <;> rfl

/-- A load of columns `j …` through a slab that holds the scores `s` is that quarter of `s`. -/
theorem slab_quarter (s : FVec F S512x2048 .f32) (e j : ℕ) (he : e < 2) (hj : j + 512 ≤ 2048)
    (hread : ∀ a b, v.read (Elt F) f (ix3 (n0 := 2) (n1 := 512) (n2 := 2048) ⟨e, he⟩ a b) = s (ix2 a b))
    (i1 : ∀ a, (![e, 0, 0] : Fin 3 → ℕ) a + S1x512x2048.size a ≤ S2x512x2048.size a)
    (i2 : ∀ a, (![0, j] : Fin 2 → ℕ) a + S512x512.size a ≤ S512x2048.size a) (h0 hs hst)
    (hR : (Rect.unit (s := S512x2048) ![0, j] S512x512.size i2).toLoadRect.shape.numel = _) :
    LoadRect.valAlong (lr := (Rect.unit (s := S512x2048) ![0, j] S512x512.size i2).toLoadRect) hR
      (v.readAt (Elt F) ((Rect.unit (s := S2x512x2048) ![e, 0, 0] S1x512x2048.size i1).withinL
        ((Rect.unit (s := S512x2048) ![0, j] S512x512.size i2).toLoadRect.consLift ![1, 512, 2048] h0 hs) hst) f)
      = quarter j hj s := by
  rw [slab_read v f e j i1 i2 h0 hs hst hR he hj]
  exact funext fun y => hread _ _

/-- A score buffer's two slabs stored: head 0's scores, then head 1's. -/
abbrev stored (s0 s1 : FVec F S512x2048 .f32) (L : List (View.Piece (Elt F) S2x512x2048 .f32)) : List (View.Piece (Elt F) S2x512x2048 .f32) :=
  ⟨Rect.unit ![1, 0, 0] S1x512x2048.size inb_S2x512x2048_S1x512x2048_1_0_0, shapeCast S1x512x2048 s1 shapeCasts_S512x2048_S1x512x2048⟩
    :: ⟨Rect.unit ![0, 0, 0] S1x512x2048.size inb_S2x512x2048_S1x512x2048_0_0_0, shapeCast S1x512x2048 s0 shapeCasts_S512x2048_S1x512x2048⟩ :: L

/-- Head 0's scores in a stored buffer. -/
theorem stored_read0 (s0 s1 : FVec F S512x2048 .f32) (L : List (View.Piece (Elt F) S2x512x2048 .f32)) (a : Fin 512) (b : Fin 2048) :
    v.read (Elt F) (v.writes (Elt F) f (stored s0 s1 L)) (ix3 (n0 := 2) (n1 := 512) (n2 := 2048) ⟨0, by omega⟩ a b) = s0 (ix2 a b) :=
  pair_read0 v f L s0 s1 _ _ _ _ a b

/-- Head 1's scores in a stored buffer. -/
theorem stored_read1 (s0 s1 : FVec F S512x2048 .f32) (L : List (View.Piece (Elt F) S2x512x2048 .f32)) (a : Fin 512) (b : Fin 2048) :
    v.read (Elt F) (v.writes (Elt F) f (stored s0 s1 L)) (ix3 (n0 := 2) (n1 := 512) (n2 := 2048) ⟨1, by omega⟩ a b) = s1 (ix2 a b) :=
  pair_read1 v f _ s1 _ _ a b

variable (arg6 : Memref sig .tc .vmem S8192x256 .bf16) (arg7 : Memref sig .tc .vmem S256x8192 .bf16)
  (arg9 : Memref sig .tc .vmem S2x512x2048 .f32) (arg10 : Memref sig .tc .vmem S2x512x2048 .f32)
  (v1 v3 : FVec F S2048x128 .bf16) (X6 : BufTy.Contents (Elt F) arg6.view.ty) (X7 : BufTy.Contents (Elt F) arg7.view.ty)
  (k : Fin k0_t1_loop.trips) (f9 : BufTy.Contents (Elt F) arg9.view.ty)

/-- The block of keys a trip loads `n`-th. -/
abbrev kb (n : Fin 4) : Vec F S512x256 .bf16 :=
  View.readAt (Elt F) arg6.view (Rect.unit (s := S8192x256) (k0_off1 k (BitVec.ofNat 32 n.val)) S512x256.size (k0_off1_inb k n)).toLoadRect X6

/-- The block of values a trip loads `n`-th. -/
abbrev vb (n : Fin 4) : Vec F S256x512 .bf16 :=
  View.readAt (Elt F) arg7.view (Rect.unit (s := S256x8192) (k0_off2 k (BitVec.ofNat 32 n.val)) S256x512.size (k0_off2_inb k n)).toLoadRect X7

/-- An update written over four blocks of scores is the update by scores whose quarters they are. -/
theorem upd_of (a : FVec F S72x2048 .f32) (m mn : FVec F S1x2048 .f32) (vte : FVec F S72x512 .bf16) (s : FVec F S512x2048 .f32)
    {X : FVec F S72x2048 .f32} {q0 q1 q2 q3 : Vec F S512x512 .f32}
    (hX : X = updq a mn (exp2 (subf m mn)) vte q0 q1 q2 q3) (h0 : q0 = quarter 0 (by omega) s)
    (h1 : q1 = quarter 512 (by omega) s) (h2 : q2 = quarter 1024 (by omega) s) (h3 : q3 = quarter 1536 (by omega) s) :
    X = upd a m mn vte s := by
  rw [hX, h0, h1, h2, h3, upd]

section Trip

variable (s0 s1 : FVec F S512x2048 .f32)
  (h90 : ∀ x y, arg9.view.read (Elt F) f9 (ix3 (n0 := 2) (n1 := 512) (n2 := 2048) 0 x y) = s0 (ix2 x y))
  (h91 : ∀ x y, arg9.view.read (Elt F) f9 (ix3 (n0 := 2) (n1 := 512) (n2 := 2048) 1 x y) = s1 (ix2 x y))
  (acc : FVec F S1x2048 .f32 × FVec F S72x2048 .f32 × FVec F S1x2048 .f32 × FVec F S72x2048 .f32 × FVec F S1x2048 .f32 × FVec F S1x2048 .f32)

open trip_k0_t1

include h90 in
theorem tripA0 : sl.r_9 arg7 arg9 X7 k acc f9 = upd acc.2.1 acc.1 (sl.r_3 acc) (vals 0 (vb arg7 X7 k 0)) s0 := by
  have q := fun j hj => slab_quarter arg9.view f9 s0 0 j (by omega) hj h90
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

include h91 in
theorem tripB0 : sl.r_15 arg7 arg9 X7 k acc f9 = upd acc.2.2.2.1 acc.2.2.1 (sl.r_10 acc) (vals 1 (vb arg7 X7 k 0)) s1 := by
  have q := fun j hj => slab_quarter arg9.view f9 s1 1 j (by omega) hj h91
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem tripMA0 : sl.r_3 acc = maximumf acc.1 acc.2.2.2.2.1 := rfl
theorem tripMB0 : sl.r_10 acc = maximumf acc.2.2.1 acc.2.2.2.2.2 := rfl
theorem tripMA1 : sl.r_22 arg6 v1 X6 k acc = maximumf (sl.r_3 acc) (colmax (k0_pay3 v1 (kb arg6 X6 k 0))) := rfl
theorem tripMB1 : sl.r_28 arg6 v3 X6 k acc = maximumf (sl.r_10 acc) (colmax (k0_pay4 v3 (kb arg6 X6 k 0))) := rfl
theorem tripMA2 : sl.r_39 arg6 v1 X6 k acc = maximumf (sl.r_22 arg6 v1 X6 k acc) (colmax (k0_pay3 v1 (kb arg6 X6 k 1))) := rfl
theorem tripMB2 : sl.r_48 arg6 v3 X6 k acc = maximumf (sl.r_28 arg6 v3 X6 k acc) (colmax (k0_pay4 v3 (kb arg6 X6 k 1))) := rfl
theorem tripMA3 : sl.r_58 arg6 v1 X6 k acc = maximumf (sl.r_39 arg6 v1 X6 k acc) (colmax (k0_pay3 v1 (kb arg6 X6 k 2))) := rfl
theorem tripMB3 : sl.r_69 arg6 v3 X6 k acc = maximumf (sl.r_48 arg6 v3 X6 k acc) (colmax (k0_pay4 v3 (kb arg6 X6 k 2))) := rfl
theorem tripCA : sl.r_55 arg6 v1 X6 k = colmax (k0_pay3 v1 (kb arg6 X6 k 3)) := rfl
theorem tripCB : sl.r_56 arg6 v3 X6 k = colmax (k0_pay4 v3 (kb arg6 X6 k 3)) := rfl

theorem tripA1 : sl.r_27 arg6 arg7 arg9 arg10 v1 v3 X6 X7 k acc f9 = upd (sl.r_9 arg7 arg9 X7 k acc f9) (sl.r_3 acc) (sl.r_22 arg6 v1 X6 k acc) (vals 0 (vb arg7 X7 k 1)) (k0_pay3 v1 (kb arg6 X6 k 0)) := by
  have q := fun j hj => slab_quarter arg10.view (arg10.view.writes (Elt F) arg10.view.junk (stored (k0_pay3 v1 (kb arg6 X6 k 0)) (k0_pay4 v3 (kb arg6 X6 k 0)) [])) _ 0 j (by omega) hj
    (stored_read0 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem tripB1 : sl.r_34 arg6 arg7 arg9 arg10 v1 v3 X6 X7 k acc f9 = upd (sl.r_15 arg7 arg9 X7 k acc f9) (sl.r_10 acc) (sl.r_28 arg6 v3 X6 k acc) (vals 1 (vb arg7 X7 k 1)) (k0_pay4 v3 (kb arg6 X6 k 0)) := by
  have q := fun j hj => slab_quarter arg10.view (arg10.view.writes (Elt F) arg10.view.junk (stored (k0_pay3 v1 (kb arg6 X6 k 0)) (k0_pay4 v3 (kb arg6 X6 k 0)) [])) _ 1 j (by omega) hj
    (stored_read1 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem tripA2 : sl.r_47 arg6 arg7 arg9 arg10 v1 v3 X6 X7 k acc f9 = upd (sl.r_27 arg6 arg7 arg9 arg10 v1 v3 X6 X7 k acc f9) (sl.r_22 arg6 v1 X6 k acc) (sl.r_39 arg6 v1 X6 k acc) (vals 0 (vb arg7 X7 k 2)) (k0_pay3 v1 (kb arg6 X6 k 1)) := by
  have q := fun j hj => slab_quarter arg9.view (arg9.view.writes (Elt F) arg9.view.junk (stored (k0_pay3 v1 (kb arg6 X6 k 1)) (k0_pay4 v3 (kb arg6 X6 k 1)) [])) _ 0 j (by omega) hj
    (stored_read0 arg9.view arg9.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem tripB2 : sl.r_54 arg6 arg7 arg9 arg10 v1 v3 X6 X7 k acc f9 = upd (sl.r_34 arg6 arg7 arg9 arg10 v1 v3 X6 X7 k acc f9) (sl.r_28 arg6 v3 X6 k acc) (sl.r_48 arg6 v3 X6 k acc) (vals 1 (vb arg7 X7 k 2)) (k0_pay4 v3 (kb arg6 X6 k 1)) := by
  have q := fun j hj => slab_quarter arg9.view (arg9.view.writes (Elt F) arg9.view.junk (stored (k0_pay3 v1 (kb arg6 X6 k 1)) (k0_pay4 v3 (kb arg6 X6 k 1)) [])) _ 1 j (by omega) hj
    (stored_read1 arg9.view arg9.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem tripA3 : sl.r_68 arg6 arg7 arg9 arg10 v1 v3 X6 X7 k acc f9 = upd (sl.r_47 arg6 arg7 arg9 arg10 v1 v3 X6 X7 k acc f9) (sl.r_39 arg6 v1 X6 k acc) (sl.r_58 arg6 v1 X6 k acc) (vals 0 (vb arg7 X7 k 3)) (k0_pay3 v1 (kb arg6 X6 k 2)) := by
  have q := fun j hj => slab_quarter arg10.view (arg10.view.writes (Elt F) arg10.view.junk (stored (k0_pay3 v1 (kb arg6 X6 k 2)) (k0_pay4 v3 (kb arg6 X6 k 2)) (sl.HW_arg10_2 arg6 v1 v3 X6 k))) _ 0 j (by omega) hj
    (stored_read0 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

end Trip

end Cert.KernelIdeal.Flash

end
-- ==== Proof.Flash.Trips.lean ====
/-
  The loop's trips: what one trip hands to the next, and by induction what the loop holds before each trip, as the
  running pairs of `Flash/Spec.lean`; neither depends on what the score buffers held at first.
-/
module

public import proofs.«01_k».proof.Proof.Flash.Read

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]

variable (c : Dev nD) (i : grid0.Coords)
  (arg3 : Memref sig .tc .vmem S2048x256 .bf16) (harg3 : arg3.IsWhole) (arg4 : Memref sig .tc .vmem S256x256 .bf16) (harg4 : arg4.IsWhole)
  (arg5 : Memref sig .tc .vmem S256x256 .bf16) (harg5 : arg5.IsWhole) (arg6 : Memref sig .tc .vmem S8192x256 .bf16) (harg6 : arg6.IsWhole)
  (arg7 : Memref sig .tc .vmem S256x8192 .bf16) (harg7 : arg7.IsWhole) (arg8 : Memref sig .tc .vmem S2048x128 .bf16) (harg8 : arg8.IsWhole)
  (arg9 : Memref sig .tc .vmem S2x512x2048 .f32) (harg9 : arg9.IsWhole) (arg10 : Memref sig .tc .vmem S2x512x2048 .f32) (harg10 : arg10.IsWhole)
  (v1 v3 : FVec F S2048x128 .bf16) (v27 v29 v36 : FVec F S1x2048 .f32) (v88 : FVec F S72x2048 .f32) (v89 : FVec F S1x2048 .f32)
  (v104 v116 v128 v140 : FVec F S72x512 .f32)
  (X6 : BufTy.Contents (Elt F) arg6.view.ty) (X7 : BufTy.Contents (Elt F) arg7.view.ty)

/-- The values a trip hands on: two heads' pairs and the column maxima of their waiting scores. -/
abbrev Carry (F : FTy → Type) [FloatOps F] :=
  FVec F S1x2048 .f32 × FVec F S72x2048 .f32 × FVec F S1x2048 .f32 × FVec F S72x2048 .f32 × FVec F S1x2048 .f32 × FVec F S1x2048 .f32

/-- The carried values made of two heads' pairs `a`, `b` and their waiting scores. -/
def carry (a b : St F) (s0 s1 : FVec F S512x2048 .f32) : Carry F := (a.1, a.2, b.1, b.2, colmax s0, colmax s1)

/-- Carried values are equal when their six components are. -/
theorem carry_ext {r : Carry F} {x1 x3 x5 x6 : FVec F S1x2048 .f32} {x2 x4 : FVec F S72x2048 .f32} (h1 : r.1 = x1) (h2 : r.2.1 = x2)
    (h3 : r.2.2.1 = x3) (h4 : r.2.2.2.1 = x4) (h5 : r.2.2.2.2.1 = x5) (h6 : r.2.2.2.2.2 = x6) : r = (x1, x2, x3, x4, x5, x6) := by
  subst h1 h2 h3 h4 h5 h6; rfl

/-- What a trip's four updates make of head 0's pair. -/
def fourA (k : Fin k0_t1_loop.trips) (a : St F) (s : FVec F S512x2048 .f32) : St F :=
  step (step (step (step a s (vals 0 (vb arg7 X7 k 0))) (k0_pay3 v1 (kb arg6 X6 k 0)) (vals 0 (vb arg7 X7 k 1)))
    (k0_pay3 v1 (kb arg6 X6 k 1)) (vals 0 (vb arg7 X7 k 2))) (k0_pay3 v1 (kb arg6 X6 k 2)) (vals 0 (vb arg7 X7 k 3))

/-- What a trip's four updates make of head 1's pair. -/
def fourB (k : Fin k0_t1_loop.trips) (b : St F) (s : FVec F S512x2048 .f32) : St F :=
  step (step (step (step b s (vals 1 (vb arg7 X7 k 0))) (k0_pay4 v3 (kb arg6 X6 k 0)) (vals 1 (vb arg7 X7 k 1)))
    (k0_pay4 v3 (kb arg6 X6 k 1)) (vals 1 (vb arg7 X7 k 2))) (k0_pay4 v3 (kb arg6 X6 k 2)) (vals 1 (vb arg7 X7 k 3))

section OneTrip

variable (k : Fin k0_t1_loop.trips) (acc : Carry F) (f9 : BufTy.Contents (Elt F) arg9.view.ty) (f10 : BufTy.Contents (Elt F) arg10.view.ty)

/-- The two slabs' last stores of a trip into the first buffer are the scores of its fourth block of keys. -/
theorem trip_pieces :
    (trip_k0_t1 (F := F) Variants.none c none i arg3 harg3 arg4 harg4 arg5 harg5 arg6 harg6 arg7 harg7 arg8 harg8 arg9 harg9 arg10 harg10 v1 v3 v27 v29 v36 v88 v89 v104 v116 v128 v140 X6 X7 k).2.1 acc f9 f10
      = stored (k0_pay3 v1 (kb arg6 X6 k 3)) (k0_pay4 v3 (kb arg6 X6 k 3)) (trip_k0_t1.sl.HW_arg9_2 arg6 v1 v3 X6 k) := by
  unfold trip_k0_t1
  rfl

/-- The four components a trip hands on that its run names outright. -/
theorem trip_named :
    let r := (trip_k0_t1 (F := F) Variants.none c none i arg3 harg3 arg4 harg4 arg5 harg5 arg6 harg6 arg7 harg7 arg8 harg8 arg9 harg9 arg10 harg10 v1 v3 v27 v29 v36 v88 v89 v104 v116 v128 v140 X6 X7 k).1 acc f9 f10
    r.1 = trip_k0_t1.sl.r_58 arg6 v1 X6 k acc ∧ r.2.1 = trip_k0_t1.sl.r_68 arg6 arg7 arg9 arg10 v1 v3 X6 X7 k acc f9 ∧ r.2.2.1 = trip_k0_t1.sl.r_69 arg6 v3 X6 k acc
      ∧ r.2.2.2.2.1 = trip_k0_t1.sl.r_55 arg6 v1 X6 k ∧ r.2.2.2.2.2 = trip_k0_t1.sl.r_56 arg6 v3 X6 k := by
  unfold trip_k0_t1
  dsimp only
  exact ⟨rfl, rfl, rfl, rfl, rfl⟩

/-- Head 1's sum after a trip. -/
theorem trip_B3 :
    ((trip_k0_t1 (F := F) Variants.none c none i arg3 harg3 arg4 harg4 arg5 harg5 arg6 harg6 arg7 harg7 arg8 harg8 arg9 harg9 arg10 harg10 v1 v3 v27 v29 v36 v88 v89 v104 v116 v128 v140 X6 X7 k).1 acc f9 f10).2.2.2.1
      = upd (trip_k0_t1.sl.r_54 arg6 arg7 arg9 arg10 v1 v3 X6 X7 k acc f9) (trip_k0_t1.sl.r_48 arg6 v3 X6 k acc) (trip_k0_t1.sl.r_69 arg6 v3 X6 k acc)
          (vals 1 (vb arg7 X7 k 3)) (k0_pay4 v3 (kb arg6 X6 k 2)) := by
  have q := fun j hj => slab_quarter arg10.view (arg10.view.writes (Elt F) arg10.view.junk (stored (k0_pay3 v1 (kb arg6 X6 k 2)) (k0_pay4 v3 (kb arg6 X6 k 2)) (trip_k0_t1.sl.HW_arg10_2 arg6 v1 v3 X6 k))) _ 1 j (by omega) hj
    (stored_read1 arg10.view arg10.view.junk _ _ _)
  unfold trip_k0_t1
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

/-- What a trip hands on, from what it was handed and the scores waiting in the first buffer. -/
theorem trip_carry (a b : St F) (s0 s1 : FVec F S512x2048 .f32)
    (h90 : ∀ x y, arg9.view.read (Elt F) f9 (ix3 (n0 := 2) (n1 := 512) (n2 := 2048) 0 x y) = s0 (ix2 x y))
    (h91 : ∀ x y, arg9.view.read (Elt F) f9 (ix3 (n0 := 2) (n1 := 512) (n2 := 2048) 1 x y) = s1 (ix2 x y))
    (hacc : acc = carry a b s0 s1) :
    (trip_k0_t1 (F := F) Variants.none c none i arg3 harg3 arg4 harg4 arg5 harg5 arg6 harg6 arg7 harg7 arg8 harg8 arg9 harg9 arg10 harg10 v1 v3 v27 v29 v36 v88 v89 v104 v116 v128 v140 X6 X7 k).1 acc f9 f10
      = carry (fourA arg6 arg7 v1 X6 X7 k a s0) (fourB arg6 arg7 v3 X6 X7 k b s1) (k0_pay3 v1 (kb arg6 X6 k 3)) (k0_pay4 v3 (kb arg6 X6 k 3)) := by
  have h1 : acc.1 = a.1 := by rw [hacc, carry]
  have h2 : acc.2.1 = a.2 := by rw [hacc, carry]
  have h3 : acc.2.2.1 = b.1 := by rw [hacc, carry]
  have h4 : acc.2.2.2.1 = b.2 := by rw [hacc, carry]
  have h5 : acc.2.2.2.2.1 = colmax s0 := by rw [hacc, carry]
  have h6 : acc.2.2.2.2.2 = colmax s1 := by rw [hacc, carry]
  have A0 : ((trip_k0_t1.sl.r_3 acc, trip_k0_t1.sl.r_9 arg7 arg9 X7 k acc f9) : St F) = step a s0 (vals 0 (vb arg7 X7 k 0)) := by
    rw [tripA0 arg7 arg9 X7 k f9 s0 h90 acc, tripMA0, h1, h2, h5, step]
  have B0 : ((trip_k0_t1.sl.r_10 acc, trip_k0_t1.sl.r_15 arg7 arg9 X7 k acc f9) : St F) = step b s1 (vals 1 (vb arg7 X7 k 0)) := by
    rw [tripB0 arg7 arg9 X7 k f9 s1 h91 acc, tripMB0, h3, h4, h6, step]
  obtain ⟨n1, n2, n3, n5, n6⟩ := trip_named c i arg3 harg3 arg4 harg4 arg5 harg5 arg6 harg6 arg7 harg7 arg8 harg8 arg9 harg9 arg10 harg10 v1 v3 v27 v29 v36 v88 v89 v104 v116 v128 v140 X6 X7 k acc f9 f10
  have n4 := trip_B3 c i arg3 harg3 arg4 harg4 arg5 harg5 arg6 harg6 arg7 harg7 arg8 harg8 arg9 harg9 arg10 harg10 v1 v3 v27 v29 v36 v88 v89 v104 v116 v128 v140 X6 X7 k acc f9 f10
  have A3 : ((trip_k0_t1.sl.r_58 arg6 v1 X6 k acc, trip_k0_t1.sl.r_68 arg6 arg7 arg9 arg10 v1 v3 X6 X7 k acc f9) : St F) = fourA arg6 arg7 v1 X6 X7 k a s0 := by
    rw [tripA3, tripMA3, fourA, ← A0]
    have A1 : step (trip_k0_t1.sl.r_3 acc, trip_k0_t1.sl.r_9 arg7 arg9 X7 k acc f9) (k0_pay3 v1 (kb arg6 X6 k 0)) (vals 0 (vb arg7 X7 k 1))
        = ((trip_k0_t1.sl.r_22 arg6 v1 X6 k acc, trip_k0_t1.sl.r_27 arg6 arg7 arg9 arg10 v1 v3 X6 X7 k acc f9) : St F) := by rw [tripA1, tripMA1, step]
    have A2 : step (trip_k0_t1.sl.r_22 arg6 v1 X6 k acc, trip_k0_t1.sl.r_27 arg6 arg7 arg9 arg10 v1 v3 X6 X7 k acc f9) (k0_pay3 v1 (kb arg6 X6 k 1)) (vals 0 (vb arg7 X7 k 2))
        = ((trip_k0_t1.sl.r_39 arg6 v1 X6 k acc, trip_k0_t1.sl.r_47 arg6 arg7 arg9 arg10 v1 v3 X6 X7 k acc f9) : St F) := by rw [tripA2, tripMA2, step]
    rw [A1, A2, step]
  have B3 : ((trip_k0_t1.sl.r_69 arg6 v3 X6 k acc, upd (trip_k0_t1.sl.r_54 arg6 arg7 arg9 arg10 v1 v3 X6 X7 k acc f9) (trip_k0_t1.sl.r_48 arg6 v3 X6 k acc) (trip_k0_t1.sl.r_69 arg6 v3 X6 k acc)
          (vals 1 (vb arg7 X7 k 3)) (k0_pay4 v3 (kb arg6 X6 k 2))) : St F) = fourB arg6 arg7 v3 X6 X7 k b s1 := by
    rw [tripMB3, fourB, ← B0]
    have B1 : step (trip_k0_t1.sl.r_10 acc, trip_k0_t1.sl.r_15 arg7 arg9 X7 k acc f9) (k0_pay4 v3 (kb arg6 X6 k 0)) (vals 1 (vb arg7 X7 k 1))
        = ((trip_k0_t1.sl.r_28 arg6 v3 X6 k acc, trip_k0_t1.sl.r_34 arg6 arg7 arg9 arg10 v1 v3 X6 X7 k acc f9) : St F) := by rw [tripB1, tripMB1, step]
    have B2 : step (trip_k0_t1.sl.r_28 arg6 v3 X6 k acc, trip_k0_t1.sl.r_34 arg6 arg7 arg9 arg10 v1 v3 X6 X7 k acc f9) (k0_pay4 v3 (kb arg6 X6 k 1)) (vals 1 (vb arg7 X7 k 2))
        = ((trip_k0_t1.sl.r_48 arg6 v3 X6 k acc, trip_k0_t1.sl.r_54 arg6 arg7 arg9 arg10 v1 v3 X6 X7 k acc f9) : St F) := by rw [tripB2, tripMB2, step]
    rw [B1, B2, step]
  rw [tripCA] at n5
  rw [tripCB] at n6
  rw [carry, ← A3, ← B3]
  exact carry_ext n1 n2 n3 n4 n5 n6

end OneTrip

section AllTrips

variable (G9 : BufTy.Contents (Elt F) arg9.view.ty) (G10 : BufTy.Contents (Elt F) arg10.view.ty)

/-- The blocks of keys a trip loads, as blocks of the whole key buffer. -/
theorem kb_eq (k : Fin k0_t1_loop.trips) (n : Fin 4) : kb arg6 X6 k n = kblk (Fin.ofNat 16 (4 * k.val + n.val + 1)) (arg6.view.read (Elt F) X6) := by
  have hk : k.val < 3 := k.isLt
  have hn := n.isLt
  funext y
  show arg6.view.read (Elt F) X6 _ = arg6.view.read (Elt F) X6 _
  congr 1
  funext a
  apply Fin.ext
  have ho := k0_off1_eq k n
  have hm : (4 * k.val + n.val + 1) % 16 = 4 * k.val + n.val + 1 := Nat.mod_eq_of_lt (by omega)
  fin_cases a
  · show k0_off1 k (BitVec.ofNat 32 n.val) 0 + 1 * (y 0).val = 512 * ((4 * k.val + n.val + 1) % 16) + (y 0).val
    rw [ho, hm]
    show 2048 * k.val + 512 * n.val + 512 + 1 * (y 0).val = _
    omega
  · show k0_off1 k (BitVec.ofNat 32 n.val) 1 + 1 * (y 1).val = (y 1).val
    rw [ho]
    show 0 + 1 * (y 1).val = _
    omega

/-- The blocks of values a trip loads, as blocks of the whole value buffer. -/
theorem vb_eq (k : Fin k0_t1_loop.trips) (n : Fin 4) : vb arg7 X7 k n = vblk (Fin.ofNat 16 (4 * k.val + n.val)) (arg7.view.read (Elt F) X7) := by
  have hk : k.val < 3 := k.isLt
  have hn := n.isLt
  funext y
  show arg7.view.read (Elt F) X7 _ = arg7.view.read (Elt F) X7 _
  congr 1
  funext a
  apply Fin.ext
  have ho := k0_off2_eq k n
  have hm : (4 * k.val + n.val) % 16 = 4 * k.val + n.val := Nat.mod_eq_of_lt (by omega)
  fin_cases a
  · show k0_off2 k (BitVec.ofNat 32 n.val) 0 + 1 * (y 0).val = (y 0).val
    rw [ho]
    show 0 + 1 * (y 0).val = _
    omega
  · show k0_off2 k (BitVec.ofNat 32 n.val) 1 + 1 * (y 1).val = 512 * ((4 * k.val + n.val) % 16) + (y 1).val
    rw [ho, hm]
    show 2048 * k.val + 512 * n.val + 1 * (y 1).val = _
    omega

variable (x3 : Vec F S8192x256 .bf16) (x4 : Vec F S256x8192 .bf16)

/-- A trip's four updates of head 0 are four of the sixteen. -/
theorem fourA_eq (k : Fin k0_t1_loop.trips) (a : St F) (h3 : arg6.view.read (Elt F) X6 = x3) (h4 : arg7.view.read (Elt F) X7 = x4) :
    fourA arg6 arg7 v1 X6 X7 k (fold 0 v1 x3 x4 a (4 * k.val)) (sc 0 v1 x3 (Fin.ofNat 16 (4 * k.val))) = fold 0 v1 x3 x4 a (4 * (k.val + 1)) := by
  rw [fourA, kb_eq, kb_eq, kb_eq, vb_eq, vb_eq, vb_eq, vb_eq, h3, h4]
  rfl

/-- A trip's four updates of head 1 are four of the sixteen. -/
theorem fourB_eq (k : Fin k0_t1_loop.trips) (a : St F) (h3 : arg6.view.read (Elt F) X6 = x3) (h4 : arg7.view.read (Elt F) X7 = x4) :
    fourB arg6 arg7 v3 X6 X7 k (fold 1 v3 x3 x4 a (4 * k.val)) (sc 1 v3 x3 (Fin.ofNat 16 (4 * k.val))) = fold 1 v3 x3 x4 a (4 * (k.val + 1)) := by
  rw [fourB, kb_eq, kb_eq, kb_eq, vb_eq, vb_eq, vb_eq, vb_eq, h3, h4]
  rfl

/-- Before trip `n` the loop carries the pairs after `4 n` blocks, and the first buffer holds the scores of block `4 n`. -/
theorem st_eq (a b : St F) (h3 : arg6.view.read (Elt F) X6 = x3) (h4 : arg7.view.read (Elt F) X7 = x4)
    (h90 : ∀ x y, arg9.view.read (Elt F) G9 (ix3 (n0 := 2) (n1 := 512) (n2 := 2048) 0 x y) = sc 0 v1 x3 0 (ix2 x y))
    (h91 : ∀ x y, arg9.view.read (Elt F) G9 (ix3 (n0 := 2) (n1 := 512) (n2 := 2048) 1 x y) = sc 1 v3 x3 0 (ix2 x y))
    (init : Carry F) (hinit : init = carry a b (sc 0 v1 x3 0) (sc 1 v3 x3 0)) (n : ℕ) (hn : n ≤ 3) :
    (st_k0_t1 (F := F) Variants.none c none i arg3 harg3 arg4 harg4 arg5 harg5 arg6 harg6 arg7 harg7 arg8 harg8 arg9 harg9 arg10 harg10 v1 v3 v27 v29 v36 v88 v89 v104 v116 v128 v140 X6 X7 G9 G10 init n).1
        = carry (fold 0 v1 x3 x4 a (4 * n)) (fold 1 v3 x3 x4 b (4 * n)) (sc 0 v1 x3 (Fin.ofNat 16 (4 * n))) (sc 1 v3 x3 (Fin.ofNat 16 (4 * n)))
      ∧ (∀ x y, arg9.view.read (Elt F) (arg9.view.writes (Elt F) G9 (st_k0_t1 (F := F) Variants.none c none i arg3 harg3 arg4 harg4 arg5 harg5 arg6 harg6 arg7 harg7 arg8 harg8 arg9 harg9 arg10 harg10 v1 v3 v27 v29 v36 v88 v89 v104 v116 v128 v140 X6 X7 G9 G10 init n).2.1)
          (ix3 (n0 := 2) (n1 := 512) (n2 := 2048) 0 x y) = sc 0 v1 x3 (Fin.ofNat 16 (4 * n)) (ix2 x y))
      ∧ (∀ x y, arg9.view.read (Elt F) (arg9.view.writes (Elt F) G9 (st_k0_t1 (F := F) Variants.none c none i arg3 harg3 arg4 harg4 arg5 harg5 arg6 harg6 arg7 harg7 arg8 harg8 arg9 harg9 arg10 harg10 v1 v3 v27 v29 v36 v88 v89 v104 v116 v128 v140 X6 X7 G9 G10 init n).2.1)
          (ix3 (n0 := 2) (n1 := 512) (n2 := 2048) 1 x y) = sc 1 v3 x3 (Fin.ofNat 16 (4 * n)) (ix2 x y)) := by
  induction n with
  | zero => exact ⟨hinit, h90, h91⟩
  | succ n ih =>
    obtain ⟨i1, i2, i3⟩ := ih (by omega)
    have hs := st_k0_t1_succ (F := F) Variants.none c none i arg3 harg3 arg4 harg4 arg5 harg5 arg6 harg6 arg7 harg7 arg8 harg8 arg9 harg9 arg10 harg10 v1 v3 v27 v29 v36 v88 v89 v104 v116 v128 v140 X6 X7 G9 G10 init ⟨n, by show n < 3; omega⟩
    have hk : sc 0 v1 x3 (Fin.ofNat 16 (4 * (n + 1))) = k0_pay3 v1 (kb arg6 X6 ⟨n, by show n < 3; omega⟩ 3) := by
      rw [kb_eq, h3]; rfl
    have hk' : sc 1 v3 x3 (Fin.ofNat 16 (4 * (n + 1))) = k0_pay4 v3 (kb arg6 X6 ⟨n, by show n < 3; omega⟩ 3) := by
      rw [kb_eq, h3]; rfl
    change st_k0_t1 (F := F) Variants.none c none i arg3 harg3 arg4 harg4 arg5 harg5 arg6 harg6 arg7 harg7 arg8 harg8 arg9 harg9 arg10 harg10 v1 v3 v27 v29 v36 v88 v89 v104 v116 v128 v140 X6 X7 G9 G10 init (n + 1) = _ at hs
    rw [hs]
    refine ⟨?_, ?_, ?_⟩
    · dsimp only [tripR_k0_t1]
      rw [trip_carry c i arg3 harg3 arg4 harg4 arg5 harg5 arg6 harg6 arg7 harg7 arg8 harg8 arg9 harg9 arg10 harg10 v1 v3 v27 v29 v36 v88 v89 v104 v116 v128 v140 X6 X7 ⟨n, by show n < 3; omega⟩ _ _ _ _ _ _ _ i2 i3 i1, hk, hk',
        fourA_eq arg6 arg7 v1 X6 X7 x3 x4 ⟨n, by show n < 3; omega⟩ a h3 h4, fourB_eq arg6 arg7 v3 X6 X7 x3 x4 ⟨n, by show n < 3; omega⟩ b h3 h4]
    · intro x y
      dsimp only [tripL_k0_t1]
      rw [trip_pieces, hk]
      exact stored_read0 arg9.view G9 _ _ _ x y
    · intro x y
      dsimp only [tripL_k0_t1]
      rw [trip_pieces, hk']
      exact stored_read1 arg9.view G9 _ _ _ x y

end AllTrips

end Cert.KernelIdeal.Flash

end
-- ==== Proof.Flash.Run.lean ====
/-
  The attention kernel's body, run once at symbolic operands and for any values: whatever the two score buffers
  hold when a grid point begins, the body ends, gives its inputs back as they were, and leaves the output block
  at a list of stores that the run finds.  What those stores hold is told in `Flash/Out.lean`.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S2048x256 .bf16) (harg3 : arg3.IsWhole) (arg4 : Memref sig .tc .vmem S256x256 .bf16) (harg4 : arg4.IsWhole)
  (arg5 : Memref sig .tc .vmem S256x256 .bf16) (harg5 : arg5.IsWhole) (arg6 : Memref sig .tc .vmem S8192x256 .bf16) (harg6 : arg6.IsWhole)
  (arg7 : Memref sig .tc .vmem S256x8192 .bf16) (harg7 : arg7.IsWhole) (arg8 : Memref sig .tc .vmem S2048x128 .bf16) (harg8 : arg8.IsWhole)
  (arg9 : Memref sig .tc .vmem S2x512x2048 .f32) (harg9 : arg9.IsWhole) (arg10 : Memref sig .tc .vmem S2x512x2048 .f32) (harg10 : arg10.IsWhole)
  (x0 : Vec F S2048x256 .bf16) (x1 : Vec F S256x256 .bf16) (x2 : Vec F S256x256 .bf16) (x3 : Vec F S8192x256 .bf16) (x4 : Vec F S256x8192 .bf16)
  (g9 : BufTy.Contents (Elt F) arg9.view.ty) (g10 : BufTy.Contents (Elt F) arg10.view.ty)

set_option maxHeartbeats 1000000 in set_option sl_exec.squeezeSlice true in
/-- The body from its five input blocks, the two score buffers holding `g9` and `g10`: it returns the inputs as
    they were, the score buffers at some contents, and the output block with the listed stores written. -/
def bodyRun :
    { L5 : List (View.Piece (Elt F) S2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (arg9.view.loc (c : Thread nD τ) ↦[arg9.view.set]{fullShare} g9) ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ d, owns (c : Thread nD τ) arg9 fullShare d) ∗ (∃ d, owns (c : Thread nD τ) arg10 fullShare d)) -∗ K ⟨⟩))
          ⊢ wp frame (wpE (defs₀ (F := F)) Variants.none c none) E
              (cc0_mla_flash i arg3 harg3 arg4 harg4 arg5 harg5 arg6 harg6 arg7 harg7 arg8 harg8 arg9 harg9 arg10 harg10) K } := by
  refine ⟨?_, fun E K => ?run⟩
  case run =>
    simp only [cc0_mla_flash_eq_skeleton]; unfold cc0_mla_flash_skel
    simp only [k0_part15_eq_skeleton, k0_part16_eq_skeleton, k0_part17_eq_skeleton, k0_part18_eq_skeleton, k0_part19_eq_skeleton,
      k0_part20_eq_skeleton, k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HS0, HS1, Hk⟩
    obtain rfl := harg3.eq_unread hf0; obtain rfl := harg4.eq_unread hf1; obtain rfl := harg5.eq_unread hf2
    obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    iexists _, _; isplitr; swap; · iexact HS1
    ipureintro; rfl

end Cert.KernelIdeal.Flash

end
-- ==== Proof.Flash.Out.lean ====
/-
  The output block of one grid point: what the body's run stores is `out` of the five input blocks, whatever the
  two score buffers held when the grid point began.
-/
module

public import proofs.«01_k».proof.Proof.Flash.Trips
public import proofs.«01_k».proof.Proof.Flash.Run

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]

variable (c : Dev nD) (i : grid0.Coords)
  (arg3 : Memref sig .tc .vmem S2048x256 .bf16) (harg3 : arg3.IsWhole) (arg4 : Memref sig .tc .vmem S256x256 .bf16) (harg4 : arg4.IsWhole)
  (arg5 : Memref sig .tc .vmem S256x256 .bf16) (harg5 : arg5.IsWhole) (arg6 : Memref sig .tc .vmem S8192x256 .bf16) (harg6 : arg6.IsWhole)
  (arg7 : Memref sig .tc .vmem S256x8192 .bf16) (harg7 : arg7.IsWhole) (arg8 : Memref sig .tc .vmem S2048x128 .bf16) (harg8 : arg8.IsWhole)
  (arg9 : Memref sig .tc .vmem S2x512x2048 .f32) (harg9 : arg9.IsWhole) (arg10 : Memref sig .tc .vmem S2x512x2048 .f32) (harg10 : arg10.IsWhole)
  (x0 : Vec F S2048x256 .bf16) (x1 : Vec F S256x256 .bf16) (x2 : Vec F S256x256 .bf16) (x3 : Vec F S8192x256 .bf16) (x4 : Vec F S256x8192 .bf16)
  (g9 : BufTy.Contents (Elt F) arg9.view.ty) (g10 : BufTy.Contents (Elt F) arg10.view.ty)

/-- A load of rows `512 c …` of the key buffer. -/
theorem kload (n : ℕ) (cc : Fin 16) (hn : n = 512 * cc.val) (inb : ∀ a, (![n, 0] : Fin 2 → ℕ) a + S512x256.size a ≤ S8192x256.size a) :
    View.readAt (Elt F) arg6.view (Rect.unit (s := S8192x256) ![n, 0] S512x256.size inb).toLoadRect (harg6.unread x3) = kblk cc x3 := by
  funext y
  rw [View.readAt_apply, harg6.read_unread]
  refine congrArg x3 (funext fun a => Fin.ext ?_)
  fin_cases a
  · show n + 1 * (y 0).val = 512 * cc.val + (y 0).val; omega
  · show 0 + 1 * (y 1).val = (y 1).val; omega

/-- A load of columns `512 c …` of the value buffer. -/
theorem vload (n : ℕ) (cc : Fin 16) (hn : n = 512 * cc.val) (inb : ∀ a, (![0, n] : Fin 2 → ℕ) a + S256x512.size a ≤ S256x8192.size a) :
    View.readAt (Elt F) arg7.view (Rect.unit (s := S256x8192) ![0, n] S256x512.size inb).toLoadRect (harg7.unread x4) = vblk cc x4 := by
  funext y
  rw [View.readAt_apply, harg7.read_unread]
  refine congrArg x4 (funext fun a => Fin.ext ?_)
  fin_cases a
  · show 0 + 1 * (y 0).val = (y 0).val; omega
  · show n + 1 * (y 1).val = 512 * cc.val + (y 1).val; omega

/-- A load of a head's lanes of the query buffer. -/
theorem qload (n : ℕ) (e : Fin 2) (hn : n = 128 * e.val) (inb : ∀ a, (![0, n] : Fin 2 → ℕ) a + S2048x128.size a ≤ S2048x256.size a) :
    View.readAt (Elt F) arg3.view (Rect.unit (s := S2048x256) ![0, n] S2048x128.size inb).toLoadRect (harg3.unread x0) = qblk e x0 := by
  funext y
  rw [View.readAt_apply, harg3.read_unread]
  refine congrArg x0 (funext fun a => Fin.ext ?_)
  fin_cases a
  · show 0 + 1 * (y 0).val = (y 0).val; omega
  · show n + 1 * (y 1).val = 128 * e.val + (y 1).val; omega

/-- A load of a whole 256 × 256 buffer. -/
theorem cload (arg : Memref sig .tc .vmem S256x256 .bf16) (harg : arg.IsWhole) (x : Vec F S256x256 .bf16)
    (inb : ∀ a, (![0, 0] : Fin 2 → ℕ) a + S256x256.size a ≤ S256x256.size a) :
    View.readAt (Elt F) arg.view (Rect.unit (s := S256x256) ![0, 0] S256x256.size inb).toLoadRect (harg.unread x) = x := by
  funext y
  rw [View.readAt_apply, harg.read_unread]
  refine congrArg x (funext fun a => Fin.ext ?_)
  fin_cases a
  · show 0 + 1 * (y 0).val = (y 0).val; omega
  · show 0 + 1 * (y 1).val = (y 1).val; omega

open bodyRun

/-- Head 0's queries. -/
theorem r_q0 : (bodyRun.sl.r c arg3 harg3 x0) = (k0_pay93 (qblk 0 x0)) := by
  unfold sl.r; rw [qload arg3 harg3 x0 0 0 rfl]

/-- Head 1's queries. -/
theorem r_q1 : (bodyRun.sl.r_1 c arg3 harg3 x0) = (k0_pay93 (qblk 1 x0)) := by
  unfold sl.r_1; rw [qload arg3 harg3 x0 128 1 rfl]; rfl

/-- Head 0's shift and sum after the context. -/
theorem r_ctxA : (bodyRun.sl.r_9 c arg3 harg3 arg4 harg4 x0 x1) = (afterCtx (scoresCtx 0 (qblk 0 x0) x1) (valsCtx 0 x2)).1 ∧ (bodyRun.sl.r_16 c arg3 harg3 arg4 harg4 arg5 harg5 x0 x1 x2) = (afterCtx (scoresCtx 0 (qblk 0 x0) x1) (valsCtx 0 x2)).2 := by
  unfold sl.r_9 sl.r_16 sl.r_10 sl.r_11 sl.r_12 sl.r_13 sl.r_14 sl.r_15 sl.r_2 sl.r_6
  rw [qload arg3 harg3 x0 0 0 rfl, cload arg4 harg4 x1, cload arg5 harg5 x2]
  exact ⟨rfl, rfl⟩

/-- Head 1's shift and sum after the context. -/
theorem r_ctxB : (bodyRun.sl.r_17 c arg3 harg3 arg4 harg4 x0 x1) = (afterCtx (scoresCtx 1 (qblk 1 x0) x1) (valsCtx 1 x2)).1 ∧ (k0_pay126 (bodyRun.sl.r_18 c arg3 harg3 arg4 harg4 arg5 harg5 x0 x1 x2) (bodyRun.sl.r_19 c arg3 harg3 arg4 harg4 arg5 harg5 x0 x1 x2) (bodyRun.sl.r_20 c arg3 harg3 arg4 harg4 arg5 harg5 x0 x1 x2) (bodyRun.sl.r_21 c arg3 harg3 arg4 harg4 arg5 harg5 x0 x1 x2)) = (afterCtx (scoresCtx 1 (qblk 1 x0) x1) (valsCtx 1 x2)).2 := by
  unfold sl.r_17 sl.r_18 sl.r_19 sl.r_20 sl.r_21 sl.r_7 sl.r_8 sl.r_3
  rw [qload arg3 harg3 x0 128 1 rfl, cload arg4 harg4 x1, cload arg5 harg5 x2]
  exact ⟨rfl, rfl⟩

/-- The first block's stores. -/
theorem r_first : (bodyRun.sl.HS0_2 c arg3 harg3 arg6 harg6 x0 x3) = stored (sc 0 (bodyRun.sl.r c arg3 harg3 x0) x3 0) (sc 1 (bodyRun.sl.r_1 c arg3 harg3 x0) x3 0) [] := by
  unfold sl.HS0_2 sc
  rw [kload arg6 harg6 x3 0 0 rfl]
  rfl

/-- The first block's column maxima. -/
theorem r_firstMax : (bodyRun.sl.r_4 c arg3 harg3 arg6 harg6 x0 x3) = colmax (sc 0 (bodyRun.sl.r c arg3 harg3 x0) x3 0) ∧ (bodyRun.sl.r_5 c arg3 harg3 arg6 harg6 x0 x3) = colmax (sc 1 (bodyRun.sl.r_1 c arg3 harg3 x0) x3 0) := by
  unfold sl.r_4 sl.r_5 sc
  rw [kload arg6 harg6 x3 0 0 rfl]
  exact ⟨rfl, rfl⟩

/-- What the loop leaves: its carried values and its stores. -/
abbrev loopEnd := (st_k0_t1 (F := F) Variants.none c none i arg3 harg3 arg4 harg4 arg5 harg5 arg6 harg6 arg7 harg7 arg8 harg8 arg9 harg9 arg10 harg10 (bodyRun.sl.r c arg3 harg3 x0) (bodyRun.sl.r_1 c arg3 harg3 x0) (bodyRun.sl.r_4 c arg3 harg3 arg6 harg6 x0 x3) (bodyRun.sl.r_5 c arg3 harg3 arg6 harg6 x0 x3) (bodyRun.sl.r_9 c arg3 harg3 arg4 harg4 x0 x1) (bodyRun.sl.r_16 c arg3 harg3 arg4 harg4 arg5 harg5 x0 x1 x2) (bodyRun.sl.r_17 c arg3 harg3 arg4 harg4 x0 x1) (bodyRun.sl.r_18 c arg3 harg3 arg4 harg4 arg5 harg5 x0 x1 x2) (bodyRun.sl.r_19 c arg3 harg3 arg4 harg4 arg5 harg5 x0 x1 x2) (bodyRun.sl.r_20 c arg3 harg3 arg4 harg4 arg5 harg5 x0 x1 x2) (bodyRun.sl.r_21 c arg3 harg3 arg4 harg4 arg5 harg5 x0 x1 x2) (harg6.unread x3) (harg7.unread x4) (arg9.view.writes (Elt F) arg9.view.junk (bodyRun.sl.HS0_2 c arg3 harg3 arg6 harg6 x0 x3)) g10 ((bodyRun.sl.r_9 c arg3 harg3 arg4 harg4 x0 x1), (bodyRun.sl.r_16 c arg3 harg3 arg4 harg4 arg5 harg5 x0 x1 x2), (bodyRun.sl.r_17 c arg3 harg3 arg4 harg4 x0 x1), (k0_pay126 (bodyRun.sl.r_18 c arg3 harg3 arg4 harg4 arg5 harg5 x0 x1 x2) (bodyRun.sl.r_19 c arg3 harg3 arg4 harg4 arg5 harg5 x0 x1 x2) (bodyRun.sl.r_20 c arg3 harg3 arg4 harg4 arg5 harg5 x0 x1 x2) (bodyRun.sl.r_21 c arg3 harg3 arg4 harg4 arg5 harg5 x0 x1 x2)), (bodyRun.sl.r_4 c arg3 harg3 arg6 harg6 x0 x3), (bodyRun.sl.r_5 c arg3 harg3 arg6 harg6 x0 x3)) (Scf.trips k0_t1_loop.lb k0_t1_loop.ub k0_t1_loop.st))

/-- Head 0's pair after twelve blocks. -/
abbrev fA (n : ℕ) : St F := fold 0 (bodyRun.sl.r c arg3 harg3 x0) x3 x4 ((bodyRun.sl.r_9 c arg3 harg3 arg4 harg4 x0 x1), (bodyRun.sl.r_16 c arg3 harg3 arg4 harg4 arg5 harg5 x0 x1 x2)) n
/-- Head 1's pair after twelve blocks. -/
abbrev fB (n : ℕ) : St F := fold 1 (bodyRun.sl.r_1 c arg3 harg3 x0) x3 x4 ((bodyRun.sl.r_17 c arg3 harg3 arg4 harg4 x0 x1), (k0_pay126 (bodyRun.sl.r_18 c arg3 harg3 arg4 harg4 arg5 harg5 x0 x1 x2) (bodyRun.sl.r_19 c arg3 harg3 arg4 harg4 arg5 harg5 x0 x1 x2) (bodyRun.sl.r_20 c arg3 harg3 arg4 harg4 arg5 harg5 x0 x1 x2) (bodyRun.sl.r_21 c arg3 harg3 arg4 harg4 arg5 harg5 x0 x1 x2))) n

/-- After its three trips the loop holds the pairs after twelve blocks and, in the first buffer, block 12's scores. -/
theorem loopEnd_eq :
    (loopEnd c i arg3 harg3 arg4 harg4 arg5 harg5 arg6 harg6 arg7 harg7 arg8 harg8 arg9 harg9 arg10 harg10 x0 x1 x2 x3 x4 g10).1 = carry (fA c arg3 harg3 arg4 harg4 arg5 harg5 x0 x1 x2 x3 x4 12) (fB c arg3 harg3 arg4 harg4 arg5 harg5 x0 x1 x2 x3 x4 12) (sc 0 (bodyRun.sl.r c arg3 harg3 x0) x3 12) (sc 1 (bodyRun.sl.r_1 c arg3 harg3 x0) x3 12)
      ∧ (∀ x y, arg9.view.read (Elt F) (arg9.view.writes (Elt F) (arg9.view.writes (Elt F) arg9.view.junk (bodyRun.sl.HS0_2 c arg3 harg3 arg6 harg6 x0 x3)) (loopEnd c i arg3 harg3 arg4 harg4 arg5 harg5 arg6 harg6 arg7 harg7 arg8 harg8 arg9 harg9 arg10 harg10 x0 x1 x2 x3 x4 g10).2.1)
          (ix3 (n0 := 2) (n1 := 512) (n2 := 2048) 0 x y) = sc 0 (bodyRun.sl.r c arg3 harg3 x0) x3 12 (ix2 x y))
      ∧ (∀ x y, arg9.view.read (Elt F) (arg9.view.writes (Elt F) (arg9.view.writes (Elt F) arg9.view.junk (bodyRun.sl.HS0_2 c arg3 harg3 arg6 harg6 x0 x3)) (loopEnd c i arg3 harg3 arg4 harg4 arg5 harg5 arg6 harg6 arg7 harg7 arg8 harg8 arg9 harg9 arg10 harg10 x0 x1 x2 x3 x4 g10).2.1)
          (ix3 (n0 := 2) (n1 := 512) (n2 := 2048) 1 x y) = sc 1 (bodyRun.sl.r_1 c arg3 harg3 x0) x3 12 (ix2 x y)) := by
  obtain ⟨hm0, hm1⟩ := r_firstMax c arg3 harg3 arg6 harg6 x0 x3
  exact st_eq c i arg3 harg3 arg4 harg4 arg5 harg5 arg6 harg6 arg7 harg7 arg8 harg8 arg9 harg9 arg10 harg10 _ _ _ _ _ _ _ _ _ _ _ _ _ _ _ x3 x4
    ((bodyRun.sl.r_9 c arg3 harg3 arg4 harg4 x0 x1), (bodyRun.sl.r_16 c arg3 harg3 arg4 harg4 arg5 harg5 x0 x1 x2)) ((bodyRun.sl.r_17 c arg3 harg3 arg4 harg4 x0 x1), (k0_pay126 (bodyRun.sl.r_18 c arg3 harg3 arg4 harg4 arg5 harg5 x0 x1 x2) (bodyRun.sl.r_19 c arg3 harg3 arg4 harg4 arg5 harg5 x0 x1 x2) (bodyRun.sl.r_20 c arg3 harg3 arg4 harg4 arg5 harg5 x0 x1 x2) (bodyRun.sl.r_21 c arg3 harg3 arg4 harg4 arg5 harg5 x0 x1 x2))) (harg6.read_unread x3) (harg7.read_unread x4)
    (by rw [r_first]; exact stored_read0 arg9.view _ _ _ _) (by rw [r_first]; exact stored_read1 arg9.view _ _ _ _) _
    (by rw [carry, ← hm0, ← hm1]) 3 le_rfl

section Tail

theorem mA12 : (bodyRun.sl.r_29 c i arg3 harg3 arg4 harg4 arg5 harg5 arg6 harg6 arg7 harg7 arg8 harg8 arg9 harg9 arg10 harg10 x0 x1 x2 x3 x4 g10) = maximumf ((loopEnd c i arg3 harg3 arg4 harg4 arg5 harg5 arg6 harg6 arg7 harg7 arg8 harg8 arg9 harg9 arg10 harg10 x0 x1 x2 x3 x4 g10).1.1) ((loopEnd c i arg3 harg3 arg4 harg4 arg5 harg5 arg6 harg6 arg7 harg7 arg8 harg8 arg9 harg9 arg10 harg10 x0 x1 x2 x3 x4 g10).1.2.2.2.2.1) := rfl
theorem mB12 : (bodyRun.sl.r_38 c i arg3 harg3 arg4 harg4 arg5 harg5 arg6 harg6 arg7 harg7 arg8 harg8 arg9 harg9 arg10 harg10 x0 x1 x2 x3 x4 g10) = maximumf (bodyRun.sl.r_23 c i arg3 harg3 arg4 harg4 arg5 harg5 arg6 harg6 arg7 harg7 arg8 harg8 arg9 harg9 arg10 harg10 x0 x1 x2 x3 x4 g10) (bodyRun.sl.r_25 c i arg3 harg3 arg4 harg4 arg5 harg5 arg6 harg6 arg7 harg7 arg8 harg8 arg9 harg9 arg10 harg10 x0 x1 x2 x3 x4 g10) := rfl
theorem mA13 : (bodyRun.sl.r_50 c i arg3 harg3 arg4 harg4 arg5 harg5 arg6 harg6 arg7 harg7 arg8 harg8 arg9 harg9 arg10 harg10 x0 x1 x2 x3 x4 g10) = maximumf (bodyRun.sl.r_29 c i arg3 harg3 arg4 harg4 arg5 harg5 arg6 harg6 arg7 harg7 arg8 harg8 arg9 harg9 arg10 harg10 x0 x1 x2 x3 x4 g10) (colmax (k0_pay3 (bodyRun.sl.r c arg3 harg3 x0) (View.readAt (Elt F) arg6.view (Rect.unit (s := S8192x256) ![6656, 0] S512x256.size inb_S8192x256_S512x256_6656_0).toLoadRect (harg6.unread x3)))) := rfl
theorem mB13 : (bodyRun.sl.r_56 c i arg3 harg3 arg4 harg4 arg5 harg5 arg6 harg6 arg7 harg7 arg8 harg8 arg9 harg9 arg10 harg10 x0 x1 x2 x3 x4 g10) = maximumf (bodyRun.sl.r_38 c i arg3 harg3 arg4 harg4 arg5 harg5 arg6 harg6 arg7 harg7 arg8 harg8 arg9 harg9 arg10 harg10 x0 x1 x2 x3 x4 g10) (colmax (k0_pay4 (bodyRun.sl.r_1 c arg3 harg3 x0) (View.readAt (Elt F) arg6.view (Rect.unit (s := S8192x256) ![6656, 0] S512x256.size inb_S8192x256_S512x256_6656_0).toLoadRect (harg6.unread x3)))) := rfl
theorem mA14 : (bodyRun.sl.r_70 c i arg3 harg3 arg4 harg4 arg5 harg5 arg6 harg6 arg7 harg7 arg8 harg8 arg9 harg9 arg10 harg10 x0 x1 x2 x3 x4 g10) = maximumf (bodyRun.sl.r_50 c i arg3 harg3 arg4 harg4 arg5 harg5 arg6 harg6 arg7 harg7 arg8 harg8 arg9 harg9 arg10 harg10 x0 x1 x2 x3 x4 g10) (colmax (k0_pay3 (bodyRun.sl.r c arg3 harg3 x0) (View.readAt (Elt F) arg6.view (Rect.unit (s := S8192x256) ![7168, 0] S512x256.size inb_S8192x256_S512x256_7168_0).toLoadRect (harg6.unread x3)))) := rfl
theorem mB14 : (bodyRun.sl.r_83 c i arg3 harg3 arg4 harg4 arg5 harg5 arg6 harg6 arg7 harg7 arg8 harg8 arg9 harg9 arg10 harg10 x0 x1 x2 x3 x4 g10) = maximumf (bodyRun.sl.r_56 c i arg3 harg3 arg4 harg4 arg5 harg5 arg6 harg6 arg7 harg7 arg8 harg8 arg9 harg9 arg10 harg10 x0 x1 x2 x3 x4 g10) (colmax (k0_pay4 (bodyRun.sl.r_1 c arg3 harg3 x0) (View.readAt (Elt F) arg6.view (Rect.unit (s := S8192x256) ![7168, 0] S512x256.size inb_S8192x256_S512x256_7168_0).toLoadRect (harg6.unread x3)))) := rfl
theorem mA15 : (bodyRun.sl.r_92 c i arg3 harg3 arg4 harg4 arg5 harg5 arg6 harg6 arg7 harg7 arg8 harg8 arg9 harg9 arg10 harg10 x0 x1 x2 x3 x4 g10) = maximumf (bodyRun.sl.r_70 c i arg3 harg3 arg4 harg4 arg5 harg5 arg6 harg6 arg7 harg7 arg8 harg8 arg9 harg9 arg10 harg10 x0 x1 x2 x3 x4 g10) (colmax (k0_pay3 (bodyRun.sl.r c arg3 harg3 x0) (View.readAt (Elt F) arg6.view (Rect.unit (s := S8192x256) ![7680, 0] S512x256.size inb_S8192x256_S512x256_7680_0).toLoadRect (harg6.unread x3)))) := rfl
theorem mB15 : (bodyRun.sl.r_103 c i arg3 harg3 arg4 harg4 arg5 harg5 arg6 harg6 arg7 harg7 arg8 harg8 arg9 harg9 arg10 harg10 x0 x1 x2 x3 x4 g10) = maximumf (bodyRun.sl.r_83 c i arg3 harg3 arg4 harg4 arg5 harg5 arg6 harg6 arg7 harg7 arg8 harg8 arg9 harg9 arg10 harg10 x0 x1 x2 x3 x4 g10) (colmax (k0_pay4 (bodyRun.sl.r_1 c arg3 harg3 x0) (View.readAt (Elt F) arg6.view (Rect.unit (s := S8192x256) ![7680, 0] S512x256.size inb_S8192x256_S512x256_7680_0).toLoadRect (harg6.unread x3)))) := rfl

theorem uA12 : (bodyRun.sl.r_37 c i arg3 harg3 arg4 harg4 arg5 harg5 arg6 harg6 arg7 harg7 arg8 harg8 arg9 harg9 arg10 harg10 x0 x1 x2 x3 x4 g10) = upd (bodyRun.sl.r_22 c i arg3 harg3 arg4 harg4 arg5 harg5 arg6 harg6 arg7 harg7 arg8 harg8 arg9 harg9 arg10 harg10 x0 x1 x2 x3 x4 g10) ((loopEnd c i arg3 harg3 arg4 harg4 arg5 harg5 arg6 harg6 arg7 harg7 arg8 harg8 arg9 harg9 arg10 harg10 x0 x1 x2 x3 x4 g10).1.1) (bodyRun.sl.r_29 c i arg3 harg3 arg4 harg4 arg5 harg5 arg6 harg6 arg7 harg7 arg8 harg8 arg9 harg9 arg10 harg10 x0 x1 x2 x3 x4 g10) (vals 0 (View.readAt (Elt F) arg7.view (Rect.unit (s := S256x8192) ![0, 6144] S256x512.size inb_S256x8192_S256x512_0_6144).toLoadRect (harg7.unread x4))) (sc 0 (bodyRun.sl.r c arg3 harg3 x0) x3 12) := by
  have q := fun j hj => slab_quarter arg9.view (arg9.view.writes (Elt F) arg9.view.junk ((loopEnd c i arg3 harg3 arg4 harg4 arg5 harg5 arg6 harg6 arg7 harg7 arg8 harg8 arg9 harg9 arg10 harg10 x0 x1 x2 x3 x4 g10).2.1 ++ (bodyRun.sl.HS0_2 c arg3 harg3 arg6 harg6 x0 x3))) (sc 0 (bodyRun.sl.r c arg3 harg3 x0) x3 12) 0 j (by omega) hj
    (by rw [View.writes_append]; exact (loopEnd_eq c i arg3 harg3 arg4 harg4 arg5 harg5 arg6 harg6 arg7 harg7 arg8 harg8 arg9 harg9 arg10 harg10 x0 x1 x2 x3 x4 g10).2.1)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uB12 : (bodyRun.sl.r_43 c i arg3 harg3 arg4 harg4 arg5 harg5 arg6 harg6 arg7 harg7 arg8 harg8 arg9 harg9 arg10 harg10 x0 x1 x2 x3 x4 g10) = upd (bodyRun.sl.r_24 c i arg3 harg3 arg4 harg4 arg5 harg5 arg6 harg6 arg7 harg7 arg8 harg8 arg9 harg9 arg10 harg10 x0 x1 x2 x3 x4 g10) (bodyRun.sl.r_23 c i arg3 harg3 arg4 harg4 arg5 harg5 arg6 harg6 arg7 harg7 arg8 harg8 arg9 harg9 arg10 harg10 x0 x1 x2 x3 x4 g10) (bodyRun.sl.r_38 c i arg3 harg3 arg4 harg4 arg5 harg5 arg6 harg6 arg7 harg7 arg8 harg8 arg9 harg9 arg10 harg10 x0 x1 x2 x3 x4 g10) (vals 1 (View.readAt (Elt F) arg7.view (Rect.unit (s := S256x8192) ![0, 6144] S256x512.size inb_S256x8192_S256x512_0_6144).toLoadRect (harg7.unread x4))) (sc 1 (bodyRun.sl.r_1 c arg3 harg3 x0) x3 12) := by
  have q := fun j hj => slab_quarter arg9.view (arg9.view.writes (Elt F) arg9.view.junk ((loopEnd c i arg3 harg3 arg4 harg4 arg5 harg5 arg6 harg6 arg7 harg7 arg8 harg8 arg9 harg9 arg10 harg10 x0 x1 x2 x3 x4 g10).2.1 ++ (bodyRun.sl.HS0_2 c arg3 harg3 arg6 harg6 x0 x3))) (sc 1 (bodyRun.sl.r_1 c arg3 harg3 x0) x3 12) 1 j (by omega) hj
    (by rw [View.writes_append]; exact (loopEnd_eq c i arg3 harg3 arg4 harg4 arg5 harg5 arg6 harg6 arg7 harg7 arg8 harg8 arg9 harg9 arg10 harg10 x0 x1 x2 x3 x4 g10).2.2)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uA13 : (bodyRun.sl.r_55 c i arg3 harg3 arg4 harg4 arg5 harg5 arg6 harg6 arg7 harg7 arg8 harg8 arg9 harg9 arg10 harg10 x0 x1 x2 x3 x4 g10) = upd (bodyRun.sl.r_37 c i arg3 harg3 arg4 harg4 arg5 harg5 arg6 harg6 arg7 harg7 arg8 harg8 arg9 harg9 arg10 harg10 x0 x1 x2 x3 x4 g10) (bodyRun.sl.r_29 c i arg3 harg3 arg4 harg4 arg5 harg5 arg6 harg6 arg7 harg7 arg8 harg8 arg9 harg9 arg10 harg10 x0 x1 x2 x3 x4 g10) (bodyRun.sl.r_50 c i arg3 harg3 arg4 harg4 arg5 harg5 arg6 harg6 arg7 harg7 arg8 harg8 arg9 harg9 arg10 harg10 x0 x1 x2 x3 x4 g10) (vals 0 (View.readAt (Elt F) arg7.view (Rect.unit (s := S256x8192) ![0, 6656] S256x512.size inb_S256x8192_S256x512_0_6656).toLoadRect (harg7.unread x4))) (k0_pay3 (bodyRun.sl.r c arg3 harg3 x0) (View.readAt (Elt F) arg6.view (Rect.unit (s := S8192x256) ![6656, 0] S512x256.size inb_S8192x256_S512x256_6656_0).toLoadRect (harg6.unread x3))) := by
  have q := fun j hj => slab_quarter arg10.view (arg10.view.writes (Elt F) arg10.view.junk (stored (k0_pay3 (bodyRun.sl.r c arg3 harg3 x0) (View.readAt (Elt F) arg6.view (Rect.unit (s := S8192x256) ![6656, 0] S512x256.size inb_S8192x256_S512x256_6656_0).toLoadRect (harg6.unread x3))) (k0_pay4 (bodyRun.sl.r_1 c arg3 harg3 x0) (View.readAt (Elt F) arg6.view (Rect.unit (s := S8192x256) ![6656, 0] S512x256.size inb_S8192x256_S512x256_6656_0).toLoadRect (harg6.unread x3))) (loopEnd c i arg3 harg3 arg4 harg4 arg5 harg5 arg6 harg6 arg7 harg7 arg8 harg8 arg9 harg9 arg10 harg10 x0 x1 x2 x3 x4 g10).2.2)) _ 0 j (by omega) hj
    (stored_read0 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uB13 : (bodyRun.sl.r_66 c i arg3 harg3 arg4 harg4 arg5 harg5 arg6 harg6 arg7 harg7 arg8 harg8 arg9 harg9 arg10 harg10 x0 x1 x2 x3 x4 g10) = upd (bodyRun.sl.r_43 c i arg3 harg3 arg4 harg4 arg5 harg5 arg6 harg6 arg7 harg7 arg8 harg8 arg9 harg9 arg10 harg10 x0 x1 x2 x3 x4 g10) (bodyRun.sl.r_38 c i arg3 harg3 arg4 harg4 arg5 harg5 arg6 harg6 arg7 harg7 arg8 harg8 arg9 harg9 arg10 harg10 x0 x1 x2 x3 x4 g10) (bodyRun.sl.r_56 c i arg3 harg3 arg4 harg4 arg5 harg5 arg6 harg6 arg7 harg7 arg8 harg8 arg9 harg9 arg10 harg10 x0 x1 x2 x3 x4 g10) (vals 1 (View.readAt (Elt F) arg7.view (Rect.unit (s := S256x8192) ![0, 6656] S256x512.size inb_S256x8192_S256x512_0_6656).toLoadRect (harg7.unread x4))) (k0_pay4 (bodyRun.sl.r_1 c arg3 harg3 x0) (View.readAt (Elt F) arg6.view (Rect.unit (s := S8192x256) ![6656, 0] S512x256.size inb_S8192x256_S512x256_6656_0).toLoadRect (harg6.unread x3))) := by
  have q := fun j hj => slab_quarter arg10.view (arg10.view.writes (Elt F) arg10.view.junk (stored (k0_pay3 (bodyRun.sl.r c arg3 harg3 x0) (View.readAt (Elt F) arg6.view (Rect.unit (s := S8192x256) ![6656, 0] S512x256.size inb_S8192x256_S512x256_6656_0).toLoadRect (harg6.unread x3))) (k0_pay4 (bodyRun.sl.r_1 c arg3 harg3 x0) (View.readAt (Elt F) arg6.view (Rect.unit (s := S8192x256) ![6656, 0] S512x256.size inb_S8192x256_S512x256_6656_0).toLoadRect (harg6.unread x3))) (loopEnd c i arg3 harg3 arg4 harg4 arg5 harg5 arg6 harg6 arg7 harg7 arg8 harg8 arg9 harg9 arg10 harg10 x0 x1 x2 x3 x4 g10).2.2)) _ 1 j (by omega) hj
    (stored_read1 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uA14 : (bodyRun.sl.r_82 c i arg3 harg3 arg4 harg4 arg5 harg5 arg6 harg6 arg7 harg7 arg8 harg8 arg9 harg9 arg10 harg10 x0 x1 x2 x3 x4 g10) = upd (bodyRun.sl.r_55 c i arg3 harg3 arg4 harg4 arg5 harg5 arg6 harg6 arg7 harg7 arg8 harg8 arg9 harg9 arg10 harg10 x0 x1 x2 x3 x4 g10) (bodyRun.sl.r_50 c i arg3 harg3 arg4 harg4 arg5 harg5 arg6 harg6 arg7 harg7 arg8 harg8 arg9 harg9 arg10 harg10 x0 x1 x2 x3 x4 g10) (bodyRun.sl.r_70 c i arg3 harg3 arg4 harg4 arg5 harg5 arg6 harg6 arg7 harg7 arg8 harg8 arg9 harg9 arg10 harg10 x0 x1 x2 x3 x4 g10) (vals 0 (View.readAt (Elt F) arg7.view (Rect.unit (s := S256x8192) ![0, 7168] S256x512.size inb_S256x8192_S256x512_0_7168).toLoadRect (harg7.unread x4))) (k0_pay3 (bodyRun.sl.r c arg3 harg3 x0) (View.readAt (Elt F) arg6.view (Rect.unit (s := S8192x256) ![7168, 0] S512x256.size inb_S8192x256_S512x256_7168_0).toLoadRect (harg6.unread x3))) := by
  have q := fun j hj => slab_quarter arg9.view (arg9.view.writes (Elt F) arg9.view.junk (stored (k0_pay3 (bodyRun.sl.r c arg3 harg3 x0) (View.readAt (Elt F) arg6.view (Rect.unit (s := S8192x256) ![7168, 0] S512x256.size inb_S8192x256_S512x256_7168_0).toLoadRect (harg6.unread x3))) (k0_pay4 (bodyRun.sl.r_1 c arg3 harg3 x0) (View.readAt (Elt F) arg6.view (Rect.unit (s := S8192x256) ![7168, 0] S512x256.size inb_S8192x256_S512x256_7168_0).toLoadRect (harg6.unread x3))) ((loopEnd c i arg3 harg3 arg4 harg4 arg5 harg5 arg6 harg6 arg7 harg7 arg8 harg8 arg9 harg9 arg10 harg10 x0 x1 x2 x3 x4 g10).2.1 ++ (bodyRun.sl.HS0_2 c arg3 harg3 arg6 harg6 x0 x3)))) _ 0 j (by omega) hj
    (stored_read0 arg9.view arg9.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uB14 : (bodyRun.sl.r_90 c i arg3 harg3 arg4 harg4 arg5 harg5 arg6 harg6 arg7 harg7 arg8 harg8 arg9 harg9 arg10 harg10 x0 x1 x2 x3 x4 g10) = upd (bodyRun.sl.r_66 c i arg3 harg3 arg4 harg4 arg5 harg5 arg6 harg6 arg7 harg7 arg8 harg8 arg9 harg9 arg10 harg10 x0 x1 x2 x3 x4 g10) (bodyRun.sl.r_56 c i arg3 harg3 arg4 harg4 arg5 harg5 arg6 harg6 arg7 harg7 arg8 harg8 arg9 harg9 arg10 harg10 x0 x1 x2 x3 x4 g10) (bodyRun.sl.r_83 c i arg3 harg3 arg4 harg4 arg5 harg5 arg6 harg6 arg7 harg7 arg8 harg8 arg9 harg9 arg10 harg10 x0 x1 x2 x3 x4 g10) (vals 1 (View.readAt (Elt F) arg7.view (Rect.unit (s := S256x8192) ![0, 7168] S256x512.size inb_S256x8192_S256x512_0_7168).toLoadRect (harg7.unread x4))) (k0_pay4 (bodyRun.sl.r_1 c arg3 harg3 x0) (View.readAt (Elt F) arg6.view (Rect.unit (s := S8192x256) ![7168, 0] S512x256.size inb_S8192x256_S512x256_7168_0).toLoadRect (harg6.unread x3))) := by
  have q := fun j hj => slab_quarter arg9.view (arg9.view.writes (Elt F) arg9.view.junk (stored (k0_pay3 (bodyRun.sl.r c arg3 harg3 x0) (View.readAt (Elt F) arg6.view (Rect.unit (s := S8192x256) ![7168, 0] S512x256.size inb_S8192x256_S512x256_7168_0).toLoadRect (harg6.unread x3))) (k0_pay4 (bodyRun.sl.r_1 c arg3 harg3 x0) (View.readAt (Elt F) arg6.view (Rect.unit (s := S8192x256) ![7168, 0] S512x256.size inb_S8192x256_S512x256_7168_0).toLoadRect (harg6.unread x3))) ((loopEnd c i arg3 harg3 arg4 harg4 arg5 harg5 arg6 harg6 arg7 harg7 arg8 harg8 arg9 harg9 arg10 harg10 x0 x1 x2 x3 x4 g10).2.1 ++ (bodyRun.sl.HS0_2 c arg3 harg3 arg6 harg6 x0 x3)))) _ 1 j (by omega) hj
    (stored_read1 arg9.view arg9.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

theorem uA15 : (bodyRun.sl.r_102 c i arg3 harg3 arg4 harg4 arg5 harg5 arg6 harg6 arg7 harg7 arg8 harg8 arg9 harg9 arg10 harg10 x0 x1 x2 x3 x4 g10) = upd (bodyRun.sl.r_82 c i arg3 harg3 arg4 harg4 arg5 harg5 arg6 harg6 arg7 harg7 arg8 harg8 arg9 harg9 arg10 harg10 x0 x1 x2 x3 x4 g10) (bodyRun.sl.r_70 c i arg3 harg3 arg4 harg4 arg5 harg5 arg6 harg6 arg7 harg7 arg8 harg8 arg9 harg9 arg10 harg10 x0 x1 x2 x3 x4 g10) (bodyRun.sl.r_92 c i arg3 harg3 arg4 harg4 arg5 harg5 arg6 harg6 arg7 harg7 arg8 harg8 arg9 harg9 arg10 harg10 x0 x1 x2 x3 x4 g10) (vals 0 (View.readAt (Elt F) arg7.view (Rect.unit (s := S256x8192) ![0, 7680] S256x512.size inb_S256x8192_S256x512_0_7680).toLoadRect (harg7.unread x4))) (k0_pay3 (bodyRun.sl.r c arg3 harg3 x0) (View.readAt (Elt F) arg6.view (Rect.unit (s := S8192x256) ![7680, 0] S512x256.size inb_S8192x256_S512x256_7680_0).toLoadRect (harg6.unread x3))) := by
  have q := fun j hj => slab_quarter arg10.view (arg10.view.writes (Elt F) arg10.view.junk (stored (k0_pay3 (bodyRun.sl.r c arg3 harg3 x0) (View.readAt (Elt F) arg6.view (Rect.unit (s := S8192x256) ![7680, 0] S512x256.size inb_S8192x256_S512x256_7680_0).toLoadRect (harg6.unread x3))) (k0_pay4 (bodyRun.sl.r_1 c arg3 harg3 x0) (View.readAt (Elt F) arg6.view (Rect.unit (s := S8192x256) ![7680, 0] S512x256.size inb_S8192x256_S512x256_7680_0).toLoadRect (harg6.unread x3))) (bodyRun.sl.HS1_2 c i arg3 harg3 arg4 harg4 arg5 harg5 arg6 harg6 arg7 harg7 arg8 harg8 arg9 harg9 arg10 harg10 x0 x1 x2 x3 x4 g10))) _ 0 j (by omega) hj
    (stored_read0 arg10.view arg10.view.junk _ _ _)
  refine upd_of _ _ _ _ _ rfl ?_ ?_ ?_ ?_
  · exact q 0 _ _ _ _ _ _ _
  · exact q 512 _ _ _ _ _ _ _
  · exact q 1024 _ _ _ _ _ _ _
  · exact q 1536 _ _ _ _ _ _ _

/-- An output block over four blocks of scores is the output block over the update by scores whose quarters they are. -/
theorem fin_of (a b : FVec F S72x2048 .f32) (m mn : FVec F S1x2048 .f32) (vte : FVec F S72x512 .bf16) (s : FVec F S512x2048 .f32)
    {X : FVec F S2048x128 .bf16} {q0 q1 q2 q3 : Vec F S512x512 .f32}
    (hX : X = fin a (updq b mn (exp2 (subf m mn)) vte q0 q1 q2 q3)) (h0 : q0 = quarter 0 (by omega) s)
    (h1 : q1 = quarter 512 (by omega) s) (h2 : q2 = quarter 1024 (by omega) s) (h3 : q3 = quarter 1536 (by omega) s) :
    X = fin a (upd b m mn vte s) := by
  rw [hX, h0, h1, h2, h3, upd]

/-- The block the run stores, over the last update of each head. -/
theorem run_fin : ∃ X, (bodyRun c i arg3 harg3 arg4 harg4 arg5 harg5 arg6 harg6 arg7 harg7 arg8 harg8 arg9 harg9 arg10 harg10 x0 x1 x2 x3 x4 g9 g10).1 = [⟨Rect.unit ![0, 0] S2048x128.size inb_S2048x128_S2048x128_0_0, X⟩]
    ∧ X = fin (bodyRun.sl.r_102 c i arg3 harg3 arg4 harg4 arg5 harg5 arg6 harg6 arg7 harg7 arg8 harg8 arg9 harg9 arg10 harg10 x0 x1 x2 x3 x4 g10) (upd (bodyRun.sl.r_90 c i arg3 harg3 arg4 harg4 arg5 harg5 arg6 harg6 arg7 harg7 arg8 harg8 arg9 harg9 arg10 harg10 x0 x1 x2 x3 x4 g10) (bodyRun.sl.r_83 c i arg3 harg3 arg4 harg4 arg5 harg5 arg6 harg6 arg7 harg7 arg8 harg8 arg9 harg9 arg10 harg10 x0 x1 x2 x3 x4 g10) (bodyRun.sl.r_103 c i arg3 harg3 arg4 harg4 arg5 harg5 arg6 harg6 arg7 harg7 arg8 harg8 arg9 harg9 arg10 harg10 x0 x1 x2 x3 x4 g10) (vals 1 (View.readAt (Elt F) arg7.view (Rect.unit (s := S256x8192) ![0, 7680] S256x512.size inb_S256x8192_S256x512_0_7680).toLoadRect (harg7.unread x4))) (k0_pay4 (bodyRun.sl.r_1 c arg3 harg3 x0) (View.readAt (Elt F) arg6.view (Rect.unit (s := S8192x256) ![7680, 0] S512x256.size inb_S8192x256_S512x256_7680_0).toLoadRect (harg6.unread x3)))) := by
  have q := fun j hj => slab_quarter arg10.view (arg10.view.writes (Elt F) arg10.view.junk (stored (k0_pay3 (bodyRun.sl.r c arg3 harg3 x0) (View.readAt (Elt F) arg6.view (Rect.unit (s := S8192x256) ![7680, 0] S512x256.size inb_S8192x256_S512x256_7680_0).toLoadRect (harg6.unread x3))) (k0_pay4 (bodyRun.sl.r_1 c arg3 harg3 x0) (View.readAt (Elt F) arg6.view (Rect.unit (s := S8192x256) ![7680, 0] S512x256.size inb_S8192x256_S512x256_7680_0).toLoadRect (harg6.unread x3))) (bodyRun.sl.HS1_2 c i arg3 harg3 arg4 harg4 arg5 harg5 arg6 harg6 arg7 harg7 arg8 harg8 arg9 harg9 arg10 harg10 x0 x1 x2 x3 x4 g10))) _ 1 j (by omega) hj
    (stored_read1 arg10.view arg10.view.junk _ _ _)
  refine ⟨_, by unfold bodyRun; rfl, ?_⟩
  refine fin_of _ _ _ _ _ _ rfl ?_ ?_ ?_ ?_
  · exact q 0 _ _ _ _ _ _ _
  · exact q 512 _ _ _ _ _ _ _
  · exact q 1024 _ _ _ _ _ _ _
  · exact q 1536 _ _ _ _ _ _ _

end Tail

/-- The block the run stores is `out` of the input blocks. -/
theorem run_out : (bodyRun c i arg3 harg3 arg4 harg4 arg5 harg5 arg6 harg6 arg7 harg7 arg8 harg8 arg9 harg9 arg10 harg10 x0 x1 x2 x3 x4 g9 g10).1 = [⟨Rect.unit ![0, 0] S2048x128.size inb_S2048x128_S2048x128_0_0, out x0 x1 x2 x3 x4⟩] := by
  obtain ⟨X, hX, hf⟩ := run_fin c i arg3 harg3 arg4 harg4 arg5 harg5 arg6 harg6 arg7 harg7 arg8 harg8 arg9 harg9 arg10 harg10 x0 x1 x2 x3 x4 g9 g10
  rw [hX, hf]
  obtain ⟨hl, -, -⟩ := loopEnd_eq c i arg3 harg3 arg4 harg4 arg5 harg5 arg6 harg6 arg7 harg7 arg8 harg8 arg9 harg9 arg10 harg10 x0 x1 x2 x3 x4 g10
  have h1 : (loopEnd c i arg3 harg3 arg4 harg4 arg5 harg5 arg6 harg6 arg7 harg7 arg8 harg8 arg9 harg9 arg10 harg10 x0 x1 x2 x3 x4 g10).1.1 = (fA c arg3 harg3 arg4 harg4 arg5 harg5 x0 x1 x2 x3 x4 12).1 := by rw [hl, carry]
  have h2 : (bodyRun.sl.r_22 c i arg3 harg3 arg4 harg4 arg5 harg5 arg6 harg6 arg7 harg7 arg8 harg8 arg9 harg9 arg10 harg10 x0 x1 x2 x3 x4 g10) = (fA c arg3 harg3 arg4 harg4 arg5 harg5 x0 x1 x2 x3 x4 12).2 := by show (loopEnd c i arg3 harg3 arg4 harg4 arg5 harg5 arg6 harg6 arg7 harg7 arg8 harg8 arg9 harg9 arg10 harg10 x0 x1 x2 x3 x4 g10).1.2.1 = _; rw [hl, carry]
  have h3 : (bodyRun.sl.r_23 c i arg3 harg3 arg4 harg4 arg5 harg5 arg6 harg6 arg7 harg7 arg8 harg8 arg9 harg9 arg10 harg10 x0 x1 x2 x3 x4 g10) = (fB c arg3 harg3 arg4 harg4 arg5 harg5 x0 x1 x2 x3 x4 12).1 := by show (loopEnd c i arg3 harg3 arg4 harg4 arg5 harg5 arg6 harg6 arg7 harg7 arg8 harg8 arg9 harg9 arg10 harg10 x0 x1 x2 x3 x4 g10).1.2.2.1 = _; rw [hl, carry]
  have h4 : (bodyRun.sl.r_24 c i arg3 harg3 arg4 harg4 arg5 harg5 arg6 harg6 arg7 harg7 arg8 harg8 arg9 harg9 arg10 harg10 x0 x1 x2 x3 x4 g10) = (fB c arg3 harg3 arg4 harg4 arg5 harg5 x0 x1 x2 x3 x4 12).2 := by show (loopEnd c i arg3 harg3 arg4 harg4 arg5 harg5 arg6 harg6 arg7 harg7 arg8 harg8 arg9 harg9 arg10 harg10 x0 x1 x2 x3 x4 g10).1.2.2.2.1 = _; rw [hl, carry]
  have h5 : (loopEnd c i arg3 harg3 arg4 harg4 arg5 harg5 arg6 harg6 arg7 harg7 arg8 harg8 arg9 harg9 arg10 harg10 x0 x1 x2 x3 x4 g10).1.2.2.2.2.1 = colmax (sc 0 (bodyRun.sl.r c arg3 harg3 x0) x3 12) := by rw [hl, carry]
  have h6 : (bodyRun.sl.r_25 c i arg3 harg3 arg4 harg4 arg5 harg5 arg6 harg6 arg7 harg7 arg8 harg8 arg9 harg9 arg10 harg10 x0 x1 x2 x3 x4 g10) = colmax (sc 1 (bodyRun.sl.r_1 c arg3 harg3 x0) x3 12) := by show (loopEnd c i arg3 harg3 arg4 harg4 arg5 harg5 arg6 harg6 arg7 harg7 arg8 harg8 arg9 harg9 arg10 harg10 x0 x1 x2 x3 x4 g10).1.2.2.2.2.2 = _; rw [hl, carry]
  have A12 : (((bodyRun.sl.r_29 c i arg3 harg3 arg4 harg4 arg5 harg5 arg6 harg6 arg7 harg7 arg8 harg8 arg9 harg9 arg10 harg10 x0 x1 x2 x3 x4 g10), (bodyRun.sl.r_37 c i arg3 harg3 arg4 harg4 arg5 harg5 arg6 harg6 arg7 harg7 arg8 harg8 arg9 harg9 arg10 harg10 x0 x1 x2 x3 x4 g10)) : St F) = (fA c arg3 harg3 arg4 harg4 arg5 harg5 x0 x1 x2 x3 x4 13) := by
    rw [uA12, mA12, h1, h2, h5, vload arg7 harg7 x4 6144 12 rfl]; rfl
  have B12 : (((bodyRun.sl.r_38 c i arg3 harg3 arg4 harg4 arg5 harg5 arg6 harg6 arg7 harg7 arg8 harg8 arg9 harg9 arg10 harg10 x0 x1 x2 x3 x4 g10), (bodyRun.sl.r_43 c i arg3 harg3 arg4 harg4 arg5 harg5 arg6 harg6 arg7 harg7 arg8 harg8 arg9 harg9 arg10 harg10 x0 x1 x2 x3 x4 g10)) : St F) = (fB c arg3 harg3 arg4 harg4 arg5 harg5 x0 x1 x2 x3 x4 13) := by
    rw [uB12, mB12, h3, h4, h6, vload arg7 harg7 x4 6144 12 rfl]; rfl
  have A13 : (((bodyRun.sl.r_50 c i arg3 harg3 arg4 harg4 arg5 harg5 arg6 harg6 arg7 harg7 arg8 harg8 arg9 harg9 arg10 harg10 x0 x1 x2 x3 x4 g10), (bodyRun.sl.r_55 c i arg3 harg3 arg4 harg4 arg5 harg5 arg6 harg6 arg7 harg7 arg8 harg8 arg9 harg9 arg10 harg10 x0 x1 x2 x3 x4 g10)) : St F) = (fA c arg3 harg3 arg4 harg4 arg5 harg5 x0 x1 x2 x3 x4 14) := by
    rw [uA13, mA13, kload arg6 harg6 x3 6656 13 rfl, vload arg7 harg7 x4 6656 13 rfl]
    show step ((bodyRun.sl.r_29 c i arg3 harg3 arg4 harg4 arg5 harg5 arg6 harg6 arg7 harg7 arg8 harg8 arg9 harg9 arg10 harg10 x0 x1 x2 x3 x4 g10), (bodyRun.sl.r_37 c i arg3 harg3 arg4 harg4 arg5 harg5 arg6 harg6 arg7 harg7 arg8 harg8 arg9 harg9 arg10 harg10 x0 x1 x2 x3 x4 g10)) (sc 0 (bodyRun.sl.r c arg3 harg3 x0) x3 13) (vals 0 (vblk 13 x4)) = _
    rw [A12]; rfl
  have B13 : (((bodyRun.sl.r_56 c i arg3 harg3 arg4 harg4 arg5 harg5 arg6 harg6 arg7 harg7 arg8 harg8 arg9 harg9 arg10 harg10 x0 x1 x2 x3 x4 g10), (bodyRun.sl.r_66 c i arg3 harg3 arg4 harg4 arg5 harg5 arg6 harg6 arg7 harg7 arg8 harg8 arg9 harg9 arg10 harg10 x0 x1 x2 x3 x4 g10)) : St F) = (fB c arg3 harg3 arg4 harg4 arg5 harg5 x0 x1 x2 x3 x4 14) := by
    rw [uB13, mB13, kload arg6 harg6 x3 6656 13 rfl, vload arg7 harg7 x4 6656 13 rfl]
    show step ((bodyRun.sl.r_38 c i arg3 harg3 arg4 harg4 arg5 harg5 arg6 harg6 arg7 harg7 arg8 harg8 arg9 harg9 arg10 harg10 x0 x1 x2 x3 x4 g10), (bodyRun.sl.r_43 c i arg3 harg3 arg4 harg4 arg5 harg5 arg6 harg6 arg7 harg7 arg8 harg8 arg9 harg9 arg10 harg10 x0 x1 x2 x3 x4 g10)) (sc 1 (bodyRun.sl.r_1 c arg3 harg3 x0) x3 13) (vals 1 (vblk 13 x4)) = _
    rw [B12]; rfl
  have A14 : (((bodyRun.sl.r_70 c i arg3 harg3 arg4 harg4 arg5 harg5 arg6 harg6 arg7 harg7 arg8 harg8 arg9 harg9 arg10 harg10 x0 x1 x2 x3 x4 g10), (bodyRun.sl.r_82 c i arg3 harg3 arg4 harg4 arg5 harg5 arg6 harg6 arg7 harg7 arg8 harg8 arg9 harg9 arg10 harg10 x0 x1 x2 x3 x4 g10)) : St F) = (fA c arg3 harg3 arg4 harg4 arg5 harg5 x0 x1 x2 x3 x4 15) := by
    rw [uA14, mA14, kload arg6 harg6 x3 7168 14 rfl, vload arg7 harg7 x4 7168 14 rfl]
    show step ((bodyRun.sl.r_50 c i arg3 harg3 arg4 harg4 arg5 harg5 arg6 harg6 arg7 harg7 arg8 harg8 arg9 harg9 arg10 harg10 x0 x1 x2 x3 x4 g10), (bodyRun.sl.r_55 c i arg3 harg3 arg4 harg4 arg5 harg5 arg6 harg6 arg7 harg7 arg8 harg8 arg9 harg9 arg10 harg10 x0 x1 x2 x3 x4 g10)) (sc 0 (bodyRun.sl.r c arg3 harg3 x0) x3 14) (vals 0 (vblk 14 x4)) = _
    rw [A13]; rfl
  have B14 : (((bodyRun.sl.r_83 c i arg3 harg3 arg4 harg4 arg5 harg5 arg6 harg6 arg7 harg7 arg8 harg8 arg9 harg9 arg10 harg10 x0 x1 x2 x3 x4 g10), (bodyRun.sl.r_90 c i arg3 harg3 arg4 harg4 arg5 harg5 arg6 harg6 arg7 harg7 arg8 harg8 arg9 harg9 arg10 harg10 x0 x1 x2 x3 x4 g10)) : St F) = (fB c arg3 harg3 arg4 harg4 arg5 harg5 x0 x1 x2 x3 x4 15) := by
    rw [uB14, mB14, kload arg6 harg6 x3 7168 14 rfl, vload arg7 harg7 x4 7168 14 rfl]
    show step ((bodyRun.sl.r_56 c i arg3 harg3 arg4 harg4 arg5 harg5 arg6 harg6 arg7 harg7 arg8 harg8 arg9 harg9 arg10 harg10 x0 x1 x2 x3 x4 g10), (bodyRun.sl.r_66 c i arg3 harg3 arg4 harg4 arg5 harg5 arg6 harg6 arg7 harg7 arg8 harg8 arg9 harg9 arg10 harg10 x0 x1 x2 x3 x4 g10)) (sc 1 (bodyRun.sl.r_1 c arg3 harg3 x0) x3 14) (vals 1 (vblk 14 x4)) = _
    rw [B13]; rfl
  have A15 : (((bodyRun.sl.r_92 c i arg3 harg3 arg4 harg4 arg5 harg5 arg6 harg6 arg7 harg7 arg8 harg8 arg9 harg9 arg10 harg10 x0 x1 x2 x3 x4 g10), (bodyRun.sl.r_102 c i arg3 harg3 arg4 harg4 arg5 harg5 arg6 harg6 arg7 harg7 arg8 harg8 arg9 harg9 arg10 harg10 x0 x1 x2 x3 x4 g10)) : St F) = (fA c arg3 harg3 arg4 harg4 arg5 harg5 x0 x1 x2 x3 x4 16) := by
    rw [uA15, mA15, kload arg6 harg6 x3 7680 15 rfl, vload arg7 harg7 x4 7680 15 rfl]
    show step ((bodyRun.sl.r_70 c i arg3 harg3 arg4 harg4 arg5 harg5 arg6 harg6 arg7 harg7 arg8 harg8 arg9 harg9 arg10 harg10 x0 x1 x2 x3 x4 g10), (bodyRun.sl.r_82 c i arg3 harg3 arg4 harg4 arg5 harg5 arg6 harg6 arg7 harg7 arg8 harg8 arg9 harg9 arg10 harg10 x0 x1 x2 x3 x4 g10)) (sc 0 (bodyRun.sl.r c arg3 harg3 x0) x3 15) (vals 0 (vblk 15 x4)) = _
    rw [A14]; rfl
  have B15 : (((bodyRun.sl.r_103 c i arg3 harg3 arg4 harg4 arg5 harg5 arg6 harg6 arg7 harg7 arg8 harg8 arg9 harg9 arg10 harg10 x0 x1 x2 x3 x4 g10), (upd (bodyRun.sl.r_90 c i arg3 harg3 arg4 harg4 arg5 harg5 arg6 harg6 arg7 harg7 arg8 harg8 arg9 harg9 arg10 harg10 x0 x1 x2 x3 x4 g10) (bodyRun.sl.r_83 c i arg3 harg3 arg4 harg4 arg5 harg5 arg6 harg6 arg7 harg7 arg8 harg8 arg9 harg9 arg10 harg10 x0 x1 x2 x3 x4 g10) (bodyRun.sl.r_103 c i arg3 harg3 arg4 harg4 arg5 harg5 arg6 harg6 arg7 harg7 arg8 harg8 arg9 harg9 arg10 harg10 x0 x1 x2 x3 x4 g10) (vals 1 (View.readAt (Elt F) arg7.view (Rect.unit (s := S256x8192) ![0, 7680] S256x512.size inb_S256x8192_S256x512_0_7680).toLoadRect (harg7.unread x4))) (k0_pay4 (bodyRun.sl.r_1 c arg3 harg3 x0) (View.readAt (Elt F) arg6.view (Rect.unit (s := S8192x256) ![7680, 0] S512x256.size inb_S8192x256_S512x256_7680_0).toLoadRect (harg6.unread x3))))) : St F) = (fB c arg3 harg3 arg4 harg4 arg5 harg5 x0 x1 x2 x3 x4 16) := by
    rw [mB15, kload arg6 harg6 x3 7680 15 rfl, vload arg7 harg7 x4 7680 15 rfl]
    show step ((bodyRun.sl.r_83 c i arg3 harg3 arg4 harg4 arg5 harg5 arg6 harg6 arg7 harg7 arg8 harg8 arg9 harg9 arg10 harg10 x0 x1 x2 x3 x4 g10), (bodyRun.sl.r_90 c i arg3 harg3 arg4 harg4 arg5 harg5 arg6 harg6 arg7 harg7 arg8 harg8 arg9 harg9 arg10 harg10 x0 x1 x2 x3 x4 g10)) (sc 1 (bodyRun.sl.r_1 c arg3 harg3 x0) x3 15) (vals 1 (vblk 15 x4)) = _
    rw [B14]; rfl
  have hA := congrArg Prod.snd A15
  have hB := congrArg Prod.snd B15
  dsimp only at hA hB
  rw [hA, hB]
  obtain ⟨ca1, ca2⟩ := r_ctxA c arg3 harg3 arg4 harg4 arg5 harg5 x0 x1 x2
  obtain ⟨cb1, cb2⟩ := r_ctxB c arg3 harg3 arg4 harg4 arg5 harg5 x0 x1 x2
  unfold fA fB out headSt
  rw [ca1, ca2, cb1, cb2, r_q0, r_q1]

end Cert.KernelIdeal.Flash

end
-- ==== Proof.Flash.Frame.lean ====
/-
  The attention launch: what each staging buffer holds after every grid point, the body's obligation, and the run of
  the whole program, from any memory and for any values.
-/
module

public import proofs.«01_k».proof.Proof.Flash.Out
public import proofs.«01_k».proof.Defs
public import proofs.«01_k».proof.Proof.Gen.Kernel
public import proofs.«01_k».proof.Proof.Gen.KernelIdeal.Launch

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer read after one store of the whole of it holds what was stored. -/
theorem read_whole (v : View sig .tc .vmem S2048x128 .bf16) (f : v.ty.Contents (Elt F)) (X : FVec F S2048x128 .bf16)
    (inb : ∀ a, (![0, 0] : Fin 2 → ℕ) a + S2048x128.size a ≤ S2048x128.size a) :
    v.read (Elt F) (v.writes (Elt F) f [⟨Rect.unit ![0, 0] S2048x128.size inb, X⟩]) = X := by
  funext y
  refine View.read_writes_cons_hit_of_coords v f (Rect.unit ![0, 0] S2048x128.size inb) X [] (fun a => y a) y fun a => ?_
  fin_cases a
  · show (y 0).val = 0 + 1 * (y 0).val; omega
  · show (y 1).val = 0 + 1 * (y 1).val; omega

/-- The two score buffers, as the launch hands them to every grid point. -/
abbrev buf0 : Memref sig .tc .vmem S2x512x2048 .f32 := Memref.whole cc0_scratch0
/-- The second of them. -/
abbrev buf1 : Memref sig .tc .vmem S2x512x2048 .f32 := Memref.whole cc0_scratch1

/-- Between grid points the launch keeps the two score buffers, at some contents, and the generator register. -/
theorem kept_eq (c : Dev nD) :
    (Pipeline.ΦA spec0 c : sProp 𝕄)
      = iprop(iprop((∃ d, owns (c : Thread nD τ) buf0 fullShare d) ∗ (∃ d, owns (c : Thread nD τ) buf1 fullShare d)) ∗ (∃ r, prngReg c r)) := by
  unfold Pipeline.ΦA; rw [scopedRest0_eq]; simp only [buf0, buf1, owns_whole]; try rfl

/-- The same with the buffers as plain contents. -/
theorem kept_open (c : Dev nD) :
    (Pipeline.ΦA spec0 c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) ∗ (∃ r, prngReg c r)) := by
  unfold Pipeline.ΦA; rw [scopedRest0_eq]; try rfl

/-- The output block of grid point `t`. -/
def outAt (c : Dev nD) (t : Fin cfg0.N) : FVec F S2048x128 .bf16 :=
  out (X0_0 m c t) (iblk m c 1 t) (iblk m c 2 t) (X0_3 m c t) (X0_4 m c t)

/-- What is known of the launch on core `c`: every input's buffer holds its block, the output's buffer `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => X0_4 m c t
    | ⟨5, _⟩ => outAt m c t
  Φ _ := Pipeline.ΦA spec0 c
  q w := Pipeline.shareOf spec0 w
  owed _ := 0

/-- The arrays the launch finds. -/
theorem A_eq (c : Dev nD) (w : Fin cfg0.W) : (dats m 0 c).A w = V m c (Pipeline.arrRef spec0 w) := by dsimp only [dats]

variable (c : Dev nD) (t : Fin cfg0.N)

theorem after0 : (dats m 0 c).after 0 t = X0_0 m c t := by dsimp only [dats]
theorem after1 : (dats m 0 c).after 1 t = iblk m c 1 t := by dsimp only [dats]
theorem after2 : (dats m 0 c).after 2 t = iblk m c 2 t := by dsimp only [dats]
theorem after3 : (dats m 0 c).after 3 t = X0_3 m c t := by dsimp only [dats]
theorem after4 : (dats m 0 c).after 4 t = X0_4 m c t := by dsimp only [dats]
theorem after5 : (dats m 0 c).after 5 t = outAt m c t := by dsimp only [dats]

theorem before0 (d) : (dats m 0 c).before 0 t d = X0_0 m c t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = X0_3 m c t := before0_3_of m (dats m 0 c) (A_eq m c 3) (after3 m c) t d
theorem before4 (d) : (dats m 0 c).before 4 t d = X0_4 m c t := before0_4_of m (dats m 0 c) (A_eq m c 4) (after4 m c) t d

/-- What grid point `t`'s body is given. -/
def bodyPre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it gives back. -/
def bodyPost : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 800000 in
/-- The body at a grid point: it is given the input blocks and the score buffers at some contents, and leaves the
    output's buffer at `outAt`. -/
theorem body_at : bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3, after4, after5]
  refine (sep_mono (kept_open c).le .rfl).trans ?_
  rw [kept_eq]
  iintro ⟨⟨⟨⟨%f0, HS0⟩, ⟨%f1, HS1⟩⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ buf0 (Memref.isWhole_whole _) buf1 (Memref.isWhole_whole _)
    (X0_0 m c t) (iblk m c 1 t) (iblk m c 2 t) (X0_3 m c t) (X0_4 m c t) f0 f1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · simp only [Memref.view_whole, View.set_whole]; iexact HS0
  isplitl [HS1]; · simp only [Memref.view_whole, View.set_whole]; iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; rw [run_out]; exact read_whole _ _ _ _

/-- The body the pipeline calls at point `t`. -/
theorem row_eq : defs₀ (F := F) .tc cfg0.body (cfg0.bodyArgs t (cfg0.slots t)) = bodyAt0 t := by
  unfold defs₀; rw [Defs.onTc_tc]

/-- The body's obligation at every grid point. -/
theorem body_obligation : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The run: from any memory with all counters at zero the program ends, every array of the launch at what the proof
    data says, every other buffer as found, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- What the run leaves of the arguments and the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Flash

namespace Cert.Proof

open Idealize.ShloMosaic Idealize.ShloMosaic.TcCoe Idealize.SL.Sem

/-- The kernel in ideal arithmetic ends with its arguments unchanged and its counters at zero. -/
theorem frame_kernelIdeal : Cert.quiescent_KernelIdeal (hKernelIdeal := Cert.KernelIdeal.Gen.facts) := fun m ρ _ =>
  Cert.KernelIdeal.Flash.frame m ρ

/-- The kernel in machine arithmetic too: it is the same program, and the run holds for any values. -/
theorem frame_kernel : Cert.quiescent_Kernel (hKernel := Cert.Kernel.Gen.facts) := fun m ρ _ =>
  cast (by sl_kernel_rfl) (Cert.KernelIdeal.Flash.frame (F := Bits) m ρ)

end Cert.Proof

end
-- ==== Proof.Flash.RefRun.lean ====
/-
  The reference's run: softmax attention over the joined context and latent keys, a straight line of whole-array
  operations, ends with its result array at `attention` of the arguments and the arguments unchanged.
-/
module

public import proofs.«01_k».proof.Defs
public import proofs.«01_k».proof.Proof.Gen.ReferenceIdeal
public import Idealize.ShloMosaic.Lib.StableHlo.Run
public import Idealize.ShloMosaic.Lib.Claim

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.StableHlo Idealize.SL.Sem

variable {F : FTy → Type} [FloatOps F]

/-- The program's operations, in order. -/
abbrev ops : List (HloOp τ sig (Elt F)) :=
  [ binary main_arg4 main_arg1 main_v0 ((fun a b => concatenate S4x8448x16x96 1 [⟨S4x256x16x96, a⟩, ⟨S4x8192x16x96, b⟩] concatenates_S4x256x16x96_S4x8192x16x96_S4x8448x16x96_d1) : (⟨S4x256x16x96, .f32⟩ : BufTy).Contents (Elt F) → (⟨S4x8192x16x96, .f32⟩ : BufTy).Contents (Elt F) → (⟨S4x8448x16x96, .f32⟩ : BufTy).Contents (Elt F)),
    binary main_arg5 main_arg2 main_v1 ((fun a b => concatenate S4x8448x16x64 1 [⟨S4x256x16x64, a⟩, ⟨S4x8192x16x64, b⟩] concatenates_S4x256x16x64_S4x8192x16x64_S4x8448x16x64_d1) : (⟨S4x256x16x64, .f32⟩ : BufTy).Contents (Elt F) → (⟨S4x8192x16x64, .f32⟩ : BufTy).Contents (Elt F) → (⟨S4x8448x16x64, .f32⟩ : BufTy).Contents (Elt F)),
    nullary main_cst (constant S_ .f32 0x3DD105EC#32),
    unary main_cst main_v2 (broadcastInDim S4x8192x16x96 ![] bcast_S_S4x8192x16x96 : (⟨S_, .f32⟩ : BufTy).Contents (Elt F) → (⟨S4x8192x16x96, .f32⟩ : BufTy).Contents (Elt F)),
    binary main_arg0 main_v2 main_v3 (mulf : (⟨S4x8192x16x96, .f32⟩ : BufTy).Contents (Elt F) → (⟨S4x8192x16x96, .f32⟩ : BufTy).Contents (Elt F) → (⟨S4x8192x16x96, .f32⟩ : BufTy).Contents (Elt F)),
    binary main_v3 main_v0 main_v4 ((fun l r => Host.dotGeneral dot_S4x8192x16x96_S4x8448x16x96_S4x16x8192x8448_3_3_1_1_02_02 none l r) : (⟨S4x8192x16x96, .f32⟩ : BufTy).Contents (Elt F) → (⟨S4x8448x16x96, .f32⟩ : BufTy).Contents (Elt F) → (⟨S4x16x8192x8448, .f32⟩ : BufTy).Contents (Elt F)),
    nullary main_cst_0 (constant S_ .f32 0xFF800000#32),
    binary main_v4 main_cst_0 main_v5 ((fun x v => Host.reduce FloatOps.maximumf x v reducesTo_S4x16x8192x8448_S4x16x8192_d3 h_S_) : (⟨S4x16x8192x8448, .f32⟩ : BufTy).Contents (Elt F) → (⟨S_, .f32⟩ : BufTy).Contents (Elt F) → (⟨S4x16x8192, .f32⟩ : BufTy).Contents (Elt F)),
    nullary main_cst_1 (constant S_ .f32 0xFF800000#32),
    unary main_cst_1 main_v6 (broadcastInDim S4x16x8192 ![] bcast_S_S4x16x8192 : (⟨S_, .f32⟩ : BufTy).Contents (Elt F) → (⟨S4x16x8192, .f32⟩ : BufTy).Contents (Elt F)),
    binary main_v6 main_v5 main_v7 (maximumf : (⟨S4x16x8192, .f32⟩ : BufTy).Contents (Elt F) → (⟨S4x16x8192, .f32⟩ : BufTy).Contents (Elt F) → (⟨S4x16x8192, .f32⟩ : BufTy).Contents (Elt F)),
    unary main_v7 main_v8 (broadcastInDim S4x16x8192x1 ![0, 1, 2] bcast_S4x16x8192_S4x16x8192x1_0_1_2 : (⟨S4x16x8192, .f32⟩ : BufTy).Contents (Elt F) → (⟨S4x16x8192x1, .f32⟩ : BufTy).Contents (Elt F)),
    unary main_v8 main_v9 (broadcastInDim S4x16x8192x8448 ![0, 1, 2, 3] bcast_S4x16x8192x1_S4x16x8192x8448_0_1_2_3 : (⟨S4x16x8192x1, .f32⟩ : BufTy).Contents (Elt F) → (⟨S4x16x8192x8448, .f32⟩ : BufTy).Contents (Elt F)),
    binary main_v4 main_v9 main_v10 (subf : (⟨S4x16x8192x8448, .f32⟩ : BufTy).Contents (Elt F) → (⟨S4x16x8192x8448, .f32⟩ : BufTy).Contents (Elt F) → (⟨S4x16x8192x8448, .f32⟩ : BufTy).Contents (Elt F)),
    unary main_v10 main_v11 (Host.exp : (⟨S4x16x8192x8448, .f32⟩ : BufTy).Contents (Elt F) → (⟨S4x16x8192x8448, .f32⟩ : BufTy).Contents (Elt F)),
    nullary main_cst_2 (constant S_ .f32 0x00000000#32),
    binary main_v11 main_cst_2 main_v12 ((fun x v => Host.reduceAdd x v reducesTo_S4x16x8192x8448_S4x16x8192_d3 h_S_) : (⟨S4x16x8192x8448, .f32⟩ : BufTy).Contents (Elt F) → (⟨S_, .f32⟩ : BufTy).Contents (Elt F) → (⟨S4x16x8192, .f32⟩ : BufTy).Contents (Elt F)),
    unary main_v12 main_v13 (broadcastInDim S4x16x8192x1 ![0, 1, 2] bcast_S4x16x8192_S4x16x8192x1_0_1_2 : (⟨S4x16x8192, .f32⟩ : BufTy).Contents (Elt F) → (⟨S4x16x8192x1, .f32⟩ : BufTy).Contents (Elt F)),
    unary main_v13 main_v14 (broadcastInDim S4x16x8192x8448 ![0, 1, 2, 3] bcast_S4x16x8192x1_S4x16x8192x8448_0_1_2_3 : (⟨S4x16x8192x1, .f32⟩ : BufTy).Contents (Elt F) → (⟨S4x16x8192x8448, .f32⟩ : BufTy).Contents (Elt F)),
    binary main_v11 main_v14 main_v15 (Host.divf : (⟨S4x16x8192x8448, .f32⟩ : BufTy).Contents (Elt F) → (⟨S4x16x8192x8448, .f32⟩ : BufTy).Contents (Elt F) → (⟨S4x16x8192x8448, .f32⟩ : BufTy).Contents (Elt F)),
    binary main_v1 main_v15 main_v16 ((fun l r => Host.dotGeneral dot_S4x8448x16x64_S4x16x8192x8448_S4x16x64x8192_1_3_3_2_02_01 none l r) : (⟨S4x8448x16x64, .f32⟩ : BufTy).Contents (Elt F) → (⟨S4x16x8192x8448, .f32⟩ : BufTy).Contents (Elt F) → (⟨S4x16x64x8192, .f32⟩ : BufTy).Contents (Elt F)),
    unary main_v16 main_v17 ((transpose S4x8192x16x64 [0, 3, 1, 2] · transposes_S4x16x64x8192_S4x8192x16x64_0_3_1_2) : (⟨S4x16x64x8192, .f32⟩ : BufTy).Contents (Elt F) → (⟨S4x8192x16x64, .f32⟩ : BufTy).Contents (Elt F)),
    reshape main_v17 main_v18 (rfl : (.f32 : EltTy) = .f32) shapeCasts_S4x8192x16x64_S32768x1024,
    unary main_v18 main_v19 ((truncf .bf16 · bitsLt_bf16_f32) : (⟨S32768x1024, .f32⟩ : BufTy).Contents (Elt F) → (⟨S32768x1024, .bf16⟩ : BufTy).Contents (Elt F)) ]

/-- The program is that line of operations. -/
theorem main_eq (c : Dev nD) : main (F := F) c = seq ops := rfl

/-- Scores of every query against every key: context keys first, latent keys after them. -/
def logits (q k : FVec F S4x8192x16x96 .f32) (kc : FVec F S4x256x16x96 .f32) : FVec F S4x16x8192x8448 .f32 :=
  Host.dotGeneral dot_S4x8192x16x96_S4x8448x16x96_S4x16x8192x8448_3_3_1_1_02_02 none
    (mulf q (broadcastInDim S4x8192x16x96 ![] bcast_S_S4x8192x16x96 (constant S_ .f32 0x3DD105EC#32)))
    (concatenate S4x8448x16x96 1 [⟨S4x256x16x96, kc⟩, ⟨S4x8192x16x96, k⟩] concatenates_S4x256x16x96_S4x8192x16x96_S4x8448x16x96_d1)

/-- Each query's largest score. -/
def largest (s : FVec F S4x16x8192x8448 .f32) : FVec F S4x16x8192 .f32 :=
  maximumf (broadcastInDim S4x16x8192 ![] bcast_S_S4x16x8192 (constant S_ .f32 0xFF800000#32))
    (Host.reduce FloatOps.maximumf s (constant S_ .f32 0xFF800000#32) reducesTo_S4x16x8192x8448_S4x16x8192_d3 h_S_)

/-- One value per query spread over the keys. -/
def overKeys (x : FVec F S4x16x8192 .f32) : FVec F S4x16x8192x8448 .f32 :=
  broadcastInDim S4x16x8192x8448 ![0, 1, 2, 3] bcast_S4x16x8192x1_S4x16x8192x8448_0_1_2_3
    (broadcastInDim S4x16x8192x1 ![0, 1, 2] bcast_S4x16x8192_S4x16x8192x1_0_1_2 x)

/-- Unnormalised weights. -/
def raw (s : FVec F S4x16x8192x8448 .f32) : FVec F S4x16x8192x8448 .f32 := Host.exp (subf s (overKeys (largest s)))

/-- Weights, from the unnormalised ones. -/
def normed (e : FVec F S4x16x8192x8448 .f32) : FVec F S4x16x8192x8448 .f32 :=
  Host.divf e (overKeys (Host.reduceAdd e (constant S_ .f32 0x00000000#32) reducesTo_S4x16x8192x8448_S4x16x8192_d3 h_S_))

/-- Weighted sums of the values, by query, head and lane. -/
def mixed (p : FVec F S4x16x8192x8448 .f32) (v : FVec F S4x8192x16x64 .f32) (vc : FVec F S4x256x16x64 .f32) : FVec F S4x8192x16x64 .f32 :=
  transpose S4x8192x16x64 [0, 3, 1, 2]
    (Host.dotGeneral dot_S4x8448x16x64_S4x16x8192x8448_S4x16x64x8192_1_3_3_2_02_01 none
      (concatenate S4x8448x16x64 1 [⟨S4x256x16x64, vc⟩, ⟨S4x8192x16x64, v⟩] concatenates_S4x256x16x64_S4x8192x16x64_S4x8448x16x64_d1) p)
    transposes_S4x16x64x8192_S4x8192x16x64_0_3_1_2

/-- The reference's result. -/
def attention (q k : FVec F S4x8192x16x96 .f32) (v : FVec F S4x8192x16x64 .f32) (kc : FVec F S4x256x16x96 .f32) (vc : FVec F S4x256x16x64 .f32) :
    FVec F S32768x1024 .bf16 :=
  truncf .bf16 (shapeCast S32768x1024 (mixed (normed (raw (logits q k kc))) v vc) shapeCasts_S4x8192x16x64_S32768x1024) bitsLt_bf16_f32

/-- The result array after the operations. -/
theorem result_eq (V : Valuation τ sig (Elt F)) :
    after ops V (main_v19 : DevRef τ sig) = attention (V (main_arg0 : DevRef τ sig)) (V (main_arg1 : DevRef τ sig)) (V (main_arg2 : DevRef τ sig))
      (V (main_arg4 : DevRef τ sig)) (V (main_arg5 : DevRef τ sig)) := by
  after_results
  rfl

/-- Argument 0 is not written. -/
theorem arg0_eq (V : Valuation τ sig (Elt F)) : after ops V (main_arg0 : DevRef τ sig) = V (main_arg0 : DevRef τ sig) := by
  after_results

/-- Argument 1 is not written. -/
theorem arg1_eq (V : Valuation τ sig (Elt F)) : after ops V (main_arg1 : DevRef τ sig) = V (main_arg1 : DevRef τ sig) := by
  after_results

/-- Argument 2 is not written. -/
theorem arg2_eq (V : Valuation τ sig (Elt F)) : after ops V (main_arg2 : DevRef τ sig) = V (main_arg2 : DevRef τ sig) := by
  after_results

/-- Argument 3 is not written. -/
theorem arg3_eq (V : Valuation τ sig (Elt F)) : after ops V (main_arg3 : DevRef τ sig) = V (main_arg3 : DevRef τ sig) := by
  after_results

/-- Argument 4 is not written. -/
theorem arg4_eq (V : Valuation τ sig (Elt F)) : after ops V (main_arg4 : DevRef τ sig) = V (main_arg4 : DevRef τ sig) := by
  after_results

/-- Argument 5 is not written. -/
theorem arg5_eq (V : Valuation τ sig (Elt F)) : after ops V (main_arg5 : DevRef τ sig) = V (main_arg5 : DevRef τ sig) := by
  after_results

/-- No buffer of the program is scoped. -/
theorem scopedRefs_eq : (Finset.univ.filter fun b : Ref sig .tc => b.isScoped) = ∅ := by decide
/-- No semaphore either. -/
theorem scopedSems_eq : (Finset.univ.filter fun sm : SemLoc sig => sm.isScoped .tc) = ∅ := by decide

/-- Every operation stays within the program's arrays. -/
theorem ops_sub : (ops : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub ..⟩

/-- The run: the result array at `attention` of the arguments, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = attention (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c => ⟨(h c main_v19).trans (result_eq _), (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.Attn

namespace Cert.Proof

open Idealize.ShloMosaic Idealize.ShloMosaic.TcCoe Idealize.SL.Sem

/-- The reference ends with its arguments unchanged; it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, funext fun sm => nomatch sm.2⟩)
    (Cert.ReferenceIdeal.Attn.run_main (F := Ideal) m ρ)

end Cert.Proof

end
-- ==== Proof.Flash.Blocks.lean ====
/-
  The blocks a grid point of the attention launch is given, read at an index: where in the three arrays that element
  lies.  Point `t` of the 4·8·4 grid is batch `t / 32`, pair of heads `t / 4 % 8` and block of queries `t % 4`.
-/
module

public import proofs.«01_k».proof.Proof.Flash.Frame
public import Idealize.ShloMosaic.Lib.Pipeline.ValueKit
public import Idealize.ShloMosaic.Lib.Pointwise

@[expose] public section

set_option maxRecDepth 16384

noncomputable section

namespace Cert.KernelIdeal.Flash

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (c : Dev nD)

/-- The block of queries at a point. -/
theorem idx0 : ∀ t : Fin cfg0.N, win0_0.index t 0 = t.val / 32 * 4 + t.val % 4 ∧ win0_0.index t 1 = t.val / 4 % 8 := by
  decide +kernel

/-- The block of context keys at a point. -/
theorem idx1 : ∀ t : Fin cfg0.N, win0_1.index t 0 = 128 + t.val / 32 ∧ win0_1.index t 1 = t.val / 4 % 8 := by
  decide +kernel

/-- The block of context values at a point. -/
theorem idx2 : ∀ t : Fin cfg0.N, win0_2.index t 0 = t.val / 4 % 8 ∧ win0_2.index t 1 = 128 + t.val / 32 := by
  decide +kernel

/-- The block of latent keys at a point. -/
theorem idx3 : ∀ t : Fin cfg0.N, win0_3.index t 0 = t.val / 32 ∧ win0_3.index t 1 = t.val / 4 % 8 := by
  decide +kernel

/-- The block of latent values at a point. -/
theorem idx4 : ∀ t : Fin cfg0.N, win0_4.index t 0 = t.val / 4 % 8 ∧ win0_4.index t 1 = t.val / 32 := by
  decide +kernel

/-- The block of results at a point. -/
theorem idx5 : ∀ t : Fin cfg0.N, win0_5.index t 0 = t.val / 32 * 4 + t.val % 4 ∧ win0_5.index t 1 = t.val / 4 % 8 := by
  decide +kernel

/-- The batch of a point. -/
abbrev ptB (t : Fin cfg0.N) : Fin 4 := ⟨t.val / 32, by have := t.isLt; have : cfg0.N = 128 := N_0; omega⟩

/-- A query's place among its batch's latents. -/
abbrev ptRow (t : Fin cfg0.N) (i : Fin 2048) : Fin 8192 := ⟨2048 * (t.val % 4) + i.val, by omega⟩

/-- A head of a point. -/
abbrev ptH (t : Fin cfg0.N) (e : Fin 2) : Fin 16 := ⟨2 * (t.val / 4 % 8) + e.val, by omega⟩

/-- A query element. -/
theorem block_q (t : Fin cfg0.N) (i : Fin 2048) (k : Fin 256) : X0_0 m c t (ix2 i k)
    = V m c main_v20 (ix2 ⟨(t.val / 32 * 4 + t.val % 4) * 2048 + i.val, by have := t.isLt; have : cfg0.N = 128 := N_0; omega⟩ ⟨t.val / 4 % 8 * 256 + k.val, by omega⟩) := by
  unfold X0_0 Pipeline.Window.fill
  rw [dif_pos (moved0_0 t _)]
  blk_ext [iblk, (idx0 t).1, (idx0 t).2]

/-- A context key element. -/
theorem block_kc (t : Fin cfg0.N) (i : Fin 256) (k : Fin 256) : iblk m c 1 t (ix2 i k)
    = V m c main_v36 (ix2 ⟨(128 + t.val / 32) * 256 + i.val, by have := t.isLt; have : cfg0.N = 128 := N_0; omega⟩ ⟨t.val / 4 % 8 * 256 + k.val, by omega⟩) := by
  blk_ext [iblk, (idx1 t).1, (idx1 t).2]

/-- A context value element. -/
theorem block_vc (t : Fin cfg0.N) (i : Fin 256) (k : Fin 256) : iblk m c 2 t (ix2 i k)
    = V m c main_v53 (ix2 ⟨t.val / 4 % 8 * 256 + i.val, by omega⟩ ⟨(128 + t.val / 32) * 256 + k.val, by have := t.isLt; have : cfg0.N = 128 := N_0; omega⟩) := by
  blk_ext [iblk, (idx2 t).1, (idx2 t).2]

/-- A latent key element. -/
theorem block_k (t : Fin cfg0.N) (i : Fin 8192) (k : Fin 256) : X0_3 m c t (ix2 i k)
    = V m c main_v36 (ix2 ⟨t.val / 32 * 8192 + i.val, by have := t.isLt; have : cfg0.N = 128 := N_0; omega⟩ ⟨t.val / 4 % 8 * 256 + k.val, by omega⟩) := by
  unfold X0_3 Pipeline.Window.fill
  rw [dif_pos (moved0_3 t _)]
  blk_ext [iblk, (idx3 t).1, (idx3 t).2]

/-- A latent value element. -/
theorem block_v (t : Fin cfg0.N) (i : Fin 256) (k : Fin 8192) : X0_4 m c t (ix2 i k)
    = V m c main_v53 (ix2 ⟨t.val / 4 % 8 * 256 + i.val, by omega⟩ ⟨t.val / 32 * 8192 + k.val, by have := t.isLt; have : cfg0.N = 128 := N_0; omega⟩) := by
  unfold X0_4 Pipeline.Window.fill
  rw [dif_pos (moved0_4 t _)]
  blk_ext [iblk, (idx4 t).1, (idx4 t).2]

end Cert.KernelIdeal.Flash

end
-- ==== Proof.Flash.Point.lean ====
/-
  The pieces of a grid point's computation read at an index, over extended reals.
-/
module

public import proofs.«01_k».proof.Proof.Flash.Spec
public import Idealize.ShloMosaic.Lib.Pointwise

@[expose] public section

set_option maxRecDepth 16384

noncomputable section

namespace Cert.KernelIdeal.Flash

open Cert.KernelIdeal Cert.KernelIdeal.Gen
open Idealize.ShloMosaic Idealize.ShloMosaic.TcCoe

/-- Lane `l` of head `e`'s slot. -/
abbrev slot (e : Fin 2) (l : Fin 128) : Fin 256 := ⟨128 * e.val + l.val, by omega⟩

/-- Row `d` of head `e`'s slot. -/
abbrev vrow (e : Fin 2) (d : Fin 72) : Fin 256 := ⟨128 * e.val + d.val, by omega⟩

/-- A score is the sum of the lanes' products. -/
theorem scores_apply (e : Fin 2) (q : FVec Ideal S2048x128 .bf16) (kb : Vec Ideal S512x256 .bf16) (k : Fin 512) (i : Fin 2048) :
    scores e q kb (ix2 k i) = ∑ l : Fin 128, kb (ix2 k (slot e l)) * q (ix2 i l) := by
  fin_cases e
  · show k0_pay3 q kb (ix2 k i) = _
    pointwise [k0_pay3, k0_pay2]
    simp [slot]
  · show k0_pay4 q kb (ix2 k i) = _
    pointwise [k0_pay4, k0_pay2]
    simp [slot]

/-- A context score is the sum of the lanes' products. -/
theorem scoresCtx_apply (e : Fin 2) (q : Vec Ideal S2048x128 .bf16) (kb : Vec Ideal S256x256 .bf16) (k : Fin 256) (i : Fin 2048) :
    scoresCtx e q kb (ix2 k i) = ∑ l : Fin 128, kb (ix2 k (slot e l)) * q (ix2 i l) := by
  fin_cases e
  · show k0_pay98 q kb (ix2 k i) = _
    pointwise [k0_pay98, k0_pay97, k0_pay93]
    simp [slot]
  · show k0_pay99 q kb (ix2 k i) = _
    pointwise [k0_pay99, k0_pay97, k0_pay94]
    simp [slot]

/-- The pattern of minus infinity. -/
theorem negInf : Ideal.ofBits .f32 0xFF800000#32 = ⊥ := by simp [Ideal.ofBits, Ideal.ieee]

/-- A column's largest score. -/
theorem colmax_apply (s : FVec Ideal S512x2048 .f32) (i : Fin 2048) :
    colmax s (ix2 0 i) = Finset.univ.fold max ⊥ fun k : Fin 512 => s (ix2 k i) := by
  pointwise [colmax]
  simp only [negInf]

/-- A column's largest context score. -/
theorem colmaxCtx_apply (s : FVec Ideal S256x2048 .f32) (i : Fin 2048) :
    colmaxCtx s (ix2 0 i) = Finset.univ.fold max ⊥ fun k : Fin 256 => s (ix2 k i) := by
  pointwise [colmaxCtx]
  simp only [negInf]

/-- A head's rows of the transposed values. -/
theorem vals_apply (e : Fin 2) (vb : Vec Ideal S256x512 .bf16) (d : Fin 72) (k : Fin 512) : vals e vb (ix2 d k) = vb (ix2 (vrow e d) k) := by
  fin_cases e
  · show k0_pay12 vb (ix2 d k) = _
    pointwise [k0_pay12, k0_pay9]
    simp [vrow]
  · show k0_pay19 (k0_pay9 vb) (ix2 d k) = _
    pointwise [k0_pay19, k0_pay9]
    simp [vrow]

/-- A head's rows of the context's transposed values. -/
theorem valsCtx_apply (e : Fin 2) (vb : Vec Ideal S256x256 .bf16) (d : Fin 72) (k : Fin 256) : valsCtx e vb (ix2 d k) = vb (ix2 (vrow e d) k) := by
  fin_cases e
  · show k0_pay112 vb (ix2 d k) = _
    pointwise [k0_pay112, k0_pay109]
    simp [vrow]
  · show k0_pay121 (k0_pay109 vb) (ix2 d k) = _
    pointwise [k0_pay121, k0_pay109]
    simp [vrow]

/-- The rescaled old sum and the block's weighted values, at row `d` and column `i`. -/
def upd1 {n : ℕ} (al mn a : EReal) (v s : Fin n → EReal) : EReal := al * a + ∑ k, v k * Ideal.exp2 (s k - mn)

/-- A quarter's update at an index. -/
theorem part_apply (c : ℕ) (hc : c + 512 ≤ 2048) (h1 : S1x2048.Slices ![0, c] S1x512) (h2 : S72x2048.Slices ![0, c] S72x512)
    (a : FVec Ideal S72x2048 .f32) (mn al : FVec Ideal S1x2048 .f32) (vte : FVec Ideal S72x512 .bf16) (s : FVec Ideal S512x2048 .f32)
    (d : Fin 72) (j : Fin 512) (i : Fin 2048) (hi : i.val = c + j.val) :
    part ![0, c] h1 h2 a mn al vte (quarter c hc s) (ix2 d j)
      = upd1 (al (ix2 0 i)) (mn (ix2 0 i)) (a (ix2 d i)) (fun k => vte (ix2 d k)) (fun k => s (ix2 k i)) := by
  have hlt : c + j.val < 2048 := by have := j.isLt; omega
  obtain rfl : i = ⟨c + j.val, hlt⟩ := Fin.ext hi
  pointwise [part, upd1]
  rfl

/-- A quarter of the context's update at an index. -/
theorem partCtx_apply (c : ℕ) (hc : c + 512 ≤ 2048) (h1 : S1x2048.Slices ![0, c] S1x512) (h2 : S72x2048.Slices ![0, c] S72x512)
    (h3 : S256x2048.Slices ![0, c] S256x512)
    (a : FVec Ideal S72x2048 .f32) (mn al : FVec Ideal S1x2048 .f32) (vte : FVec Ideal S72x256 .bf16) (s : FVec Ideal S256x2048 .f32)
    (d : Fin 72) (j : Fin 512) (i : Fin 2048) (hi : i.val = c + j.val) :
    partCtx ![0, c] h1 h2 h3 a mn al vte s (ix2 d j)
      = upd1 (al (ix2 0 i)) (mn (ix2 0 i)) (a (ix2 d i)) (fun k => vte (ix2 d k)) (fun k => s (ix2 k i)) := by
  have hlt : c + j.val < 2048 := by have := j.isLt; omega
  obtain rfl : i = ⟨c + j.val, hlt⟩ := Fin.ext hi
  pointwise [partCtx, upd1]
  rfl

/-- A column of the update, whichever quarter it is in. -/
theorem upd_apply (a : FVec Ideal S72x2048 .f32) (m mn : FVec Ideal S1x2048 .f32) (vte : FVec Ideal S72x512 .bf16) (s : FVec Ideal S512x2048 .f32) (d : Fin 72) (i : Fin 2048) :
    upd a m mn vte s (ix2 d i) = upd1 (Ideal.exp2 (m (ix2 0 i) - mn (ix2 0 i))) (mn (ix2 0 i)) (a (ix2 d i)) (fun k => vte (ix2 d k)) (fun k => s (ix2 k i)) := by
  pointwise [upd, updq]
  split
  · exact part_apply 0 (by omega) _ _ a mn _ vte s d _ i (by simp)
  · split
    · exact part_apply 512 (by omega) _ _ a mn _ vte s d _ i (by simp only; omega)
    · split
      · exact part_apply 1024 (by omega) _ _ a mn _ vte s d _ i (by simp only; omega)
      · exact part_apply 1536 (by omega) _ _ a mn _ vte s d _ i (by simp only; omega)

/-- A column of the context's update. -/
theorem updCtx_apply (a : FVec Ideal S72x2048 .f32) (mn al : FVec Ideal S1x2048 .f32) (vte : FVec Ideal S72x256 .bf16) (s : FVec Ideal S256x2048 .f32) (d : Fin 72) (i : Fin 2048) :
    updCtx a mn al vte s (ix2 d i) = upd1 (al (ix2 0 i)) (mn (ix2 0 i)) (a (ix2 d i)) (fun k => vte (ix2 d k)) (fun k => s (ix2 k i)) := by
  pointwise [updCtx]
  split
  · exact partCtx_apply 0 (by omega) _ _ _ a mn al vte s d _ i (by simp)
  · split
    · exact partCtx_apply 512 (by omega) _ _ _ a mn al vte s d _ i (by simp only; omega)
    · split
      · exact partCtx_apply 1024 (by omega) _ _ _ a mn al vte s d _ i (by simp only; omega)
      · exact partCtx_apply 1536 (by omega) _ _ _ a mn al vte s d _ i (by simp only; omega)

/-- Lane `n` of the two heads' 64 output lanes each. -/
theorem fin_apply (a b : FVec Ideal S72x2048 .f32) (e : Fin 2) (d : Fin 64) (i : Fin 2048) :
    fin a b (ix2 i ⟨64 * e.val + d.val, by omega⟩)
      = Ideal.div ((if e = 0 then a else b) (ix2 ⟨d.val, by omega⟩ i)) ((if e = 0 then a else b) (ix2 64 i)) := by
  pointwise [fin]
  fin_cases e
  · rw [dif_pos (by simp)]
    pointwise
  · rw [dif_neg (by simp)]
    pointwise

end Cert.KernelIdeal.Flash

end
-- ==== Proof.Flash.Math.lean ====
/-
  Softmax attention for one query, as arithmetic: a running shift and a rescaled sum over blocks of keys against the
  normalised sum over all keys at once.  Scores are real numbers; values are any extended reals.
-/
module

public import Idealize.ShloMosaic.Lib.Pointwise

@[expose] public section

noncomputable section

namespace Cert.SoftmaxSum

open Idealize.ShloMosaic

/-- The weight, at shift `μ`, of a key with score `s` (powers of two). -/
def w (s μ : ℝ) : ℝ := Real.rpow 2 (s - μ)

/-- The values of a family of keys summed with their weights at shift `μ`. -/
def G {K : Type} [Fintype K] (s : K → ℝ) (v : K → EReal) (μ : ℝ) : EReal := ∑ k, v k * (w (s k) μ : EReal)

/-- A weight is positive. -/
theorem w_pos (s μ : ℝ) : 0 < w s μ := Real.rpow_pos_of_pos (by norm_num) _

/-- A weight taken to another shift. -/
theorem w_mul (s μ ν : ℝ) : w μ ν * w s μ = w s ν := by
  unfold w
  show (2 : ℝ) ^ (μ - ν) * (2 : ℝ) ^ (s - μ) = (2 : ℝ) ^ (s - ν)
  rw [← Real.rpow_add (by norm_num)]
  congr 1
  ring

/-- The power of two of a difference of reals. -/
theorem exp2_sub (a b : ℝ) : Ideal.exp2 ((a : EReal) - (b : EReal)) = (w a b : EReal) := by
  rw [← EReal.coe_sub]
  rfl

/-- A nonnegative real factor goes into a finite sum of extended reals. -/
theorem coe_mul_sum {K : Type} (S : Finset K) (c : ℝ) (hc : 0 ≤ c) (f : K → EReal) :
    (c : EReal) * ∑ k ∈ S, f k = ∑ k ∈ S, (c : EReal) * f k := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- The sum at one shift, rescaled, is the sum at the other. -/
theorem rescale {K : Type} [Fintype K] (s : K → ℝ) (v : K → EReal) (μ ν : ℝ) :
    (w μ ν : EReal) * G s v μ = G s v ν := by
  unfold G
  rw [coe_mul_sum _ _ (w_pos _ _).le]
  refine Finset.sum_congr rfl fun k _ => ?_
  rw [mul_left_comm, ← EReal.coe_mul, w_mul]

/-- A real factor goes into a sum of two sums. -/
theorem rescale_add (c : ℝ) (hc : 0 ≤ c) (a b : EReal) : (c : EReal) * (a + b) = c * a + c * b :=
  EReal.left_distrib_of_nonneg_of_ne_top (by exact_mod_cast hc) (EReal.coe_ne_top c) _ _

/-- A sum of reals, as an extended real. -/
theorem sum_coe {K : Type} (S : Finset K) (f : K → ℝ) : (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The maximum of a real and a family of reals, from below, is a real. -/
theorem max_fold_real {K : Type} (S : Finset K) (x : ℝ) (f : K → ℝ) :
    ∃ μ : ℝ, max (x : EReal) (S.fold max ⊥ fun k => ((f k : ℝ) : EReal)) = (μ : EReal) := by
  classical
  induction S using Finset.induction_on with
  | empty => exact ⟨x, by simp⟩
  | insert a S ha ih =>
    obtain ⟨μ, h⟩ := ih
    refine ⟨max (f a) μ, ?_⟩
    rw [Finset.fold_insert ha, max_left_comm, h]
    exact (EReal.coe_strictMono.monotone.map_max).symm

/-- The maximum of a family of reals over a nonempty index is a real. -/
theorem fold_real {K : Type} [Fintype K] [Nonempty K] (f : K → ℝ) :
    ∃ μ : ℝ, (Finset.univ.fold max ⊥ fun k => ((f k : ℝ) : EReal)) = (μ : EReal) := by
  classical
  obtain ⟨a⟩ := (inferInstance : Nonempty K)
  obtain ⟨μ, h⟩ := max_fold_real (Finset.univ.erase a) (f a) f
  refine ⟨μ, ?_⟩
  have e := Finset.fold_insert (op := max) (f := fun k => ((f k : ℝ) : EReal)) (b := ⊥) (Finset.notMem_erase a Finset.univ)
  rw [Finset.insert_erase (Finset.mem_univ a)] at e
  exact e.trans h

/-- The quotient of the two sums at any shift is the sum of the values with the normalised exponentials at any shift,
    where the exponentials' arguments are the scores times the logarithm of two. -/
theorem ratio {K : Type} [Fintype K] [Nonempty K] (s t : K → ℝ) (v : K → EReal) (μ M : ℝ) (ht : ∀ k, t k = s k * Real.log 2) :
    Ideal.div (G s v μ) (G s (fun _ => 1) μ)
      = ∑ k, v k * Ideal.div ((Real.exp (t k - M) : ℝ) : EReal) ((∑ k', Real.exp (t k' - M) : ℝ) : EReal) := by
  have hden : G s (fun _ => 1) μ = ((∑ k, w (s k) μ : ℝ) : EReal) := by
    unfold G
    rw [← sum_coe]
    exact Finset.sum_congr rfl fun k _ => one_mul _
  have hl : 0 < ∑ k, w (s k) μ := Finset.sum_pos (fun k _ => w_pos _ _) Finset.univ_nonempty
  have hE : 0 < ∑ k, Real.exp (t k - M) := Finset.sum_pos (fun k _ => Real.exp_pos _) Finset.univ_nonempty
  have hw : ∀ k, w (s k) μ = Real.exp (M - μ * Real.log 2) * Real.exp (t k - M) := by
    intro k
    rw [← Real.exp_add, ht]
    show (2 : ℝ) ^ (s k - μ) = _
    rw [Real.rpow_def_of_pos (by norm_num)]
    congr 1
    ring
  have hd : ∀ (x : EReal) (y : ℝ), 0 < y → Ideal.div x (y : EReal) = x * ((y⁻¹ : ℝ) : EReal) := by
    intro x y hy
    unfold Ideal.div
    rw [if_neg (by exact_mod_cast hy.ne'), EReal.coe_inv]
  rw [hden, hd _ _ hl, G, mul_comm, coe_mul_sum _ _ (inv_pos.mpr hl).le]
  refine Finset.sum_congr rfl fun k _ => ?_
  rw [hd _ _ hE, mul_left_comm, ← EReal.coe_mul, ← EReal.coe_mul]
  congr 2
  simp only [hw, ← Finset.mul_sum]
  field_simp

end Cert.SoftmaxSum

end
-- ==== Proof.Flash.Head.lean ====
/-
  One head and one query, over extended reals: after the context and sixteen blocks of keys the running sum is the sum
  of all keys' values with their weights at the running shift, when the scores are real numbers.
-/
module

public import proofs.«01_k».proof.Proof.Flash.Point
public import proofs.«01_k».proof.Proof.Flash.Math

@[expose] public section

set_option maxRecDepth 16384

noncomputable section

namespace Cert.KernelIdeal.Flash

open Cert.KernelIdeal Cert.KernelIdeal.Gen Cert.SoftmaxSum
open Idealize.ShloMosaic Idealize.ShloMosaic.TcCoe

/-- A key: one of the context's 256, or one of 512 in one of sixteen blocks. -/
abbrev Key : Type := Fin 256 ⊕ (Fin 16 × Fin 512)

/-- The update with real scores and shifts. -/
theorem upd1_real {n : ℕ} (μ ν : ℝ) (a : EReal) (v s : Fin n → EReal) (r : Fin n → ℝ) (hs : ∀ k, s k = (r k : EReal)) :
    upd1 (Ideal.exp2 ((μ : EReal) - (ν : EReal))) (ν : EReal) a v s = (w μ ν : EReal) * a + G r v ν := by
  unfold upd1 G
  rw [exp2_sub]
  refine congrArg _ (Finset.sum_congr rfl fun k _ => ?_)
  rw [hs, exp2_sub]

/-- The starting shift is a real number. -/
theorem start_real : ∃ μ : ℝ, ∀ i : Fin 2048, (start (F := Ideal)).1 (ix2 0 i) = (μ : EReal) := by
  have h : ∃ μ : ℝ, Ideal.ofBits .f32 0xF149F2CA#32 = (μ : EReal) := by
    simp [Ideal.ofBits, Ideal.ieee]
    exact ⟨-(13234890 * 2 ^ 76), by rw [EReal.coe_neg, EReal.coe_mul, EReal.coe_pow]⟩
  obtain ⟨μ, hμ⟩ := h
  exact ⟨μ, fun i => hμ⟩

/-- The starting sum is zero. -/
theorem start_zero (d : Fin 72) (i : Fin 2048) : (start (F := Ideal)).2 (ix2 d i) = 0 := by
  show Ideal.ofBits .f32 0x00000000#32 = 0
  exact Ideal.ofBits_zero .f32

/-- The sum after the context's keys, from the shift there. -/
theorem afterCtx_snd {F : FTy → Type} [FloatOps F] (s : FVec F S256x2048 .f32) (vte : FVec F S72x256 .bf16) :
    (afterCtx s vte).2 = updCtx (start (F := F)).2 (afterCtx s vte).1 (exp2 (subf (start (F := F)).1 (afterCtx s vte).1)) vte s := rfl

/-- After the context's keys. -/
theorem afterCtx_real (s : FVec Ideal S256x2048 .f32) (vte : FVec Ideal S72x256 .bf16) (i : Fin 2048) (r : Fin 256 → ℝ)
    (hs : ∀ k, s (ix2 k i) = (r k : EReal)) :
    ∃ μ : ℝ, (afterCtx s vte).1 (ix2 0 i) = (μ : EReal)
      ∧ ∀ d : Fin 72, (afterCtx s vte).2 (ix2 d i) = G r (fun k => vte (ix2 d k)) μ := by
  obtain ⟨μ₀, h0⟩ := start_real
  obtain ⟨μ, hμ⟩ := max_fold_real Finset.univ μ₀ r
  have h1 : (afterCtx s vte).1 (ix2 0 i) = (μ : EReal) := by
    show max ((start (F := Ideal)).1 (ix2 0 i)) (colmaxCtx s (ix2 0 i)) = _
    rw [colmaxCtx_apply, h0, ← hμ]
    simp only [hs]
  refine ⟨μ, h1, fun d => ?_⟩
  rw [afterCtx_snd, updCtx_apply]
  have h2 : exp2 (subf (start (F := Ideal)).1 (afterCtx s vte).1) (ix2 0 i) = Ideal.exp2 ((μ₀ : EReal) - (μ : EReal)) := by
    rw [exp2_apply, subf_apply, h0, h1]
    rfl
  rw [h1, h2, start_zero, upd1_real μ₀ μ _ _ _ r hs, mul_zero, zero_add]

/-- One block of keys: the shift stays real, the sum is rescaled and the block's values added. -/
theorem step_real (st : St Ideal) (s : FVec Ideal S512x2048 .f32) (vte : FVec Ideal S72x512 .bf16) (i : Fin 2048) (r : Fin 512 → ℝ)
    (hs : ∀ k, s (ix2 k i) = (r k : EReal)) (μ : ℝ) (hm : st.1 (ix2 0 i) = (μ : EReal)) :
    ∃ ν : ℝ, (step st s vte).1 (ix2 0 i) = (ν : EReal)
      ∧ ∀ d : Fin 72, (step st s vte).2 (ix2 d i) = (w μ ν : EReal) * st.2 (ix2 d i) + G r (fun k => vte (ix2 d k)) ν := by
  obtain ⟨ν, hν⟩ := max_fold_real Finset.univ μ r
  have h1 : (step st s vte).1 (ix2 0 i) = (ν : EReal) := by
    show max (st.1 (ix2 0 i)) (colmax s (ix2 0 i)) = _
    rw [colmax_apply, hm, ← hν]
    simp only [hs]
  refine ⟨ν, h1, fun d => ?_⟩
  show upd st.2 st.1 (step st s vte).1 vte s (ix2 d i) = _
  rw [upd_apply, h1, hm, upd1_real μ ν _ _ _ r hs]

/-- After `n` blocks: the sums of the context and of the blocks so far, all at one real shift. -/
theorem fold_real' (e : Fin 2) (q : FVec Ideal S2048x128 .bf16) (x3 : Vec Ideal S8192x256 .bf16) (x4 : Vec Ideal S256x8192 .bf16) (st : St Ideal)
    (i : Fin 2048) (K : Type) [Fintype K] (r0 : K → ℝ) (v0 : Fin 72 → K → EReal) (r : Fin 16 → Fin 512 → ℝ)
    (hr : ∀ c k, sc e q x3 c (ix2 k i) = (r c k : EReal)) (h : ∃ μ : ℝ, st.1 (ix2 0 i) = (μ : EReal) ∧ ∀ d, st.2 (ix2 d i) = G r0 (v0 d) μ) (n : ℕ) :
    ∃ μ : ℝ, (fold e q x3 x4 st n).1 (ix2 0 i) = (μ : EReal)
      ∧ ∀ d, (fold e q x3 x4 st n).2 (ix2 d i) = G r0 (v0 d) μ
          + ∑ c ∈ Finset.range n, G (r (Fin.ofNat 16 c)) (fun k => vals e (vblk (Fin.ofNat 16 c) x4) (ix2 d k)) μ := by
  induction n with
  | zero =>
    obtain ⟨μ, h1, h2⟩ := h
    exact ⟨μ, h1, fun d => by rw [Finset.range_zero, Finset.sum_empty, add_zero]; exact h2 d⟩
  | succ n ih =>
    obtain ⟨μ, h1, h2⟩ := ih
    obtain ⟨ν, g1, g2⟩ := step_real (fold e q x3 x4 st n) (sc e q x3 (Fin.ofNat 16 n)) (vals e (vblk (Fin.ofNat 16 n) x4)) i
      (r (Fin.ofNat 16 n)) (hr _) μ h1
    refine ⟨ν, g1, fun d => (g2 d).trans ?_⟩
    rw [h2, rescale_add _ (w_pos _ _).le, rescale, coe_mul_sum _ _ (w_pos _ _).le, Finset.sum_range_succ, add_assoc]
    simp only [rescale]

/-- Row `d` of key `k`'s values, for head `e`. -/
def keyVal (e : Fin 2) (x2 : Vec Ideal S256x256 .bf16) (x4 : Vec Ideal S256x8192 .bf16) (d : Fin 72) : Key → EReal
  | .inl k => x2 (ix2 (vrow e d) k)
  | .inr (c, k) => x4 (ix2 (vrow e d) ⟨512 * c.val + k.val, by omega⟩)

/-- Head `e`'s score of a key against query `i`. -/
def keyScore (e : Fin 2) (x0 : Vec Ideal S2048x256 .bf16) (x1 : Vec Ideal S256x256 .bf16) (x3 : Vec Ideal S8192x256 .bf16) (i : Fin 2048) : Key → EReal
  | .inl k => ∑ l : Fin 128, x1 (ix2 k (slot e l)) * x0 (ix2 i (slot e l))
  | .inr (c, k) => ∑ l : Fin 128, x3 (ix2 ⟨512 * c.val + k.val, by omega⟩ (slot e l)) * x0 (ix2 i (slot e l))

/-- A head's sum after all keys. -/
theorem headSt_real (e : Fin 2) (x0 : Vec Ideal S2048x256 .bf16) (x1 x2 : Vec Ideal S256x256 .bf16) (x3 : Vec Ideal S8192x256 .bf16) (x4 : Vec Ideal S256x8192 .bf16)
    (i : Fin 2048) (r : Key → ℝ) (hr : ∀ k, keyScore e x0 x1 x3 i k = (r k : EReal)) :
    ∃ μ : ℝ, ∀ d, (headSt e x0 x1 x2 x3 x4).2 (ix2 d i) = G r (keyVal e x2 x4 d) μ := by
  have hq : k0_pay93 (qblk e x0) = qblk e x0 := by
    funext y
    pointwise [k0_pay93]
  have hc : ∀ k, scoresCtx e (qblk e x0) x1 (ix2 k i) = ((r (.inl k) : ℝ) : EReal) := fun k => (scoresCtx_apply ..).trans (hr (.inl k))
  have hb : ∀ c k, sc e (qblk e x0) x3 c (ix2 k i) = ((r (.inr (c, k)) : ℝ) : EReal) := fun c k => (scores_apply ..).trans (hr (.inr (c, k)))
  obtain ⟨μ, -, h⟩ := fold_real' e (qblk e x0) x3 x4 (afterCtx (scoresCtx e (qblk e x0) x1) (valsCtx e x2)) i (Fin 256) (fun k => r (.inl k))
    (fun d k => valsCtx e x2 (ix2 d k)) (fun c k => r (.inr (c, k))) hb (afterCtx_real _ _ i _ hc) 16
  refine ⟨μ, fun d => ?_⟩
  unfold headSt
  rw [hq, h d, Finset.sum_range]
  unfold G
  rw [Fintype.sum_sum_type, Fintype.sum_prod_type]
  refine congrArg₂ _ (Finset.sum_congr rfl fun k _ => ?_) (Finset.sum_congr rfl fun c _ => Finset.sum_congr rfl fun k _ => ?_)
  · beta_reduce
    rw [valsCtx_apply]
    rfl
  · have hcc : Fin.ofNat 16 c.val = c := Fin.ext (Nat.mod_eq_of_lt c.isLt)
    beta_reduce
    rw [vals_apply, hcc]
    rfl

/-- The output block: the quotient of a value row's sum and the ones' sum. -/
theorem out_real (x0 : Vec Ideal S2048x256 .bf16) (x1 x2 : Vec Ideal S256x256 .bf16) (x3 : Vec Ideal S8192x256 .bf16) (x4 : Vec Ideal S256x8192 .bf16)
    (e : Fin 2) (d : Fin 64) (i : Fin 2048) (r : Key → ℝ) (hr : ∀ k, keyScore e x0 x1 x3 i k = (r k : EReal))
    (h1 : ∀ k, keyVal e x2 x4 64 k = 1) :
    ∃ μ : ℝ, out x0 x1 x2 x3 x4 (ix2 i ⟨64 * e.val + d.val, by omega⟩)
      = Ideal.div (G r (keyVal e x2 x4 ⟨d.val, by omega⟩) μ) (G r (fun _ => 1) μ) := by
  obtain ⟨μ, h⟩ := headSt_real e x0 x1 x2 x3 x4 i r hr
  refine ⟨μ, ?_⟩
  unfold out
  rw [fin_apply, show (fun _ : Key => (1 : EReal)) = keyVal e x2 x4 64 from funext fun k => (h1 k).symm, ← h, ← h]
  fin_cases e <;> rfl

end Cert.KernelIdeal.Flash

end
-- ==== Proof.Flash.Host.lean ====
/-
  The three operand arrays the kernel is launched on, as functions of the arguments, and their elements: one head per
  slot of 128 lanes, latent rows before context rows, the values transposed with a row of ones after each head's lanes.
-/
module

public import proofs.«01_k».proof.Proof.Gen.KernelIdeal.Frame
public import Idealize.ShloMosaic.Lib.StableHlo.Run
public import Idealize.ShloMosaic.Lib.Claim
public import Idealize.ShloMosaic.Lib.Pointwise

@[expose] public section

set_option maxRecDepth 16384

noncomputable section

namespace Cert.KernelIdeal.Flash

open Cert.KernelIdeal Cert.KernelIdeal.Gen
open Idealize.ShloMosaic Idealize.ShloMosaic.TcCoe Idealize.SL.Sem

section Arrays

variable {F : FTy → Type} [FloatOps F]

/-- The 32 lanes after a query's or key's lanes. -/
def padQ : FVec F S32 .f32 := uitofp .f32 (cmpi .eq (iotaInDim S32 32 0) (broadcastInDim S32 ![] bcast_S_S32 (constantI S_ 32 4294967295#32)))

/-- The 64 lanes after a value's lanes. -/
def padV : FVec F S64 .f32 := uitofp .f32 (cmpi .eq (iotaInDim S64 32 0) (broadcastInDim S64 ![] bcast_S_S64 (constantI S_ 32 0#32)))

/-- Latent and context rows of 96-lane heads in slots of 128. -/
def rows96 (x : FVec F S4x8192x16x96 .f32) (y : FVec F S4x256x16x96 .f32) : FVec F S33792x2048 .f32 :=
  concatenate S33792x2048 0
    [⟨S32768x2048, shapeCast S32768x2048 (concatenate S4x8192x16x128 3 [⟨S4x8192x16x96, x⟩, ⟨S4x8192x16x32, broadcastInDim S4x8192x16x32 ![3] bcast_S32_S4x8192x16x32_3 padQ⟩]
        concatenates_S4x8192x16x96_S4x8192x16x32_S4x8192x16x128_d3) shapeCasts_S4x8192x16x128_S32768x2048⟩,
     ⟨S1024x2048, shapeCast S1024x2048 (concatenate S4x256x16x128 3 [⟨S4x256x16x96, y⟩, ⟨S4x256x16x32, broadcastInDim S4x256x16x32 ![3] bcast_S32_S4x256x16x32_3 padQ⟩]
        concatenates_S4x256x16x96_S4x256x16x32_S4x256x16x128_d3) shapeCasts_S4x256x16x128_S1024x2048⟩]
    concatenates_S32768x2048_S1024x2048_S33792x2048_d0

/-- Latent and context rows of 64-lane heads in slots of 128. -/
def rows64 (x : FVec F S4x8192x16x64 .f32) (y : FVec F S4x256x16x64 .f32) : FVec F S33792x2048 .f32 :=
  concatenate S33792x2048 0
    [⟨S32768x2048, shapeCast S32768x2048 (concatenate S4x8192x16x128 3 [⟨S4x8192x16x64, x⟩, ⟨S4x8192x16x64, broadcastInDim S4x8192x16x64 ![3] bcast_S64_S4x8192x16x64_3 padV⟩]
        concatenates_S4x8192x16x64_S4x8192x16x64_S4x8192x16x128_d3) shapeCasts_S4x8192x16x128_S32768x2048⟩,
     ⟨S1024x2048, shapeCast S1024x2048 (concatenate S4x256x16x128 3 [⟨S4x256x16x64, y⟩, ⟨S4x256x16x64, broadcastInDim S4x256x16x64 ![3] bcast_S64_S4x256x16x64_3 padV⟩]
        concatenates_S4x256x16x64_S4x256x16x64_S4x256x16x128_d3) shapeCasts_S4x256x16x128_S1024x2048⟩]
    concatenates_S32768x2048_S1024x2048_S33792x2048_d0

/-- The queries' array. -/
def qArr (x : FVec F S4x8192x16x96 .f32) (y : FVec F S4x256x16x96 .f32) : FVec F S33792x2048 .bf16 :=
  truncf .bf16 (Host.divf (mulf (rows96 x y) (broadcastInDim S33792x2048 ![] bcast_S_S33792x2048 (constant S_ .f32 0x3DD105EC#32)))
    (broadcastInDim S33792x2048 ![] bcast_S_S33792x2048 (Host.log (constant S_ .f32 0x40000000#32)))) bitsLt_bf16_f32

/-- The keys' array. -/
def kArr (x : FVec F S4x8192x16x96 .f32) (y : FVec F S4x256x16x96 .f32) : FVec F S33792x2048 .bf16 := truncf .bf16 (rows96 x y) bitsLt_bf16_f32

/-- The values' array. -/
def vArr (x : FVec F S4x8192x16x64 .f32) (y : FVec F S4x256x16x64 .f32) : FVec F S2048x33792 .bf16 :=
  truncf .bf16 (transpose S2048x33792 [1, 0] (rows64 x y) transposes_S33792x2048_S2048x33792_1_0) bitsLt_bf16_f32

variable (m : (ℓ : Loc nD τ sig) → Buf (Elt F) ℓ) (c : Dev nD)

/-- The launch finds the queries' array so. -/
theorem V_q : V m c main_v20 = qArr (m ((c : Thread nD τ).loc main_arg0)) (m ((c : Thread nD τ).loc main_arg3)) := by
  unfold_abbrev_sides
  after_results
  rfl

/-- The launch finds the keys' array so. -/
theorem V_k : V m c main_v36 = kArr (m ((c : Thread nD τ).loc main_arg1)) (m ((c : Thread nD τ).loc main_arg4)) := by
  unfold_abbrev_sides
  after_results
  rfl

/-- The launch finds the values' array so. -/
theorem V_v : V m c main_v53 = vArr (m ((c : Thread nD τ).loc main_arg2)) (m ((c : Thread nD τ).loc main_arg5)) := by
  unfold_abbrev_sides
  after_results
  rfl

end Arrays

/-- A one-bit word's zero and one as numbers. -/
theorem bit_zero : FloatOps.uitofp (F := Ideal) .f32 (0 : BitVec 1) = 0 := by
  show ((((0 : BitVec 1).toNat : ℕ) : ℝ) : EReal) = 0
  simp

/-- A one-bit word's one as a number. -/
theorem bit_one : FloatOps.uitofp (F := Ideal) .f32 (1 : BitVec 1) = 1 := by
  show ((((1 : BitVec 1).toNat : ℕ) : ℝ) : EReal) = 1
  simp

/-- The lanes after a query's or key's lanes are zero. -/
theorem padQ_apply (j : Fin 32) : padQ (F := Ideal) (ix1 j) = 0 := by
  pointwise [padQ]
  have h : IntOp.cmpi .eq (BitVec.ofNat 32 j.val) 4294967295#32 = 0 := by
    revert j
    decide +kernel
  rw [h]
  exact bit_zero

/-- Of the lanes after a value's lanes the first is one. -/
theorem padV_apply : padV (F := Ideal) (ix1 0) = 1 := by
  pointwise [padV]
  exact bit_one

/-- A reshape of latent heads to rows: slot by slot. -/
theorem cast_lat {α : Type} (z : S4x8192x16x128.Idx → α) (hc : S4x8192x16x128.ShapeCasts S32768x2048) (b : Fin 4) (i : Fin 8192) (h : Fin 16) (l : Fin 128) :
    shapeCast S32768x2048 z hc (ix2 ⟨8192 * b.val + i.val, by omega⟩ ⟨128 * h.val + l.val, by omega⟩) = z (ix4 b i h l) :=
  shapeCast_apply _ _ _ _ (by
    refine (rowMajor_val4 (d := ![4, 8192, 16, 128]) (ix4 b i h l) 16777216 2048 128 rfl rfl rfl).trans
      (.trans ?_ (rowMajor_val2 (d := ![32768, 2048]) (ix2 ⟨8192 * b.val + i.val, by omega⟩ ⟨128 * h.val + l.val, by omega⟩) 2048 rfl).symm)
    show b.val * 16777216 + i.val * 2048 + h.val * 128 + l.val = (8192 * b.val + i.val) * 2048 + (128 * h.val + l.val)
    omega)

/-- A reshape of context heads to rows. -/
theorem cast_ctx {α : Type} (z : S4x256x16x128.Idx → α) (hc : S4x256x16x128.ShapeCasts S1024x2048) (b : Fin 4) (i : Fin 256) (h : Fin 16) (l : Fin 128) :
    shapeCast S1024x2048 z hc (ix2 ⟨256 * b.val + i.val, by omega⟩ ⟨128 * h.val + l.val, by omega⟩) = z (ix4 b i h l) :=
  shapeCast_apply _ _ _ _ (by
    refine (rowMajor_val4 (d := ![4, 256, 16, 128]) (ix4 b i h l) 524288 2048 128 rfl rfl rfl).trans
      (.trans ?_ (rowMajor_val2 (d := ![1024, 2048]) (ix2 ⟨256 * b.val + i.val, by omega⟩ ⟨128 * h.val + l.val, by omega⟩) 2048 rfl).symm)
    show b.val * 524288 + i.val * 2048 + h.val * 128 + l.val = (256 * b.val + i.val) * 2048 + (128 * h.val + l.val)
    omega)

/-- A slot's lane: the head's own lanes, then zeros. -/
def lane96 {n : ℕ} (x : FVec Ideal (⟨4, ![4, n, 16, 96]⟩ : Shape) .f32) (b : Fin 4) (i : Fin n) (h : Fin 16) (l : Fin 128) : EReal :=
  if hl : l.val < 96 then x (ix4 b i h ⟨l.val, hl⟩) else 0

/-- A row of the joined rows that is a latent row. -/
theorem join_lat {α : Type} (u : S32768x2048.Idx → α) (v : S1024x2048.Idx → α) (hc : Shape.Concatenates [S32768x2048, S1024x2048] S33792x2048 0) (r : Fin 32768) (r' : Fin 33792)
    (hr : r'.val = r.val) (k : Fin 2048) : concatenate S33792x2048 0 [⟨S32768x2048, u⟩, ⟨S1024x2048, v⟩] hc (ix2 r' k) = u (ix2 r k) := by
  pointwise
  rw [dif_pos (by omega)]
  exact congrArg (fun a => u (ix2 a k)) (Fin.ext hr)

/-- A row of the joined rows that is a context row. -/
theorem join_ctx {α : Type} (u : S32768x2048.Idx → α) (v : S1024x2048.Idx → α) (hc : Shape.Concatenates [S32768x2048, S1024x2048] S33792x2048 0) (r : Fin 1024) (r' : Fin 33792)
    (hr : r'.val = 32768 + r.val) (k : Fin 2048) : concatenate S33792x2048 0 [⟨S32768x2048, u⟩, ⟨S1024x2048, v⟩] hc (ix2 r' k) = v (ix2 r k) := by
  pointwise
  rw [dif_neg (by omega)]
  exact congrArg (fun a => v (ix2 a k)) (Fin.ext (by simp only; omega))

/-- A latent row of 96-lane heads. -/
theorem rows96_lat (x : FVec Ideal S4x8192x16x96 .f32) (y : FVec Ideal S4x256x16x96 .f32) (b : Fin 4) (i : Fin 8192) (h : Fin 16) (l : Fin 128) :
    rows96 x y (ix2 ⟨8192 * b.val + i.val, by omega⟩ ⟨128 * h.val + l.val, by omega⟩) = lane96 x b i h l := by
  unfold rows96
  rw [join_lat _ _ _ ⟨8192 * b.val + i.val, by omega⟩ _ rfl, cast_lat]
  pointwise [lane96]
  simp only [padQ_apply]

/-- A context row of 96-lane heads. -/
theorem rows96_ctx (x : FVec Ideal S4x8192x16x96 .f32) (y : FVec Ideal S4x256x16x96 .f32) (b : Fin 4) (i : Fin 256) (h : Fin 16) (l : Fin 128) :
    rows96 x y (ix2 ⟨32768 + (256 * b.val + i.val), by omega⟩ ⟨128 * h.val + l.val, by omega⟩) = lane96 y b i h l := by
  unfold rows96
  rw [join_ctx _ _ _ ⟨256 * b.val + i.val, by omega⟩ _ rfl, cast_ctx]
  pointwise [lane96]
  simp only [padQ_apply]

/-- A latent row of 64-lane heads: the head's lanes. -/
theorem rows64_lat (x : FVec Ideal S4x8192x16x64 .f32) (y : FVec Ideal S4x256x16x64 .f32) (b : Fin 4) (i : Fin 8192) (h : Fin 16) (l : Fin 64) :
    rows64 x y (ix2 ⟨8192 * b.val + i.val, by omega⟩ ⟨128 * h.val + l.val, by omega⟩) = x (ix4 b i h l) := by
  unfold rows64
  rw [join_lat _ _ _ ⟨8192 * b.val + i.val, by omega⟩ _ rfl]
  refine (cast_lat _ _ b i h ⟨l.val, by omega⟩).trans ?_
  pointwise

/-- A latent row of 64-lane heads: the one after the head's lanes. -/
theorem rows64_lat_one (x : FVec Ideal S4x8192x16x64 .f32) (y : FVec Ideal S4x256x16x64 .f32) (b : Fin 4) (i : Fin 8192) (h : Fin 16) :
    rows64 x y (ix2 ⟨8192 * b.val + i.val, by omega⟩ ⟨128 * h.val + 64, by omega⟩) = 1 := by
  unfold rows64
  rw [join_lat _ _ _ ⟨8192 * b.val + i.val, by omega⟩ _ rfl]
  refine (cast_lat _ _ b i h 64).trans ?_
  pointwise
  exact padV_apply

/-- A context row of 64-lane heads: the head's lanes. -/
theorem rows64_ctx (x : FVec Ideal S4x8192x16x64 .f32) (y : FVec Ideal S4x256x16x64 .f32) (b : Fin 4) (i : Fin 256) (h : Fin 16) (l : Fin 64) :
    rows64 x y (ix2 ⟨32768 + (256 * b.val + i.val), by omega⟩ ⟨128 * h.val + l.val, by omega⟩) = y (ix4 b i h l) := by
  unfold rows64
  rw [join_ctx _ _ _ ⟨256 * b.val + i.val, by omega⟩ _ rfl]
  refine (cast_ctx _ _ b i h ⟨l.val, by omega⟩).trans ?_
  pointwise

/-- A context row of 64-lane heads: the one after the head's lanes. -/
theorem rows64_ctx_one (x : FVec Ideal S4x8192x16x64 .f32) (y : FVec Ideal S4x256x16x64 .f32) (b : Fin 4) (i : Fin 256) (h : Fin 16) :
    rows64 x y (ix2 ⟨32768 + (256 * b.val + i.val), by omega⟩ ⟨128 * h.val + 64, by omega⟩) = 1 := by
  unfold rows64
  rw [join_ctx _ _ _ ⟨256 * b.val + i.val, by omega⟩ _ rfl]
  refine (cast_ctx _ _ b i h 64).trans ?_
  pointwise
  exact padV_apply

/-- An element of the queries' array: the row's, scaled and divided by the logarithm of two. -/
theorem qArr_apply (x : FVec Ideal S4x8192x16x96 .f32) (y : FVec Ideal S4x256x16x96 .f32) (r : Fin 33792) (k : Fin 2048) :
    qArr x y (ix2 r k) = Ideal.div (rows96 x y (ix2 r k) * Ideal.ofBits .f32 0x3DD105EC#32) (Ideal.log (Ideal.ofBits .f32 0x40000000#32)) := by
  pointwise [qArr]

/-- An element of the keys' array. -/
theorem kArr_apply (x : FVec Ideal S4x8192x16x96 .f32) (y : FVec Ideal S4x256x16x96 .f32) (r : Fin 33792) (k : Fin 2048) :
    kArr x y (ix2 r k) = rows96 x y (ix2 r k) := by
  pointwise [kArr]

/-- An element of the values' array. -/
theorem vArr_apply (x : FVec Ideal S4x8192x16x64 .f32) (y : FVec Ideal S4x256x16x64 .f32) (k : Fin 2048) (r : Fin 33792) :
    vArr x y (ix2 k r) = rows64 x y (ix2 r k) := by
  pointwise [vArr]

end Cert.KernelIdeal.Flash

end
-- ==== Proof.Flash.Ref.lean ====
/-
  The reference at an index, over extended reals: a query's normalised exponentials of real scores, summed with the
  values of all keys.
-/
module

public import proofs.«01_k».proof.Proof.Flash.RefRun
public import proofs.«01_k».proof.Proof.Flash.Math

@[expose] public section

set_option maxRecDepth 16384

noncomputable section

namespace Cert.ReferenceIdeal.Attn

open Cert.ReferenceIdeal Cert.ReferenceIdeal.Gen Cert.SoftmaxSum
open Idealize.ShloMosaic Idealize.ShloMosaic.TcCoe

/-- A key's element: the context's before the latent ones. -/
def joined {n : ℕ} (kc : FVec Ideal (⟨4, ![4, 256, 16, n]⟩ : Shape) .f32) (k : FVec Ideal (⟨4, ![4, 8192, 16, n]⟩ : Shape) .f32) (b : Fin 4) (j : Fin 8448) (h : Fin 16) (l : Fin n) : EReal :=
  if hj : j.val < 256 then kc (ix4 b ⟨j.val, hj⟩ h l) else k (ix4 b ⟨j.val - 256, by omega⟩ h l)

/-- A score. -/
theorem logits_apply (q k : FVec Ideal S4x8192x16x96 .f32) (kc : FVec Ideal S4x256x16x96 .f32) (b : Fin 4) (h : Fin 16) (i : Fin 8192) (j : Fin 8448) :
    logits q k kc (ix4 b h i j) = ∑ l : Fin 96, q (ix4 b i h l) * Ideal.ofBits .f32 0x3DD105EC#32 * joined kc k b j h l := by
  pointwise [logits, joined]

/-- A maximum over the keys, from any start. -/
theorem reduceMax_apply (s : FVec Ideal S4x16x8192x8448 .f32) (z : FVec Ideal S_ .f32) (x : EReal) (hz : ∀ y, z y = x) (b : Fin 4) (h : Fin 16) (i : Fin 8192) :
    Host.reduce FloatOps.maximumf s z reducesTo_S4x16x8192x8448_S4x16x8192_d3 h_S_ (ix3 b h i) = Finset.univ.fold max x fun j : Fin 8448 => s (ix4 b h i j) := by
  rw [Host.reduce_eq_fold, hz]
  exact Shape.ReducesTo.fold_fiber_r4_a3 (n0 := 4) (n1 := 16) (n2 := 8192) (n3 := 8448) _ _ _ x s

/-- The larger of two numbers, elementwise. -/
theorem max_at (x y : FVec Ideal S4x16x8192 .f32) (j : S4x16x8192.Idx) : maximumf x y j = max (x j : EReal) (y j) := rfl

/-- The largest score. -/
theorem largest_apply (s : FVec Ideal S4x16x8192x8448 .f32) (b : Fin 4) (h : Fin 16) (i : Fin 8192) :
    largest s (ix3 b h i) = max (Ideal.ofBits .f32 0xFF800000#32) (Finset.univ.fold max (Ideal.ofBits .f32 0xFF800000#32) fun j : Fin 8448 => s (ix4 b h i j)) := by
  unfold largest
  have e1 : broadcastInDim S4x16x8192 ![] bcast_S_S4x16x8192 (constant (F := Ideal) S_ .f32 0xFF800000#32) (ix3 b h i) = Ideal.ofBits .f32 0xFF800000#32 := by
    pointwise
  have e2 := reduceMax_apply s (constant (F := Ideal) S_ .f32 0xFF800000#32) (Ideal.ofBits .f32 0xFF800000#32) (fun _ => rfl) b h i
  exact (max_at _ _ _).trans (congrArg₂ max e1 e2)

/-- One value per query spread over the keys. -/
theorem overKeys_apply (x : FVec Ideal S4x16x8192 .f32) (b : Fin 4) (h : Fin 16) (i : Fin 8192) (j : Fin 8448) :
    overKeys x (ix4 b h i j) = x (ix3 b h i) := by
  pointwise [overKeys]

/-- An unnormalised weight. -/
theorem raw_apply (s : FVec Ideal S4x16x8192x8448 .f32) (b : Fin 4) (h : Fin 16) (i : Fin 8192) (j : Fin 8448) :
    raw s (ix4 b h i j) = Ideal.exp (s (ix4 b h i j) - largest s (ix3 b h i)) := by
  pointwise [raw, overKeys_apply]

/-- A weight. -/
theorem normed_apply (e : FVec Ideal S4x16x8192x8448 .f32) (b : Fin 4) (h : Fin 16) (i : Fin 8192) (j : Fin 8448) :
    normed e (ix4 b h i j) = Ideal.div (e (ix4 b h i j)) (∑ j' : Fin 8448, e (ix4 b h i j')) := by
  pointwise [normed, overKeys_apply]

/-- A weighted sum of values. -/
theorem mixed_apply (p : FVec Ideal S4x16x8192x8448 .f32) (v : FVec Ideal S4x8192x16x64 .f32) (vc : FVec Ideal S4x256x16x64 .f32) (b : Fin 4) (i : Fin 8192) (h : Fin 16) (d : Fin 64) :
    mixed p v vc (ix4 b i h d) = ∑ j : Fin 8448, joined vc v b j h d * p (ix4 b h i j) := by
  pointwise [mixed, joined]

/-- The result's rows are batch and query, its columns head and lane. -/
theorem cast_out {α : Type} (z : S4x8192x16x64.Idx → α) (hc : S4x8192x16x64.ShapeCasts S32768x1024) (b : Fin 4) (i : Fin 8192) (h : Fin 16) (d : Fin 64) :
    shapeCast S32768x1024 z hc (ix2 ⟨8192 * b.val + i.val, by omega⟩ ⟨64 * h.val + d.val, by omega⟩) = z (ix4 b i h d) :=
  shapeCast_apply _ _ _ _ (by
    refine (rowMajor_val4 (d := ![4, 8192, 16, 64]) (ix4 b i h d) 8388608 1024 64 rfl rfl rfl).trans
      (.trans ?_ (rowMajor_val2 (d := ![32768, 1024]) (ix2 ⟨8192 * b.val + i.val, by omega⟩ ⟨64 * h.val + d.val, by omega⟩) 1024 rfl).symm)
    show b.val * 8388608 + i.val * 1024 + h.val * 64 + d.val = (8192 * b.val + i.val) * 1024 + (64 * h.val + d.val)
    omega)

/-- The result at an index, when the query's scores are real numbers: for some real shift, the values' sum with the
    normalised exponentials of the shifted scores. -/
theorem attention_apply (q k : FVec Ideal S4x8192x16x96 .f32) (v : FVec Ideal S4x8192x16x64 .f32) (kc : FVec Ideal S4x256x16x96 .f32) (vc : FVec Ideal S4x256x16x64 .f32)
    (b : Fin 4) (i : Fin 8192) (h : Fin 16) (d : Fin 64) (t : Fin 8448 → ℝ) (ht : ∀ j, logits q k kc (ix4 b h i j) = (t j : EReal)) :
    ∃ M : ℝ, attention q k v kc vc (ix2 ⟨8192 * b.val + i.val, by omega⟩ ⟨64 * h.val + d.val, by omega⟩)
      = ∑ j, joined vc v b j h d * Ideal.div ((Real.exp (t j - M) : ℝ) : EReal) ((∑ j', Real.exp (t j' - M) : ℝ) : EReal) := by
  obtain ⟨M, hM⟩ := fold_real t
  have hl : largest (logits q k kc) (ix3 b h i) = (M : EReal) := by
    rw [largest_apply, show Ideal.ofBits .f32 0xFF800000#32 = ⊥ by simp [Ideal.ofBits, Ideal.ieee], ← hM]
    simp only [ht, bot_le, sup_of_le_right]
  have hr : ∀ j, raw (logits q k kc) (ix4 b h i j) = ((Real.exp (t j - M) : ℝ) : EReal) := by
    intro j
    rw [raw_apply, hl, ht, ← EReal.coe_sub]
    rfl
  refine ⟨M, ?_⟩
  show shapeCast S32768x1024 (mixed (normed (raw (logits q k kc))) v vc) shapeCasts_S4x8192x16x64_S32768x1024 _ = _
  rw [cast_out, mixed_apply]
  refine Finset.sum_congr rfl fun j _ => ?_
  rw [normed_apply, hr]
  simp only [hr, sum_coe]

end Cert.ReferenceIdeal.Attn

end
-- ==== Proof.Flash.Value.lean ====
/-
  What a grid point of the attention launch leaves in its block of results is the reference's attention there, when the
  queries and keys are real numbers.
-/
module

public import proofs.«01_k».proof.Proof.Flash.Blocks
public import proofs.«01_k».proof.Proof.Flash.Head
public import proofs.«01_k».proof.Proof.Flash.Host
public import proofs.«01_k».proof.Proof.Flash.Ref

@[expose] public section

set_option maxRecDepth 16384

noncomputable section

namespace Cert.KernelIdeal.Flash

open Cert.KernelIdeal Cert.KernelIdeal.Gen Cert.SoftmaxSum
open Cert.ReferenceIdeal.Attn (joined logits logits_apply attention attention_apply)
open Idealize.ShloMosaic Idealize.ShloMosaic.TcCoe
open Idealize.SL Idealize.SL.Sem

/-! ## Keys in the reference's order -/

/-- A key's place in the reference: the context first. -/
def place : Key → Fin 8448
  | .inl k => ⟨k.val, by omega⟩
  | .inr (c, k) => ⟨256 + (512 * c.val + k.val), by omega⟩

/-- A sum over the reference's places is a sum over the keys. -/
theorem sum_place {M : Type} [AddCommMonoid M] (f : Fin 8448 → M) : ∑ j, f j = ∑ k : Key, f (place k) := by
  rw [Fin.sum_univ_two_halves 256 8192 rfl, Fintype.sum_sum_type, Fintype.sum_prod_type, Fin.sum_univ_tiles 16 512 rfl]
  refine congrArg₂ (· + ·) rfl (Finset.sum_congr rfl fun c _ => Finset.sum_congr rfl fun k _ => congrArg f (Fin.ext ?_))
  show 256 + (c.val * 512 + k.val) = 256 + (512 * c.val + k.val)
  omega

/-- A sum over 128 lanes whose last 32 terms are zero and whose others are reals. -/
theorem sum_lanes (f : Fin 128 → EReal) (g : Fin 96 → ℝ) (h1 : ∀ l : Fin 96, f ⟨l.val, by omega⟩ = (g l : EReal)) (h2 : ∀ l : Fin 32, f ⟨96 + l.val, by omega⟩ = 0) :
    ∑ l, f l = ((∑ l, g l : ℝ) : EReal) := by
  rw [Fin.sum_univ_two_halves 96 32 rfl, Finset.sum_congr rfl fun l _ => h1 l, Finset.sum_congr rfl fun l _ => h2 l, sum_coe,
    Finset.sum_const_zero, add_zero]

/-! ## The constants -/

/-- The scale is a real number. -/
theorem scale_real : ∃ s : ℝ, Ideal.ofBits .f32 0x3DD105EC#32 = (s : EReal) := by
  simp [Ideal.ofBits, Ideal.ieee]
  exact ⟨_, by rw [EReal.coe_mul]⟩

/-- The logarithm the queries are divided by. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e]
  show (if (2 : ℝ) ≤ 0 then (⊥ : EReal) else ((Real.log 2 : ℝ) : EReal)) = _
  rw [if_neg (by norm_num)]

/-- A quotient of reals. -/
theorem div_real (x y : ℝ) (hy : y ≠ 0) : Ideal.div (x : EReal) (y : EReal) = ((x * y⁻¹ : ℝ) : EReal) := by
  unfold Ideal.div
  rw [if_neg (by exact_mod_cast hy), ← EReal.coe_inv, ← EReal.coe_mul]

/-! ## The blocks in terms of the arguments -/

variable (m : (ℓ : Loc nD τ sig) → Buf (Elt Ideal) ℓ) (c : Dev nD)

/-- A query element of a head at a point. -/
theorem q_at (t : Fin cfg0.N) (i : Fin 2048) (e : Fin 2) (l : Fin 128) : X0_0 m c t (ix2 i (slot e l))
    = Ideal.div (lane96 (m ((c : Thread nD τ).loc main_arg0)) (ptB t) (ptRow t i) (ptH t e) l * Ideal.ofBits .f32 0x3DD105EC#32)
        (Ideal.log (Ideal.ofBits .f32 0x40000000#32)) := by
  rw [block_q, V_q, qArr_apply, ← rows96_lat (m ((c : Thread nD τ).loc main_arg0)) (m ((c : Thread nD τ).loc main_arg3))]
  refine congrArg (fun z => Ideal.div (z * _) _) ?_
  exact congrArg₂ (fun a b => rows96 _ _ (ix2 a b)) (Fin.ext (by simp only; omega)) (Fin.ext (by simp only; omega))

/-- A context key element. -/
theorem kc_at (t : Fin cfg0.N) (k : Fin 256) (e : Fin 2) (l : Fin 128) : iblk m c 1 t (ix2 k (slot e l))
    = lane96 (m ((c : Thread nD τ).loc main_arg4)) (ptB t) k (ptH t e) l := by
  rw [block_kc, V_k, kArr_apply, ← rows96_ctx (m ((c : Thread nD τ).loc main_arg1))]
  exact congrArg₂ (fun a b => rows96 _ _ (ix2 a b)) (Fin.ext (by simp only; omega)) (Fin.ext (by simp only; omega))

/-- A latent key element. -/
theorem k_at (t : Fin cfg0.N) (k : Fin 8192) (e : Fin 2) (l : Fin 128) : X0_3 m c t (ix2 k (slot e l))
    = lane96 (m ((c : Thread nD τ).loc main_arg1)) (ptB t) k (ptH t e) l := by
  rw [block_k, V_k, kArr_apply, ← rows96_lat _ (m ((c : Thread nD τ).loc main_arg4))]
  exact congrArg₂ (fun a b => rows96 _ _ (ix2 a b)) (Fin.ext (by simp only; omega)) (Fin.ext (by simp only; omega))

/-- A context value element. -/
theorem vc_at (t : Fin cfg0.N) (k : Fin 256) (e : Fin 2) (d : Fin 64) : iblk m c 2 t (ix2 (vrow e ⟨d.val, by omega⟩) k)
    = m ((c : Thread nD τ).loc main_arg5) (ix4 (ptB t) k (ptH t e) d) := by
  rw [block_vc, V_v, vArr_apply, ← rows64_ctx (m ((c : Thread nD τ).loc main_arg2)) (m ((c : Thread nD τ).loc main_arg5)) (ptB t) k (ptH t e) d]
  exact congrArg₂ (fun a b => rows64 _ _ (ix2 a b)) (Fin.ext (by simp only; omega)) (Fin.ext (by simp only; omega))

/-- The one after a context key's values. -/
theorem vc_one (t : Fin cfg0.N) (k : Fin 256) (e : Fin 2) : iblk m c 2 t (ix2 (vrow e 64) k) = (1 : EReal) := by
  rw [block_vc, V_v, vArr_apply, ← rows64_ctx_one (m ((c : Thread nD τ).loc main_arg2)) (m ((c : Thread nD τ).loc main_arg5)) (ptB t) k (ptH t e)]
  exact congrArg₂ (fun a b => rows64 _ _ (ix2 a b)) (Fin.ext (by simp only; omega)) (Fin.ext (by show _ * 256 + (128 * e.val + 64) = _; simp only; omega))

/-- A latent value element. -/
theorem v_at (t : Fin cfg0.N) (k : Fin 8192) (e : Fin 2) (d : Fin 64) : X0_4 m c t (ix2 (vrow e ⟨d.val, by omega⟩) k)
    = m ((c : Thread nD τ).loc main_arg2) (ix4 (ptB t) k (ptH t e) d) := by
  rw [block_v, V_v, vArr_apply, ← rows64_lat (m ((c : Thread nD τ).loc main_arg2)) (m ((c : Thread nD τ).loc main_arg5)) (ptB t) k (ptH t e) d]
  exact congrArg₂ (fun a b => rows64 _ _ (ix2 a b)) (Fin.ext (by simp only; omega)) (Fin.ext (by simp only; omega))

/-- The one after a latent key's values. -/
theorem v_one (t : Fin cfg0.N) (k : Fin 8192) (e : Fin 2) : X0_4 m c t (ix2 (vrow e 64) k) = (1 : EReal) := by
  rw [block_v, V_v, vArr_apply, ← rows64_lat_one (m ((c : Thread nD τ).loc main_arg2)) (m ((c : Thread nD τ).loc main_arg5)) (ptB t) k (ptH t e)]
  exact congrArg₂ (fun a b => rows64 _ _ (ix2 a b)) (Fin.ext (by simp only; omega)) (Fin.ext (by show _ * 256 + (128 * e.val + 64) = _; simp only; omega))

/-- A key's value is the reference's. -/
theorem val_at (t : Fin cfg0.N) (e : Fin 2) (d : Fin 64) (k : Key) : keyVal e (iblk m c 2 t) (X0_4 m c t) ⟨d.val, by omega⟩ k
    = joined (m ((c : Thread nD τ).loc main_arg5)) (m ((c : Thread nD τ).loc main_arg2)) (ptB t) (place k) (ptH t e) d := by
  rcases k with k | ⟨b, k⟩
  · unfold joined
    rw [dif_pos (show (place (.inl k)).val < 256 from k.isLt)]
    exact vc_at m c t k e d
  · unfold joined
    rw [dif_neg (show ¬ (place (.inr (b, k))).val < 256 from by show ¬ 256 + _ < 256; omega)]
    refine (v_at m c t ⟨512 * b.val + k.val, by omega⟩ e d).trans ?_
    exact congrArg (fun a => m ((c : Thread nD τ).loc main_arg2) (ix4 (ptB t) a (ptH t e) d)) (Fin.ext (by show _ = 256 + _ - 256; simp only; omega))

/-- Every key's value in the row of ones is one. -/
theorem ones_at (t : Fin cfg0.N) (e : Fin 2) (k : Key) : keyVal e (iblk m c 2 t) (X0_4 m c t) 64 k = 1 := by
  rcases k with k | ⟨b, k⟩
  · exact vc_one m c t k e
  · exact v_one m c t _ e

/-- The lanes of a key, zeros after its 96. -/
def keyLane (t : Fin cfg0.N) (e : Fin 2) (k : Key) (l : Fin 128) : EReal :=
  if hl : l.val < 96 then joined (m ((c : Thread nD τ).loc main_arg4)) (m ((c : Thread nD τ).loc main_arg1)) (ptB t) (place k) (ptH t e) ⟨l.val, hl⟩ else 0

/-- A key's score, from its lanes and the query's. -/
theorem score_at (t : Fin cfg0.N) (e : Fin 2) (i : Fin 2048) (k : Key) : keyScore e (X0_0 m c t) (iblk m c 1 t) (X0_3 m c t) i k
    = ∑ l : Fin 128, keyLane m c t e k l * X0_0 m c t (ix2 i (slot e l)) := by
  rcases k with k | ⟨b, k⟩
  · refine Finset.sum_congr rfl fun l _ => congrArg (· * _) ((kc_at m c t k e l).trans ?_)
    unfold lane96 keyLane joined
    by_cases hl : l.val < 96
    · rw [dif_pos hl, dif_pos hl, dif_pos (show (place (.inl k)).val < 256 from k.isLt)]
      rfl
    · rw [dif_neg hl, dif_neg hl]
  · refine Finset.sum_congr rfl fun l _ => congrArg (· * _) ((k_at m c t ⟨512 * b.val + k.val, by omega⟩ e l).trans ?_)
    unfold lane96 keyLane joined
    by_cases hl : l.val < 96
    · rw [dif_pos hl, dif_pos hl, dif_neg (show ¬ (place (.inr (b, k))).val < 256 from by show ¬ 256 + _ < 256; omega)]
      exact congrArg (fun a => m ((c : Thread nD τ).loc main_arg1) (ix4 (ptB t) a (ptH t e) ⟨l.val, hl⟩)) (Fin.ext (by show _ = 256 + _ - 256; simp only; omega))
    · rw [dif_neg hl, dif_neg hl]

/-- A query element as a real: scaled and divided by the logarithm of two. -/
theorem q_real (t : Fin cfg0.N) (i : Fin 2048) (e : Fin 2) (l : Fin 96) (x s : ℝ) (hs : Ideal.ofBits .f32 0x3DD105EC#32 = (s : EReal))
    (hx : m ((c : Thread nD τ).loc main_arg0) (ix4 (ptB t) (ptRow t i) (ptH t e) l) = (x : EReal)) :
    X0_0 m c t (ix2 i (slot e ⟨l.val, by omega⟩)) = ((x * s * (Real.log 2)⁻¹ : ℝ) : EReal) := by
  have hl : Real.log 2 ≠ 0 := (Real.log_pos (by norm_num)).ne'
  rw [q_at, log_two, hs, lane96, dif_pos l.isLt, show (⟨l.val, l.isLt⟩ : Fin 96) = l from rfl, hx, ← EReal.coe_mul, div_real _ _ hl]

/-- At every point and index the block of results is the reference's attention, the queries and keys being reals. -/
theorem out_eq (h0 : ∀ i, ∃ r : ℝ, m ((c : Thread nD τ).loc main_arg0) i = ((r : ℝ) : EReal))
    (h1 : ∀ i, ∃ r : ℝ, m ((c : Thread nD τ).loc main_arg1) i = ((r : ℝ) : EReal))
    (h4 : ∀ i, ∃ r : ℝ, m ((c : Thread nD τ).loc main_arg4) i = ((r : ℝ) : EReal))
    (t : Fin cfg0.N) (i : Fin 2048) (e : Fin 2) (d : Fin 64) :
    outAt m c t (ix2 i ⟨64 * e.val + d.val, by omega⟩)
      = attention (m ((c : Thread nD τ).loc main_arg0)) (m ((c : Thread nD τ).loc main_arg1)) (m ((c : Thread nD τ).loc main_arg2))
          (m ((c : Thread nD τ).loc main_arg4)) (m ((c : Thread nD τ).loc main_arg5))
          (ix2 ⟨8192 * (ptB t).val + (ptRow t i).val, by have := (ptB t).isLt; have := (ptRow t i).isLt; omega⟩
            ⟨64 * (ptH t e).val + d.val, by have := (ptH t e).isLt; omega⟩) := by
  obtain ⟨s, hs⟩ := scale_real
  choose q hq using h0
  choose k hk using h1
  choose kc hkc using h4
  -- the keys, joined, as reals
  have hj : ∀ j l, ∃ r : ℝ, joined (m ((c : Thread nD τ).loc main_arg4)) (m ((c : Thread nD τ).loc main_arg1)) (ptB t) j (ptH t e) l = (r : EReal) := by
    intro j l
    unfold joined
    split
    · exact ⟨_, hkc _⟩
    · exact ⟨_, hk _⟩
  choose g hg using hj
  -- the reference's scores
  have ht : ∀ j, logits (F := Ideal) (m ((c : Thread nD τ).loc main_arg0)) (m ((c : Thread nD τ).loc main_arg1)) (m ((c : Thread nD τ).loc main_arg4)) (ix4 (ptB t) (ptH t e) (ptRow t i) j)
      = ((∑ l : Fin 96, q (ix4 (ptB t) (ptRow t i) (ptH t e) l) * s * g j l : ℝ) : EReal) := by
    intro j
    rw [logits_apply, ← sum_coe]
    refine Finset.sum_congr rfl fun l _ => ?_
    rw [hq, hs, hg, EReal.coe_mul, EReal.coe_mul]
  obtain ⟨M, hM⟩ := attention_apply (m ((c : Thread nD τ).loc main_arg0)) (m ((c : Thread nD τ).loc main_arg1)) (m ((c : Thread nD τ).loc main_arg2))
    (m ((c : Thread nD τ).loc main_arg4)) (m ((c : Thread nD τ).loc main_arg5)) (ptB t) (ptRow t i) (ptH t e) d _ ht
  -- the kernel's scores
  have hr : ∀ κ, keyScore e (X0_0 m c t) (iblk m c 1 t) (X0_3 m c t) i κ
      = ((∑ l : Fin 96, g (place κ) l * (q (ix4 (ptB t) (ptRow t i) (ptH t e) l) * s * (Real.log 2)⁻¹) : ℝ) : EReal) := by
    intro κ
    rw [score_at]
    refine sum_lanes _ _ (fun l => ?_) fun l => ?_
    · have hK : keyLane m c t e κ ⟨l.val, by omega⟩ = (g (place κ) l : EReal) := by
        unfold keyLane
        rw [dif_pos l.isLt]
        exact hg _ _
      rw [q_real m c t i e l _ s hs (hq _), hK, ← EReal.coe_mul]
    · unfold keyLane
      rw [dif_neg (by simp only; omega), zero_mul]
  obtain ⟨μ, hμ⟩ := out_real (X0_0 m c t) (iblk m c 1 t) (iblk m c 2 t) (X0_3 m c t) (X0_4 m c t) e d i _ hr (ones_at m c t e)
  have hl : Real.log 2 ≠ 0 := (Real.log_pos (by norm_num)).ne'
  unfold outAt
  rw [hμ, hM, ratio _ (fun κ => ∑ l : Fin 96, q (ix4 (ptB t) (ptRow t i) (ptH t e) l) * s * g (place κ) l) _ μ M fun κ => ?_]
  · rw [sum_place, sum_place]
    refine Finset.sum_congr rfl fun κ _ => ?_
    rw [val_at]
  · rw [Finset.sum_mul]
    refine Finset.sum_congr rfl fun l _ => ?_
    field_simp

end Cert.KernelIdeal.Flash

end
-- ==== Proof.Flash.Finite.lean ====
/-
  The claim's hypothesis, read: every element of the latent queries, the latent keys and the context keys is a real
  number.
-/
module

public import proofs.«01_k».proof.Defs
public import Idealize.ShloMosaic.Lib.ReduceAll
public import Idealize.ShloMosaic.Lib.Affine
public import Idealize.ShloMosaic.Lib.Pointwise

@[expose] public section

set_option maxRecDepth 16384

noncomputable section

namespace Cert.Pre_finite_qk

open Idealize.ShloMosaic

/-- The hypothesis's shape relations hold. -/
instance facts : Cert.Pre_finite_qk.Facts where
  bcast_S_S4x8192x16x96 := by decide
  reducesTo_S4x8192x16x96_S_d0_1_2_3 := by decide
  h_S_ := by decide
  bcast_S_S4x256x16x96 := by decide
  reducesTo_S4x256x16x96_S_d0_1_2_3 := by decide

/-- An extended real whose absolute value is below infinity is a real. -/
theorem real_of_abs_lt (x : Ideal .f32)
    (h : FloatOps.cmpf .olt (FloatOps.hostAbsf x) (FloatOps.ofBits (F := Ideal) .f32 0x7F800000#32) = 1#1) : ∃ r : ℝ, x = ((r : ℝ) : EReal) := by
  have e : Ideal.ofBits .f32 0x7F800000#32 = (⊤ : EReal) := by simp [Ideal.ofBits, Ideal.ieee]
  have h' : max (x : EReal) (-x) < Ideal.ofBits .f32 0x7F800000#32 := by
    by_contra hn
    have : Ideal.cmp .olt (max (x : EReal) (-x)) (Ideal.ofBits .f32 0x7F800000#32) = 1#1 := h
    simp [Ideal.cmp, hn] at this
  rw [e] at h'
  rcases max_lt_iff.mp h' with ⟨h1, h2⟩
  refine ⟨EReal.toReal x, (EReal.coe_toReal h1.ne ?_).symm⟩
  rintro rfl
  simp at h2

/-- Under the hypothesis the latent queries, the latent keys and the context keys hold reals. -/
theorem reals (a0 a1 : FVec Ideal S4x8192x16x96 .f32) (a2 : FVec Ideal S4x8192x16x64 .f32) (a3 a4 : FVec Ideal S4x256x16x96 .f32)
    (a5 : FVec Ideal S4x256x16x64 .f32) (h : fn a0 a1 a2 a3 a4 a5 = fun _ => 1#1) :
    (∀ i, ∃ r : ℝ, a0 i = ((r : ℝ) : EReal)) ∧ (∀ i, ∃ r : ℝ, a1 i = ((r : ℝ) : EReal)) ∧ ∀ i, ∃ r : ℝ, a4 i = ((r : ℝ) : EReal) := by
  have hj := congrFun h (Shape.Idx.first Facts.h_S_)
  unfold fn at hj
  have h1 := IntOp.andi_eq_one.mp hj
  have h2 := IntOp.andi_eq_one.mp h1.1
  haveI : Subsingleton S_.Idx := ⟨fun a b => funext fun x => x.elim0⟩
  exact ⟨fun i => real_of_abs_lt _ (Host.reduce_andi_all _ _ _ _ _ h2.1 i), fun i => real_of_abs_lt _ (Host.reduce_andi_all _ _ _ _ _ h2.2 i),
    fun i => real_of_abs_lt _ (Host.reduce_andi_all _ _ _ _ _ h1.2 i)⟩

end Cert.Pre_finite_qk

end
-- ==== Proof.Flash.Claim.lean ====
/-
  The attention launch's result is the reference's attention, and the claims that rest on it.
-/
module

public import proofs.«01_k».proof.Proof.Flash.Value
public import proofs.«01_k».proof.Proof.Flash.Finite
public import proofs.«01_k».proof.Proof.Flash.RefRun

@[expose] public section

set_option maxRecDepth 16384

noncomputable section

namespace Cert.KernelIdeal.Flash

open Cert.KernelIdeal Cert.KernelIdeal.Gen
open Cert.ReferenceIdeal.Attn (attention)
open Idealize.ShloMosaic Idealize.ShloMosaic.TcCoe
open Idealize.SL Idealize.SL.Sem

variable (m : (ℓ : Loc nD τ sig) → Buf (Elt Ideal) ℓ) (c : Dev nD)

/-- The reference's attention of device `c`'s arguments. -/
abbrev attn : FVec Ideal S32768x1024 .bf16 :=
  attention (F := Ideal) (m ((c : Thread nD τ).loc main_arg0)) (m ((c : Thread nD τ).loc main_arg1)) (m ((c : Thread nD τ).loc main_arg2))
    (m ((c : Thread nD τ).loc main_arg4)) (m ((c : Thread nD τ).loc main_arg5))

/-- The queries and keys of device `c` are reals. -/
abbrev Reals : Prop := (∀ i, ∃ r : ℝ, m ((c : Thread nD τ).loc main_arg0) i = ((r : ℝ) : EReal))
  ∧ (∀ i, ∃ r : ℝ, m ((c : Thread nD τ).loc main_arg1) i = ((r : ℝ) : EReal)) ∧ ∀ i, ∃ r : ℝ, m ((c : Thread nD τ).loc main_arg4) i = ((r : ℝ) : EReal)

/-- A block of results at any of its indices. -/
theorem out_at (h : Reals m c) (t : Fin cfg0.N) (i : Fin 2048) (k : Fin 128) : outAt m c t (ix2 i k)
    = attn m c (ix2 ⟨(t.val / 32 * 4 + t.val % 4) * 2048 + i.val, by have := t.isLt; have : cfg0.N = 128 := N_0; omega⟩ ⟨t.val / 4 % 8 * 128 + k.val, by omega⟩) := by
  have e : k = ⟨64 * (⟨k.val / 64, by omega⟩ : Fin 2).val + (⟨k.val % 64, by omega⟩ : Fin 64).val, by simp only; omega⟩ := Fin.ext (by simp only; omega)
  refine (congrArg (fun k => outAt m c t (ix2 i k)) e).trans ((out_eq m c h.1 h.2.1 h.2.2 t i ⟨k.val / 64, by omega⟩ ⟨k.val % 64, by omega⟩).trans ?_)
  exact congrArg₂ (fun a b => attn m c (ix2 a b)) (Fin.ext (by simp only; omega)) (Fin.ext (by simp only; omega))

/-- The result array after the run. -/
theorem result (h : Reals m c) : (dats m 0 c).arrAt 5 cfg0.N = attn m c := by
  refine (dats m 0 c).arrAt_eq_of_covers 5 _ (by decide +kernel) fun t hf y => ?_
  blk_simp
  rw [after5]
  have hy : y = ix2 (⟨(y 0).val, (y 0).isLt⟩ : Fin 2048) (⟨(y 1).val, (y 1).isLt⟩ : Fin 128) := by
    funext a; fin_cases a <;> rfl
  rw [hy]
  refine (out_at m c h t _ _).trans ?_
  blk_ext [(idx5 t).1, (idx5 t).2]

/-- The run: the result array holds the reference's attention. -/
theorem run_value (ρ : Dev nD → PrngReg) (h : ∀ c, Reals m c) : θ_run defs (onTc (τ := τ) (main (F := Ideal))) ⟨m, fun _ => 0, ρ⟩ (fun r => ∀ c : Dev nD,
      r.2.mem ((c.tc : Thread nD τ).loc main_v54) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).1 5).trans (result m c (h c)), hr.2 c⟩)
    (θ_run_and (run_main m ρ) (frame_of m ρ (dats m) (A_eq m) (run_main m ρ)))

end Cert.KernelIdeal.Flash

namespace Cert.Proof

open Idealize.ShloMosaic Idealize.ShloMosaic.TcCoe Idealize.SL.Sem

/-- The kernel and the reference end with the same attention, the queries and keys being reals. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.facts) := by
  intro m g m' g' hpre hagree
  refine ⟨fun c => Cert.KernelIdeal.Flash.attn m c, Cert.KernelIdeal.Flash.run_value m g fun c => Cert.Pre_finite_qk.reals _ _ _ _ _ _ (hpre c), ?_⟩
  refine (θ_run Cert.ReferenceIdeal.defs _ _).mono (fun _ h c => ⟨(h c).1.trans ?_, (h c).2⟩) (Cert.ReferenceIdeal.Attn.run_main (F := Ideal) m' g')
  rw [(hagree c).1, (hagree c).2.1, (hagree c).2.2.1, (hagree c).2.2.2.2.1, (hagree c).2.2.2.2.2]

end Cert.Proof

end
-- ==== Proof.Post.Row.lean ====
/-
  One row of a layer's output stage, as arithmetic over extended reals: heads normalised and gated, projected, added to
  the row and normalised, then the feed-forward part added and normalised.
-/
module

public import Idealize.ShloMosaic.Lib.Pointwise

@[expose] public section

noncomputable section

namespace Cert.PostRow

open Idealize.ShloMosaic

/-- `x` times its logistic function. -/
def silu (x : EReal) : EReal := x * Ideal.logistic x

/-- A row less its mean. -/
def centred (x : Fin 1024 → EReal) (k : Fin 1024) : EReal := x k - Ideal.div (∑ j, x j) (Ideal.ofBits .f32 0x44800000#32)

/-- A centred row divided by its deviation, with a gain and an offset. -/
def scaled (x g b : Fin 1024 → EReal) (k : Fin 1024) : EReal :=
  x k * Ideal.rsqrt (Ideal.div (∑ j, x j * x j) (Ideal.ofBits .f32 0x44800000#32) + Ideal.ofBits .f32 0x3727C5AC#32) * g k + b k

/-- A row normalised, with a gain and an offset. -/
def layerNorm (x g b : Fin 1024 → EReal) (k : Fin 1024) : EReal := scaled (centred x) g b k

/-- A head's lanes divided by their root mean square, with a gain. -/
def headNorm (x g : Fin 128 → EReal) (e : Fin 128) : EReal :=
  x e * Ideal.rsqrt (Ideal.div (∑ j, x j * x j) (Ideal.ofBits .f32 0x43000000#32) + Ideal.ofBits .f32 0x358637BD#32) * g e

/-- The lanes of all heads, head by head. -/
def heads (x : Fin 8 → Fin 128 → EReal) (k : Fin 1024) : EReal := x ⟨k.val / 128, by omega⟩ ⟨k.val % 128, by omega⟩

/-- A lane of a head. -/
theorem heads_eq (x : Fin 8 → Fin 128 → EReal) (h : Fin 8) (e : Fin 128) (k : Fin 1024) (hk : k.val = 128 * h.val + e.val) : heads x k = x h e :=
  congrArg₂ x (Fin.ext (by simp only; omega)) (Fin.ext (by simp only; omega))

/-- A row plus a scaled projection of another. -/
def added (x m y : Fin 1024 → EReal) (w : Fin 1024 → Fin 1024 → EReal) (k : Fin 1024) : EReal :=
  Ideal.ofBits .f32 0x3FD744FD#32 * x k + m k * ∑ j, y j * w j k

/-- A row scaled and shifted. -/
def modulated (x shift scale : Fin 1024 → EReal) (k : Fin 1024) : EReal := x k * (Ideal.ofBits .f32 0x3F800000#32 + scale k) + shift k

/-- A hidden unit of the feed-forward part. -/
def hiddenUnit (u : Fin 1024 → EReal) (w : Fin 1024 → Fin 5632 → EReal) (j : Fin 2816) : EReal :=
  silu (∑ l, u l * w l ⟨j.val, by omega⟩) * ∑ l, u l * w l ⟨2816 + j.val, by omega⟩

/-- A row plus the scaled feed-forward part of another. -/
def fed (x m u : Fin 1024 → EReal) (w : Fin 1024 → Fin 5632 → EReal) (w' : Fin 2816 → Fin 1024 → EReal) (k : Fin 1024) : EReal :=
  Ideal.ofBits .f32 0x3FD744FD#32 * x k + m k * ∑ j, hiddenUnit u w j * w' j k

/-- The stage after the first normalisation, from that row. -/
def second (r m3 m4 m5 g b : Fin 1024 → EReal) (w : Fin 1024 → Fin 5632 → EReal) (w' : Fin 2816 → Fin 1024 → EReal) : Fin 1024 → EReal :=
  layerNorm (fed r m5 (modulated r m3 m4) w w') g b

end Cert.PostRow

end
-- ==== Proof.Post.Body.lean ====
/-
  The output stage's kernel body, read at an element of its block, over extended reals.
-/
module

public import proofs.«01_k».proof.Proof.Gen.Kernel2Ideal.Skeleton
public import proofs.«01_k».proof.Proof.Post.Row

@[expose] public section

set_option maxRecDepth 16384

noncomputable section

namespace Cert.Kernel2Ideal.Post

open Cert.Kernel2Ideal Cert.Kernel2Ideal.Gen Cert.PostRow
open Idealize.ShloMosaic

/-- A block of rows, of numbers wide. -/
abbrev Rows : Type := FVec Ideal S512x1024 .f32

/-- A block of rows, of numbers narrow. -/
abbrev RowsN : Type := FVec Ideal S512x1024 .bf16

/-- The row itself. -/
theorem pay2_apply (x : Rows) (i : Fin 512) (k : Fin 1024) : k0_pay2 (F := Ideal) x (ix2 i k) = x (ix2 i k) := by
  pointwise [k0_pay2]

/-- The two directions' sum. -/
theorem pay3_apply (a b : RowsN) (i : Fin 512) (k : Fin 1024) : k0_pay3 (F := Ideal) a b (ix2 i k) = (a (ix2 i k) + b (ix2 i k) : EReal) := by
  pointwise [k0_pay3]

/-- Head 0, normalised. -/
theorem pay4_apply (a b : RowsN) (g : FVec Ideal S1x128 .f32) (i : Fin 512) (e : Fin 128) : k0_pay4 (F := Ideal) a b g (ix2 i e)
    = headNorm (fun e => k0_pay3 (F := Ideal) a b (ix2 i ⟨e.val, by omega⟩)) (fun e => g (ix2 0 e)) e := by
  pointwise [k0_pay4, headNorm]

/-- Head 1, normalised. -/
theorem pay5_apply (a b : RowsN) (g : FVec Ideal S1x128 .f32) (i : Fin 512) (e : Fin 128) : k0_pay5 (F := Ideal) a b g (ix2 i e)
    = headNorm (fun e => k0_pay3 (F := Ideal) a b (ix2 i ⟨128 + e.val, by omega⟩)) (fun e => g (ix2 0 e)) e := by
  pointwise [k0_pay5, headNorm]

/-- Head 2, normalised. -/
theorem pay8_apply (a b : RowsN) (g : FVec Ideal S1x128 .f32) (i : Fin 512) (e : Fin 128) : k0_pay8 (F := Ideal) (k0_pay6 a b) (k0_pay7 a b) g (ix2 i e)
    = headNorm (fun e => k0_pay3 (F := Ideal) a b (ix2 i ⟨256 + e.val, by omega⟩)) (fun e => g (ix2 0 e)) e := by
  pointwise [k0_pay8, k0_pay6, k0_pay7, headNorm]

/-- Head 3, normalised. -/
theorem pay9_apply (x : Rows) (g : FVec Ideal S1x128 .f32) (i : Fin 512) (e : Fin 128) : k0_pay9 (F := Ideal) x g (ix2 i e)
    = headNorm (fun e => x (ix2 i ⟨384 + e.val, by omega⟩)) (fun e => g (ix2 0 e)) e := by
  pointwise [k0_pay9, headNorm]

/-- Head 4, normalised. -/
theorem pay10_apply (x : Rows) (g : FVec Ideal S1x128 .f32) (i : Fin 512) (e : Fin 128) : k0_pay10 (F := Ideal) x g (ix2 i e)
    = headNorm (fun e => x (ix2 i ⟨512 + e.val, by omega⟩)) (fun e => g (ix2 0 e)) e := by
  pointwise [k0_pay10, headNorm]

/-- All heads, normalised: the first five given, the last three computed. -/
theorem pay13_apply (x : Rows) (h0 h1 h2 h3 h4 : FVec Ideal S512x128 .f32) (g : FVec Ideal S1x128 .f32) (y : Fin 512 → Fin 8 → Fin 128 → EReal)
    (e0 : ∀ i e, h0 (ix2 i e) = headNorm (y i 0) (fun e => g (ix2 0 e)) e)
    (e1 : ∀ i e, h1 (ix2 i e) = headNorm (y i 1) (fun e => g (ix2 0 e)) e)
    (e2 : ∀ i e, h2 (ix2 i e) = headNorm (y i 2) (fun e => g (ix2 0 e)) e)
    (e3 : ∀ i e, h3 (ix2 i e) = headNorm (y i 3) (fun e => g (ix2 0 e)) e)
    (e4 : ∀ i e, h4 (ix2 i e) = headNorm (y i 4) (fun e => g (ix2 0 e)) e)
    (e5 : ∀ i (e : Fin 128), x (ix2 i ⟨640 + e.val, by omega⟩) = y i 5 e)
    (e6 : ∀ i (e : Fin 128), x (ix2 i ⟨768 + e.val, by omega⟩) = y i 6 e)
    (e7 : ∀ i (e : Fin 128), x (ix2 i ⟨896 + e.val, by omega⟩) = y i 7 e)
    (i : Fin 512) (k : Fin 1024) : k0_pay13 (F := Ideal) x h0 h1 h2 h3 h4 (k0_pay11 x) (k0_pay12 x) g g g (ix2 i k)
    = heads (fun h => headNorm (y i h) fun e => g (ix2 0 e)) k := by
  pointwise [k0_pay13, k0_pay11, k0_pay12, e0, e1, e2, e3, e4, e5, e6, e7]
  by_cases c0 : k.val < 128
  · rw [dif_pos c0]
    exact (heads_eq (fun h => headNorm (y i h) fun e => g (ix2 0 e)) 0 ⟨k.val, by omega⟩ k (show k.val = 128 * 0 + (k.val) by omega)).symm
  rw [dif_neg c0]
  by_cases c1 : k.val - 128 < 128
  · rw [dif_pos c1]
    exact (heads_eq (fun h => headNorm (y i h) fun e => g (ix2 0 e)) 1 ⟨k.val - 128, by omega⟩ k (show k.val = 128 * 1 + (k.val - 128) by omega)).symm
  rw [dif_neg c1]
  by_cases c2 : k.val - 128 - 128 < 128
  · rw [dif_pos c2]
    exact (heads_eq (fun h => headNorm (y i h) fun e => g (ix2 0 e)) 2 ⟨k.val - 128 - 128, by omega⟩ k (show k.val = 128 * 2 + (k.val - 128 - 128) by omega)).symm
  rw [dif_neg c2]
  by_cases c3 : k.val - 128 - 128 - 128 < 128
  · rw [dif_pos c3]
    exact (heads_eq (fun h => headNorm (y i h) fun e => g (ix2 0 e)) 3 ⟨k.val - 128 - 128 - 128, by omega⟩ k (show k.val = 128 * 3 + (k.val - 128 - 128 - 128) by omega)).symm
  rw [dif_neg c3]
  by_cases c4 : k.val - 128 - 128 - 128 - 128 < 128
  · rw [dif_pos c4]
    exact (heads_eq (fun h => headNorm (y i h) fun e => g (ix2 0 e)) 4 ⟨k.val - 128 - 128 - 128 - 128, by omega⟩ k (show k.val = 128 * 4 + (k.val - 128 - 128 - 128 - 128) by omega)).symm
  rw [dif_neg c4]
  by_cases c5 : k.val - 128 - 128 - 128 - 128 - 128 < 128
  · rw [dif_pos c5]
    rw [e5 i ⟨k.val - 128 - 128 - 128 - 128 - 128, by omega⟩]
    exact (heads_eq (fun h => headNorm (y i h) fun e => g (ix2 0 e)) 5 ⟨k.val - 128 - 128 - 128 - 128 - 128, by omega⟩ k (show k.val = 128 * 5 + (k.val - 128 - 128 - 128 - 128 - 128) by omega)).symm
  rw [dif_neg c5]
  by_cases c6 : k.val - 128 - 128 - 128 - 128 - 128 - 128 < 128
  · rw [dif_pos c6]
    rw [e6 i ⟨k.val - 128 - 128 - 128 - 128 - 128 - 128, by omega⟩]
    exact (heads_eq (fun h => headNorm (y i h) fun e => g (ix2 0 e)) 6 ⟨k.val - 128 - 128 - 128 - 128 - 128 - 128, by omega⟩ k (show k.val = 128 * 6 + (k.val - 128 - 128 - 128 - 128 - 128 - 128) by omega)).symm
  rw [dif_neg c6]
  rw [e7 i ⟨k.val - 128 - 128 - 128 - 128 - 128 - 128 - 128, by omega⟩]
  exact (heads_eq (fun h => headNorm (y i h) fun e => g (ix2 0 e)) 7 ⟨k.val - 128 - 128 - 128 - 128 - 128 - 128 - 128, by omega⟩ k (show k.val = 128 * 7 + (k.val - 128 - 128 - 128 - 128 - 128 - 128 - 128) by omega)).symm

/-- The first normalisation. -/
theorem pay14_apply (x y : Rows) (g : RowsN) (m : FVec Ideal S1x1x1024 .f32) (w : FVec Ideal S1024x1024 .bf16) (lg lb : FVec Ideal S1x1024 .f32)
    (i : Fin 512) (k : Fin 1024) : k0_pay14 (F := Ideal) x y g m w lg lb (ix2 i k)
    = layerNorm (added (fun k => x (ix2 i k)) (fun k => m (ix3 0 0 k)) (fun k => y (ix2 i k) * silu (g (ix2 i k))) fun j k => w (ix2 j k))
        (fun k => lg (ix2 0 k)) (fun k => lb (ix2 0 k)) k := by
  pointwise [k0_pay14, layerNorm, centred, scaled, added, silu]

/-- The hidden layer's input. -/
theorem pay15_apply (x : Rows) (s t : FVec Ideal S1x1x1024 .f32) (i : Fin 512) (k : Fin 1024) : k0_pay15 (F := Ideal) x s t (ix2 i k)
    = modulated (fun k => x (ix2 i k)) (fun k => t (ix3 0 0 k)) (fun k => s (ix3 0 0 k)) k := by
  pointwise [k0_pay15, modulated]

/-- Part of the hidden layer, from its two blocks of weights. -/
def part (u : Fin 1024 → EReal) (a b : FVec Ideal S1024x256 .bf16) (j : Fin 256) : EReal :=
  silu (∑ l, u l * a (ix2 l j)) * ∑ l, u l * b (ix2 l j)

/-- What a part of the hidden layer adds to the result. -/
def partOut (p : Fin 256 → EReal) (w : FVec Ideal S256x1024 .bf16) (k : Fin 1024) : EReal := ∑ j, p j * w (ix2 j k)

/-- What part 0 adds. -/
theorem pay16_apply (x : Rows) (s t : FVec Ideal S1x1x1024 .f32) (a b : FVec Ideal S1024x256 .bf16) (w : FVec Ideal S256x1024 .bf16) (i : Fin 512) (k : Fin 1024) :
    k0_pay16 (F := Ideal) x s t a b w (ix2 i k) = partOut (part (fun l => k0_pay15 (F := Ideal) x s t (ix2 i l)) a b) w k := by
  pointwise [k0_pay16, partOut, part, silu]

/-- Part 1. -/
theorem pay17_apply (x : Rows) (s t : FVec Ideal S1x1x1024 .f32) (a b : FVec Ideal S1024x256 .bf16) (i : Fin 512) (j : Fin 256) :
    k0_pay17 (F := Ideal) x s t a b (ix2 i j) = part (fun l => k0_pay15 (F := Ideal) x s t (ix2 i l)) a b j := by
  pointwise [k0_pay17, part, silu]

/-- Parts 1 to 3 added. -/
theorem pay19_apply (u : RowsN) (x : Rows) (p : FVec Ideal S512x256 .bf16) (w1 : FVec Ideal S256x1024 .bf16) (a2 b2 : FVec Ideal S1024x256 .bf16) (w2 : FVec Ideal S256x1024 .bf16)
    (a3 b3 : FVec Ideal S1024x256 .bf16) (w3 : FVec Ideal S256x1024 .bf16) (i : Fin 512) (k : Fin 1024) :
    k0_pay19 (F := Ideal) u x p (k0_pay18 w1) (constant S512x1024 .f32 0x00000000#32) a2 b2 w2 a3 b3 w3 (ix2 i k)
      = x (ix2 i k) + partOut (fun j => p (ix2 i j)) w1 k + partOut (part (fun l => u (ix2 i l)) a2 b2) w2 k + partOut (part (fun l => u (ix2 i l)) a3 b3) w3 k := by
  pointwise [k0_pay19, k0_pay18, partOut, part, silu]

/-- Parts 4 to 6 added. -/
theorem pay22_apply (u : RowsN) (x : Rows) (a4 b4 : FVec Ideal S1024x256 .bf16) (w4 : FVec Ideal S256x1024 .bf16) (a5 b5 : FVec Ideal S1024x256 .bf16) (w5 : FVec Ideal S256x1024 .bf16)
    (a6 b6 : FVec Ideal S1024x256 .bf16) (w6 : FVec Ideal S256x1024 .bf16) (i : Fin 512) (k : Fin 1024) :
    k0_pay22 (F := Ideal) u x (k0_pay20 u a4) (k0_pay21 u b4) w4 a5 b5 w5 a6 b6 w6 (ix2 i k)
      = x (ix2 i k) + partOut (part (fun l => u (ix2 i l)) a4 b4) w4 k + partOut (part (fun l => u (ix2 i l)) a5 b5) w5 k + partOut (part (fun l => u (ix2 i l)) a6 b6) w6 k := by
  pointwise [k0_pay22, k0_pay20, k0_pay21, partOut, part, silu]

/-- Parts 7 and 8 added. -/
theorem pay23_apply (u : RowsN) (x : Rows) (a7 b7 : FVec Ideal S1024x256 .bf16) (w7 : FVec Ideal S256x1024 .bf16) (a8 b8 : FVec Ideal S1024x256 .bf16) (w8 : FVec Ideal S256x1024 .bf16)
    (i : Fin 512) (k : Fin 1024) :
    k0_pay23 (F := Ideal) u x a7 b7 w7 a8 b8 w8 (ix2 i k)
      = x (ix2 i k) + partOut (part (fun l => u (ix2 i l)) a7 b7) w7 k + partOut (part (fun l => u (ix2 i l)) a8 b8) w8 k := by
  pointwise [k0_pay23, partOut, part, silu]

/-- Part 9. -/
theorem pay24_apply (u : RowsN) (a b : FVec Ideal S1024x256 .bf16) (i : Fin 512) (j : Fin 256) :
    k0_pay24 (F := Ideal) u a b (ix2 i j) = part (fun l => u (ix2 i l)) a b j := by
  pointwise [k0_pay24, part, silu]

/-- Parts 9 and 10 added, the scaled total added to the scaled row and centred. -/
theorem pay27_apply (r : Rows) (u : RowsN) (x : Rows) (p : FVec Ideal S512x256 .bf16) (w9 : FVec Ideal S256x1024 .bf16) (a b : FVec Ideal S1024x256 .bf16) (w : FVec Ideal S256x1024 .bf16)
    (m : FVec Ideal S1x1x1024 .f32) (i : Fin 512) (k : Fin 1024) :
    k0_pay27 (F := Ideal) r u x p w9 a b w m (ix2 i k)
      = centred (fun k => Ideal.ofBits .f32 0x3FD744FD#32 * r (ix2 i k) + m (ix3 0 0 k)
          * (x (ix2 i k) + partOut (fun j => p (ix2 i j)) w9 k + partOut (part (fun l => u (ix2 i l)) a b) w k)) k := by
  pointwise [k0_pay27, centred, partOut, part, silu]

/-- The squares' sum. -/
theorem pay28_apply (r : Rows) (u : RowsN) (x : Rows) (p : FVec Ideal S512x256 .bf16) (w9 : FVec Ideal S256x1024 .bf16) (a b : FVec Ideal S1024x256 .bf16) (w : FVec Ideal S256x1024 .bf16)
    (m : FVec Ideal S1x1x1024 .f32) (i : Fin 512) (z : Fin 1024 → EReal) (hz : ∀ k, k0_pay27 (F := Ideal) r u x p w9 a b w m (ix2 i k) = z k) :
    k0_pay28 (F := Ideal) r u x p w9 a b w m (ix2 i 0) = ∑ k, z k * z k := by
  pointwise [k0_pay28, hz]

/-- The second normalisation. -/
theorem pay1_apply (g b : FVec Ideal S1x1024 .f32) (x : Rows) (q : FVec Ideal S512x1 .f32) (i : Fin 512) (z : Fin 1024 → EReal) (hz : ∀ k, x (ix2 i k) = z k)
    (hq : q (ix2 i 0) = (∑ k, z k * z k : EReal)) (k : Fin 1024) :
    k0_pay1 (F := Ideal) (k0_pay25 g) (k0_pay26 b) x q (ix2 i k) = scaled z (fun k => g (ix2 0 k)) (fun k => b (ix2 0 k)) k := by
  pointwise [k0_pay1, k0_pay25, k0_pay26, scaled, hz, hq]

end Cert.Kernel2Ideal.Post

end
-- ==== Proof.Post.Value.lean ====
/-
  The output stage's block of results, element by element, from the blocks a grid point holds.
-/
module

public import proofs.«01_k».proof.Proof.Post.Body
public import proofs.«01_k».proof.Proof.Gen.Kernel2Ideal.Frame
public import Idealize.ShloMosaic.Lib.Pipeline.ValueKit

@[expose] public section

set_option maxRecDepth 16384

noncomputable section

namespace Cert.Kernel2Ideal.Post

open Cert.Kernel2Ideal Cert.Kernel2Ideal.Gen Cert.PostRow
open Idealize.ShloMosaic Idealize.ShloMosaic.TcCoe
open Idealize.SL Idealize.SL.Sem

/-- Eleven numbers' sum. -/
theorem sum11 (g : Fin 11 → EReal) : ∑ j, g j = g 0 + g 1 + g 2 + g 3 + g 4 + g 5 + g 6 + g 7 + g 8 + g 9 + g 10 := by
  simp only [Fin.sum_univ_castSucc, Fin.sum_univ_zero, zero_add]
  rfl

/-- The sum over 256 hidden units from `o` on. -/
def tile (f : Fin 2816 → EReal) (o : ℕ) (h : o + 256 ≤ 2816) : EReal := ∑ j : Fin 256, f ⟨o + j.val, by omega⟩

/-- The hidden units' sum, in eleven parts. -/
theorem parts_sum (f : Fin 2816 → EReal) : tile f 0 (by norm_num) + tile f 256 (by norm_num) + tile f 512 (by norm_num) + tile f 768 (by norm_num) + tile f 1024 (by norm_num) + tile f 1280 (by norm_num) + tile f 1536 (by norm_num) + tile f 1792 (by norm_num) + tile f 2048 (by norm_num) + tile f 2304 (by norm_num) + tile f 2560 (by norm_num) = ∑ j, f j := by
  rw [Fin.sum_univ_tiles 11 256 (by norm_num) f, sum11]
  rfl

/-- A part of the hidden layer, as hidden units. -/
theorem part_eq (u : Fin 1024 → EReal) (a b : FVec Ideal S1024x256 .bf16) (w : Fin 1024 → Fin 5632 → EReal) (o : ℕ) (h : o + 256 ≤ 2816)
    (ha : ∀ l (j : Fin 256), a (ix2 l j) = w l ⟨o + j.val, by omega⟩) (hb : ∀ l (j : Fin 256), b (ix2 l j) = w l ⟨2816 + (o + j.val), by omega⟩) (j : Fin 256) :
    part u a b j = hiddenUnit u w ⟨o + j.val, by omega⟩ := by
  unfold part hiddenUnit
  exact congrArg₂ (· * ·) (congrArg silu (Finset.sum_congr rfl fun l _ => congrArg (u l * ·) (ha l j))) (Finset.sum_congr rfl fun l _ => congrArg (u l * ·) (hb l j))

/-- What a part of the hidden layer adds, as a sum over its hidden units. -/
theorem partOut_eq (u : Fin 1024 → EReal) (w : Fin 1024 → Fin 5632 → EReal) (w' : Fin 2816 → Fin 1024 → EReal) (p : Fin 256 → EReal) (d : FVec Ideal S256x1024 .bf16)
    (o : ℕ) (h : o + 256 ≤ 2816) (hp : ∀ j : Fin 256, p j = hiddenUnit u w ⟨o + j.val, by omega⟩) (hd : ∀ (j : Fin 256) k, d (ix2 j k) = w' ⟨o + j.val, by omega⟩ k) (k : Fin 1024) :
    partOut p d k = tile (fun j => hiddenUnit u w j * w' j k) o h := by
  unfold partOut tile
  exact Finset.sum_congr rfl fun j _ => congrArg₂ (· * ·) (hp j) (hd j k)

variable (x0 : FVec Ideal S512x1024 .f32) (x1 : FVec Ideal S1x6x1024 .f32) (x2 x3 x4 : FVec Ideal S512x1024 .bf16) (x5 : FVec Ideal S1x128 .f32)
  (x6 : FVec Ideal S1024x1024 .bf16) (x7 x8 : FVec Ideal S1x1024 .f32) (x9 : FVec Ideal S1024x5632 .bf16) (x10 : FVec Ideal S2816x1024 .bf16) (x11 x12 : FVec Ideal S1x1024 .f32)

/-- A modulation row, loaded. -/
theorem ld_mod (n : Fin 6) (inb : ∀ a, (![0, n.val, 0] : Fin 3 → ℕ) a + S1x1x1024.size a ≤ S1x6x1024.size a) (k : Fin 1024) :
    (View.ld (Val := Elt Ideal) (e' := .f32) x1 (Rect.unit (s := S1x6x1024) ![0, n.val, 0] S1x1x1024.size inb)) (ix3 0 0 k) = x1 (ix3 0 n k) :=
  View.ld_unit_apply_of (Val := Elt Ideal) (e := .f32) x1 _ _ inb (ix3 0 0 k) (ix3 0 n k) fun a => by
    fin_cases a
    · rfl
    · rfl
    · exact (Nat.zero_add k.val).symm

/-- Columns of the hidden layer's weights, loaded. -/
theorem ld_cols (o : ℕ) (h : o + 256 ≤ 5632) (inb : ∀ a, (![0, o] : Fin 2 → ℕ) a + S1024x256.size a ≤ S1024x5632.size a) (l : Fin 1024) (j : Fin 256) :
    (View.ld (Val := Elt Ideal) (e' := .bf16) x9 (Rect.unit (s := S1024x5632) ![0, o] S1024x256.size inb)) (ix2 l j) = x9 (ix2 l ⟨o + j.val, by omega⟩) :=
  View.ld_unit_apply_of (Val := Elt Ideal) (e := .bf16) x9 _ _ inb (ix2 l j) (ix2 l ⟨o + j.val, by omega⟩) fun a => by
    fin_cases a
    · exact (Nat.zero_add l.val).symm
    · rfl

/-- Rows of the weights after the hidden layer, loaded. -/
theorem ld_rows (o : ℕ) (h : o + 256 ≤ 2816) (inb : ∀ a, (![o, 0] : Fin 2 → ℕ) a + S256x1024.size a ≤ S2816x1024.size a) (j : Fin 256) (k : Fin 1024) :
    (View.ld (Val := Elt Ideal) (e' := .bf16) x10 (Rect.unit (s := S2816x1024) ![o, 0] S256x1024.size inb)) (ix2 j k) = x10 (ix2 ⟨o + j.val, by omega⟩ k) :=
  View.ld_unit_apply_of (Val := Elt Ideal) (e := .bf16) x10 _ _ inb (ix2 j k) (ix2 ⟨o + j.val, by omega⟩ k) fun a => by
    fin_cases a
    · rfl
    · exact (Nat.zero_add k.val).symm

/-- A whole block of rows, loaded. -/
theorem ld_whole {e : EltTy} (x : Vec Ideal S512x1024 e) : (View.ld (Val := Elt Ideal) x r0_0 : Vec Ideal S512x1024 e) = x := View.ld_unit_lit _ _ (by decide)

/-- The heads' gain, loaded. -/
theorem ld_gain (x : FVec Ideal S1x128 .f32) : View.ld (Val := Elt Ideal) (e' := .f32) x r0_1 = x := View.ld_unit_lit _ _ (by decide)

/-- The projection, loaded. -/
theorem ld_proj (x : FVec Ideal S1024x1024 .bf16) : View.ld (Val := Elt Ideal) (e' := .bf16) x r0_3 = x := View.ld_unit_lit _ _ (by decide)

/-- A row, loaded. -/
theorem ld_row (x : FVec Ideal S1x1024 .f32) : View.ld (Val := Elt Ideal) (e' := .f32) x r0_4 = x := View.ld_unit_lit _ _ (by decide)

/-- The two scans' sum by heads. -/
abbrev scanHead (i : Fin 512) (h : Fin 8) (e : Fin 128) : EReal := x2 (ix2 i ⟨128 * h.val + e.val, by omega⟩) + x3 (ix2 i ⟨128 * h.val + e.val, by omega⟩)

/-- A row of the block after the first normalisation. -/
def rowMid (i : Fin 512) : Fin 1024 → EReal :=
  layerNorm (added (fun k => x0 (ix2 i k)) (fun k => x1 (ix3 0 2 k))
      (fun k => heads (fun h => headNorm (scanHead x2 x3 i h) fun e => x5 (ix2 0 e)) k * silu (x4 (ix2 i k))) fun j k => x6 (ix2 j k))
    (fun k => x7 (ix2 0 k)) (fun k => x8 (ix2 0 k))

/-- The rows after the first normalisation. -/
theorem mid_at (i : Fin 512) (k : Fin 1024) : k0_pay30 (F := Ideal) x0 x1 x2 x3 x4 x5 x6 x7 x8 x9 x10 x11 x12 (ix2 i k) = rowMid x0 x1 x2 x3 x4 x5 x6 x7 x8 i k := by
  unfold k0_pay30 k0_pay29
  rw [ld_whole (e := .f32) x0, ld_whole (e := .bf16) x2, ld_whole (e := .bf16) x3, ld_whole (e := .bf16) x4, ld_gain, ld_proj, ld_row x7, ld_row x8]
  refine (pay14_apply _ _ _ _ _ _ _ i k).trans ?_
  unfold rowMid
  have hm : ∀ k : Fin 1024, (View.ld (Val := Elt Ideal) (e' := .f32) x1 r0_2) (ix3 0 0 k) = x1 (ix3 0 2 k) := fun k => ld_mod x1 2 _ k
  have hh : ∀ k : Fin 1024, k0_pay13 (F := Ideal) (k0_pay3 x2 x3) (k0_pay4 x2 x3 x5) (k0_pay5 x2 x3 x5) (k0_pay8 (k0_pay6 x2 x3) (k0_pay7 x2 x3) x5)
      (k0_pay9 (k0_pay3 x2 x3) x5) (k0_pay10 (k0_pay3 x2 x3) x5) (k0_pay11 (k0_pay3 x2 x3)) (k0_pay12 (k0_pay3 x2 x3)) x5 x5 x5 (ix2 i k)
      = heads (fun h => headNorm (scanHead x2 x3 i h) fun e => x5 (ix2 0 e)) k := fun k => by
    have hs : ∀ i (k : Fin 1024), k0_pay3 (F := Ideal) x2 x3 (ix2 i k) = (x2 (ix2 i k) + x3 (ix2 i k) : EReal) := pay3_apply x2 x3
    refine pay13_apply _ _ _ _ _ _ _ (scanHead x2 x3) ?_ ?_ ?_ ?_ ?_ ?_ ?_ ?_ i k
    · intro i e
      refine (pay4_apply x2 x3 x5 i e).trans (congrArg (fun f => headNorm f _ e) (funext fun e => (hs _ _).trans ?_))
      exact congrArg (fun k => (x2 (ix2 i k) + x3 (ix2 i k) : EReal)) (Fin.ext (show e.val = 128 * 0 + e.val by omega))
    · exact fun i e => (pay5_apply x2 x3 x5 i e).trans (congrArg (fun f => headNorm f _ e) (funext fun e => hs _ _))
    · exact fun i e => (pay8_apply x2 x3 x5 i e).trans (congrArg (fun f => headNorm f _ e) (funext fun e => hs _ _))
    · exact fun i e => (pay9_apply _ x5 i e).trans (congrArg (fun f => headNorm f _ e) (funext fun e => hs _ _))
    · exact fun i e => (pay10_apply _ x5 i e).trans (congrArg (fun f => headNorm f _ e) (funext fun e => hs _ _))
    · exact fun i e => hs _ _
    · exact fun i e => hs _ _
    · exact fun i e => hs _ _
  have hx : ∀ k : Fin 1024, k0_pay2 (F := Ideal) x0 (ix2 i k) = x0 (ix2 i k) := pay2_apply x0 i
  simp only [hx, hh, hm]

/-- The hidden layer's input. -/
theorem in_at (i : Fin 512) (k : Fin 1024) : k0_pay15 (F := Ideal) (k0_pay30 x0 x1 x2 x3 x4 x5 x6 x7 x8 x9 x10 x11 x12) (View.ld (Val := Elt Ideal) (e' := .f32) x1 r0_5) (View.ld (Val := Elt Ideal) (e' := .f32) x1 r0_6) (ix2 i k)
    = modulated (rowMid x0 x1 x2 x3 x4 x5 x6 x7 x8 i) (fun k => x1 (ix3 0 3 k)) (fun k => x1 (ix3 0 4 k)) k := by
  refine (pay15_apply _ _ _ i k).trans ?_
  have h4 : ∀ k : Fin 1024, (View.ld (Val := Elt Ideal) (e' := .f32) x1 r0_5) (ix3 0 0 k) = x1 (ix3 0 4 k) := fun k => ld_mod x1 4 _ k
  have h3 : ∀ k : Fin 1024, (View.ld (Val := Elt Ideal) (e' := .f32) x1 r0_6) (ix3 0 0 k) = x1 (ix3 0 3 k) := fun k => ld_mod x1 3 _ k
  simp only [h3, h4, mid_at]

/-- The hidden layer's input row. -/
abbrev rowIn (i : Fin 512) : Fin 1024 → EReal :=
  modulated (rowMid x0 x1 x2 x3 x4 x5 x6 x7 x8 i) (fun k => x1 (ix3 0 3 k)) (fun k => x1 (ix3 0 4 k))

/-- What part 0 adds. -/
theorem chunk0 (u : Fin 1024 → EReal) (k : Fin 1024) : partOut (part u (View.ld (Val := Elt Ideal) (e' := .bf16) x9 r0_7) (View.ld (Val := Elt Ideal) (e' := .bf16) x9 r0_8)) (View.ld (Val := Elt Ideal) (e' := .bf16) x10 r0_9) k
    = tile (fun j => hiddenUnit u (fun l j => x9 (ix2 l j)) j * x10 (ix2 j k)) 0 (by norm_num) :=
  partOut_eq u (fun l j => x9 (ix2 l j)) (fun j k => x10 (ix2 j k)) _ _ 0 (by norm_num)
    (part_eq u _ _ _ 0 (by norm_num) (fun l j => ld_cols x9 0 (by norm_num) _ l j)
      fun l j => (ld_cols x9 2816 (by norm_num) _ l j).trans (congrArg (fun j => x9 (ix2 l j)) (Fin.ext (Nat.add_assoc 2816 0 j.val))))
    (fun j k => ld_rows x10 0 (by norm_num) _ j k) k

/-- What part 1 adds. -/
theorem chunk1 (u : Fin 1024 → EReal) (k : Fin 1024) : partOut (part u (View.ld (Val := Elt Ideal) (e' := .bf16) x9 r0_10) (View.ld (Val := Elt Ideal) (e' := .bf16) x9 r0_11)) (View.ld (Val := Elt Ideal) (e' := .bf16) x10 r0_12) k
    = tile (fun j => hiddenUnit u (fun l j => x9 (ix2 l j)) j * x10 (ix2 j k)) 256 (by norm_num) :=
  partOut_eq u (fun l j => x9 (ix2 l j)) (fun j k => x10 (ix2 j k)) _ _ 256 (by norm_num)
    (part_eq u _ _ _ 256 (by norm_num) (fun l j => ld_cols x9 256 (by norm_num) _ l j)
      fun l j => (ld_cols x9 3072 (by norm_num) _ l j).trans (congrArg (fun j => x9 (ix2 l j)) (Fin.ext (Nat.add_assoc 2816 256 j.val))))
    (fun j k => ld_rows x10 256 (by norm_num) _ j k) k

/-- What part 2 adds. -/
theorem chunk2 (u : Fin 1024 → EReal) (k : Fin 1024) : partOut (part u (View.ld (Val := Elt Ideal) (e' := .bf16) x9 r0_13) (View.ld (Val := Elt Ideal) (e' := .bf16) x9 r0_14)) (View.ld (Val := Elt Ideal) (e' := .bf16) x10 r0_15) k
    = tile (fun j => hiddenUnit u (fun l j => x9 (ix2 l j)) j * x10 (ix2 j k)) 512 (by norm_num) :=
  partOut_eq u (fun l j => x9 (ix2 l j)) (fun j k => x10 (ix2 j k)) _ _ 512 (by norm_num)
    (part_eq u _ _ _ 512 (by norm_num) (fun l j => ld_cols x9 512 (by norm_num) _ l j)
      fun l j => (ld_cols x9 3328 (by norm_num) _ l j).trans (congrArg (fun j => x9 (ix2 l j)) (Fin.ext (Nat.add_assoc 2816 512 j.val))))
    (fun j k => ld_rows x10 512 (by norm_num) _ j k) k

/-- What part 3 adds. -/
theorem chunk3 (u : Fin 1024 → EReal) (k : Fin 1024) : partOut (part u (View.ld (Val := Elt Ideal) (e' := .bf16) x9 r0_16) (View.ld (Val := Elt Ideal) (e' := .bf16) x9 r0_17)) (View.ld (Val := Elt Ideal) (e' := .bf16) x10 r0_18) k
    = tile (fun j => hiddenUnit u (fun l j => x9 (ix2 l j)) j * x10 (ix2 j k)) 768 (by norm_num) :=
  partOut_eq u (fun l j => x9 (ix2 l j)) (fun j k => x10 (ix2 j k)) _ _ 768 (by norm_num)
    (part_eq u _ _ _ 768 (by norm_num) (fun l j => ld_cols x9 768 (by norm_num) _ l j)
      fun l j => (ld_cols x9 3584 (by norm_num) _ l j).trans (congrArg (fun j => x9 (ix2 l j)) (Fin.ext (Nat.add_assoc 2816 768 j.val))))
    (fun j k => ld_rows x10 768 (by norm_num) _ j k) k

/-- What part 4 adds. -/
theorem chunk4 (u : Fin 1024 → EReal) (k : Fin 1024) : partOut (part u (View.ld (Val := Elt Ideal) (e' := .bf16) x9 r0_19) (View.ld (Val := Elt Ideal) (e' := .bf16) x9 r0_20)) (View.ld (Val := Elt Ideal) (e' := .bf16) x10 r0_21) k
    = tile (fun j => hiddenUnit u (fun l j => x9 (ix2 l j)) j * x10 (ix2 j k)) 1024 (by norm_num) :=
  partOut_eq u (fun l j => x9 (ix2 l j)) (fun j k => x10 (ix2 j k)) _ _ 1024 (by norm_num)
    (part_eq u _ _ _ 1024 (by norm_num) (fun l j => ld_cols x9 1024 (by norm_num) _ l j)
      fun l j => (ld_cols x9 3840 (by norm_num) _ l j).trans (congrArg (fun j => x9 (ix2 l j)) (Fin.ext (Nat.add_assoc 2816 1024 j.val))))
    (fun j k => ld_rows x10 1024 (by norm_num) _ j k) k

/-- What part 5 adds. -/
theorem chunk5 (u : Fin 1024 → EReal) (k : Fin 1024) : partOut (part u (View.ld (Val := Elt Ideal) (e' := .bf16) x9 r0_22) (View.ld (Val := Elt Ideal) (e' := .bf16) x9 r0_23)) (View.ld (Val := Elt Ideal) (e' := .bf16) x10 r0_24) k
    = tile (fun j => hiddenUnit u (fun l j => x9 (ix2 l j)) j * x10 (ix2 j k)) 1280 (by norm_num) :=
  partOut_eq u (fun l j => x9 (ix2 l j)) (fun j k => x10 (ix2 j k)) _ _ 1280 (by norm_num)
    (part_eq u _ _ _ 1280 (by norm_num) (fun l j => ld_cols x9 1280 (by norm_num) _ l j)
      fun l j => (ld_cols x9 4096 (by norm_num) _ l j).trans (congrArg (fun j => x9 (ix2 l j)) (Fin.ext (Nat.add_assoc 2816 1280 j.val))))
    (fun j k => ld_rows x10 1280 (by norm_num) _ j k) k

/-- What part 6 adds. -/
theorem chunk6 (u : Fin 1024 → EReal) (k : Fin 1024) : partOut (part u (View.ld (Val := Elt Ideal) (e' := .bf16) x9 r0_25) (View.ld (Val := Elt Ideal) (e' := .bf16) x9 r0_26)) (View.ld (Val := Elt Ideal) (e' := .bf16) x10 r0_27) k
    = tile (fun j => hiddenUnit u (fun l j => x9 (ix2 l j)) j * x10 (ix2 j k)) 1536 (by norm_num) :=
  partOut_eq u (fun l j => x9 (ix2 l j)) (fun j k => x10 (ix2 j k)) _ _ 1536 (by norm_num)
    (part_eq u _ _ _ 1536 (by norm_num) (fun l j => ld_cols x9 1536 (by norm_num) _ l j)
      fun l j => (ld_cols x9 4352 (by norm_num) _ l j).trans (congrArg (fun j => x9 (ix2 l j)) (Fin.ext (Nat.add_assoc 2816 1536 j.val))))
    (fun j k => ld_rows x10 1536 (by norm_num) _ j k) k

/-- What part 7 adds. -/
theorem chunk7 (u : Fin 1024 → EReal) (k : Fin 1024) : partOut (part u (View.ld (Val := Elt Ideal) (e' := .bf16) x9 r0_28) (View.ld (Val := Elt Ideal) (e' := .bf16) x9 r0_29)) (View.ld (Val := Elt Ideal) (e' := .bf16) x10 r0_30) k
    = tile (fun j => hiddenUnit u (fun l j => x9 (ix2 l j)) j * x10 (ix2 j k)) 1792 (by norm_num) :=
  partOut_eq u (fun l j => x9 (ix2 l j)) (fun j k => x10 (ix2 j k)) _ _ 1792 (by norm_num)
    (part_eq u _ _ _ 1792 (by norm_num) (fun l j => ld_cols x9 1792 (by norm_num) _ l j)
      fun l j => (ld_cols x9 4608 (by norm_num) _ l j).trans (congrArg (fun j => x9 (ix2 l j)) (Fin.ext (Nat.add_assoc 2816 1792 j.val))))
    (fun j k => ld_rows x10 1792 (by norm_num) _ j k) k

/-- What part 8 adds. -/
theorem chunk8 (u : Fin 1024 → EReal) (k : Fin 1024) : partOut (part u (View.ld (Val := Elt Ideal) (e' := .bf16) x9 r0_31) (View.ld (Val := Elt Ideal) (e' := .bf16) x9 r0_32)) (View.ld (Val := Elt Ideal) (e' := .bf16) x10 r0_33) k
    = tile (fun j => hiddenUnit u (fun l j => x9 (ix2 l j)) j * x10 (ix2 j k)) 2048 (by norm_num) :=
  partOut_eq u (fun l j => x9 (ix2 l j)) (fun j k => x10 (ix2 j k)) _ _ 2048 (by norm_num)
    (part_eq u _ _ _ 2048 (by norm_num) (fun l j => ld_cols x9 2048 (by norm_num) _ l j)
      fun l j => (ld_cols x9 4864 (by norm_num) _ l j).trans (congrArg (fun j => x9 (ix2 l j)) (Fin.ext (Nat.add_assoc 2816 2048 j.val))))
    (fun j k => ld_rows x10 2048 (by norm_num) _ j k) k

/-- What part 9 adds. -/
theorem chunk9 (u : Fin 1024 → EReal) (k : Fin 1024) : partOut (part u (View.ld (Val := Elt Ideal) (e' := .bf16) x9 r0_34) (View.ld (Val := Elt Ideal) (e' := .bf16) x9 r0_35)) (View.ld (Val := Elt Ideal) (e' := .bf16) x10 r0_36) k
    = tile (fun j => hiddenUnit u (fun l j => x9 (ix2 l j)) j * x10 (ix2 j k)) 2304 (by norm_num) :=
  partOut_eq u (fun l j => x9 (ix2 l j)) (fun j k => x10 (ix2 j k)) _ _ 2304 (by norm_num)
    (part_eq u _ _ _ 2304 (by norm_num) (fun l j => ld_cols x9 2304 (by norm_num) _ l j)
      fun l j => (ld_cols x9 5120 (by norm_num) _ l j).trans (congrArg (fun j => x9 (ix2 l j)) (Fin.ext (Nat.add_assoc 2816 2304 j.val))))
    (fun j k => ld_rows x10 2304 (by norm_num) _ j k) k

/-- What part 10 adds. -/
theorem chunk10 (u : Fin 1024 → EReal) (k : Fin 1024) : partOut (part u (View.ld (Val := Elt Ideal) (e' := .bf16) x9 r0_37) (View.ld (Val := Elt Ideal) (e' := .bf16) x9 r0_38)) (View.ld (Val := Elt Ideal) (e' := .bf16) x10 r0_39) k
    = tile (fun j => hiddenUnit u (fun l j => x9 (ix2 l j)) j * x10 (ix2 j k)) 2560 (by norm_num) :=
  partOut_eq u (fun l j => x9 (ix2 l j)) (fun j k => x10 (ix2 j k)) _ _ 2560 (by norm_num)
    (part_eq u _ _ _ 2560 (by norm_num) (fun l j => ld_cols x9 2560 (by norm_num) _ l j)
      fun l j => (ld_cols x9 5376 (by norm_num) _ l j).trans (congrArg (fun j => x9 (ix2 l j)) (Fin.ext (Nat.add_assoc 2816 2560 j.val))))
    (fun j k => ld_rows x10 2560 (by norm_num) _ j k) k

/-- The feed-forward part's first nine parts added. -/
theorem ffn_at (i : Fin 512) (k : Fin 1024) : k0_pay32 (F := Ideal) x0 x1 x2 x3 x4 x5 x6 x7 x8 x9 x10 x11 x12 (ix2 i k) = tile (fun j => hiddenUnit (rowIn x0 x1 x2 x3 x4 x5 x6 x7 x8 i) (fun l j => x9 (ix2 l j)) j * x10 (ix2 j k)) 0 (by norm_num) + tile (fun j => hiddenUnit (rowIn x0 x1 x2 x3 x4 x5 x6 x7 x8 i) (fun l j => x9 (ix2 l j)) j * x10 (ix2 j k)) 256 (by norm_num) + tile (fun j => hiddenUnit (rowIn x0 x1 x2 x3 x4 x5 x6 x7 x8 i) (fun l j => x9 (ix2 l j)) j * x10 (ix2 j k)) 512 (by norm_num) + tile (fun j => hiddenUnit (rowIn x0 x1 x2 x3 x4 x5 x6 x7 x8 i) (fun l j => x9 (ix2 l j)) j * x10 (ix2 j k)) 768 (by norm_num) + tile (fun j => hiddenUnit (rowIn x0 x1 x2 x3 x4 x5 x6 x7 x8 i) (fun l j => x9 (ix2 l j)) j * x10 (ix2 j k)) 1024 (by norm_num) + tile (fun j => hiddenUnit (rowIn x0 x1 x2 x3 x4 x5 x6 x7 x8 i) (fun l j => x9 (ix2 l j)) j * x10 (ix2 j k)) 1280 (by norm_num) + tile (fun j => hiddenUnit (rowIn x0 x1 x2 x3 x4 x5 x6 x7 x8 i) (fun l j => x9 (ix2 l j)) j * x10 (ix2 j k)) 1536 (by norm_num) + tile (fun j => hiddenUnit (rowIn x0 x1 x2 x3 x4 x5 x6 x7 x8 i) (fun l j => x9 (ix2 l j)) j * x10 (ix2 j k)) 1792 (by norm_num) + tile (fun j => hiddenUnit (rowIn x0 x1 x2 x3 x4 x5 x6 x7 x8 i) (fun l j => x9 (ix2 l j)) j * x10 (ix2 j k)) 2048 (by norm_num) := by
  have hu : (fun l => k0_pay31 (F := Ideal) x0 x1 x2 x3 x4 x5 x6 x7 x8 x9 x10 x11 x12 (ix2 i l)) = rowIn x0 x1 x2 x3 x4 x5 x6 x7 x8 i := funext (in_at x0 x1 x2 x3 x4 x5 x6 x7 x8 x9 x10 x11 x12 i)
  have hu' : (fun l => k0_pay15 (F := Ideal) (k0_pay30 x0 x1 x2 x3 x4 x5 x6 x7 x8 x9 x10 x11 x12) (View.ld (Val := Elt Ideal) (e' := .f32) x1 r0_5) (View.ld (Val := Elt Ideal) (e' := .f32) x1 r0_6) (ix2 i l)) = rowIn x0 x1 x2 x3 x4 x5 x6 x7 x8 i := funext (in_at x0 x1 x2 x3 x4 x5 x6 x7 x8 x9 x10 x11 x12 i)
  unfold k0_pay32
  refine (pay23_apply _ _ _ _ _ _ _ _ i k).trans ?_
  rw [pay22_apply, pay19_apply, pay16_apply]
  simp only [pay17_apply]
  rw [hu, hu']
  rw [chunk0, chunk1, chunk2, chunk3, chunk4, chunk5, chunk6, chunk7, chunk8]

/-- A block of results at an index. -/
theorem out_at (i : Fin 512) (k : Fin 1024) : out0_13 (F := Ideal) x0 x1 x2 x3 x4 x5 x6 x7 x8 x9 x10 x11 x12 (ix2 i k)
    = second (rowMid x0 x1 x2 x3 x4 x5 x6 x7 x8 i) (fun k => x1 (ix3 0 3 k)) (fun k => x1 (ix3 0 4 k)) (fun k => x1 (ix3 0 5 k))
        (fun k => x11 (ix2 0 k)) (fun k => x12 (ix2 0 k)) (fun l j => x9 (ix2 l j)) (fun j k => x10 (ix2 j k)) k := by
  unfold out0_13
  refine (congrFun (View.canon_cons_unit_lit _ _ [] (by decide)) (ix2 i k)).trans ?_
  rw [ld_row x11, ld_row x12]
  have hz : ∀ k, k0_pay27 (F := Ideal) (k0_pay30 x0 x1 x2 x3 x4 x5 x6 x7 x8 x9 x10 x11 x12) (k0_pay31 x0 x1 x2 x3 x4 x5 x6 x7 x8 x9 x10 x11 x12) (k0_pay32 x0 x1 x2 x3 x4 x5 x6 x7 x8 x9 x10 x11 x12) (k0_pay33 x0 x1 x2 x3 x4 x5 x6 x7 x8 x9 x10 x11 x12) (View.ld (Val := Elt Ideal) (e' := .bf16) x10 r0_36) (View.ld (Val := Elt Ideal) (e' := .bf16) x9 r0_37) (View.ld (Val := Elt Ideal) (e' := .bf16) x9 r0_38) (View.ld (Val := Elt Ideal) (e' := .bf16) x10 r0_39)
      (View.ld (Val := Elt Ideal) (e' := .f32) x1 r0_40) (ix2 i k) = centred (fed (rowMid x0 x1 x2 x3 x4 x5 x6 x7 x8 i) (fun k => x1 (ix3 0 5 k)) (rowIn x0 x1 x2 x3 x4 x5 x6 x7 x8 i) (fun l j => x9 (ix2 l j)) fun j k => x10 (ix2 j k)) k := fun k => by
    refine (pay27_apply _ _ _ _ _ _ _ _ _ i k).trans (congrArg (fun f => centred f k) (funext fun k => ?_))
    have h5 : (View.ld (Val := Elt Ideal) (e' := .f32) x1 r0_40) (ix3 0 0 k) = x1 (ix3 0 5 k) := ld_mod x1 5 _ k
    have hu : (fun l => k0_pay31 (F := Ideal) x0 x1 x2 x3 x4 x5 x6 x7 x8 x9 x10 x11 x12 (ix2 i l)) = rowIn x0 x1 x2 x3 x4 x5 x6 x7 x8 i := funext (in_at x0 x1 x2 x3 x4 x5 x6 x7 x8 x9 x10 x11 x12 i)
    have hp : (fun j => k0_pay33 (F := Ideal) x0 x1 x2 x3 x4 x5 x6 x7 x8 x9 x10 x11 x12 (ix2 i j)) = part (rowIn x0 x1 x2 x3 x4 x5 x6 x7 x8 i) (View.ld (Val := Elt Ideal) (e' := .bf16) x9 r0_34) (View.ld (Val := Elt Ideal) (e' := .bf16) x9 r0_35) :=
      funext fun j => (pay24_apply _ _ _ i j).trans (congrArg (fun u => part u _ _ j) hu)
    unfold fed
    rw [h5, mid_at, ffn_at, hu, hp, chunk9, chunk10, ← parts_sum]
  exact pay1_apply x11 x12 _ _ i _ hz (pay28_apply _ _ _ _ _ _ _ _ _ i _ hz) k

end Cert.Kernel2Ideal.Post

end
-- ==== Proof.Post.Arrays.lean ====
/-
  The arrays the output stage's kernel is launched on, read at an element: latent rows before rows of zeros, the gate in
  the last of three column blocks, the modulation one group down.
-/
module

public import proofs.«01_k».proof.Proof.Gen.Kernel2Ideal.Frame
public import Idealize.ShloMosaic.Lib.StableHlo.Run
public import Idealize.ShloMosaic.Lib.Claim
public import Idealize.ShloMosaic.Lib.Pointwise

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

section Arrays

variable {F : FTy → Type} [FloatOps F]

/-- The rows of one direction's scan: head after head along a row, latent rows first. -/
def scanArr (x : FVec F S4x8x8192x128 .f32) : FVec F S33792x1024 .bf16 :=
  pad S33792x1024 ![0, 0] ![1024, 0] ![0, 0]
    (truncf .bf16 (shapeCast S32768x1024 (transpose S4x8192x8x128 [0, 2, 1, 3] x transposes_S4x8x8192x128_S4x8192x8x128_0_2_1_3) shapeCasts_S4x8192x8x128_S32768x1024) bitsLt_bf16_f32 : FVec F S32768x1024 .bf16)
    (sitofp .bf16 (constantI S_ 32 0#32) : FVec F S_ .bf16) pads_S32768x1024_S33792x1024_010240_000 h_S_

/-- The gate's rows, in the last of three column blocks. -/
def gateArr (x : FVec F S4x8192x1024 .f32) : FVec F S33792x3072 .bf16 :=
  pad S33792x3072 ![0, 2048] ![1024, 0] ![0, 0]
    (truncf .bf16 (shapeCast S32768x1024 x shapeCasts_S4x8192x1024_S32768x1024) bitsLt_bf16_f32 : FVec F S32768x1024 .bf16)
    (sitofp .bf16 (constantI S_ 32 0#32) : FVec F S_ .bf16) pads_S32768x1024_S33792x3072_010240_204800 h_S_

/-- The layer's input rows. -/
def rowArr (x : FVec F S4x8192x1024 .f32) : FVec F S33792x1024 .f32 :=
  pad S33792x1024 ![0, 0] ![1024, 0] ![0, 0] (shapeCast S32768x1024 x shapeCasts_S4x8192x1024_S32768x1024)
    (sitofp .f32 (constantI S_ 32 0#32) : FVec F S_ .f32) pads_S32768x1024_S33792x1024_010240_000 h_S_

/-- The modulation, batch `b` in group `1 + b`. -/
def modArr (x : FVec F S4x6x1024 .f32) : FVec F S8x6x1024 .f32 :=
  pad S8x6x1024 ![1, 0, 0] ![3, 0, 0] ![0, 0, 0] x (sitofp .f32 (constantI S_ 32 0#32) : FVec F S_ .f32) pads_S4x6x1024_S8x6x1024_130_000_000 h_S_

/-- The first row of a pair. -/
def row0 (x : FVec F S2x1024 .f32) : FVec F S1x1024 .f32 :=
  shapeCast S1x1024 (shapeCast S1024 (extractStridedSlice S1x1024 ![0, 0] x slices_S2x1024_S1x1024_0_0) shapeCasts_S1x1024_S1024) shapeCasts_S1024_S1x1024

/-- The second row of a pair. -/
def row1 (x : FVec F S2x1024 .f32) : FVec F S1x1024 .f32 :=
  shapeCast S1x1024 (shapeCast S1024 (extractStridedSlice S1x1024 ![1, 0] x slices_S2x1024_S1x1024_1_0) shapeCasts_S1x1024_S1024) shapeCasts_S1024_S1x1024

variable (m : (ℓ : Loc nD τ sig) → Buf (Elt F) ℓ) (c : Dev nD)

/-- The launch finds the forward scan's array so. -/
theorem V_of : V m c main_v3 = scanArr (m ((c : Thread nD τ).loc main_arg1)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the backward scan's array so. -/
theorem V_ob : V m c main_v7 = scanArr (m ((c : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the gate's array so. -/
theorem V_g : V m c main_v10 = gateArr (m ((c : Thread nD τ).loc main_arg3)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the rows' array so. -/
theorem V_x : V m c main_v12 = rowArr (m ((c : Thread nD τ).loc main_arg0)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the modulation's array so. -/
theorem V_mod : V m c main_v13 = modArr (m ((c : Thread nD τ).loc main_arg4)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the output projection's array so. -/
theorem V_wo : V m c main_v14 = truncf .bf16 (m ((c : Thread nD τ).loc main_arg6) : FVec F S1024x1024 .f32) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results

/-- The launch finds the hidden layer's array so. -/
theorem V_w13 : V m c main_v15 = truncf .bf16 (m ((c : Thread nD τ).loc main_arg9) : FVec F S1024x5632 .f32) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results

/-- The launch finds the array after the hidden layer so. -/
theorem V_w2 : V m c main_v16 = truncf .bf16 (m ((c : Thread nD τ).loc main_arg10) : FVec F S2816x1024 .f32) bitsLt_bf16_f32 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results

/-- The launch finds the heads' gain so. -/
theorem V_ng : V m c main_v17 = shapeCast S1x128 (m ((c : Thread nD τ).loc main_arg5) : FVec F S128 .f32) shapeCasts_S128_S1x128 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the first normalisation's gain so. -/
theorem V_g1 : V m c main_v20 = row0 (m ((c : Thread nD τ).loc main_arg7)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the first normalisation's offset so. -/
theorem V_b1 : V m c main_v23 = row0 (m ((c : Thread nD τ).loc main_arg8)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the second normalisation's gain so. -/
theorem V_g2 : V m c main_v26 = row1 (m ((c : Thread nD τ).loc main_arg7)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

/-- The launch finds the second normalisation's offset so. -/
theorem V_b2 : V m c main_v29 = row1 (m ((c : Thread nD τ).loc main_arg8)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  rfl

end Arrays

/-- A reshape of batches of rows to rows. -/
theorem cast_rows {α : Type} (z : S4x8192x1024.Idx → α) (hc : S4x8192x1024.ShapeCasts S32768x1024) (b : Fin 4) (p : Fin 8192) (k : Fin 1024) :
    shapeCast S32768x1024 z hc (ix2 ⟨8192 * b.val + p.val, by omega⟩ k) = z (ix3 b p k) :=
  shapeCast_apply _ _ _ _ (by
    refine (rowMajor_val3 (d := ![4, 8192, 1024]) (ix3 b p k) 8388608 1024 rfl rfl).trans
      (.trans ?_ (rowMajor_val2 (d := ![32768, 1024]) (ix2 ⟨8192 * b.val + p.val, by omega⟩ k) 1024 rfl).symm)
    show b.val * 8388608 + p.val * 1024 + k.val = (8192 * b.val + p.val) * 1024 + k.val
    omega)

/-- A reshape of batches of rows of heads to rows. -/
theorem cast_heads {α : Type} (z : S4x8192x8x128.Idx → α) (hc : S4x8192x8x128.ShapeCasts S32768x1024) (b : Fin 4) (p : Fin 8192) (h : Fin 8) (e : Fin 128) :
    shapeCast S32768x1024 z hc (ix2 ⟨8192 * b.val + p.val, by omega⟩ ⟨128 * h.val + e.val, by omega⟩) = z (ix4 b p h e) :=
  shapeCast_apply _ _ _ _ (by
    refine (rowMajor_val4 (d := ![4, 8192, 8, 128]) (ix4 b p h e) 8388608 1024 128 rfl rfl rfl).trans
      (.trans ?_ (rowMajor_val2 (d := ![32768, 1024]) (ix2 ⟨8192 * b.val + p.val, by omega⟩ ⟨128 * h.val + e.val, by omega⟩) 1024 rfl).symm)
    show b.val * 8388608 + p.val * 1024 + h.val * 128 + e.val = (8192 * b.val + p.val) * 1024 + (128 * h.val + e.val)
    omega)

/-- A latent row of the padded rows. -/
theorem pad_rows {α : Type} (z : S32768x1024.Idx → α) (v : S_.Idx → α) (r : Fin 32768) (k : Fin 1024) :
    pad S33792x1024 ![0, 0] ![1024, 0] ![0, 0] z v pads_S32768x1024_S33792x1024_010240_000 h_S_ (ix2 ⟨r.val, by omega⟩ k) = z (ix2 r k) := by
  pointwise

/-- A latent row of the padded rows, in the last of three column blocks. -/
theorem pad_gate {α : Type} (z : S32768x1024.Idx → α) (v : S_.Idx → α) (r : Fin 32768) (k : Fin 1024) :
    pad S33792x3072 ![0, 2048] ![1024, 0] ![0, 0] z v pads_S32768x1024_S33792x3072_010240_204800 h_S_ (ix2 ⟨r.val, by omega⟩ ⟨2048 + k.val, by omega⟩) = z (ix2 r k) := by
  pointwise

/-- A batch's modulation. -/
theorem modArr_apply (x : FVec Ideal S4x6x1024 .f32) (b : Fin 4) (j : Fin 6) (k : Fin 1024) : modArr x (ix3 ⟨1 + b.val, by omega⟩ j k) = x (ix3 b j k) := by
  pointwise [modArr]

/-- A row's element. -/
theorem rowArr_apply (x : FVec Ideal S4x8192x1024 .f32) (b : Fin 4) (p : Fin 8192) (k : Fin 1024) :
    rowArr x (ix2 ⟨8192 * b.val + p.val, by omega⟩ k) = x (ix3 b p k) :=
  (pad_rows _ _ ⟨8192 * b.val + p.val, by omega⟩ k).trans (cast_rows _ _ b p k)

/-- A gate's element. -/
theorem gateArr_apply (x : FVec Ideal S4x8192x1024 .f32) (b : Fin 4) (p : Fin 8192) (k : Fin 1024) :
    gateArr x (ix2 ⟨8192 * b.val + p.val, by omega⟩ ⟨2048 + k.val, by omega⟩) = x (ix3 b p k) :=
  (pad_gate _ _ ⟨8192 * b.val + p.val, by omega⟩ k).trans (cast_rows _ _ b p k)

/-- A scan's element. -/
theorem scanArr_apply (x : FVec Ideal S4x8x8192x128 .f32) (b : Fin 4) (p : Fin 8192) (h : Fin 8) (e : Fin 128) :
    scanArr x (ix2 ⟨8192 * b.val + p.val, by omega⟩ ⟨128 * h.val + e.val, by omega⟩) = x (ix4 b h p e) := by
  have e1 := cast_heads (transpose S4x8192x8x128 [0, 2, 1, 3] x transposes_S4x8x8192x128_S4x8192x8x128_0_2_1_3) shapeCasts_S4x8192x8x128_S32768x1024 b p h e
  have e2 : transpose S4x8192x8x128 [0, 2, 1, 3] x transposes_S4x8x8192x128_S4x8192x8x128_0_2_1_3 (ix4 b p h e) = x (ix4 b h p e) := by pointwise
  exact (pad_rows _ _ ⟨8192 * b.val + p.val, by omega⟩ _).trans (e1.trans e2)

/-- The first row's element. -/
theorem row0_apply (x : FVec Ideal S2x1024 .f32) (k : Fin 1024) : row0 x (ix2 0 k) = x (ix2 0 k) := by
  pointwise [row0]

/-- The second row's element. -/
theorem row1_apply (x : FVec Ideal S2x1024 .f32) (k : Fin 1024) : row1 x (ix2 0 k) = x (ix2 1 k) := by
  pointwise [row1]

end Cert.Kernel2Ideal.Post

end
-- ==== Proof.Post.Ref.lean ====
/-
  The output stage's reference, read at an element, over extended reals.
-/
module

public import proofs.«01_k».proof.Proof.Gen.Reference2Ideal.Run
public import proofs.«01_k».proof.Proof.Post.Row

@[expose] public section

set_option maxRecDepth 16384

noncomputable section

namespace Cert.Reference2Ideal.Post

open Cert.Reference2Ideal Cert.Reference2Ideal.Gen Cert.Reference2Ideal.Value Cert.PostRow
open Idealize.ShloMosaic Idealize.ShloMosaic.TcCoe Idealize.SL.Sem Idealize.ShloMosaic.StableHlo

section Stages

variable {F : FTy → Type} [FloatOps F]

/-- One number per row, spread along it. -/
def overRow (x : FVec F S4x8192x1 .f32) : FVec F S4x8192x1024 .f32 := broadcastInDim S4x8192x1024 ![0, 1, 2] bcast_S4x8192x1_S4x8192x1024_0_1_2 x

/-- A row's sum over its width. -/
def meanRow (x : FVec F S4x8192x1024 .f32) : FVec F S4x8192x1 .f32 :=
  Host.divf (broadcastInDim S4x8192x1 ![0, 1] bcast_S4x8192_S4x8192x1_0_1 (Host.reduceAdd x (constant S_ .f32 0x00000000#32) reducesTo_S4x8192x1024_S4x8192_d2 h_S_)) (broadcastInDim S4x8192x1 ![] bcast_S_S4x8192x1 (constant S_ .f32 0x44800000#32))

/-- A row less its mean. -/
def centre (x : FVec F S4x8192x1024 .f32) : FVec F S4x8192x1024 .f32 := subf x (overRow (meanRow x))

/-- One row of a pair along every row. -/
def along (x : FVec F S1024 .f32) : FVec F S4x8192x1024 .f32 :=
  broadcastInDim S4x8192x1024 ![0, 1, 2] bcast_S1x1x1024_S4x8192x1024_0_1_2 (broadcastInDim S1x1x1024 ![2] bcast_S1024_S1x1x1024_2 x)

/-- The first row of a pair. -/
def fst (x : FVec F S2x1024 .f32) : FVec F S1024 .f32 := shapeCast _ (extractStridedSlice S1x1024 ![0, 0] x slices_S2x1024_S1x1024_0_0) shapeCasts_S1x1024_S1024

/-- The second row of a pair. -/
def snd (x : FVec F S2x1024 .f32) : FVec F S1024 .f32 := shapeCast _ (extractStridedSlice S1x1024 ![1, 0] x slices_S2x1024_S1x1024_1_0) shapeCasts_S1x1024_S1024

/-- A centred row over its deviation, with a gain and an offset. -/
def scale (x : FVec F S4x8192x1024 .f32) (g b : FVec F S1024 .f32) : FVec F S4x8192x1024 .f32 :=
  addf (mulf (mulf x (overRow (Host.rsqrt (addf (meanRow (mulf x x)) (broadcastInDim S4x8192x1 ![] bcast_S_S4x8192x1 (constant S_ .f32 0x3727C5AC#32)))))) (along g)) (along b)

/-- The heads normalised, lane after lane along a row. -/
def normed (o : FVec F S4x8x8192x128 .f32) (g : FVec F S128 .f32) : FVec F S4x8192x1024 .f32 :=
  shapeCast _ (transpose S4x8192x8x128 [0, 2, 1, 3] (mulf (mulf o (broadcastInDim S4x8x8192x128 ![0, 1, 2, 3] bcast_S4x8x8192x1_S4x8x8192x128_0_1_2_3 (Host.rsqrt (addf (Host.divf (broadcastInDim S4x8x8192x1 ![0, 1, 2] bcast_S4x8x8192_S4x8x8192x1_0_1_2 (Host.reduceAdd (mulf o o) (constant S_ .f32 0x00000000#32) reducesTo_S4x8x8192x128_S4x8x8192_d3 h_S_)) (broadcastInDim S4x8x8192x1 ![] bcast_S_S4x8x8192x1 (constant S_ .f32 0x43000000#32))) (broadcastInDim S4x8x8192x1 ![] bcast_S_S4x8x8192x1 (constant S_ .f32 0x358637BD#32)))))) (broadcastInDim S4x8x8192x128 ![0, 1, 2, 3] bcast_S1x1x1x128_S4x8x8192x128_0_1_2_3 (broadcastInDim S1x1x1x128 ![3] bcast_S128_S1x1x1x128_3 g))) transposes_S4x8x8192x128_S4x8192x8x128_0_2_1_3) shapeCasts_S4x8192x8x128_S4x8192x1024

/-- A number times its logistic function. -/
def gated (g : FVec F S4x8192x1024 .f32) : FVec F S4x8192x1024 .f32 :=
  mulf g (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf g))))

/-- A scaled row plus another, modulated. -/
def join (x y : FVec F S4x8192x1024 .f32) (m : FVec F S4x1x1024 .f32) : FVec F S4x8192x1024 .f32 :=
  addf (mulf (broadcastInDim S4x8192x1024 ![] bcast_S_S4x8192x1024 (constant S_ .f32 0x3FD744FD#32)) x) (mulf (broadcastInDim S4x8192x1024 ![0, 1, 2] bcast_S4x1x1024_S4x8192x1024_0_1_2 m) y)

/-- The output projection. -/
def project (y : FVec F S4x8192x1024 .f32) (w : FVec F S1024x1024 .f32) : FVec F S4x8192x1024 .f32 := Host.dotGeneral dot_S4x8192x1024_S1024x1024_S4x8192x1024_2_0_01_1_n_n none y w

/-- The hidden layer before its gate. -/
def pre (r : FVec F S4x8192x1024 .f32) (s t : FVec F S4x1x1024 .f32) (w : FVec F S1024x5632 .f32) : FVec F S4x8192x5632 .f32 :=
  Host.dotGeneral dot_S4x8192x1024_S1024x5632_S4x8192x5632_2_0_01_1_n_n none (addf (mulf r (broadcastInDim S4x8192x1024 ![0, 1, 2] bcast_S4x1x1024_S4x8192x1024_0_1_2 (addf (broadcastInDim S4x1x1024 ![] bcast_S_S4x1x1024 (constant S_ .f32 0x3F800000#32)) s))) (broadcastInDim S4x8192x1024 ![0, 1, 2] bcast_S4x1x1024_S4x8192x1024_0_1_2 t)) w

/-- The hidden layer's gates. -/
def half (z : FVec F S4x8192x5632 .f32) : FVec F S4x8192x2816 .f32 := extractStridedSlice S4x8192x2816 ![0, 0, 0] z slices_S4x8192x5632_S4x8192x2816_0_0_0

/-- The hidden layer. -/
def hid (z : FVec F S4x8192x5632 .f32) : FVec F S4x8192x2816 .f32 :=
  mulf (mulf (half z) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (half z)))))) (extractStridedSlice S4x8192x2816 ![0, 0, 2816] z slices_S4x8192x5632_S4x8192x2816_0_0_2816)

/-- The feed-forward part. -/
def ffn (z : FVec F S4x8192x5632 .f32) (w : FVec F S2816x1024 .f32) : FVec F S4x8192x1024 .f32 := Host.dotGeneral dot_S4x8192x2816_S2816x1024_S4x8192x1024_2_0_01_1_n_n none (hid z) w

/-- Batch's modulation number 2. -/
def mod2 (x : FVec F S4x6x1024 .f32) : FVec F S4x1x1024 .f32 := extractStridedSlice S4x1x1024 ![0, 2, 0] x slices_S4x6x1024_S4x1x1024_0_2_0
/-- Batch's modulation number 3. -/
def mod3 (x : FVec F S4x6x1024 .f32) : FVec F S4x1x1024 .f32 := extractStridedSlice S4x1x1024 ![0, 3, 0] x slices_S4x6x1024_S4x1x1024_0_3_0
/-- Batch's modulation number 4. -/
def mod4 (x : FVec F S4x6x1024 .f32) : FVec F S4x1x1024 .f32 := extractStridedSlice S4x1x1024 ![0, 4, 0] x slices_S4x6x1024_S4x1x1024_0_4_0
/-- Batch's modulation number 5. -/
def mod5 (x : FVec F S4x6x1024 .f32) : FVec F S4x1x1024 .f32 := extractStridedSlice S4x1x1024 ![0, 5, 0] x slices_S4x6x1024_S4x1x1024_0_5_0

/-- The rows after the first normalisation. -/
def mid (h : FVec F S4x8192x1024 .f32) (o p : FVec F S4x8x8192x128 .f32) (g : FVec F S4x8192x1024 .f32) (md : FVec F S4x6x1024 .f32) (ng : FVec F S128 .f32)
    (wo : FVec F S1024x1024 .f32) (lg lb : FVec F S2x1024 .f32) : FVec F S4x8192x1024 .f32 :=
  scale (centre (join h (project (mulf (normed (addf o p) ng) (gated g)) wo) (mod2 md))) (fst lg) (fst lb)

/-- The rows after the second normalisation. -/
def fin (r : FVec F S4x8192x1024 .f32) (md : FVec F S4x6x1024 .f32) (lg lb : FVec F S2x1024 .f32) (w : FVec F S1024x5632 .f32) (w' : FVec F S2816x1024 .f32) : FVec F S4x8192x1024 .f32 :=
  scale (centre (join r (ffn (pre r (mod4 md) (mod3 md) w) w') (mod5 md))) (snd lg) (snd lb)

/-- The result. -/
def stage (h : FVec F S4x8192x1024 .f32) (o p : FVec F S4x8x8192x128 .f32) (g : FVec F S4x8192x1024 .f32) (md : FVec F S4x6x1024 .f32) (ng : FVec F S128 .f32)
    (wo : FVec F S1024x1024 .f32) (lg lb : FVec F S2x1024 .f32) (w : FVec F S1024x5632 .f32) (w' : FVec F S2816x1024 .f32) : FVec F S32768x1024 .f32 :=
  shapeCast S32768x1024 (fin (mid h o p g md ng wo lg lb) md lg lb w w') shapeCasts_S4x8192x1024_S32768x1024

variable (V0 : Valuation τ sig (Elt F))

/-- The named rows after the first normalisation are these. -/
theorem v55_eq : res_main_v55 V0 = mid (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) (V0 (Proc.devRef .tc main_arg8)) := by
  unfold res_main_v55 res_main_v39 res_main_v29 res_main_v6
  rfl

/-- The named rows before the second normalisation are these. -/
theorem v82_eq : res_main_v82 V0 = centre (join (res_main_v55 V0) (ffn (pre (res_main_v55 V0) (mod4 (V0 (Proc.devRef .tc main_arg4))) (mod3 (V0 (Proc.devRef .tc main_arg4)))
      (V0 (Proc.devRef .tc main_arg9))) (V0 (Proc.devRef .tc main_arg10))) (mod5 (V0 (Proc.devRef .tc main_arg4)))) := by
  unfold res_main_v82 res_main_v72 res_main_v63 res_main_v62
  rfl

end Stages

/-- The mean's element. -/
theorem meanRow_apply (x : FVec Ideal S4x8192x1024 .f32) (b : Fin 4) (p : Fin 8192) : meanRow x (ix3 b p 0)
    = Ideal.div (∑ j, x (ix3 b p j)) (Ideal.ofBits .f32 0x44800000#32) := by
  pointwise [meanRow]

/-- The centred row's element. -/
theorem centre_apply (x : FVec Ideal S4x8192x1024 .f32) (b : Fin 4) (p : Fin 8192) (k : Fin 1024) : centre x (ix3 b p k) = centred (fun k => x (ix3 b p k)) k := by
  pointwise [centre, overRow, meanRow_apply, centred]

/-- The scaled row's element. -/
theorem scale_apply (x : FVec Ideal S4x8192x1024 .f32) (g b : FVec Ideal S1024 .f32) (a : Fin 4) (p : Fin 8192) (k : Fin 1024) : scale x g b (ix3 a p k)
    = scaled (fun k => x (ix3 a p k)) (fun k => g (ix1 k)) (fun k => b (ix1 k)) k := by
  pointwise [scale, overRow, along, meanRow_apply, scaled]

/-- The reshape of heads to a row. -/
theorem cast_heads {α : Type} (z : S4x8192x8x128.Idx → α) (hc : S4x8192x8x128.ShapeCasts S4x8192x1024) (b : Fin 4) (p : Fin 8192) (h : Fin 8) (e : Fin 128) :
    shapeCast S4x8192x1024 z hc (ix3 b p ⟨128 * h.val + e.val, by omega⟩) = z (ix4 b p h e) :=
  shapeCast_apply _ _ _ _ (by
    refine (rowMajor_val4 (d := ![4, 8192, 8, 128]) (ix4 b p h e) 8388608 1024 128 rfl rfl rfl).trans
      (.trans ?_ (rowMajor_val3 (d := ![4, 8192, 1024]) (ix3 b p ⟨128 * h.val + e.val, by omega⟩) 8388608 1024 rfl rfl).symm)
    show b.val * 8388608 + p.val * 1024 + h.val * 128 + e.val = b.val * 8388608 + p.val * 1024 + (128 * h.val + e.val)
    omega)

/-- The reshape of batches of rows to rows. -/
theorem cast_rows {α : Type} (z : S4x8192x1024.Idx → α) (hc : S4x8192x1024.ShapeCasts S32768x1024) (b : Fin 4) (p : Fin 8192) (k : Fin 1024) :
    shapeCast S32768x1024 z hc (ix2 ⟨8192 * b.val + p.val, by omega⟩ k) = z (ix3 b p k) :=
  shapeCast_apply _ _ _ _ (by
    refine (rowMajor_val3 (d := ![4, 8192, 1024]) (ix3 b p k) 8388608 1024 rfl rfl).trans
      (.trans ?_ (rowMajor_val2 (d := ![32768, 1024]) (ix2 ⟨8192 * b.val + p.val, by omega⟩ k) 1024 rfl).symm)
    show b.val * 8388608 + p.val * 1024 + k.val = (8192 * b.val + p.val) * 1024 + k.val
    omega)

/-- A normalised head's element. -/
theorem normed_head (o : FVec Ideal S4x8x8192x128 .f32) (g : FVec Ideal S128 .f32) (b : Fin 4) (p : Fin 8192) (h : Fin 8) (e : Fin 128) :
    normed o g (ix3 b p ⟨128 * h.val + e.val, by omega⟩) = headNorm (fun e => o (ix4 b h p e)) (fun e => g (ix1 e)) e := by
  refine (cast_heads _ _ b p h e).trans ?_
  pointwise [headNorm]

/-- The normalised heads' element. -/
theorem normed_apply (o : FVec Ideal S4x8x8192x128 .f32) (g : FVec Ideal S128 .f32) (b : Fin 4) (p : Fin 8192) (k : Fin 1024) :
    normed o g (ix3 b p k) = heads (fun h => headNorm (fun e => o (ix4 b h p e)) fun e => g (ix1 e)) k := by
  refine .trans (congrArg (fun k => normed o g (ix3 b p k)) (Fin.ext ?_)) (normed_head o g b p ⟨k.val / 128, by omega⟩ ⟨k.val % 128, by omega⟩)
  simp only
  omega

/-- The gate's element. -/
theorem gated_apply (g : FVec Ideal S4x8192x1024 .f32) (b : Fin 4) (p : Fin 8192) (k : Fin 1024) : gated g (ix3 b p k) = silu (g (ix3 b p k)) := by
  pointwise [gated, silu, Ideal.logistic]

/-- The joined row's element. -/
theorem join_apply (x y : FVec Ideal S4x8192x1024 .f32) (m : FVec Ideal S4x1x1024 .f32) (b : Fin 4) (p : Fin 8192) (k : Fin 1024) : join x y m (ix3 b p k)
    = Ideal.ofBits .f32 0x3FD744FD#32 * x (ix3 b p k) + m (ix3 b 0 k) * y (ix3 b p k) := by
  pointwise [join]

/-- The projection's element. -/
theorem project_apply (y : FVec Ideal S4x8192x1024 .f32) (w : FVec Ideal S1024x1024 .f32) (b : Fin 4) (p : Fin 8192) (k : Fin 1024) : project y w (ix3 b p k)
    = ∑ j, y (ix3 b p j) * w (ix2 j k) := by
  pointwise [project]

/-- The hidden layer's element before its gate. -/
theorem pre_apply (r : FVec Ideal S4x8192x1024 .f32) (s t : FVec Ideal S4x1x1024 .f32) (w : FVec Ideal S1024x5632 .f32) (b : Fin 4) (p : Fin 8192) (j : Fin 5632) : pre r s t w (ix3 b p j)
    = ∑ l, modulated (fun k => r (ix3 b p k)) (fun k => t (ix3 b 0 k)) (fun k => s (ix3 b 0 k)) l * w (ix2 l j) := by
  pointwise [pre, modulated]

/-- The hidden layer's element. -/
theorem hid_apply (z : FVec Ideal S4x8192x5632 .f32) (b : Fin 4) (p : Fin 8192) (j : Fin 2816) : hid z (ix3 b p j)
    = silu (z (ix3 b p ⟨j.val, by omega⟩)) * z (ix3 b p ⟨2816 + j.val, by omega⟩) := by
  pointwise [hid, half, silu, Ideal.logistic]

/-- The feed-forward part's element. -/
theorem ffn_apply (z : FVec Ideal S4x8192x5632 .f32) (w : FVec Ideal S2816x1024 .f32) (b : Fin 4) (p : Fin 8192) (k : Fin 1024) : ffn z w (ix3 b p k)
    = ∑ j, hid z (ix3 b p j) * w (ix2 j k) := by
  pointwise [ffn]

/-- The first normalisation's element. -/
theorem mid_apply (h : FVec Ideal S4x8192x1024 .f32) (o q : FVec Ideal S4x8x8192x128 .f32) (g : FVec Ideal S4x8192x1024 .f32) (md : FVec Ideal S4x6x1024 .f32) (ng : FVec Ideal S128 .f32)
    (wo : FVec Ideal S1024x1024 .f32) (lg lb : FVec Ideal S2x1024 .f32) (b : Fin 4) (p : Fin 8192) (k : Fin 1024) : mid h o q g md ng wo lg lb (ix3 b p k)
    = layerNorm (added (fun k => h (ix3 b p k)) (fun k => md (ix3 b 2 k))
        (fun k => heads (fun i => headNorm (fun e => o (ix4 b i p e) + q (ix4 b i p e)) fun e => ng (ix1 e)) k * silu (g (ix3 b p k))) fun j k => wo (ix2 j k))
        (fun k => lg (ix2 0 k)) (fun k => lb (ix2 0 k)) k := by
  pointwise [mid, scale_apply, centre_apply, join_apply, project_apply, normed_apply, gated_apply, mod2, fst, layerNorm, added]
  rfl

/-- The second normalisation's element. -/
theorem fin_apply (r : FVec Ideal S4x8192x1024 .f32) (md : FVec Ideal S4x6x1024 .f32) (lg lb : FVec Ideal S2x1024 .f32) (w : FVec Ideal S1024x5632 .f32) (w' : FVec Ideal S2816x1024 .f32)
    (b : Fin 4) (p : Fin 8192) (k : Fin 1024) : fin r md lg lb w w' (ix3 b p k)
    = second (fun k => r (ix3 b p k)) (fun k => md (ix3 b 3 k)) (fun k => md (ix3 b 4 k)) (fun k => md (ix3 b 5 k)) (fun k => lg (ix2 1 k)) (fun k => lb (ix2 1 k))
        (fun l j => w (ix2 l j)) (fun j k => w' (ix2 j k)) k := by
  pointwise [fin, scale_apply, centre_apply, join_apply, ffn_apply, hid_apply, pre_apply, mod3, mod4, mod5, snd, second, layerNorm, fed, hiddenUnit]
  rfl

end Cert.Reference2Ideal.Post

end
-- ==== Proof.Post.Claim.lean ====
/-
  The output stage's launch ends with the reference's rows, and the claims that rest on it.
-/
module

public import proofs.«01_k».proof.Defs
public import proofs.«01_k».proof.Proof.Post.Value
public import proofs.«01_k».proof.Proof.Post.Arrays
public import proofs.«01_k».proof.Proof.Post.Ref
public import Idealize.ShloMosaic.Lib.Claim

@[expose] public section

set_option maxRecDepth 16384

noncomputable section

namespace Cert.Kernel2Ideal.Post

open Cert.Kernel2Ideal Cert.Kernel2Ideal.Gen Cert.PostRow
open Cert.Reference2Ideal.Post (stage mid_apply fin_apply)
open Idealize.ShloMosaic Idealize.ShloMosaic.TcCoe
open Idealize.SL Idealize.SL.Sem

/-- The block of input rows at a point. -/
theorem idx0 : ∀ t : Fin cfg0.N, win0_0.index t 0 = t.val ∧ win0_0.index t 1 = 0 := by
  decide +kernel

/-- The block of forward scan's rows at a point. -/
theorem idx2 : ∀ t : Fin cfg0.N, win0_2.index t 0 = t.val ∧ win0_2.index t 1 = 0 := by
  decide +kernel

/-- The block of backward scan's rows at a point. -/
theorem idx3 : ∀ t : Fin cfg0.N, win0_3.index t 0 = t.val ∧ win0_3.index t 1 = 0 := by
  decide +kernel

/-- The block of results at a point. -/
theorem idx13 : ∀ t : Fin cfg0.N, win0_13.index t 0 = t.val ∧ win0_13.index t 1 = 0 := by
  decide +kernel

/-- The block of modulation rows at a point. -/
theorem idx1 : ∀ t : Fin cfg0.N, win0_1.index t 0 = 1 + t.val / 16 ∧ win0_1.index t 1 = 0 ∧ win0_1.index t 2 = 0 := by
  decide +kernel

/-- The block of gates at a point. -/
theorem idx4 : ∀ t : Fin cfg0.N, win0_4.index t 0 = t.val ∧ win0_4.index t 1 = 2 := by
  decide +kernel

/-- The block of the heads' gain at a point: all of it. -/
theorem idx5 : ∀ t : Fin cfg0.N, win0_5.index t 0 = 0 ∧ win0_5.index t 1 = 0 := by
  decide +kernel

/-- The block of the projection at a point: all of it. -/
theorem idx6 : ∀ t : Fin cfg0.N, win0_6.index t 0 = 0 ∧ win0_6.index t 1 = 0 := by
  decide +kernel

/-- The block of the first gain at a point: all of it. -/
theorem idx7 : ∀ t : Fin cfg0.N, win0_7.index t 0 = 0 ∧ win0_7.index t 1 = 0 := by
  decide +kernel

/-- The block of the first offset at a point: all of it. -/
theorem idx8 : ∀ t : Fin cfg0.N, win0_8.index t 0 = 0 ∧ win0_8.index t 1 = 0 := by
  decide +kernel

/-- The block of the hidden layer's weights at a point: all of it. -/
theorem idx9 : ∀ t : Fin cfg0.N, win0_9.index t 0 = 0 ∧ win0_9.index t 1 = 0 := by
  decide +kernel

/-- The block of the weights after the hidden layer at a point: all of it. -/
theorem idx10 : ∀ t : Fin cfg0.N, win0_10.index t 0 = 0 ∧ win0_10.index t 1 = 0 := by
  decide +kernel

/-- The block of the second gain at a point: all of it. -/
theorem idx11 : ∀ t : Fin cfg0.N, win0_11.index t 0 = 0 ∧ win0_11.index t 1 = 0 := by
  decide +kernel

/-- The block of the second offset at a point: all of it. -/
theorem idx12 : ∀ t : Fin cfg0.N, win0_12.index t 0 = 0 ∧ win0_12.index t 1 = 0 := by
  decide +kernel

/-- The batch of a point. -/
abbrev ptB (t : Fin cfg0.N) : Fin 4 := ⟨t.val / 16, by have := t.isLt; have : cfg0.N = 64 := N_0; omega⟩

/-- A row's place in its batch. -/
abbrev ptRow (t : Fin cfg0.N) (i : Fin 512) : Fin 8192 := ⟨t.val % 16 * 512 + i.val, by omega⟩

variable (m : (ℓ : Loc nD τ sig) → Buf (Elt Ideal) ℓ) (c : Dev nD)

/-- An input element. -/
theorem block_x (t : Fin cfg0.N) (i : Fin 512) (k : Fin 1024) : iblk m c 0 t (ix2 i k) = m ((c : Thread nD τ).loc main_arg0) (ix3 (ptB t) (ptRow t i) k) := by
  refine .trans ?_ (rowArr_apply (m ((c : Thread nD τ).loc main_arg0)) (ptB t) (ptRow t i) k)
  rw [← V_x]
  blk_ext [iblk, (idx0 t).1, (idx0 t).2]

/-- A modulation element. -/
theorem block_mod (t : Fin cfg0.N) (j : Fin 6) (k : Fin 1024) : iblk m c 1 t (ix3 0 j k) = m ((c : Thread nD τ).loc main_arg4) (ix3 (ptB t) j k) := by
  refine .trans ?_ (modArr_apply (m ((c : Thread nD τ).loc main_arg4)) (ptB t) j k)
  rw [← V_mod]
  blk_ext [iblk, (idx1 t).1, (idx1 t).2.1, (idx1 t).2.2]

/-- A forward scan element. -/
theorem block_of (t : Fin cfg0.N) (i : Fin 512) (h : Fin 8) (e : Fin 128) : iblk m c 2 t (ix2 i ⟨128 * h.val + e.val, by omega⟩)
    = m ((c : Thread nD τ).loc main_arg1) (ix4 (ptB t) h (ptRow t i) e) := by
  refine .trans ?_ (scanArr_apply (m ((c : Thread nD τ).loc main_arg1)) (ptB t) (ptRow t i) h e)
  rw [← V_of]
  blk_ext [iblk, (idx2 t).1, (idx2 t).2]

/-- A backward scan element. -/
theorem block_ob (t : Fin cfg0.N) (i : Fin 512) (h : Fin 8) (e : Fin 128) : iblk m c 3 t (ix2 i ⟨128 * h.val + e.val, by omega⟩)
    = m ((c : Thread nD τ).loc main_arg2) (ix4 (ptB t) h (ptRow t i) e) := by
  refine .trans ?_ (scanArr_apply (m ((c : Thread nD τ).loc main_arg2)) (ptB t) (ptRow t i) h e)
  rw [← V_ob]
  blk_ext [iblk, (idx3 t).1, (idx3 t).2]

/-- A gate element. -/
theorem block_g (t : Fin cfg0.N) (i : Fin 512) (k : Fin 1024) : iblk m c 4 t (ix2 i k) = m ((c : Thread nD τ).loc main_arg3) (ix3 (ptB t) (ptRow t i) k) := by
  refine .trans ?_ (gateArr_apply (m ((c : Thread nD τ).loc main_arg3)) (ptB t) (ptRow t i) k)
  rw [← V_g]
  blk_ext [iblk, (idx4 t).1, (idx4 t).2]

/-- The heads' gain. -/
theorem block_ng (t : Fin cfg0.N) (e : Fin 128) : iblk m c 5 t (ix2 0 e) = m ((c : Thread nD τ).loc main_arg5) (ix1 e) := by
  have h : shapeCast S1x128 (m ((c : Thread nD τ).loc main_arg5) : FVec Ideal S128 .f32) shapeCasts_S128_S1x128 (ix2 0 e) = m ((c : Thread nD τ).loc main_arg5) (ix1 e) := by
    pointwise
  refine .trans ?_ h
  rw [← V_ng]
  blk_ext [iblk, (idx5 t).1, (idx5 t).2]

/-- A projection element. -/
theorem block_wo (t : Fin cfg0.N) (j k : Fin 1024) : iblk m c 6 t (ix2 j k) = m ((c : Thread nD τ).loc main_arg6) (ix2 j k) := by
  have h : V m c main_v14 (ix2 j k) = m ((c : Thread nD τ).loc main_arg6) (ix2 j k) := congrFun (V_wo m c) (ix2 j k)
  refine .trans ?_ h
  blk_ext [iblk, (idx6 t).1, (idx6 t).2]

/-- The first gain. -/
theorem block_g1 (t : Fin cfg0.N) (k : Fin 1024) : iblk m c 7 t (ix2 0 k) = m ((c : Thread nD τ).loc main_arg7) (ix2 0 k) := by
  refine .trans ?_ (row0_apply (m ((c : Thread nD τ).loc main_arg7)) k)
  rw [← V_g1]
  blk_ext [iblk, (idx7 t).1, (idx7 t).2]

/-- The first offset. -/
theorem block_b1 (t : Fin cfg0.N) (k : Fin 1024) : iblk m c 8 t (ix2 0 k) = m ((c : Thread nD τ).loc main_arg8) (ix2 0 k) := by
  refine .trans ?_ (row0_apply (m ((c : Thread nD τ).loc main_arg8)) k)
  rw [← V_b1]
  blk_ext [iblk, (idx8 t).1, (idx8 t).2]

/-- The second gain. -/
theorem block_g2 (t : Fin cfg0.N) (k : Fin 1024) : iblk m c 11 t (ix2 0 k) = m ((c : Thread nD τ).loc main_arg7) (ix2 1 k) := by
  refine .trans ?_ (row1_apply (m ((c : Thread nD τ).loc main_arg7)) k)
  rw [← V_g2]
  blk_ext [iblk, (idx11 t).1, (idx11 t).2]

/-- The second offset. -/
theorem block_b2 (t : Fin cfg0.N) (k : Fin 1024) : iblk m c 12 t (ix2 0 k) = m ((c : Thread nD τ).loc main_arg8) (ix2 1 k) := by
  refine .trans ?_ (row1_apply (m ((c : Thread nD τ).loc main_arg8)) k)
  rw [← V_b2]
  blk_ext [iblk, (idx12 t).1, (idx12 t).2]

/-- A hidden layer's weight. -/
theorem block_w13 (t : Fin cfg0.N) (l : Fin 1024) (j : Fin 5632) : iblk m c 9 t (ix2 l j) = m ((c : Thread nD τ).loc main_arg9) (ix2 l j) := by
  have h : V m c main_v15 (ix2 l j) = m ((c : Thread nD τ).loc main_arg9) (ix2 l j) := congrFun (V_w13 m c) (ix2 l j)
  refine .trans ?_ h
  blk_ext [iblk, (idx9 t).1, (idx9 t).2]

/-- A weight after the hidden layer. -/
theorem block_w2 (t : Fin cfg0.N) (j : Fin 2816) (k : Fin 1024) : iblk m c 10 t (ix2 j k) = m ((c : Thread nD τ).loc main_arg10) (ix2 j k) := by
  have h : V m c main_v16 (ix2 j k) = m ((c : Thread nD τ).loc main_arg10) (ix2 j k) := congrFun (V_w2 m c) (ix2 j k)
  refine .trans ?_ h
  blk_ext [iblk, (idx10 t).1, (idx10 t).2]

/-- The reference's stage of device `c`'s arguments. -/
abbrev rows : FVec Ideal S32768x1024 .f32 :=
  stage (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The scans' sum by heads, from the scans' elements. -/
theorem scans_eq (a b : RowsN) (o q : FVec Ideal S4x8x8192x128 .f32) (n : Fin 4) (p : Fin 8192) (i : Fin 512) (h : Fin 8)
    (ha : ∀ e : Fin 128, a (ix2 i ⟨128 * h.val + e.val, by omega⟩) = o (ix4 n h p e)) (hb : ∀ e : Fin 128, b (ix2 i ⟨128 * h.val + e.val, by omega⟩) = q (ix4 n h p e)) :
    scanHead a b i h = fun e => (o (ix4 n h p e) + q (ix4 n h p e) : EReal) :=
  funext fun e => congrArg₂ (fun x y : EReal => x + y) (ha e) (hb e)

/-- The rows after the first normalisation are the reference's. -/
theorem mid_rows (t : Fin cfg0.N) (i : Fin 512) : rowMid (iblk m c 0 t) (iblk m c 1 t) (iblk m c 2 t) (iblk m c 3 t) (iblk m c 4 t) (iblk m c 5 t) (iblk m c 6 t) (iblk m c 7 t) (iblk m c 8 t) i
    = fun k => Cert.Reference2Ideal.Post.mid (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (ptB t) (ptRow t i) k) := by
  funext k
  refine .trans ?_ (mid_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ptB t) (ptRow t i) k).symm
  unfold rowMid
  have hs := fun h : Fin 8 => scans_eq (iblk m c 2 t) (iblk m c 3 t) (m ((c : Thread nD τ).loc main_arg1)) (m ((c : Thread nD τ).loc main_arg2)) (ptB t) (ptRow t i) i h
    (block_of m c t i h) (block_ob m c t i h)
  simp only [hs, block_x, block_mod, block_g, block_ng, block_wo, block_g1, block_b1]

/-- A block of results at any of its indices. -/
theorem out_rows (t : Fin cfg0.N) (i : Fin 512) (k : Fin 1024) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i k)
    = rows m c (ix2 ⟨t.val * 512 + i.val, by have := t.isLt; have : cfg0.N = 64 := N_0; omega⟩ k) := by
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i k).trans ?_
  have e : (⟨t.val * 512 + i.val, by have := t.isLt; have : cfg0.N = 64 := N_0; omega⟩ : Fin 32768) = ⟨8192 * (ptB t).val + (ptRow t i).val, by omega⟩ :=
    Fin.ext (show t.val * 512 + i.val = 8192 * (t.val / 16) + (t.val % 16 * 512 + i.val) by omega)
  rw [e]
  refine .trans ?_ ((Cert.Reference2Ideal.Post.cast_rows _ _ (ptB t) (ptRow t i) k).trans (fin_apply _ _ _ _ _ _ (ptB t) (ptRow t i) k)).symm
  rw [mid_rows]
  simp only [block_mod, block_g2, block_b2, block_w13, block_w2]

/-- The result array after the run. -/
theorem result : (dats m 0 c).arrAt 13 cfg0.N = rows m c := by
  refine (dats m 0 c).arrAt_eq_of_covers 13 _ (by decide +kernel) fun t hf y => ?_
  blk_simp
  rw [after0_13]
  have hy : y = ix2 (⟨(y 0).val, (y 0).isLt⟩ : Fin 512) (⟨(y 1).val, (y 1).isLt⟩ : Fin 1024) := by
    funext a; fin_cases a <;> rfl
  rw [hy]
  refine (out_rows m c t _ _).trans ?_
  blk_ext [(idx13 t).1, (idx13 t).2]

/-- The run: the result array holds the reference's rows. -/
theorem run_value (ρ : Dev nD → PrngReg) : θ_run defs (onTc (τ := τ) (main (F := Ideal))) ⟨m, fun _ => 0, ρ⟩ (fun r => ∀ c : Dev nD,
      r.2.mem ((c.tc : Thread nD τ).loc main_v30) = rows m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ hr c => ⟨((hr.1 c).1 13).trans (result m c), hr.2 c⟩)
    (θ_run_and (run_main m ρ) (frame_of m ρ (dats m) (A_eq m) (run_main m ρ)))

end Cert.Kernel2Ideal.Post

namespace Cert.Reference2Ideal.Post

open Cert.Reference2Ideal Cert.Reference2Ideal.Gen Cert.Reference2Ideal.Value
open Idealize.ShloMosaic Idealize.ShloMosaic.TcCoe Idealize.ShloMosaic.StableHlo Idealize.SL.Sem

variable {F : FTy → Type} [FloatOps F]

/-- The reference's run: the result array at `stage` of the arguments, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  (θ_run defs _ _).mono (fun _ h c => ⟨(h c).1.trans (by rw [v82_eq, v55_eq]; rfl), (h c).2⟩) (run m ρ)

end Cert.Reference2Ideal.Post

namespace Cert.Proof

open Idealize.ShloMosaic Idealize.ShloMosaic.TcCoe Idealize.SL.Sem

/-- The output stage's kernel ends quiescent with its arguments unchanged. -/
theorem frame_kernel2Ideal : Cert.quiescent_Kernel2Ideal (hKernel2Ideal := Cert.Kernel2Ideal.Gen.facts) := fun m ρ _ => Cert.Kernel2Ideal.Gen.frame m ρ

/-- The output stage's reference ends with its arguments unchanged; it has no semaphore. -/
theorem frame_reference2Ideal : Cert.quiescent_Reference2Ideal (hReference2Ideal := Cert.Reference2Ideal.Gen.facts) := fun m ρ _ =>
  (θ_run Cert.Reference2Ideal.defs _ _).mono (fun r h => ⟨fun c => (h c).2, funext fun sm => nomatch sm.2⟩)
    (Cert.Reference2Ideal.Post.run_main (F := Ideal) m ρ)

/-- The output stage's kernel and its reference end with the same rows. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Post.rows m c, Cert.Kernel2Ideal.Post.run_value m g, ?_⟩
  refine (θ_run Cert.Reference2Ideal.defs _ _).mono (fun _ h c => ⟨(h c).1.trans ?_, (h c).2⟩) (Cert.Reference2Ideal.Post.run_main (F := Ideal) m' g')
  obtain ⟨h0, h1, h2, h3, h4, h5, h6, h7, h8, h9, h10⟩ := hagree c
  rw [h0, h1, h2, h3, h4, h5, h6, h7, h8, h9, h10]

end Cert.Proof

end
-- ==== Proof.Post3.Body.lean ====
/-
  The output stage's kernel body over both streams of rows, read at an element of its block, over extended reals.
-/
module

public import proofs.«01_k».proof.Proof.Gen.Kernel3Ideal.Skeleton
public import proofs.«01_k».proof.Proof.Post.Body

@[expose] public section

set_option maxRecDepth 16384

noncomputable section

namespace Cert.Kernel3Ideal.Post3

open Cert.Kernel3Ideal Cert.Kernel3Ideal.Gen Cert.PostRow
open Cert.Kernel2Ideal.Post (Rows RowsN part partOut)
open Idealize.ShloMosaic

/-- The latent mix, through the scratch. -/
theorem pay2_apply (y : RowsN) (i : Fin 512) (k : Fin 1024) : k0_pay2 (F := Ideal) y (ix2 i k) = y (ix2 i k) := by
  pointwise [k0_pay2]

/-- The context mix, through the scratch. -/
theorem pay3_apply (y : RowsN) (i : Fin 512) (k : Fin 1024) : k0_pay3 (F := Ideal) y (ix2 i k) = y (ix2 i k) := by
  pointwise [k0_pay3]

/-- The row plus the scaled projection, centred. -/
theorem pay6_apply (x : Rows) (y : RowsN) (m : FVec Ideal S1x1x1024 .f32) (w : FVec Ideal S1024x1024 .bf16) (i : Fin 512) (k : Fin 1024) :
    k0_pay6 (F := Ideal) x y m w (ix2 i k)
      = centred (added (fun k => x (ix2 i k)) (fun k => m (ix3 0 0 k)) (fun k => y (ix2 i k)) fun j k => w (ix2 j k)) k := by
  pointwise [k0_pay6, centred, added]

/-- The mean square of the centred row. -/
theorem pay7_apply (x : Rows) (y : RowsN) (m : FVec Ideal S1x1x1024 .f32) (w : FVec Ideal S1024x1024 .bf16) (i : Fin 512) :
    k0_pay7 (F := Ideal) x y m w (ix2 i 0)
      = Ideal.div (∑ k, k0_pay6 (F := Ideal) x y m w (ix2 i k) * k0_pay6 (F := Ideal) x y m w (ix2 i k)) (Ideal.ofBits .f32 0x44800000#32) := by
  pointwise [k0_pay7]

/-- The first normalisation. -/
theorem pay8_apply (g b : FVec Ideal S1x1024 .f32) (x : Rows) (q : FVec Ideal S512x1 .f32) (i : Fin 512) (z : Fin 1024 → EReal) (hz : ∀ k, x (ix2 i k) = z k)
    (hq : q (ix2 i 0) = Ideal.div (∑ k, x (ix2 i k) * x (ix2 i k)) (Ideal.ofBits .f32 0x44800000#32)) (k : Fin 1024) :
    k0_pay8 (F := Ideal) (k0_pay4 g) (k0_pay5 b) x q (ix2 i k) = scaled z (fun k => g (ix2 0 k)) (fun k => b (ix2 0 k)) k := by
  pointwise [k0_pay8, k0_pay4, k0_pay5, scaled, hq, hz]

/-- The hidden layer's input. -/
theorem pay9_apply (g b : FVec Ideal S1x1024 .f32) (x : Rows) (q : FVec Ideal S512x1 .f32) (s t : FVec Ideal S1x1x1024 .f32) (i : Fin 512) (k : Fin 1024) :
    k0_pay9 (F := Ideal) g b x q s t (ix2 i k)
      = modulated (fun k => k0_pay8 (F := Ideal) g b x q (ix2 i k)) (fun k => t (ix3 0 0 k)) (fun k => s (ix3 0 0 k)) k := by
  pointwise [k0_pay9, modulated]

/-- What part 0 adds. -/
theorem pay10_apply (g b : FVec Ideal S1x1024 .f32) (x : Rows) (q : FVec Ideal S512x1 .f32) (s t : FVec Ideal S1x1x1024 .f32)
    (a0 b0 : FVec Ideal S1024x256 .bf16) (w0 : FVec Ideal S256x1024 .bf16) (i : Fin 512) (k : Fin 1024) :
    k0_pay10 (F := Ideal) g b x q s t a0 b0 w0 (ix2 i k) = partOut (part (fun l => k0_pay9 (F := Ideal) g b x q s t (ix2 i l)) a0 b0) w0 k := by
  pointwise [k0_pay10, partOut, part, silu]

/-- The gates of part 1. -/
theorem pay11_apply (g b : FVec Ideal S1x1024 .f32) (x : Rows) (q : FVec Ideal S512x1 .f32) (s t : FVec Ideal S1x1x1024 .f32) (a1 : FVec Ideal S1024x256 .bf16)
    (i : Fin 512) (j : Fin 256) :
    k0_pay11 (F := Ideal) g b x q s t a1 (ix2 i j) = ∑ l, k0_pay9 (F := Ideal) g b x q s t (ix2 i l) * a1 (ix2 l j) := by
  pointwise [k0_pay11]

/-- Parts 1 and 2 added. -/
theorem pay12_apply (u : RowsN) (x : Rows) (q : FVec Ideal S512x256 .f32) (a1 b1 : FVec Ideal S1024x256 .bf16) (w1 : FVec Ideal S256x1024 .bf16)
    (a2 b2 : FVec Ideal S1024x256 .bf16) (w2 : FVec Ideal S256x1024 .bf16) (i : Fin 512) (hq : ∀ j, q (ix2 i j) = ∑ l, u (ix2 i l) * a1 (ix2 l j)) (k : Fin 1024) :
    k0_pay12 (F := Ideal) u x q b1 w1 a2 b2 w2 (ix2 i k)
      = x (ix2 i k) + partOut (part (fun l => u (ix2 i l)) a1 b1) w1 k + partOut (part (fun l => u (ix2 i l)) a2 b2) w2 k := by
  pointwise [k0_pay12, partOut, part, silu, hq]

/-- Part 3. -/
theorem pay13_apply (u : RowsN) (a b : FVec Ideal S1024x256 .bf16) (i : Fin 512) (j : Fin 256) :
    k0_pay13 (F := Ideal) u a b (ix2 i j) = part (fun l => u (ix2 i l)) a b j := by
  pointwise [k0_pay13, part, silu]

/-- Parts 3 to 5 added. -/
theorem pay15_apply (u : RowsN) (x : Rows) (p : FVec Ideal S512x256 .bf16) (w3 : FVec Ideal S256x1024 .bf16) (a4 b4 : FVec Ideal S1024x256 .bf16) (w4 : FVec Ideal S256x1024 .bf16)
    (a5 b5 : FVec Ideal S1024x256 .bf16) (w5 : FVec Ideal S256x1024 .bf16) (i : Fin 512) (k : Fin 1024) :
    k0_pay15 (F := Ideal) u x p (k0_pay14 w3) (constant S512x1024 .f32 0x00000000#32) a4 b4 w4 a5 b5 w5 (ix2 i k)
      = x (ix2 i k) + partOut (fun j => p (ix2 i j)) w3 k + partOut (part (fun l => u (ix2 i l)) a4 b4) w4 k + partOut (part (fun l => u (ix2 i l)) a5 b5) w5 k := by
  pointwise [k0_pay15, k0_pay14, partOut, part, silu]

/-- Parts 6 to 8 added. -/
theorem pay18_apply (u : RowsN) (x : Rows) (a6 b6 : FVec Ideal S1024x256 .bf16) (w6 : FVec Ideal S256x1024 .bf16) (a7 b7 : FVec Ideal S1024x256 .bf16) (w7 : FVec Ideal S256x1024 .bf16)
    (a8 b8 : FVec Ideal S1024x256 .bf16) (w8 : FVec Ideal S256x1024 .bf16) (i : Fin 512) (k : Fin 1024) :
    k0_pay18 (F := Ideal) u x (k0_pay16 u a6) (k0_pay17 u b6) w6 a7 b7 w7 a8 b8 w8 (ix2 i k)
      = x (ix2 i k) + partOut (part (fun l => u (ix2 i l)) a6 b6) w6 k + partOut (part (fun l => u (ix2 i l)) a7 b7) w7 k + partOut (part (fun l => u (ix2 i l)) a8 b8) w8 k := by
  pointwise [k0_pay18, k0_pay16, k0_pay17, partOut, part, silu]

/-- Parts 9 and 10 added, and the scaled total added to the scaled row. -/
theorem pay19_apply (r : Rows) (u : RowsN) (x : Rows) (a9 b9 : FVec Ideal S1024x256 .bf16) (w9 : FVec Ideal S256x1024 .bf16) (a b : FVec Ideal S1024x256 .bf16) (w : FVec Ideal S256x1024 .bf16)
    (m : FVec Ideal S1x1x1024 .f32) (i : Fin 512) (k : Fin 1024) :
    k0_pay19 (F := Ideal) r u x a9 b9 w9 a b w m (ix2 i k)
      = Ideal.ofBits .f32 0x3FD744FD#32 * r (ix2 i k) + m (ix3 0 0 k)
          * (x (ix2 i k) + partOut (part (fun l => u (ix2 i l)) a9 b9) w9 k + partOut (part (fun l => u (ix2 i l)) a b) w k) := by
  pointwise [k0_pay19, partOut, part, silu]

/-- The second normalisation. -/
theorem pay1_apply (g b : FVec Ideal S1x1024 .f32) (x : Rows) (i : Fin 512) (k : Fin 1024) :
    k0_pay1 (F := Ideal) x (k0_pay20 g) b (ix2 i k) = layerNorm (fun k => x (ix2 i k)) (fun k => g (ix2 0 k)) (fun k => b (ix2 0 k)) k := by
  pointwise [k0_pay1, k0_pay20, layerNorm, centred, scaled]

end Cert.Kernel3Ideal.Post3

end
-- ==== Proof.Post3.Run.lean ====
/-
  What a grid point of the output stage's launch over both streams leaves in its block of results: one tower over the
  blocks it holds, the mix being the latent stream's at a latent point and the context stream's at a context point.
-/
module

public import proofs.«01_k».proof.Proof.Gen.Kernel3Ideal.Frame
public import Idealize.ShloMosaic.Lib.Pipeline.ValueKit

@[expose] public section

set_option maxRecDepth 16384

noncomputable section

namespace Cert.Kernel3Ideal.Post3

open Cert.Kernel3Ideal Cert.Kernel3Ideal.Gen
open Idealize.ShloMosaic Idealize.ShloMosaic.TcCoe
open Idealize.SL Idealize.SL.Sem

variable {F : FTy → Type} [FloatOps F]

/-- A modulation row. -/
abbrev modRow (x1 : Vec F S1x6x1024 .f32) (n : ℕ) (inb : ∀ a, (![0, n, 0] : Fin 3 → ℕ) a + S1x1x1024.size a ≤ S1x6x1024.size a) : Vec F S1x1x1024 .f32 :=
  View.ld (Val := Elt F) (e' := .f32) x1 (Rect.unit (s := S1x6x1024) ![0, n, 0] S1x1x1024.size inb)

/-- Columns of the hidden layer's weights. -/
abbrev cols (x7 : Vec F S1024x5632 .bf16) (o : ℕ) (inb : ∀ a, (![0, o] : Fin 2 → ℕ) a + S1024x256.size a ≤ S1024x5632.size a) : Vec F S1024x256 .bf16 :=
  View.ld (Val := Elt F) (e' := .bf16) x7 (Rect.unit (s := S1024x5632) ![0, o] S1024x256.size inb)

/-- Rows of the weights after the hidden layer. -/
abbrev rows (x8 : Vec F S2816x1024 .bf16) (o : ℕ) (inb : ∀ a, (![o, 0] : Fin 2 → ℕ) a + S256x1024.size a ≤ S2816x1024.size a) : Vec F S256x1024 .bf16 :=
  View.ld (Val := Elt F) (e' := .bf16) x8 (Rect.unit (s := S2816x1024) ![o, 0] S256x1024.size inb)

section Tower

variable (x0 : Vec F S512x1024 .f32) (x1 : Vec F S1x6x1024 .f32) (y : Vec F S512x1024 .bf16) (x4 : Vec F S1024x1024 .bf16) (x5 x6 : Vec F S1x1024 .f32)
  (x7 : Vec F S1024x5632 .bf16) (x8 : Vec F S2816x1024 .bf16) (x9 x10 : Vec F S1x1024 .f32)

/-- The rows plus the scaled projection, centred. -/
abbrev tSum : FVec F S512x1024 .f32 := k0_pay6 x0 y (modRow x1 2 inb_S1x6x1024_S1x1x1024_0_2_0) x4

/-- Their mean squares. -/
abbrev tSq : FVec F S512x1 .f32 := k0_pay7 x0 y (modRow x1 2 inb_S1x6x1024_S1x1x1024_0_2_0) x4

/-- The rows after the first normalisation. -/
def tMid : FVec F S512x1024 .f32 := k0_pay8 (k0_pay4 x5) (k0_pay5 x6) (tSum x0 x1 y x4) (tSq x0 x1 y x4)

/-- The hidden layer's input. -/
def tIn : FVec F S512x1024 .bf16 := k0_pay9 (k0_pay4 x5) (k0_pay5 x6) (tSum x0 x1 y x4) (tSq x0 x1 y x4) (modRow x1 4 inb_S1x6x1024_S1x1x1024_0_4_0) (modRow x1 3 inb_S1x6x1024_S1x1x1024_0_3_0)

/-- Part 0 of the feed-forward part. -/
def tTo0 : FVec F S512x1024 .f32 :=
  k0_pay10 (k0_pay4 x5) (k0_pay5 x6) (tSum x0 x1 y x4) (tSq x0 x1 y x4) (modRow x1 4 inb_S1x6x1024_S1x1x1024_0_4_0) (modRow x1 3 inb_S1x6x1024_S1x1x1024_0_3_0) (cols x7 0 inb_S1024x5632_S1024x256_0_0) (cols x7 2816 inb_S1024x5632_S1024x256_0_2816) (rows x8 0 inb_S2816x1024_S256x1024_0_0)

/-- The gates of part 1. -/
def tGate1 : FVec F S512x256 .f32 :=
  k0_pay11 (k0_pay4 x5) (k0_pay5 x6) (tSum x0 x1 y x4) (tSq x0 x1 y x4) (modRow x1 4 inb_S1x6x1024_S1x1x1024_0_4_0) (modRow x1 3 inb_S1x6x1024_S1x1x1024_0_3_0) (cols x7 256 inb_S1024x5632_S1024x256_0_256)

/-- Parts 0 to 2 of the feed-forward part. -/
def tTo2 : FVec F S512x1024 .f32 :=
  k0_pay12 (tIn x0 x1 y x4 x5 x6) (tTo0 x0 x1 y x4 x5 x6 x7 x8) (tGate1 x0 x1 y x4 x5 x6 x7) (cols x7 3072 inb_S1024x5632_S1024x256_0_3072) (rows x8 256 inb_S2816x1024_S256x1024_256_0)
    (cols x7 512 inb_S1024x5632_S1024x256_0_512) (cols x7 3328 inb_S1024x5632_S1024x256_0_3328) (rows x8 512 inb_S2816x1024_S256x1024_512_0)

/-- Parts 0 to 5 of the feed-forward part. -/
def tTo5 : FVec F S512x1024 .f32 :=
  k0_pay15 (tIn x0 x1 y x4 x5 x6) (tTo2 x0 x1 y x4 x5 x6 x7 x8) (k0_pay13 (tIn x0 x1 y x4 x5 x6) (cols x7 768 inb_S1024x5632_S1024x256_0_768) (cols x7 3584 inb_S1024x5632_S1024x256_0_3584))
    (k0_pay14 (rows x8 768 inb_S2816x1024_S256x1024_768_0)) (constant S512x1024 .f32 0x00000000#32)
    (cols x7 1024 inb_S1024x5632_S1024x256_0_1024) (cols x7 3840 inb_S1024x5632_S1024x256_0_3840) (rows x8 1024 inb_S2816x1024_S256x1024_1024_0)
    (cols x7 1280 inb_S1024x5632_S1024x256_0_1280) (cols x7 4096 inb_S1024x5632_S1024x256_0_4096) (rows x8 1280 inb_S2816x1024_S256x1024_1280_0)

/-- Parts 0 to 8 of the feed-forward part. -/
def tTo8 : FVec F S512x1024 .f32 :=
  k0_pay18 (tIn x0 x1 y x4 x5 x6) (tTo5 x0 x1 y x4 x5 x6 x7 x8) (k0_pay16 (tIn x0 x1 y x4 x5 x6) (cols x7 1536 inb_S1024x5632_S1024x256_0_1536)) (k0_pay17 (tIn x0 x1 y x4 x5 x6) (cols x7 4352 inb_S1024x5632_S1024x256_0_4352))
    (rows x8 1536 inb_S2816x1024_S256x1024_1536_0)
    (cols x7 1792 inb_S1024x5632_S1024x256_0_1792) (cols x7 4608 inb_S1024x5632_S1024x256_0_4608) (rows x8 1792 inb_S2816x1024_S256x1024_1792_0)
    (cols x7 2048 inb_S1024x5632_S1024x256_0_2048) (cols x7 4864 inb_S1024x5632_S1024x256_0_4864) (rows x8 2048 inb_S2816x1024_S256x1024_2048_0)

/-- The rows plus the scaled feed-forward part. -/
def tFed : FVec F S512x1024 .f32 :=
  k0_pay19 (tMid x0 x1 y x4 x5 x6) (tIn x0 x1 y x4 x5 x6) (tTo8 x0 x1 y x4 x5 x6 x7 x8)
    (cols x7 2304 inb_S1024x5632_S1024x256_0_2304) (cols x7 5120 inb_S1024x5632_S1024x256_0_5120) (rows x8 2304 inb_S2816x1024_S256x1024_2304_0)
    (cols x7 2560 inb_S1024x5632_S1024x256_0_2560) (cols x7 5376 inb_S1024x5632_S1024x256_0_5376) (rows x8 2560 inb_S2816x1024_S256x1024_2560_0) (modRow x1 5 inb_S1x6x1024_S1x1x1024_0_5_0)

/-- The block of results. -/
def body : FVec F S512x1024 .f32 := k0_pay1 (tFed x0 x1 y x4 x5 x6 x7 x8) (k0_pay20 x9) x10

end Tower

/-- At a latent point the block of results is the tower over the latent mix. -/
theorem out_A (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i)
    (x0 : Vec F S512x1024 .f32) (x1 : Vec F S1x6x1024 .f32) (x2 : Vec F S512x1024 .bf16) (x3 : Vec F S512x1024 .bf16) (x4 : Vec F S1024x1024 .bf16) (x5 : Vec F S1x1024 .f32) (x6 : Vec F S1x1024 .f32) (x7 : Vec F S1024x5632 .bf16) (x8 : Vec F S2816x1024 .bf16) (x9 : Vec F S1x1024 .f32) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10
      = body x0 x1 (k0_pay2 x2) x4 x5 x6 x7 x8 x9 x10 := by
  frame_out
  rfl

/-- At a context point the block of results is the tower over the context mix. -/
theorem out_B (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i)
    (x0 : Vec F S512x1024 .f32) (x1 : Vec F S1x6x1024 .f32) (x2 : Vec F S512x1024 .bf16) (x3 : Vec F S512x1024 .bf16) (x4 : Vec F S1024x1024 .bf16) (x5 : Vec F S1x1024 .f32) (x6 : Vec F S1x1024 .f32) (x7 : Vec F S1024x5632 .bf16) (x8 : Vec F S2816x1024 .bf16) (x9 : Vec F S1x1024 .f32) (x10 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10
      = body x0 x1 (k0_pay3 x3) x4 x5 x6 x7 x8 x9 x10 := by
  frame_out
  rfl

end Cert.Kernel3Ideal.Post3

end
-- ==== Proof.Post3.Value.lean ====
/-
  The block of results of the output stage over both streams, element by element, from the blocks a grid point holds.
-/
module

public import proofs.«01_k».proof.Proof.Post3.Body
public import proofs.«01_k».proof.Proof.Post3.Run
public import proofs.«01_k».proof.Proof.Post.Value

@[expose] public section

set_option maxRecDepth 16384

noncomputable section

namespace Cert.Kernel3Ideal.Post3

open Cert.Kernel3Ideal Cert.Kernel3Ideal.Gen Cert.PostRow
open Cert.Kernel2Ideal.Post (Rows RowsN part partOut tile parts_sum part_eq partOut_eq ld_mod ld_cols ld_rows)
open Idealize.ShloMosaic Idealize.ShloMosaic.TcCoe
open Idealize.SL Idealize.SL.Sem

variable (x0 : Rows) (x1 : FVec Ideal S1x6x1024 .f32) (y : RowsN) (x4 : FVec Ideal S1024x1024 .bf16) (x5 x6 : FVec Ideal S1x1024 .f32)
  (x7 : FVec Ideal S1024x5632 .bf16) (x8 : FVec Ideal S2816x1024 .bf16) (x9 x10 : FVec Ideal S1x1024 .f32)

/-- A row of the block after the first normalisation. -/
def rowMid (i : Fin 512) : Fin 1024 → EReal :=
  layerNorm (added (fun k => x0 (ix2 i k)) (fun k => x1 (ix3 0 2 k)) (fun k => y (ix2 i k)) fun j k => x4 (ix2 j k))
    (fun k => x5 (ix2 0 k)) (fun k => x6 (ix2 0 k))

/-- The hidden layer's input row. -/
abbrev rowIn (i : Fin 512) : Fin 1024 → EReal :=
  modulated (rowMid x0 x1 y x4 x5 x6 i) (fun k => x1 (ix3 0 3 k)) (fun k => x1 (ix3 0 4 k))

/-- The first normalisation, of the tower's centred rows. -/
theorem norm_at (i : Fin 512) (k : Fin 1024) :
    k0_pay8 (F := Ideal) (k0_pay4 x5) (k0_pay5 x6) (tSum (F := Ideal) x0 x1 y x4) (tSq (F := Ideal) x0 x1 y x4) (ix2 i k) = rowMid x0 x1 y x4 x5 x6 i k := by
  refine (pay8_apply x5 x6 _ _ i _ (pay6_apply x0 y _ x4 i) (pay7_apply x0 y _ x4 i) k).trans ?_
  have hm : ∀ k : Fin 1024, modRow (F := Ideal) x1 2 inb_S1x6x1024_S1x1x1024_0_2_0 (ix3 0 0 k) = x1 (ix3 0 2 k) := fun k => ld_mod x1 2 _ k
  unfold rowMid layerNorm
  simp only [hm]

/-- The hidden layer's input, of the tower's centred rows. -/
theorem in_at (i : Fin 512) (k : Fin 1024) :
    k0_pay9 (F := Ideal) (k0_pay4 x5) (k0_pay5 x6) (tSum (F := Ideal) x0 x1 y x4) (tSq (F := Ideal) x0 x1 y x4)
      (modRow (F := Ideal) x1 4 inb_S1x6x1024_S1x1x1024_0_4_0) (modRow (F := Ideal) x1 3 inb_S1x6x1024_S1x1x1024_0_3_0) (ix2 i k) = rowIn x0 x1 y x4 x5 x6 i k := by
  refine (pay9_apply _ _ _ _ _ _ i k).trans ?_
  have h4 : ∀ k : Fin 1024, modRow (F := Ideal) x1 4 inb_S1x6x1024_S1x1x1024_0_4_0 (ix3 0 0 k) = x1 (ix3 0 4 k) := fun k => ld_mod x1 4 _ k
  have h3 : ∀ k : Fin 1024, modRow (F := Ideal) x1 3 inb_S1x6x1024_S1x1x1024_0_3_0 (ix3 0 0 k) = x1 (ix3 0 3 k) := fun k => ld_mod x1 3 _ k
  simp only [h3, h4, norm_at]

/-- What a part adds. -/
theorem chunk (o q : ℕ) (h : o + 256 ≤ 2816) (hq : 2816 + o = q)
    (ia : ∀ a, (![0, o] : Fin 2 → ℕ) a + S1024x256.size a ≤ S1024x5632.size a) (ib : ∀ a, (![0, q] : Fin 2 → ℕ) a + S1024x256.size a ≤ S1024x5632.size a)
    (iw : ∀ a, (![o, 0] : Fin 2 → ℕ) a + S256x1024.size a ≤ S2816x1024.size a) (u : Fin 1024 → EReal) (k : Fin 1024) :
    partOut (part u (cols (F := Ideal) x7 o ia) (cols (F := Ideal) x7 q ib)) (rows (F := Ideal) x8 o iw) k
      = tile (fun j => hiddenUnit u (fun l j => x7 (ix2 l j)) j * x8 (ix2 j k)) o h := by
  subst hq
  exact partOut_eq u (fun l j => x7 (ix2 l j)) (fun j k => x8 (ix2 j k)) _ _ o h
    (part_eq u _ _ _ o h (fun l j => ld_cols x7 o (by omega) ia l j)
      fun l j => (ld_cols x7 (2816 + o) (by omega) ib l j).trans (congrArg (fun j => x7 (ix2 l j)) (Fin.ext (Nat.add_assoc 2816 o j.val))))
    (fun j k => ld_rows x8 o h iw j k) k

/-- The feed-forward part's first nine parts added. -/
theorem ffn_at (i : Fin 512) (k : Fin 1024) : tTo8 (F := Ideal) x0 x1 y x4 x5 x6 x7 x8 (ix2 i k) = tile (fun j => hiddenUnit (rowIn x0 x1 y x4 x5 x6 i) (fun l j => x7 (ix2 l j)) j * x8 (ix2 j k)) 0 (by norm_num) + tile (fun j => hiddenUnit (rowIn x0 x1 y x4 x5 x6 i) (fun l j => x7 (ix2 l j)) j * x8 (ix2 j k)) 256 (by norm_num) + tile (fun j => hiddenUnit (rowIn x0 x1 y x4 x5 x6 i) (fun l j => x7 (ix2 l j)) j * x8 (ix2 j k)) 512 (by norm_num) + tile (fun j => hiddenUnit (rowIn x0 x1 y x4 x5 x6 i) (fun l j => x7 (ix2 l j)) j * x8 (ix2 j k)) 768 (by norm_num) + tile (fun j => hiddenUnit (rowIn x0 x1 y x4 x5 x6 i) (fun l j => x7 (ix2 l j)) j * x8 (ix2 j k)) 1024 (by norm_num) + tile (fun j => hiddenUnit (rowIn x0 x1 y x4 x5 x6 i) (fun l j => x7 (ix2 l j)) j * x8 (ix2 j k)) 1280 (by norm_num) + tile (fun j => hiddenUnit (rowIn x0 x1 y x4 x5 x6 i) (fun l j => x7 (ix2 l j)) j * x8 (ix2 j k)) 1536 (by norm_num) + tile (fun j => hiddenUnit (rowIn x0 x1 y x4 x5 x6 i) (fun l j => x7 (ix2 l j)) j * x8 (ix2 j k)) 1792 (by norm_num) + tile (fun j => hiddenUnit (rowIn x0 x1 y x4 x5 x6 i) (fun l j => x7 (ix2 l j)) j * x8 (ix2 j k)) 2048 (by norm_num) := by
  have hu : (fun l => tIn (F := Ideal) x0 x1 y x4 x5 x6 (ix2 i l)) = rowIn x0 x1 y x4 x5 x6 i := funext (in_at x0 x1 y x4 x5 x6 i)
  unfold tTo8
  refine (pay18_apply _ _ _ _ _ _ _ _ _ _ _ i k).trans ?_
  unfold tTo5
  rw [pay15_apply]
  unfold tTo2 tGate1
  rw [pay12_apply (tIn (F := Ideal) x0 x1 y x4 x5 x6) _ _ (cols (F := Ideal) x7 256 inb_S1024x5632_S1024x256_0_256) _ _ _ _ _ i (fun j => pay11_apply _ _ _ _ _ _ _ i j)]
  unfold tTo0
  rw [pay10_apply]
  simp only [pay13_apply]
  have hu' := (funext (in_at x0 x1 y x4 x5 x6 i) : (fun l => k0_pay9 (F := Ideal) (k0_pay4 x5) (k0_pay5 x6) (tSum (F := Ideal) x0 x1 y x4) (tSq (F := Ideal) x0 x1 y x4)
      (modRow (F := Ideal) x1 4 inb_S1x6x1024_S1x1x1024_0_4_0) (modRow (F := Ideal) x1 3 inb_S1x6x1024_S1x1x1024_0_3_0) (ix2 i l)) = rowIn x0 x1 y x4 x5 x6 i)
  rw [hu, hu']
  rw [chunk x7 x8 0 2816 (by norm_num) rfl, chunk x7 x8 256 3072 (by norm_num) rfl, chunk x7 x8 512 3328 (by norm_num) rfl, chunk x7 x8 768 3584 (by norm_num) rfl, chunk x7 x8 1024 3840 (by norm_num) rfl, chunk x7 x8 1280 4096 (by norm_num) rfl, chunk x7 x8 1536 4352 (by norm_num) rfl, chunk x7 x8 1792 4608 (by norm_num) rfl, chunk x7 x8 2048 4864 (by norm_num) rfl]

/-- A block of results at an index. -/
theorem body_at (i : Fin 512) (k : Fin 1024) : body (F := Ideal) x0 x1 y x4 x5 x6 x7 x8 x9 x10 (ix2 i k)
    = second (rowMid x0 x1 y x4 x5 x6 i) (fun k => x1 (ix3 0 3 k)) (fun k => x1 (ix3 0 4 k)) (fun k => x1 (ix3 0 5 k))
        (fun k => x9 (ix2 0 k)) (fun k => x10 (ix2 0 k)) (fun l j => x7 (ix2 l j)) (fun j k => x8 (ix2 j k)) k := by
  unfold body
  refine (pay1_apply x9 x10 _ i k).trans (congrArg (fun f => layerNorm f _ _ k) (funext fun k => ?_))
  unfold tFed
  refine (pay19_apply _ _ _ _ _ _ _ _ _ _ i k).trans ?_
  have h5 : modRow (F := Ideal) x1 5 inb_S1x6x1024_S1x1x1024_0_5_0 (ix3 0 0 k) = x1 (ix3 0 5 k) := ld_mod x1 5 _ k
  have hu : (fun l => tIn (F := Ideal) x0 x1 y x4 x5 x6 (ix2 i l)) = rowIn x0 x1 y x4 x5 x6 i := funext (in_at x0 x1 y x4 x5 x6 i)
  have hr : tMid (F := Ideal) x0 x1 y x4 x5 x6 (ix2 i k) = rowMid x0 x1 y x4 x5 x6 i k := norm_at x0 x1 y x4 x5 x6 i k
  unfold fed
  rw [h5, hr, ffn_at, hu, chunk x7 x8 2304 5120 (by norm_num) rfl, chunk x7 x8 2560 5376 (by norm_num) rfl, ← parts_sum]

end Cert.Kernel3Ideal.Post3

end
-- ==== Proof.Post3.Ref.lean ====
/-
  The reference of the later layers' output stage, read at an element, over extended reals. The latent rows' stages are
  the first layer's; the context rows' are stated here.
-/
module

public import proofs.«01_k».proof.Proof.Gen.Reference3Ideal.Run
public import proofs.«01_k».proof.Proof.Post.Ref

@[expose] public section

set_option maxRecDepth 16384

noncomputable section

namespace Cert.Reference3Ideal.Post3

open Cert.Reference3Ideal Cert.Reference3Ideal.Gen Cert.Reference3Ideal.Value Cert.PostRow
open Idealize.ShloMosaic Idealize.ShloMosaic.TcCoe Idealize.SL.Sem Idealize.ShloMosaic.StableHlo

section Stages

variable {F : FTy → Type} [FloatOps F]

/-- One number per row, spread along it. -/
def overRow (x : FVec F S4x256x1 .f32) : FVec F S4x256x1024 .f32 := broadcastInDim S4x256x1024 ![0, 1, 2] bcast_S4x256x1_S4x256x1024_0_1_2 x

/-- A row's sum over its width. -/
def meanRow (x : FVec F S4x256x1024 .f32) : FVec F S4x256x1 .f32 :=
  Host.divf (broadcastInDim S4x256x1 ![0, 1] bcast_S4x256_S4x256x1_0_1 (Host.reduceAdd x (constant S_ .f32 0x00000000#32) reducesTo_S4x256x1024_S4x256_d2 h_S_)) (broadcastInDim S4x256x1 ![] bcast_S_S4x256x1 (constant S_ .f32 0x44800000#32))

/-- A row less its mean. -/
def centre (x : FVec F S4x256x1024 .f32) : FVec F S4x256x1024 .f32 := subf x (overRow (meanRow x))

/-- One row of a pair along every row. -/
def along (x : FVec F S1024 .f32) : FVec F S4x256x1024 .f32 :=
  broadcastInDim S4x256x1024 ![0, 1, 2] bcast_S1x1x1024_S4x256x1024_0_1_2 (broadcastInDim S1x1x1024 ![2] bcast_S1024_S1x1x1024_2 x)

/-- A centred row over its deviation, with a gain and an offset. -/
def scale (x : FVec F S4x256x1024 .f32) (g b : FVec F S1024 .f32) : FVec F S4x256x1024 .f32 :=
  addf (mulf (mulf x (overRow (Host.rsqrt (addf (meanRow (mulf x x)) (broadcastInDim S4x256x1 ![] bcast_S_S4x256x1 (constant S_ .f32 0x3727C5AC#32)))))) (along g)) (along b)

/-- A scaled row plus another, modulated. -/
def join (x y : FVec F S4x256x1024 .f32) (m : FVec F S1x1x1024 .f32) : FVec F S4x256x1024 .f32 :=
  addf (mulf (broadcastInDim S4x256x1024 ![] bcast_S_S4x256x1024 (constant S_ .f32 0x3FD744FD#32)) x) (mulf (broadcastInDim S4x256x1024 ![0, 1, 2] bcast_S1x1x1024_S4x256x1024_0_1_2 m) y)

/-- The output projection. -/
def project (y : FVec F S4x256x1024 .f32) (w : FVec F S1024x1024 .f32) : FVec F S4x256x1024 .f32 := Host.dotGeneral dot_S4x256x1024_S1024x1024_S4x256x1024_2_0_01_1_n_n none y w

/-- The hidden layer before its gate. -/
def pre (r : FVec F S4x256x1024 .f32) (s t : FVec F S1x1x1024 .f32) (w : FVec F S1024x5632 .f32) : FVec F S4x256x5632 .f32 :=
  Host.dotGeneral dot_S4x256x1024_S1024x5632_S4x256x5632_2_0_01_1_n_n none (addf (mulf r (broadcastInDim S4x256x1024 ![0, 1, 2] bcast_S1x1x1024_S4x256x1024_0_1_2 (addf (broadcastInDim S1x1x1024 ![] bcast_S_S1x1x1024 (constant S_ .f32 0x3F800000#32)) s))) (broadcastInDim S4x256x1024 ![0, 1, 2] bcast_S1x1x1024_S4x256x1024_0_1_2 t)) w

/-- The hidden layer's gates. -/
def half (z : FVec F S4x256x5632 .f32) : FVec F S4x256x2816 .f32 := extractStridedSlice S4x256x2816 ![0, 0, 0] z slices_S4x256x5632_S4x256x2816_0_0_0

/-- The hidden layer. -/
def hid (z : FVec F S4x256x5632 .f32) : FVec F S4x256x2816 .f32 :=
  mulf (mulf (half z) (Host.divf (broadcastInDim S4x256x2816 ![] bcast_S_S4x256x2816 (constant S_ .f32 0x3F800000#32)) (addf (broadcastInDim S4x256x2816 ![] bcast_S_S4x256x2816 (constant S_ .f32 0x3F800000#32)) (Host.exp (Host.negf (half z)))))) (extractStridedSlice S4x256x2816 ![0, 0, 2816] z slices_S4x256x5632_S4x256x2816_0_0_2816)

/-- The feed-forward part. -/
def ffn (z : FVec F S4x256x5632 .f32) (w : FVec F S2816x1024 .f32) : FVec F S4x256x1024 .f32 := Host.dotGeneral dot_S4x256x2816_S2816x1024_S4x256x1024_2_0_01_1_n_n none (hid z) w

/-- Modulation number 2. -/
def mod2 (x : FVec F S1x6x1024 .f32) : FVec F S1x1x1024 .f32 := extractStridedSlice S1x1x1024 ![0, 2, 0] x slices_S1x6x1024_S1x1x1024_0_2_0
/-- Modulation number 3. -/
def mod3 (x : FVec F S1x6x1024 .f32) : FVec F S1x1x1024 .f32 := extractStridedSlice S1x1x1024 ![0, 3, 0] x slices_S1x6x1024_S1x1x1024_0_3_0
/-- Modulation number 4. -/
def mod4 (x : FVec F S1x6x1024 .f32) : FVec F S1x1x1024 .f32 := extractStridedSlice S1x1x1024 ![0, 4, 0] x slices_S1x6x1024_S1x1x1024_0_4_0
/-- Modulation number 5. -/
def mod5 (x : FVec F S1x6x1024 .f32) : FVec F S1x1x1024 .f32 := extractStridedSlice S1x1x1024 ![0, 5, 0] x slices_S1x6x1024_S1x1x1024_0_5_0

/-- The latent rows after the first normalisation. -/
def midL (h y : FVec F S4x8192x1024 .f32) (md : FVec F S4x6x1024 .f32) (wo : FVec F S1024x1024 .f32) (lg lb : FVec F S2x1024 .f32) : FVec F S4x8192x1024 .f32 :=
  Cert.Reference2Ideal.Post.scale (Cert.Reference2Ideal.Post.centre (Cert.Reference2Ideal.Post.join h (Cert.Reference2Ideal.Post.project y wo) (Cert.Reference2Ideal.Post.mod2 md))) (Cert.Reference2Ideal.Post.fst lg) (Cert.Reference2Ideal.Post.fst lb)

/-- The context rows after the first normalisation. -/
def midC (h y : FVec F S4x256x1024 .f32) (md : FVec F S1x6x1024 .f32) (wo : FVec F S1024x1024 .f32) (lg lb : FVec F S2x1024 .f32) : FVec F S4x256x1024 .f32 :=
  scale (centre (join h (project y wo) (mod2 md))) (Cert.Reference2Ideal.Post.fst lg) (Cert.Reference2Ideal.Post.fst lb)

/-- The context rows after the second normalisation. -/
def finC (r : FVec F S4x256x1024 .f32) (md : FVec F S1x6x1024 .f32) (lg lb : FVec F S2x1024 .f32) (w : FVec F S1024x5632 .f32) (w' : FVec F S2816x1024 .f32) : FVec F S4x256x1024 .f32 :=
  scale (centre (join r (ffn (pre r (mod4 md) (mod3 md) w) w') (mod5 md))) (Cert.Reference2Ideal.Post.snd lg) (Cert.Reference2Ideal.Post.snd lb)

/-- The result: the latent rows, then the context rows. -/
def stage (h : FVec F S4x8192x1024 .f32) (h' : FVec F S4x256x1024 .f32) (y : FVec F S4x8192x1024 .f32) (y' : FVec F S4x256x1024 .f32) (md : FVec F S4x6x1024 .f32) (md' : FVec F S1x6x1024 .f32)
    (wo : FVec F S1024x1024 .f32) (lg lb : FVec F S2x1024 .f32) (w : FVec F S1024x5632 .f32) (w' : FVec F S2816x1024 .f32) : FVec F S33792x1024 .f32 :=
  concatenate S33792x1024 0 [⟨S32768x1024, shapeCast S32768x1024 (Cert.Reference2Ideal.Post.fin (midL h y md wo lg lb) md lg lb w w') shapeCasts_S4x8192x1024_S32768x1024⟩,
    ⟨S1024x1024, shapeCast S1024x1024 (finC (midC h' y' md' wo lg lb) md' lg lb w w') shapeCasts_S4x256x1024_S1024x1024⟩] concatenates_S32768x1024_S1024x1024_S33792x1024_d0

variable (V0 : Valuation τ sig (Elt F))

/-- The named latent rows after the first normalisation are these. -/
theorem v37_eq : res_main_v37 V0 = midL (V0 (Proc.devRef .tc main_arg0)) (V0 (Proc.devRef .tc main_arg2)) (V0 (Proc.devRef .tc main_arg4)) (V0 (Proc.devRef .tc main_arg6))
    (V0 (Proc.devRef .tc main_arg7)) (V0 (Proc.devRef .tc main_arg8)) := by
  unfold res_main_v37 res_main_v21 res_main_v11
  rfl

/-- The named latent rows before the second normalisation are these. -/
theorem v64_eq : res_main_v64 V0 = Cert.Reference2Ideal.Post.centre (Cert.Reference2Ideal.Post.join (res_main_v37 V0) (Cert.Reference2Ideal.Post.ffn (Cert.Reference2Ideal.Post.pre (res_main_v37 V0) (Cert.Reference2Ideal.Post.mod4 (V0 (Proc.devRef .tc main_arg4))) (Cert.Reference2Ideal.Post.mod3 (V0 (Proc.devRef .tc main_arg4)))
      (V0 (Proc.devRef .tc main_arg9))) (V0 (Proc.devRef .tc main_arg10))) (Cert.Reference2Ideal.Post.mod5 (V0 (Proc.devRef .tc main_arg4)))) := by
  unfold res_main_v64 res_main_v54 res_main_v45 res_main_v44
  rfl

/-- The named context rows after the first normalisation are these. -/
theorem v119_eq : res_main_v119 V0 = midC (V0 (Proc.devRef .tc main_arg1)) (V0 (Proc.devRef .tc main_arg3)) (V0 (Proc.devRef .tc main_arg5)) (V0 (Proc.devRef .tc main_arg6))
    (V0 (Proc.devRef .tc main_arg7)) (V0 (Proc.devRef .tc main_arg8)) := by
  unfold res_main_v119 res_main_v103 res_main_v93
  rfl

/-- The named context rows before the second normalisation are these. -/
theorem v146_eq : res_main_v146 V0 = centre (join (res_main_v119 V0) (ffn (pre (res_main_v119 V0) (mod4 (V0 (Proc.devRef .tc main_arg5))) (mod3 (V0 (Proc.devRef .tc main_arg5)))
      (V0 (Proc.devRef .tc main_arg9))) (V0 (Proc.devRef .tc main_arg10))) (mod5 (V0 (Proc.devRef .tc main_arg5)))) := by
  unfold res_main_v146 res_main_v136 res_main_v127 res_main_v126
  rfl

end Stages

/-- The mean's element. -/
theorem meanRow_apply (x : FVec Ideal S4x256x1024 .f32) (b : Fin 4) (p : Fin 256) : meanRow x (ix3 b p 0)
    = Ideal.div (∑ j, x (ix3 b p j)) (Ideal.ofBits .f32 0x44800000#32) := by
  pointwise [meanRow]

/-- The centred row's element. -/
theorem centre_apply (x : FVec Ideal S4x256x1024 .f32) (b : Fin 4) (p : Fin 256) (k : Fin 1024) : centre x (ix3 b p k) = centred (fun k => x (ix3 b p k)) k := by
  pointwise [centre, overRow, meanRow_apply, centred]

/-- The scaled row's element. -/
theorem scale_apply (x : FVec Ideal S4x256x1024 .f32) (g b : FVec Ideal S1024 .f32) (a : Fin 4) (p : Fin 256) (k : Fin 1024) : scale x g b (ix3 a p k)
    = scaled (fun k => x (ix3 a p k)) (fun k => g (ix1 k)) (fun k => b (ix1 k)) k := by
  pointwise [scale, overRow, along, meanRow_apply, scaled]

/-- The reshape of batches of rows to rows. -/
theorem cast_rows {α : Type} (z : S4x256x1024.Idx → α) (hc : S4x256x1024.ShapeCasts S1024x1024) (b : Fin 4) (p : Fin 256) (k : Fin 1024) :
    shapeCast S1024x1024 z hc (ix2 ⟨256 * b.val + p.val, by omega⟩ k) = z (ix3 b p k) :=
  shapeCast_apply _ _ _ _ (by
    refine (rowMajor_val3 (d := ![4, 256, 1024]) (ix3 b p k) 262144 1024 rfl rfl).trans
      (.trans ?_ (rowMajor_val2 (d := ![1024, 1024]) (ix2 ⟨256 * b.val + p.val, by omega⟩ k) 1024 rfl).symm)
    show b.val * 262144 + p.val * 1024 + k.val = (256 * b.val + p.val) * 1024 + k.val
    omega)

/-- The joined row's element. -/
theorem join_apply (x y : FVec Ideal S4x256x1024 .f32) (m : FVec Ideal S1x1x1024 .f32) (b : Fin 4) (p : Fin 256) (k : Fin 1024) : join x y m (ix3 b p k)
    = Ideal.ofBits .f32 0x3FD744FD#32 * x (ix3 b p k) + m (ix3 0 0 k) * y (ix3 b p k) := by
  pointwise [join]

/-- The projection's element. -/
theorem project_apply (y : FVec Ideal S4x256x1024 .f32) (w : FVec Ideal S1024x1024 .f32) (b : Fin 4) (p : Fin 256) (k : Fin 1024) : project y w (ix3 b p k)
    = ∑ j, y (ix3 b p j) * w (ix2 j k) := by
  pointwise [project]

/-- The hidden layer's element before its gate. -/
theorem pre_apply (r : FVec Ideal S4x256x1024 .f32) (s t : FVec Ideal S1x1x1024 .f32) (w : FVec Ideal S1024x5632 .f32) (b : Fin 4) (p : Fin 256) (j : Fin 5632) : pre r s t w (ix3 b p j)
    = ∑ l, modulated (fun k => r (ix3 b p k)) (fun k => t (ix3 0 0 k)) (fun k => s (ix3 0 0 k)) l * w (ix2 l j) := by
  pointwise [pre, modulated]

/-- The hidden layer's element. -/
theorem hid_apply (z : FVec Ideal S4x256x5632 .f32) (b : Fin 4) (p : Fin 256) (j : Fin 2816) : hid z (ix3 b p j)
    = silu (z (ix3 b p ⟨j.val, by omega⟩)) * z (ix3 b p ⟨2816 + j.val, by omega⟩) := by
  pointwise [hid, half, silu, Ideal.logistic]

/-- The feed-forward part's element. -/
theorem ffn_apply (z : FVec Ideal S4x256x5632 .f32) (w : FVec Ideal S2816x1024 .f32) (b : Fin 4) (p : Fin 256) (k : Fin 1024) : ffn z w (ix3 b p k)
    = ∑ j, hid z (ix3 b p j) * w (ix2 j k) := by
  pointwise [ffn]

/-- The latent rows' first normalisation at an element. -/
theorem midL_apply (h y : FVec Ideal S4x8192x1024 .f32) (md : FVec Ideal S4x6x1024 .f32) (wo : FVec Ideal S1024x1024 .f32) (lg lb : FVec Ideal S2x1024 .f32)
    (b : Fin 4) (p : Fin 8192) (k : Fin 1024) : midL h y md wo lg lb (ix3 b p k)
    = layerNorm (added (fun k => h (ix3 b p k)) (fun k => md (ix3 b 2 k)) (fun k => y (ix3 b p k)) fun j k => wo (ix2 j k))
        (fun k => lg (ix2 0 k)) (fun k => lb (ix2 0 k)) k := by
  pointwise [midL, Cert.Reference2Ideal.Post.scale_apply, Cert.Reference2Ideal.Post.centre_apply, Cert.Reference2Ideal.Post.join_apply, Cert.Reference2Ideal.Post.project_apply, Cert.Reference2Ideal.Post.mod2, Cert.Reference2Ideal.Post.fst, layerNorm, added]
  rfl

/-- The context rows' first normalisation at an element. -/
theorem midC_apply (h y : FVec Ideal S4x256x1024 .f32) (md : FVec Ideal S1x6x1024 .f32) (wo : FVec Ideal S1024x1024 .f32) (lg lb : FVec Ideal S2x1024 .f32)
    (b : Fin 4) (p : Fin 256) (k : Fin 1024) : midC h y md wo lg lb (ix3 b p k)
    = layerNorm (added (fun k => h (ix3 b p k)) (fun k => md (ix3 0 2 k)) (fun k => y (ix3 b p k)) fun j k => wo (ix2 j k))
        (fun k => lg (ix2 0 k)) (fun k => lb (ix2 0 k)) k := by
  pointwise [midC, scale_apply, centre_apply, join_apply, project_apply, mod2, Cert.Reference2Ideal.Post.fst, layerNorm, added]
  rfl

/-- The context rows' second normalisation at an element. -/
theorem finC_apply (r : FVec Ideal S4x256x1024 .f32) (md : FVec Ideal S1x6x1024 .f32) (lg lb : FVec Ideal S2x1024 .f32) (w : FVec Ideal S1024x5632 .f32) (w' : FVec Ideal S2816x1024 .f32)
    (b : Fin 4) (p : Fin 256) (k : Fin 1024) : finC r md lg lb w w' (ix3 b p k)
    = second (fun k => r (ix3 b p k)) (fun k => md (ix3 0 3 k)) (fun k => md (ix3 0 4 k)) (fun k => md (ix3 0 5 k)) (fun k => lg (ix2 1 k)) (fun k => lb (ix2 1 k))
        (fun l j => w (ix2 l j)) (fun j k => w' (ix2 j k)) k := by
  pointwise [finC, scale_apply, centre_apply, join_apply, ffn_apply, hid_apply, pre_apply, mod3, mod4, mod5, Cert.Reference2Ideal.Post.snd, second, layerNorm, fed, hiddenUnit]
  rfl

/-- A latent row of two arrays of rows, one after the other. -/
theorem rows_fst {α : Type} (x : S32768x1024.Idx → α) (y : S1024x1024.Idx → α) (r : Fin 32768) (k : Fin 1024) :
    concatenate S33792x1024 0 [⟨S32768x1024, x⟩, ⟨S1024x1024, y⟩] concatenates_S32768x1024_S1024x1024_S33792x1024_d0 (ix2 ⟨r.val, by omega⟩ k) = x (ix2 r k) := by
  pointwise

/-- A context row of two arrays of rows, one after the other. -/
theorem rows_snd {α : Type} (x : S32768x1024.Idx → α) (y : S1024x1024.Idx → α) (r : Fin 1024) (k : Fin 1024) :
    concatenate S33792x1024 0 [⟨S32768x1024, x⟩, ⟨S1024x1024, y⟩] concatenates_S32768x1024_S1024x1024_S33792x1024_d0 (ix2 ⟨32768 + r.val, by omega⟩ k) = y (ix2 r k) := by
  pointwise

end Cert.Reference3Ideal.Post3

end
-- ==== Proof.Post3.Arrays.lean ====
/-
  The arrays the kernel of the later layers' output stage is launched on, read at an element: latent rows before context
  rows, the context's modulation before the batches'.
-/
module

public import proofs.«01_k».proof.Proof.Gen.Kernel3Ideal.Frame
public import proofs.«01_k».proof.Proof.Post.Arrays
public import proofs.«01_k».proof.Proof.Post3.Ref
public import Idealize.ShloMosaic.Lib.StableHlo.Run
public import Idealize.ShloMosaic.Lib.Claim
public import Idealize.ShloMosaic.Lib.Pointwise

@[expose] public section

set_option maxRecDepth 16384

noncomputable section

namespace Cert.Kernel3Ideal.Post3

open Cert.Kernel3Ideal Cert.Kernel3Ideal.Gen
open Cert.Kernel2Ideal.Post (row0 row1)
open Idealize.ShloMosaic Idealize.ShloMosaic.TcCoe Idealize.SL.Sem

section Arrays

variable {F : FTy → Type} [FloatOps F]

/-- The layer's input rows: latent, then context. -/
def rowArr (x : FVec F S4x8192x1024 .f32) (y : FVec F S4x256x1024 .f32) : FVec F S33792x1024 .f32 :=
  concatenate S33792x1024 0 [⟨S32768x1024, shapeCast S32768x1024 x shapeCasts_S4x8192x1024_S32768x1024⟩, ⟨S1024x1024, shapeCast S1024x1024 y shapeCasts_S4x256x1024_S1024x1024⟩]
    concatenates_S32768x1024_S1024x1024_S33792x1024_d0

/-- The modulation: the context's in group 0, batch `b`'s in group `1 + b`. -/
def modArr (x : FVec F S4x6x1024 .f32) (y : FVec F S1x6x1024 .f32) : FVec F S8x6x1024 .f32 :=
  pad S8x6x1024 ![0, 0, 0] ![3, 0, 0] ![0, 0, 0] (concatenate S5x6x1024 0 [⟨S1x6x1024, y⟩, ⟨S4x6x1024, x⟩] concatenates_S1x6x1024_S4x6x1024_S5x6x1024_d0)
    (sitofp .f32 (constantI S_ 32 0#32) : FVec F S_ .f32) pads_S5x6x1024_S8x6x1024_030_000_000 h_S_

/-- The latent rows of the stage's other input. -/
def latArr (x : FVec F S4x8192x1024 .f32) : FVec F S32768x1024 .bf16 :=
  truncf .bf16 (shapeCast S32768x1024 x shapeCasts_S4x8192x1024_S32768x1024) bitsLt_bf16_f32

/-- The context rows of the stage's other input. -/
def ctxArr (x : FVec F S4x256x1024 .f32) : FVec F S1024x1024 .bf16 :=
  truncf .bf16 (shapeCast S1024x1024 x shapeCasts_S4x256x1024_S1024x1024) bitsLt_bf16_f32

variable (m : (ℓ : Loc nD τ sig) → Buf (Elt F) ℓ) (c : Dev nD)

/-- The launch finds the rows' array so. -/
theorem V_x : V m c main_v2 = rowArr (m ((c : Thread nD τ).loc main_arg0)) (m ((c : Thread nD τ).loc main_arg1)) := by
  simp only [V, hostOps0, hostOps0_1, hostOps0_2, List.flatten_cons, List.flatten_nil, List.append_nil, List.cons_append, List.nil_append]
  after_results
  rfl

/-- The launch finds the modulation's array so. -/
theorem V_mod : V m c main_v4 = modArr (m ((c : Thread nD τ).loc main_arg4)) (m ((c : Thread nD τ).loc main_arg5)) := by
  simp only [V, hostOps0, hostOps0_1, hostOps0_2, List.flatten_cons, List.flatten_nil, List.append_nil, List.cons_append, List.nil_append]
  after_results
  rfl

/-- The launch finds the other input's latent rows so. -/
theorem V_yl : V m c main_v6 = latArr (m ((c : Thread nD τ).loc main_arg2)) := by
  simp only [V, hostOps0, hostOps0_1, hostOps0_2, List.flatten_cons, List.flatten_nil, List.append_nil, List.cons_append, List.nil_append]
  after_results
  rfl

/-- The launch finds the other input's context rows so. -/
theorem V_yc : V m c main_v8 = ctxArr (m ((c : Thread nD τ).loc main_arg3)) := by
  simp only [V, hostOps0, hostOps0_1, hostOps0_2, List.flatten_cons, List.flatten_nil, List.append_nil, List.cons_append, List.nil_append]
  after_results
  rfl

/-- The launch finds the output projection's array so. -/
theorem V_wo : V m c main_v9 = truncf .bf16 (m ((c : Thread nD τ).loc main_arg6) : FVec F S1024x1024 .f32) bitsLt_bf16_f32 := by
  simp only [V, hostOps0, hostOps0_1, hostOps0_2, List.flatten_cons, List.flatten_nil, List.append_nil, List.cons_append, List.nil_append]
  after_results

/-- The launch finds the hidden layer's array so. -/
theorem V_w13 : V m c main_v10 = truncf .bf16 (m ((c : Thread nD τ).loc main_arg9) : FVec F S1024x5632 .f32) bitsLt_bf16_f32 := by
  simp only [V, hostOps0, hostOps0_1, hostOps0_2, List.flatten_cons, List.flatten_nil, List.append_nil, List.cons_append, List.nil_append]
  after_results

/-- The launch finds the array after the hidden layer so. -/
theorem V_w2 : V m c main_v11 = truncf .bf16 (m ((c : Thread nD τ).loc main_arg10) : FVec F S2816x1024 .f32) bitsLt_bf16_f32 := by
  simp only [V, hostOps0, hostOps0_1, hostOps0_2, List.flatten_cons, List.flatten_nil, List.append_nil, List.cons_append, List.nil_append]
  after_results

/-- The launch finds the first normalisation's gain so. -/
theorem V_g1 : V m c main_v14 = row0 (m ((c : Thread nD τ).loc main_arg7)) := by
  simp only [V, hostOps0, hostOps0_1, hostOps0_2, List.flatten_cons, List.flatten_nil, List.append_nil, List.cons_append, List.nil_append]
  after_results
  rfl

/-- The launch finds the first normalisation's offset so. -/
theorem V_b1 : V m c main_v17 = row0 (m ((c : Thread nD τ).loc main_arg8)) := by
  simp only [V, hostOps0, hostOps0_1, hostOps0_2, List.flatten_cons, List.flatten_nil, List.append_nil, List.cons_append, List.nil_append]
  after_results
  rfl

/-- The launch finds the second normalisation's gain so. -/
theorem V_g2 : V m c main_v20 = row1 (m ((c : Thread nD τ).loc main_arg7)) := by
  simp only [V, hostOps0, hostOps0_1, hostOps0_2, List.flatten_cons, List.flatten_nil, List.append_nil, List.cons_append, List.nil_append]
  after_results
  rfl

/-- The launch finds the second normalisation's offset so. -/
theorem V_b2 : V m c main_v23 = row1 (m ((c : Thread nD τ).loc main_arg8)) := by
  simp only [V, hostOps0, hostOps0_1, hostOps0_2, List.flatten_cons, List.flatten_nil, List.append_nil, List.cons_append, List.nil_append]
  after_results
  rfl

end Arrays

/-- A batch's modulation. -/
theorem modArr_batch (x : FVec Ideal S4x6x1024 .f32) (y : FVec Ideal S1x6x1024 .f32) (b : Fin 4) (j : Fin 6) (k : Fin 1024) :
    modArr x y (ix3 ⟨1 + b.val, by omega⟩ j k) = x (ix3 b j k) := by
  pointwise [modArr]
  exact dif_pos (by omega)

/-- The context's modulation. -/
theorem modArr_ctx (x : FVec Ideal S4x6x1024 .f32) (y : FVec Ideal S1x6x1024 .f32) (j : Fin 6) (k : Fin 1024) :
    modArr x y (ix3 0 j k) = y (ix3 0 j k) := by
  pointwise [modArr]

/-- A latent row's element. -/
theorem rowArr_lat (x : FVec Ideal S4x8192x1024 .f32) (y : FVec Ideal S4x256x1024 .f32) (b : Fin 4) (p : Fin 8192) (k : Fin 1024) :
    rowArr x y (ix2 ⟨8192 * b.val + p.val, by omega⟩ k) = x (ix3 b p k) :=
  (Cert.Reference3Ideal.Post3.rows_fst _ _ ⟨8192 * b.val + p.val, by omega⟩ k).trans (Cert.Kernel2Ideal.Post.cast_rows _ _ b p k)

/-- A context row's element. -/
theorem rowArr_ctx (x : FVec Ideal S4x8192x1024 .f32) (y : FVec Ideal S4x256x1024 .f32) (b : Fin 4) (p : Fin 256) (k : Fin 1024) :
    rowArr x y (ix2 ⟨32768 + (256 * b.val + p.val), by omega⟩ k) = y (ix3 b p k) :=
  (Cert.Reference3Ideal.Post3.rows_snd _ _ ⟨256 * b.val + p.val, by omega⟩ k).trans (Cert.Reference3Ideal.Post3.cast_rows _ _ b p k)

/-- An element of the other input's latent rows. -/
theorem latArr_apply (x : FVec Ideal S4x8192x1024 .f32) (b : Fin 4) (p : Fin 8192) (k : Fin 1024) :
    latArr x (ix2 ⟨8192 * b.val + p.val, by omega⟩ k) = x (ix3 b p k) :=
  Cert.Kernel2Ideal.Post.cast_rows x _ b p k

/-- An element of the other input's context rows. -/
theorem ctxArr_apply (x : FVec Ideal S4x256x1024 .f32) (b : Fin 4) (p : Fin 256) (k : Fin 1024) :
    ctxArr x (ix2 ⟨256 * b.val + p.val, by omega⟩ k) = x (ix3 b p k) :=
  Cert.Reference3Ideal.Post3.cast_rows x _ b p k

end Cert.Kernel3Ideal.Post3

end
-- ==== Proof.Post3.Claim.lean ====
/-
  The launch of the later layers' output stage ends with the reference's rows, and the claims that rest on it.
-/
module

public import proofs.«01_k».proof.Defs
public import proofs.«01_k».proof.Proof.Post3.Value
public import proofs.«01_k».proof.Proof.Post3.Arrays
public import proofs.«01_k».proof.Proof.Post3.Ref
public import Idealize.ShloMosaic.Lib.Claim

@[expose] public section

set_option maxRecDepth 16384

noncomputable section

namespace Cert.Kernel3Ideal.Post3

open Cert.Kernel3Ideal Cert.Kernel3Ideal.Gen Cert.PostRow
open Cert.Kernel2Ideal.Post (row0_apply row1_apply)
open Cert.Reference3Ideal.Post3 (stage midL midC midL_apply midC_apply finC_apply rows_fst rows_snd)
open Idealize.ShloMosaic Idealize.ShloMosaic.TcCoe
open Idealize.SL Idealize.SL.Sem

/-- The block of input rows at a point. -/
theorem idx0 : ∀ t : Fin cfg0.N, win0_0.index t 0 = t.val ∧ win0_0.index t 1 = 0 := by
  decide +kernel

/-- The block of results at a point. -/
theorem idx11 : ∀ t : Fin cfg0.N, win0_11.index t 0 = t.val ∧ win0_11.index t 1 = 0 := by
  decide +kernel

/-- The block of modulation rows at a point: a batch's, then the context's. -/
theorem idx1 : ∀ t : Fin cfg0.N, win0_1.index t 0 = (if t.val < 64 then 1 + t.val / 16 else 0) ∧ win0_1.index t 1 = 0 ∧ win0_1.index t 2 = 0 := by
  decide +kernel

/-- The block of the other input's latent rows at a point. -/
theorem idx2 : ∀ t : Fin cfg0.N, win0_2.index t 0 = min t.val 63 ∧ win0_2.index t 1 = 0 := by
  decide +kernel

/-- The block of the other input's context rows at a point. -/
theorem idx3 : ∀ t : Fin cfg0.N, win0_3.index t 0 = t.val - 64 ∧ win0_3.index t 1 = 0 := by
  decide +kernel

/-- The block of the projection at a point: all of it. -/
theorem idx4 : ∀ t : Fin cfg0.N, win0_4.index t 0 = 0 ∧ win0_4.index t 1 = 0 := by
  decide +kernel

/-- The block of the first gain at a point: all of it. -/
theorem idx5 : ∀ t : Fin cfg0.N, win0_5.index t 0 = 0 ∧ win0_5.index t 1 = 0 := by
  decide +kernel

/-- The block of the first offset at a point: all of it. -/
theorem idx6 : ∀ t : Fin cfg0.N, win0_6.index t 0 = 0 ∧ win0_6.index t 1 = 0 := by
  decide +kernel

/-- The block of the hidden layer's weights at a point: all of it. -/
theorem idx7 : ∀ t : Fin cfg0.N, win0_7.index t 0 = 0 ∧ win0_7.index t 1 = 0 := by
  decide +kernel

/-- The block of the weights after the hidden layer at a point: all of it. -/
theorem idx8 : ∀ t : Fin cfg0.N, win0_8.index t 0 = 0 ∧ win0_8.index t 1 = 0 := by
  decide +kernel

/-- The block of the second gain at a point: all of it. -/
theorem idx9 : ∀ t : Fin cfg0.N, win0_9.index t 0 = 0 ∧ win0_9.index t 1 = 0 := by
  decide +kernel

/-- The block of the second offset at a point: all of it. -/
theorem idx10 : ∀ t : Fin cfg0.N, win0_10.index t 0 = 0 ∧ win0_10.index t 1 = 0 := by
  decide +kernel

/-- The batch of a latent point. -/
abbrev latB (t : Fin cfg0.N) (h : t.val < 64) : Fin 4 := ⟨t.val / 16, by omega⟩

/-- A latent row's place in its batch. -/
abbrev latRow (t : Fin cfg0.N) (i : Fin 512) : Fin 8192 := ⟨t.val % 16 * 512 + i.val, by omega⟩

/-- The batch of a context point's row. -/
abbrev ctxB (t : Fin cfg0.N) (h : 64 ≤ t.val) (i : Fin 512) : Fin 4 := ⟨2 * (t.val - 64) + i.val / 256, by have := t.isLt; have : cfg0.N = 66 := N_0; omega⟩

/-- A context row's place in its batch. -/
abbrev ctxRow (i : Fin 512) : Fin 256 := ⟨i.val % 256, by omega⟩

variable (m : (ℓ : Loc nD τ sig) → Buf (Elt Ideal) ℓ) (c : Dev nD)

/-- An input element of a latent point. -/
theorem block_xl (t : Fin cfg0.N) (h : t.val < 64) (i : Fin 512) (k : Fin 1024) : iblk m c 0 t (ix2 i k) = m ((c : Thread nD τ).loc main_arg0) (ix3 (latB t h) (latRow t i) k) := by
  refine .trans ?_ (rowArr_lat (m ((c : Thread nD τ).loc main_arg0)) (m ((c : Thread nD τ).loc main_arg1)) (latB t h) (latRow t i) k)
  rw [← V_x]
  blk_ext [iblk, (idx0 t).1, (idx0 t).2]

/-- An input element of a context point. -/
theorem block_xc (t : Fin cfg0.N) (h : 64 ≤ t.val) (i : Fin 512) (k : Fin 1024) : iblk m c 0 t (ix2 i k) = m ((c : Thread nD τ).loc main_arg1) (ix3 (ctxB t h i) (ctxRow i) k) := by
  refine .trans ?_ (rowArr_ctx (m ((c : Thread nD τ).loc main_arg0)) (m ((c : Thread nD τ).loc main_arg1)) (ctxB t h i) (ctxRow i) k)
  rw [← V_x]
  blk_ext [iblk, (idx0 t).1, (idx0 t).2]

/-- A modulation element of a latent point. -/
theorem block_ml (t : Fin cfg0.N) (h : t.val < 64) (j : Fin 6) (k : Fin 1024) : iblk m c 1 t (ix3 0 j k) = m ((c : Thread nD τ).loc main_arg4) (ix3 (latB t h) j k) := by
  refine .trans ?_ (modArr_batch (m ((c : Thread nD τ).loc main_arg4)) (m ((c : Thread nD τ).loc main_arg5)) (latB t h) j k)
  rw [← V_mod]
  have e := (idx1 t).1
  rw [if_pos h] at e
  blk_ext [iblk, e, (idx1 t).2.1, (idx1 t).2.2]

/-- A modulation element of a context point. -/
theorem block_mc (t : Fin cfg0.N) (h : 64 ≤ t.val) (j : Fin 6) (k : Fin 1024) : iblk m c 1 t (ix3 0 j k) = m ((c : Thread nD τ).loc main_arg5) (ix3 0 j k) := by
  refine .trans ?_ (modArr_ctx (m ((c : Thread nD τ).loc main_arg4)) (m ((c : Thread nD τ).loc main_arg5)) j k)
  rw [← V_mod]
  have e := (idx1 t).1
  rw [if_neg (by omega)] at e
  blk_ext [iblk, e, (idx1 t).2.1, (idx1 t).2.2]

/-- An element of the other input, of a latent point. -/
theorem block_yl (t : Fin cfg0.N) (h : t.val < 64) (i : Fin 512) (k : Fin 1024) : iblk m c 2 t (ix2 i k) = m ((c : Thread nD τ).loc main_arg2) (ix3 (latB t h) (latRow t i) k) := by
  refine .trans ?_ (latArr_apply (m ((c : Thread nD τ).loc main_arg2)) (latB t h) (latRow t i) k)
  rw [← V_yl]
  have e := (idx2 t).1
  rw [show min t.val 63 = t.val by omega] at e
  blk_ext [iblk, e, (idx2 t).2]

/-- An element of the other input, of a context point. -/
theorem block_yc (t : Fin cfg0.N) (h : 64 ≤ t.val) (i : Fin 512) (k : Fin 1024) : iblk m c 3 t (ix2 i k) = m ((c : Thread nD τ).loc main_arg3) (ix3 (ctxB t h i) (ctxRow i) k) := by
  refine .trans ?_ (ctxArr_apply (m ((c : Thread nD τ).loc main_arg3)) (ctxB t h i) (ctxRow i) k)
  rw [← V_yc]
  blk_ext [iblk, (idx3 t).1, (idx3 t).2]

/-- A projection element. -/
theorem block_wo (t : Fin cfg0.N) (j k : Fin 1024) : iblk m c 4 t (ix2 j k) = m ((c : Thread nD τ).loc main_arg6) (ix2 j k) := by
  have h : V m c main_v9 (ix2 j k) = m ((c : Thread nD τ).loc main_arg6) (ix2 j k) := congrFun (V_wo m c) (ix2 j k)
  refine .trans ?_ h
  blk_ext [iblk, (idx4 t).1, (idx4 t).2]

/-- The first gain. -/
theorem block_g1 (t : Fin cfg0.N) (k : Fin 1024) : iblk m c 5 t (ix2 0 k) = m ((c : Thread nD τ).loc main_arg7) (ix2 0 k) := by
  refine .trans ?_ (row0_apply (m ((c : Thread nD τ).loc main_arg7)) k)
  rw [← V_g1]
  blk_ext [iblk, (idx5 t).1, (idx5 t).2]

/-- The first offset. -/
theorem block_b1 (t : Fin cfg0.N) (k : Fin 1024) : iblk m c 6 t (ix2 0 k) = m ((c : Thread nD τ).loc main_arg8) (ix2 0 k) := by
  refine .trans ?_ (row0_apply (m ((c : Thread nD τ).loc main_arg8)) k)
  rw [← V_b1]
  blk_ext [iblk, (idx6 t).1, (idx6 t).2]

/-- A hidden layer's weight. -/
theorem block_w13 (t : Fin cfg0.N) (l : Fin 1024) (j : Fin 5632) : iblk m c 7 t (ix2 l j) = m ((c : Thread nD τ).loc main_arg9) (ix2 l j) := by
  have h : V m c main_v10 (ix2 l j) = m ((c : Thread nD τ).loc main_arg9) (ix2 l j) := congrFun (V_w13 m c) (ix2 l j)
  refine .trans ?_ h
  blk_ext [iblk, (idx7 t).1, (idx7 t).2]

/-- A weight after the hidden layer. -/
theorem block_w2 (t : Fin cfg0.N) (j : Fin 2816) (k : Fin 1024) : iblk m c 8 t (ix2 j k) = m ((c : Thread nD τ).loc main_arg10) (ix2 j k) := by
  have h : V m c main_v11 (ix2 j k) = m ((c : Thread nD τ).loc main_arg10) (ix2 j k) := congrFun (V_w2 m c) (ix2 j k)
  refine .trans ?_ h
  blk_ext [iblk, (idx8 t).1, (idx8 t).2]

/-- The second gain. -/
theorem block_g2 (t : Fin cfg0.N) (k : Fin 1024) : iblk m c 9 t (ix2 0 k) = m ((c : Thread nD τ).loc main_arg7) (ix2 1 k) := by
  refine .trans ?_ (row1_apply (m ((c : Thread nD τ).loc main_arg7)) k)
  rw [← V_g2]
  blk_ext [iblk, (idx9 t).1, (idx9 t).2]

/-- The second offset. -/
theorem block_b2 (t : Fin cfg0.N) (k : Fin 1024) : iblk m c 10 t (ix2 0 k) = m ((c : Thread nD τ).loc main_arg8) (ix2 1 k) := by
  refine .trans ?_ (row1_apply (m ((c : Thread nD τ).loc main_arg8)) k)
  rw [← V_b2]
  blk_ext [iblk, (idx10 t).1, (idx10 t).2]

/-- The latent rows after the first normalisation are the reference's. -/
theorem mid_lat (t : Fin cfg0.N) (h : t.val < 64) (i : Fin 512) : rowMid (iblk m c 0 t) (iblk m c 1 t) (k0_pay2 (F := Ideal) (iblk m c 2 t)) (iblk m c 4 t) (iblk m c 5 t) (iblk m c 6 t) i
    = fun k => midL (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (ix3 (latB t h) (latRow t i) k) := by
  funext k
  refine .trans ?_ (midL_apply (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (latB t h) (latRow t i) k).symm
  unfold rowMid
  have hy : ∀ k : Fin 1024, (k0_pay2 (F := Ideal) (iblk m c 2 t)) (ix2 i k) = m ((c : Thread nD τ).loc main_arg2) (ix3 (latB t h) (latRow t i) k) :=
    fun k => (pay2_apply _ i k).trans (block_yl m c t h i k)
  simp only [hy, block_xl m c t h, block_ml m c t h, block_wo, block_g1, block_b1]

/-- The context rows after the first normalisation are the reference's. -/
theorem mid_ctx (t : Fin cfg0.N) (h : 64 ≤ t.val) (i : Fin 512) : rowMid (iblk m c 0 t) (iblk m c 1 t) (k0_pay3 (F := Ideal) (iblk m c 3 t)) (iblk m c 4 t) (iblk m c 5 t) (iblk m c 6 t) i
    = fun k => midC (F := Ideal) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (ix3 (ctxB t h i) (ctxRow i) k) := by
  funext k
  refine .trans ?_ (midC_apply (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (ctxB t h i) (ctxRow i) k).symm
  unfold rowMid
  have hy : ∀ k : Fin 1024, (k0_pay3 (F := Ideal) (iblk m c 3 t)) (ix2 i k) = m ((c : Thread nD τ).loc main_arg3) (ix3 (ctxB t h i) (ctxRow i) k) :=
    fun k => (pay3_apply _ i k).trans (block_yc m c t h i k)
  simp only [hy, block_xc m c t h, block_mc m c t h, block_wo, block_g1, block_b1]

/-- The reference's stage of device `c`'s arguments. -/
abbrev rows3 : FVec Ideal S33792x1024 .f32 :=
  stage (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A latent block of results at any of its indices. -/
theorem rows_lat (t : Fin cfg0.N) (h : t.val < 64) (i : Fin 512) (k : Fin 1024) :
    body (F := Ideal) (iblk m c 0 t) (iblk m c 1 t) (k0_pay2 (F := Ideal) (iblk m c 2 t)) (iblk m c 4 t) (iblk m c 5 t) (iblk m c 6 t) (iblk m c 7 t) (iblk m c 8 t) (iblk m c 9 t) (iblk m c 10 t) (ix2 i k)
    = rows3 m c (ix2 ⟨t.val * 512 + i.val, by omega⟩ k) := by
  refine (body_at (iblk m c 0 t) (iblk m c 1 t) (k0_pay2 (F := Ideal) (iblk m c 2 t)) (iblk m c 4 t) (iblk m c 5 t) (iblk m c 6 t) (iblk m c 7 t) (iblk m c 8 t) (iblk m c 9 t) (iblk m c 10 t) i k).trans ?_
  have e : (⟨t.val * 512 + i.val, by omega⟩ : Fin 33792) = ⟨8192 * (latB t h).val + (latRow t i).val, by omega⟩ :=
    Fin.ext (show t.val * 512 + i.val = 8192 * (t.val / 16) + (t.val % 16 * 512 + i.val) by omega)
  rw [e]
  refine .trans ?_ ((rows_fst _ _ ⟨8192 * (latB t h).val + (latRow t i).val, by omega⟩ k).trans
    ((Cert.Reference2Ideal.Post.cast_rows _ _ (latB t h) (latRow t i) k).trans (Cert.Reference2Ideal.Post.fin_apply _ _ _ _ _ _ (latB t h) (latRow t i) k))).symm
  rw [mid_lat m c t h]
  simp only [block_ml m c t h, block_g2, block_b2, block_w13, block_w2]

/-- A context block of results at any of its indices. -/
theorem rows_ctx (t : Fin cfg0.N) (h : 64 ≤ t.val) (i : Fin 512) (k : Fin 1024) :
    body (F := Ideal) (iblk m c 0 t) (iblk m c 1 t) (k0_pay3 (F := Ideal) (iblk m c 3 t)) (iblk m c 4 t) (iblk m c 5 t) (iblk m c 6 t) (iblk m c 7 t) (iblk m c 8 t) (iblk m c 9 t) (iblk m c 10 t) (ix2 i k)
    = rows3 m c (ix2 ⟨t.val * 512 + i.val, by have := t.isLt; have : cfg0.N = 66 := N_0; omega⟩ k) := by
  refine (body_at (iblk m c 0 t) (iblk m c 1 t) (k0_pay3 (F := Ideal) (iblk m c 3 t)) (iblk m c 4 t) (iblk m c 5 t) (iblk m c 6 t) (iblk m c 7 t) (iblk m c 8 t) (iblk m c 9 t) (iblk m c 10 t) i k).trans ?_
  have e : (⟨t.val * 512 + i.val, by have := t.isLt; have : cfg0.N = 66 := N_0; omega⟩ : Fin 33792) = ⟨32768 + (256 * (ctxB t h i).val + (ctxRow i).val), by omega⟩ :=
    Fin.ext (show t.val * 512 + i.val = 32768 + (256 * (2 * (t.val - 64) + i.val / 256) + i.val % 256) by omega)
  rw [e]
  refine .trans ?_ ((rows_snd _ _ ⟨256 * (ctxB t h i).val + (ctxRow i).val, by omega⟩ k).trans
    ((Cert.Reference3Ideal.Post3.cast_rows _ _ (ctxB t h i) (ctxRow i) k).trans (finC_apply _ _ _ _ _ _ (ctxB t h i) (ctxRow i) k))).symm
  rw [mid_ctx m c t h]
  simp only [block_mc m c t h, block_g2, block_b2, block_w13, block_w2]

/-- A block of results at any of its indices. -/
theorem out_rows (t : Fin cfg0.N) (i : Fin 512) (k : Fin 1024) : outsAt0 m c t.val t.isLt (ix2 i k)
    = rows3 m c (ix2 ⟨t.val * 512 + i.val, by have := t.isLt; have : cfg0.N = 66 := N_0; omega⟩ k) := by
  by_cases h : t.val < 64
  · rw [outsAt0_A m c t h (by omega), out_A]
    exact rows_lat m c t h i k
  · rw [outsAt0_B m c t h (by omega), out_B]
    exact rows_ctx m c t (by omega) i k

/-- The result array after the run. -/
theorem result : (dats m 0 c).arrAt 11 cfg0.N = rows3 m c := by
  refine (dats m 0 c).arrAt_eq_of_covers 11 _ (by decide +kernel) fun t hf y => ?_
  blk_simp
  rw [after0_11]
  have hy : y = ix2 (⟨(y 0).val, (y 0).isLt⟩ : Fin 512) (⟨(y 1).val, (y 1).isLt⟩ : Fin 1024) := by
    funext a; fin_cases a <;> rfl
  rw [hy]
  refine (out_rows m c t _ _).trans ?_
  blk_ext [(idx11 t).1, (idx11 t).2]

/-- The run: the result array holds the reference's rows. -/
theorem run_value (ρ : Dev nD → PrngReg) : θ_run defs (onTc (τ := τ) (main (F := Ideal))) ⟨m, fun _ => 0, ρ⟩ (fun r => ∀ c : Dev nD,
      r.2.mem ((c.tc : Thread nD τ).loc main_v24) = rows3 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ hr c => ⟨((hr.1 c).1 11).trans (result m c), hr.2 c⟩)
    (θ_run_and (run_main m ρ) (frame_of m ρ (dats m) (A_eq m) (run_main m ρ)))

end Cert.Kernel3Ideal.Post3

namespace Cert.Reference3Ideal.Post3

open Cert.Reference3Ideal Cert.Reference3Ideal.Gen Cert.Reference3Ideal.Value
open Idealize.ShloMosaic Idealize.ShloMosaic.TcCoe Idealize.ShloMosaic.StableHlo Idealize.SL.Sem

variable {F : FTy → Type} [FloatOps F]

/-- The reference's run: the result array at `stage` of the arguments, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  (θ_run defs _ _).mono (fun _ h c => ⟨(h c).1.trans (by rw [v64_eq, v37_eq, v146_eq, v119_eq]; rfl), (h c).2⟩) (run m ρ)

end Cert.Reference3Ideal.Post3

namespace Cert.Proof

open Idealize.ShloMosaic Idealize.ShloMosaic.TcCoe Idealize.SL.Sem

/-- The kernel of the later layers' output stage ends quiescent with its arguments unchanged. -/
theorem frame_kernel3Ideal : Cert.quiescent_Kernel3Ideal (hKernel3Ideal := Cert.Kernel3Ideal.Gen.facts) := fun m ρ _ => Cert.Kernel3Ideal.Gen.frame m ρ

/-- Its reference ends with its arguments unchanged; it has no semaphore. -/
theorem frame_reference3Ideal : Cert.quiescent_Reference3Ideal (hReference3Ideal := Cert.Reference3Ideal.Gen.facts) := fun m ρ _ =>
  (θ_run Cert.Reference3Ideal.defs _ _).mono (fun r h => ⟨fun c => (h c).2, funext fun sm => nomatch sm.2⟩)
    (Cert.Reference3Ideal.Post3.run_main (F := Ideal) m ρ)

/-- The kernel of the later layers' output stage and its reference end with the same rows. -/
theorem algebraic3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Post3.rows3 m c, Cert.Kernel3Ideal.Post3.run_value m g, ?_⟩
  refine (θ_run Cert.Reference3Ideal.defs _ _).mono (fun _ h c => ⟨(h c).1.trans ?_, (h c).2⟩) (Cert.Reference3Ideal.Post3.run_main (F := Ideal) m' g')
  obtain ⟨h0, h1, h2, h3, h4, h5, h6, h7, h8, h9, h10⟩ := hagree c
  rw [h0, h1, h2, h3, h4, h5, h6, h7, h8, h9, h10]

end Cert.Proof

end
-- ==== Proof.Post4.Row.lean ====
/-
  One row of the retention layer's output stage, as arithmetic over extended reals: four heads of 512 lanes, normalised
  without a gain and gated, projected and added to the row. What follows is the other layers' arithmetic.
-/
module

public import proofs.«01_k».proof.Proof.Post.Row

@[expose] public section

noncomputable section

namespace Cert.PostRow

open Idealize.ShloMosaic

/-- A head's lanes divided by their root mean square. -/
def headNorm4 (x : Fin 512 → EReal) (e : Fin 512) : EReal :=
  x e * Ideal.rsqrt (Ideal.div (∑ j, x j * x j) (Ideal.ofBits .f32 0x44000000#32) + Ideal.ofBits .f32 0x358637BD#32)

/-- The lanes of all four heads, head by head. -/
def heads4 (x : Fin 4 → Fin 512 → EReal) (k : Fin 2048) : EReal := x ⟨k.val / 512, by omega⟩ ⟨k.val % 512, by omega⟩

/-- A lane of a head. -/
theorem heads4_eq (x : Fin 4 → Fin 512 → EReal) (h : Fin 4) (e : Fin 512) (k : Fin 2048) (hk : k.val = 512 * h.val + e.val) : heads4 x k = x h e :=
  congrArg₂ x (Fin.ext (by simp only; omega)) (Fin.ext (by simp only; omega))

/-- A row plus a scaled projection of a row twice as wide. -/
def added4 (x m : Fin 1024 → EReal) (y : Fin 2048 → EReal) (w : Fin 2048 → Fin 1024 → EReal) (k : Fin 1024) : EReal :=
  Ideal.ofBits .f32 0x3FD744FD#32 * x k + m k * ∑ j, y j * w j k

end Cert.PostRow

end
-- ==== Proof.Post4.Body.lean ====
/-
  The retention layer's output stage, its kernel body read at an element of its block, over extended reals.
-/
module

public import proofs.«01_k».proof.Proof.Gen.Kernel4Ideal.Skeleton
public import proofs.«01_k».proof.Proof.Post.Body
public import proofs.«01_k».proof.Proof.Post4.Row

@[expose] public section

set_option maxRecDepth 16384

noncomputable section

namespace Cert.Kernel4Ideal.Post4

open Cert.Kernel4Ideal Cert.Kernel4Ideal.Gen Cert.PostRow
open Cert.Kernel2Ideal.Post (Rows RowsN part partOut)
open Idealize.ShloMosaic

/-- A block of scans' or gates' rows. -/
abbrev Wide : Type := FVec Ideal S512x2048 .bf16

/-- The latent rows, through the scratch. -/
theorem pay2_apply (x : Rows) (i : Fin 512) (k : Fin 1024) : k0_pay2 (F := Ideal) x (ix2 i k) = x (ix2 i k) := by
  pointwise [k0_pay2]

/-- The context rows, through the scratch. -/
theorem pay3_apply (x : Rows) (i : Fin 512) (k : Fin 1024) : k0_pay3 (F := Ideal) x (ix2 i k) = x (ix2 i k) := by
  pointwise [k0_pay3]

/-- The two directions' sum. -/
theorem pay4_apply (a b : Wide) (i : Fin 512) (k : Fin 2048) : k0_pay4 (F := Ideal) a b (ix2 i k) = (a (ix2 i k) + b (ix2 i k) : EReal) := by
  pointwise [k0_pay4]

/-- Head 0, normalised. -/
theorem pay5_apply (a b : Wide) (i : Fin 512) (e : Fin 512) : k0_pay5 (F := Ideal) a b (ix2 i e)
    = headNorm4 (fun e => k0_pay4 (F := Ideal) a b (ix2 i ⟨e.val, by omega⟩)) e := by
  pointwise [k0_pay5, headNorm4]

/-- Head 1, normalised. -/
theorem pay6_apply (a b : Wide) (i : Fin 512) (e : Fin 512) : k0_pay6 (F := Ideal) a b (ix2 i e)
    = headNorm4 (fun e => k0_pay4 (F := Ideal) a b (ix2 i ⟨512 + e.val, by omega⟩)) e := by
  pointwise [k0_pay6, headNorm4]

/-- Head 2, before its normalisation. -/
theorem pay7_apply (a b : Wide) (i : Fin 512) (e : Fin 512) : k0_pay7 (F := Ideal) a b (ix2 i e)
    = k0_pay4 (F := Ideal) a b (ix2 i ⟨1024 + e.val, by omega⟩) := by
  pointwise [k0_pay7]

/-- The sum of head 2's squares. -/
theorem pay8_apply (a b : Wide) (i : Fin 512) : k0_pay8 (F := Ideal) a b (ix2 i 0)
    = ∑ e, k0_pay7 (F := Ideal) a b (ix2 i e) * k0_pay7 (F := Ideal) a b (ix2 i e) := by
  pointwise [k0_pay8]

/-- The row plus the scaled projection of its gated heads: the first two heads given normalised, the third with the sum of
its squares, the fourth read from all lanes. -/
theorem pay9_apply (x : Rows) (s : FVec Ideal S512x2048 .f32) (h0 h1 h2 : FVec Ideal S512x512 .f32) (q : FVec Ideal S512x1 .f32) (g : Wide)
    (m : FVec Ideal S1x1x1024 .f32) (w : FVec Ideal S2048x1024 .bf16) (y : Fin 512 → Fin 4 → Fin 512 → EReal)
    (e0 : ∀ i e, h0 (ix2 i e) = headNorm4 (y i 0) e) (e1 : ∀ i e, h1 (ix2 i e) = headNorm4 (y i 1) e)
    (e2 : ∀ i e, h2 (ix2 i e) = y i 2 e) (eq : ∀ i, q (ix2 i 0) = ∑ e, y i 2 e * y i 2 e)
    (e3 : ∀ i (e : Fin 512), s (ix2 i ⟨1536 + e.val, by omega⟩) = y i 3 e)
    (i : Fin 512) (k : Fin 1024) : k0_pay9 (F := Ideal) x s h0 h1 h2 q g m w (ix2 i k)
    = added4 (fun k => x (ix2 i k)) (fun k => m (ix3 0 0 k)) (fun j => heads4 (fun h => headNorm4 (y i h)) j * silu (g (ix2 i j))) (fun j k => w (ix2 j k)) k := by
  pointwise [k0_pay9, added4, silu, e0, e1, e2, eq, e3]
  refine congrArg (fun z : EReal => _ + _ * z) (Finset.sum_congr rfl fun j _ => congrArg (fun z : EReal => z * _ * _) ?_)
  by_cases c0 : j.val < 512
  · rw [dif_pos c0]
    exact (heads4_eq (fun h => headNorm4 (y i h)) 0 ⟨j.val, by omega⟩ j (show j.val = 512 * 0 + j.val by omega)).symm
  rw [dif_neg c0]
  by_cases c1 : j.val - 512 < 512
  · rw [dif_pos c1]
    exact (heads4_eq (fun h => headNorm4 (y i h)) 1 ⟨j.val - 512, by omega⟩ j (show j.val = 512 * 1 + (j.val - 512) by omega)).symm
  rw [dif_neg c1]
  by_cases c2 : j.val - 512 - 512 < 512
  · rw [dif_pos c2]
    exact (heads4_eq (fun h => headNorm4 (y i h)) 2 ⟨j.val - 512 - 512, by omega⟩ j (show j.val = 512 * 2 + (j.val - 512 - 512) by omega)).symm
  rw [dif_neg c2]
  rw [e3 i ⟨j.val - 512 - 512 - 512, by omega⟩]
  exact (heads4_eq (fun h => headNorm4 (y i h)) 3 ⟨j.val - 512 - 512 - 512, by omega⟩ j (show j.val = 512 * 3 + (j.val - 512 - 512 - 512) by omega)).symm

/-- The rows' sums. -/
theorem pay12_apply (x : Rows) (s : FVec Ideal S512x2048 .f32) (h0 h1 h2 : FVec Ideal S512x512 .f32) (q : FVec Ideal S512x1 .f32) (g : Wide)
    (m : FVec Ideal S1x1x1024 .f32) (w : FVec Ideal S2048x1024 .bf16) (i : Fin 512) :
    k0_pay12 (F := Ideal) x s h0 h1 h2 q g m w (ix1 i) = ∑ k, k0_pay9 (F := Ideal) x s h0 h1 h2 q g m w (ix2 i k) := by
  pointwise [k0_pay12]

/-- The first normalisation, of a row whose sum is given. -/
theorem pay13_apply (g b : FVec Ideal S1x1024 .f32) (x : Rows) (q : FVec Ideal S512 .f32) (i : Fin 512) (hq : q (ix1 i) = ∑ k, x (ix2 i k)) (k : Fin 1024) :
    k0_pay13 (F := Ideal) x (k0_pay10 g) (k0_pay11 b) q (ix2 i k) = layerNorm (fun k => x (ix2 i k)) (fun k => g (ix2 0 k)) (fun k => b (ix2 0 k)) k := by
  pointwise [k0_pay13, k0_pay10, k0_pay11, layerNorm, centred, scaled, hq]

/-- The hidden layer's input. -/
theorem pay14_apply (g b : FVec Ideal S1x1024 .f32) (x : Rows) (q : FVec Ideal S512 .f32) (s t : FVec Ideal S1x1x1024 .f32) (i : Fin 512) (k : Fin 1024) :
    k0_pay14 (F := Ideal) x g b q s t (ix2 i k)
      = modulated (fun k => k0_pay13 (F := Ideal) x g b q (ix2 i k)) (fun k => t (ix3 0 0 k)) (fun k => s (ix3 0 0 k)) k := by
  pointwise [k0_pay14, modulated]

/-- Part 0's units. -/
theorem pay16_apply (g b : FVec Ideal S1x1024 .f32) (x : Rows) (q : FVec Ideal S512 .f32) (s t : FVec Ideal S1x1x1024 .f32)
    (a0 b0 : FVec Ideal S1024x256 .bf16) (i : Fin 512) (j : Fin 256) :
    k0_pay16 (F := Ideal) x g b q s t a0 b0 (ix2 i j) = part (fun l => k0_pay14 (F := Ideal) x g b q s t (ix2 i l)) a0 b0 j := by
  pointwise [k0_pay16, part, silu]

/-- Parts 0 to 2 added, part 0's units given. -/
theorem pay17_apply (u : RowsN) (p : FVec Ideal S512x256 .bf16) (w0 : FVec Ideal S256x1024 .bf16) (a1 b1 : FVec Ideal S1024x256 .bf16) (w1 : FVec Ideal S256x1024 .bf16)
    (a2 b2 : FVec Ideal S1024x256 .bf16) (w2 : FVec Ideal S256x1024 .bf16) (i : Fin 512) (k : Fin 1024) :
    k0_pay17 (F := Ideal) u (k0_pay15 (F := Ideal)) p w0 a1 b1 w1 a2 b2 w2 (ix2 i k)
      = partOut (fun j => p (ix2 i j)) w0 k + partOut (part (fun l => u (ix2 i l)) a1 b1) w1 k + partOut (part (fun l => u (ix2 i l)) a2 b2) w2 k := by
  pointwise [k0_pay17, k0_pay15, partOut, part, silu]

/-- Parts 3 and 4 added. -/
theorem pay19_apply (u : RowsN) (x : Rows) (a3 b3 : FVec Ideal S1024x256 .bf16) (w3 : FVec Ideal S256x1024 .bf16)
    (a4 b4 : FVec Ideal S1024x256 .bf16) (w4 : FVec Ideal S256x1024 .bf16) (i : Fin 512) (k : Fin 1024) :
    k0_pay19 (F := Ideal) u x (k0_pay18 u a3) b3 w3 a4 b4 w4 (ix2 i k)
      = x (ix2 i k) + partOut (part (fun l => u (ix2 i l)) a3 b3) w3 k + partOut (part (fun l => u (ix2 i l)) a4 b4) w4 k := by
  pointwise [k0_pay19, k0_pay18, partOut, part, silu]

/-- Parts 5 to 7 added. -/
theorem pay21_apply (u : RowsN) (x : Rows) (a5 b5 : FVec Ideal S1024x256 .bf16) (w5 : FVec Ideal S256x1024 .bf16)
    (a6 b6 : FVec Ideal S1024x256 .bf16) (w6 : FVec Ideal S256x1024 .bf16) (a7 b7 : FVec Ideal S1024x256 .bf16) (w7 : FVec Ideal S256x1024 .bf16) (i : Fin 512) (k : Fin 1024) :
    k0_pay21 (F := Ideal) u x (k0_pay20 u a5 b5 w5) a6 b6 w6 a7 b7 w7 (ix2 i k)
      = x (ix2 i k) + partOut (part (fun l => u (ix2 i l)) a5 b5) w5 k + partOut (part (fun l => u (ix2 i l)) a6 b6) w6 k + partOut (part (fun l => u (ix2 i l)) a7 b7) w7 k := by
  pointwise [k0_pay21, k0_pay20, partOut, part, silu]

/-- Parts 8 to 10 added. -/
theorem pay25_apply (u : RowsN) (x : Rows) (a8 b8 : FVec Ideal S1024x256 .bf16) (w8 : FVec Ideal S256x1024 .bf16)
    (a9 b9 : FVec Ideal S1024x256 .bf16) (w9 : FVec Ideal S256x1024 .bf16) (a b : FVec Ideal S1024x256 .bf16) (w : FVec Ideal S256x1024 .bf16) (i : Fin 512) (k : Fin 1024) :
    k0_pay25 (F := Ideal) u x (k0_pay22 u a8) (k0_pay23 u b8) (k0_pay24 u a8) w8 a9 b9 w9 a b w (ix2 i k)
      = x (ix2 i k) + partOut (part (fun l => u (ix2 i l)) a8 b8) w8 k + partOut (part (fun l => u (ix2 i l)) a9 b9) w9 k + partOut (part (fun l => u (ix2 i l)) a b) w k := by
  pointwise [k0_pay25, k0_pay22, k0_pay23, k0_pay24, partOut, part, silu]

/-- The rows scaled, before the feed-forward part is added. -/
theorem pay26_apply (x : Rows) (i : Fin 512) (k : Fin 1024) : k0_pay26 (F := Ideal) x (ix2 i k) = Ideal.ofBits .f32 0x3FD744FD#32 * x (ix2 i k) := by
  pointwise [k0_pay26]

/-- The second normalisation, of the scaled row plus the scaled feed-forward part. -/
theorem pay1_apply (f r : Rows) (m : FVec Ideal S1x1x1024 .f32) (g b : FVec Ideal S1x1024 .f32) (i : Fin 512) (k : Fin 1024) :
    k0_pay1 (F := Ideal) f r m g b (ix2 i k) = layerNorm (fun k => r (ix2 i k) + m (ix3 0 0 k) * f (ix2 i k)) (fun k => g (ix2 0 k)) (fun k => b (ix2 0 k)) k := by
  pointwise [k0_pay1, layerNorm, centred, scaled]

end Cert.Kernel4Ideal.Post4

end
-- ==== Proof.Post4.Run.lean ====
/-
  What a grid point of the retention layer's output stage leaves in its block of results: one tower over the blocks it
  holds, the rows being the latent stream's at a latent point and the context stream's at a context point.
-/
module

public import proofs.«01_k».proof.Proof.Gen.Kernel4Ideal.Frame
public import proofs.«01_k».proof.Proof.Post3.Run
public import Idealize.ShloMosaic.Lib.Pipeline.ValueKit

@[expose] public section

set_option maxRecDepth 16384

noncomputable section

namespace Cert.Kernel4Ideal.Post4

open Cert.Kernel4Ideal Cert.Kernel4Ideal.Gen
open Cert.Kernel3Ideal.Post3 (modRow cols rows)
open Idealize.ShloMosaic Idealize.ShloMosaic.TcCoe
open Idealize.SL Idealize.SL.Sem

variable {F : FTy → Type} [FloatOps F]

section Tower

variable (x : Vec F S512x1024 .f32) (x1 : Vec F S1x6x1024 .f32) (x3 x4 x5 : Vec F S512x2048 .bf16) (x6 : Vec F S2048x1024 .bf16) (x7 x8 : Vec F S1x1024 .f32)
  (x9 : Vec F S1024x5632 .bf16) (x10 : Vec F S2816x1024 .bf16) (x11 x12 : Vec F S1x1024 .f32)

/-- The rows plus the scaled projection. -/
abbrev tSum : FVec F S512x1024 .f32 := k0_pay9 x (k0_pay4 x3 x4) (k0_pay5 x3 x4) (k0_pay6 x3 x4) (k0_pay7 x3 x4) (k0_pay8 x3 x4) x5 (modRow x1 2 inb_S1x6x1024_S1x1x1024_0_2_0) x6

/-- Their sums. -/
abbrev tTot : FVec F S512 .f32 := k0_pay12 x (k0_pay4 x3 x4) (k0_pay5 x3 x4) (k0_pay6 x3 x4) (k0_pay7 x3 x4) (k0_pay8 x3 x4) x5 (modRow x1 2 inb_S1x6x1024_S1x1x1024_0_2_0) x6

/-- The rows after the first normalisation. -/
def tMid : FVec F S512x1024 .f32 := k0_pay13 (tSum x x1 x3 x4 x5 x6) (k0_pay10 x7) (k0_pay11 x8) (tTot x x1 x3 x4 x5 x6)

/-- The hidden layer's input. -/
def tIn : FVec F S512x1024 .bf16 := k0_pay14 (tSum x x1 x3 x4 x5 x6) (k0_pay10 x7) (k0_pay11 x8) (tTot x x1 x3 x4 x5 x6) (modRow x1 4 inb_S1x6x1024_S1x1x1024_0_4_0) (modRow x1 3 inb_S1x6x1024_S1x1x1024_0_3_0)

/-- Part 0's units. -/
def tUnits0 : FVec F S512x256 .bf16 :=
  k0_pay16 (tSum x x1 x3 x4 x5 x6) (k0_pay10 x7) (k0_pay11 x8) (tTot x x1 x3 x4 x5 x6) (modRow x1 4 inb_S1x6x1024_S1x1x1024_0_4_0) (modRow x1 3 inb_S1x6x1024_S1x1x1024_0_3_0) (cols x9 0 inb_S1024x5632_S1024x256_0_0) (cols x9 2816 inb_S1024x5632_S1024x256_0_2816)

/-- Parts 0 to 2 of the feed-forward part. -/
def tTo2 : FVec F S512x1024 .f32 :=
  k0_pay17 (tIn x x1 x3 x4 x5 x6 x7 x8) k0_pay15 (tUnits0 x x1 x3 x4 x5 x6 x7 x8 x9) (rows x10 0 inb_S2816x1024_S256x1024_0_0)
    (cols x9 256 inb_S1024x5632_S1024x256_0_256) (cols x9 3072 inb_S1024x5632_S1024x256_0_3072) (rows x10 256 inb_S2816x1024_S256x1024_256_0)
    (cols x9 512 inb_S1024x5632_S1024x256_0_512) (cols x9 3328 inb_S1024x5632_S1024x256_0_3328) (rows x10 512 inb_S2816x1024_S256x1024_512_0)

/-- Parts 0 to 4 of the feed-forward part. -/
def tTo4 : FVec F S512x1024 .f32 :=
  k0_pay19 (tIn x x1 x3 x4 x5 x6 x7 x8) (tTo2 x x1 x3 x4 x5 x6 x7 x8 x9 x10) (k0_pay18 (tIn x x1 x3 x4 x5 x6 x7 x8) (cols x9 768 inb_S1024x5632_S1024x256_0_768)) (cols x9 3584 inb_S1024x5632_S1024x256_0_3584) (rows x10 768 inb_S2816x1024_S256x1024_768_0)
    (cols x9 1024 inb_S1024x5632_S1024x256_0_1024) (cols x9 3840 inb_S1024x5632_S1024x256_0_3840) (rows x10 1024 inb_S2816x1024_S256x1024_1024_0)

/-- Parts 0 to 7 of the feed-forward part. -/
def tTo7 : FVec F S512x1024 .f32 :=
  k0_pay21 (tIn x x1 x3 x4 x5 x6 x7 x8) (tTo4 x x1 x3 x4 x5 x6 x7 x8 x9 x10) (k0_pay20 (tIn x x1 x3 x4 x5 x6 x7 x8) (cols x9 1280 inb_S1024x5632_S1024x256_0_1280) (cols x9 4096 inb_S1024x5632_S1024x256_0_4096) (rows x10 1280 inb_S2816x1024_S256x1024_1280_0))
    (cols x9 1536 inb_S1024x5632_S1024x256_0_1536) (cols x9 4352 inb_S1024x5632_S1024x256_0_4352) (rows x10 1536 inb_S2816x1024_S256x1024_1536_0)
    (cols x9 1792 inb_S1024x5632_S1024x256_0_1792) (cols x9 4608 inb_S1024x5632_S1024x256_0_4608) (rows x10 1792 inb_S2816x1024_S256x1024_1792_0)

/-- The feed-forward part. -/
def tFfn : FVec F S512x1024 .f32 :=
  k0_pay25 (tIn x x1 x3 x4 x5 x6 x7 x8) (tTo7 x x1 x3 x4 x5 x6 x7 x8 x9 x10) (k0_pay22 (tIn x x1 x3 x4 x5 x6 x7 x8) (cols x9 2048 inb_S1024x5632_S1024x256_0_2048)) (k0_pay23 (tIn x x1 x3 x4 x5 x6 x7 x8) (cols x9 4864 inb_S1024x5632_S1024x256_0_4864)) (k0_pay24 (tIn x x1 x3 x4 x5 x6 x7 x8) (cols x9 2048 inb_S1024x5632_S1024x256_0_2048)) (rows x10 2048 inb_S2816x1024_S256x1024_2048_0)
    (cols x9 2304 inb_S1024x5632_S1024x256_0_2304) (cols x9 5120 inb_S1024x5632_S1024x256_0_5120) (rows x10 2304 inb_S2816x1024_S256x1024_2304_0)
    (cols x9 2560 inb_S1024x5632_S1024x256_0_2560) (cols x9 5376 inb_S1024x5632_S1024x256_0_5376) (rows x10 2560 inb_S2816x1024_S256x1024_2560_0)

/-- The block of results. -/
def body : FVec F S512x1024 .f32 := k0_pay1 (tFfn x x1 x3 x4 x5 x6 x7 x8 x9 x10) (k0_pay26 (tMid x x1 x3 x4 x5 x6 x7 x8)) (modRow x1 5 inb_S1x6x1024_S1x1x1024_0_5_0) x11 x12

end Tower

/-- At a latent point the block of results is the tower over the latent rows. -/
theorem out_A (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x1024 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .f32) (harg15 : arg15.IsWhole) (hc0 : cond0_0 i) (hc1 : ¬cond0_1 i)
    (x0 : Vec F S512x1024 .f32) (x1 : Vec F S1x6x1024 .f32) (x2 : Vec F S512x1024 .f32) (x3 : Vec F S512x2048 .bf16) (x4 : Vec F S512x2048 .bf16) (x5 : Vec F S512x2048 .bf16) (x6 : Vec F S2048x1024 .bf16) (x7 : Vec F S1x1024 .f32) (x8 : Vec F S1x1024 .f32) (x9 : Vec F S1024x5632 .bf16) (x10 : Vec F S2816x1024 .bf16) (x11 : Vec F S1x1024 .f32) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12
      = body (k0_pay2 x0) x1 x3 x4 x5 x6 x7 x8 x9 x10 x11 x12 := by
  frame_out
  rfl

/-- At a context point the block of results is the tower over the context rows. -/
theorem out_B (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x1024 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .f32) (harg15 : arg15.IsWhole) (hc0 : ¬cond0_0 i) (hc1 : cond0_1 i)
    (x0 : Vec F S512x1024 .f32) (x1 : Vec F S1x6x1024 .f32) (x2 : Vec F S512x1024 .f32) (x3 : Vec F S512x2048 .bf16) (x4 : Vec F S512x2048 .bf16) (x5 : Vec F S512x2048 .bf16) (x6 : Vec F S2048x1024 .bf16) (x7 : Vec F S1x1024 .f32) (x8 : Vec F S1x1024 .f32) (x9 : Vec F S1024x5632 .bf16) (x10 : Vec F S2816x1024 .bf16) (x11 : Vec F S1x1024 .f32) (x12 : Vec F S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12
      = body (k0_pay3 x2) x1 x3 x4 x5 x6 x7 x8 x9 x10 x11 x12 := by
  frame_out
  rfl

end Cert.Kernel4Ideal.Post4

end
-- ==== Proof.Post4.Value.lean ====
/-
  The block of results of the retention layer's output stage, element by element, from the blocks a grid point holds.
-/
module

public import proofs.«01_k».proof.Proof.Post4.Body
public import proofs.«01_k».proof.Proof.Post4.Run
public import proofs.«01_k».proof.Proof.Post3.Value

@[expose] public section

set_option maxRecDepth 16384

noncomputable section

namespace Cert.Kernel4Ideal.Post4

open Cert.Kernel4Ideal Cert.Kernel4Ideal.Gen Cert.PostRow
open Cert.Kernel2Ideal.Post (Rows RowsN part partOut tile parts_sum ld_mod)
open Cert.Kernel3Ideal.Post3 (modRow cols rows chunk)
open Idealize.ShloMosaic Idealize.ShloMosaic.TcCoe
open Idealize.SL Idealize.SL.Sem

variable (x : Rows) (x1 : FVec Ideal S1x6x1024 .f32) (x3 x4 x5 : Wide) (x6 : FVec Ideal S2048x1024 .bf16) (x7 x8 : FVec Ideal S1x1024 .f32)
  (x9 : FVec Ideal S1024x5632 .bf16) (x10 : FVec Ideal S2816x1024 .bf16) (x11 x12 : FVec Ideal S1x1024 .f32)

/-- The two scans' sum by heads. -/
abbrev scanHead (i : Fin 512) (h : Fin 4) (e : Fin 512) : EReal := x3 (ix2 i ⟨512 * h.val + e.val, by omega⟩) + x4 (ix2 i ⟨512 * h.val + e.val, by omega⟩)

/-- A row of the block after the first normalisation. -/
def rowMid (i : Fin 512) : Fin 1024 → EReal :=
  layerNorm (added4 (fun k => x (ix2 i k)) (fun k => x1 (ix3 0 2 k))
      (fun j => heads4 (fun h => headNorm4 (scanHead x3 x4 i h)) j * silu (x5 (ix2 i j))) fun j k => x6 (ix2 j k))
    (fun k => x7 (ix2 0 k)) (fun k => x8 (ix2 0 k))

/-- The hidden layer's input row. -/
abbrev rowIn (i : Fin 512) : Fin 1024 → EReal :=
  modulated (rowMid x x1 x3 x4 x5 x6 x7 x8 i) (fun k => x1 (ix3 0 3 k)) (fun k => x1 (ix3 0 4 k))

/-- The rows plus the scaled projection. -/
theorem sum_at (i : Fin 512) (k : Fin 1024) : tSum (F := Ideal) x x1 x3 x4 x5 x6 (ix2 i k)
    = added4 (fun k => x (ix2 i k)) (fun k => x1 (ix3 0 2 k))
      (fun j => heads4 (fun h => headNorm4 (scanHead x3 x4 i h)) j * silu (x5 (ix2 i j))) (fun j k => x6 (ix2 j k)) k := by
  have hs : ∀ i (k : Fin 2048), k0_pay4 (F := Ideal) x3 x4 (ix2 i k) = (x3 (ix2 i k) + x4 (ix2 i k) : EReal) := pay4_apply x3 x4
  have h2 : ∀ i (e : Fin 512), k0_pay7 (F := Ideal) x3 x4 (ix2 i e) = scanHead x3 x4 i 2 e := fun i e => (pay7_apply x3 x4 i e).trans (hs _ _)
  have hm : ∀ k : Fin 1024, (modRow (F := Ideal) x1 2 inb_S1x6x1024_S1x1x1024_0_2_0) (ix3 0 0 k) = x1 (ix3 0 2 k) := fun k => ld_mod x1 2 _ k
  refine (pay9_apply x _ _ _ _ _ x5 _ x6 (scanHead x3 x4) ?_ ?_ h2 ?_ ?_ i k).trans ?_
  · intro i e
    refine (pay5_apply x3 x4 i e).trans (congrArg (fun f => headNorm4 f e) (funext fun e => (hs _ _).trans ?_))
    exact congrArg (fun k => (x3 (ix2 i k) + x4 (ix2 i k) : EReal)) (Fin.ext (show e.val = 512 * 0 + e.val by omega))
  · exact fun i e => (pay6_apply x3 x4 i e).trans (congrArg (fun f => headNorm4 f e) (funext fun e => hs _ _))
  · exact fun i => (pay8_apply x3 x4 i).trans (Finset.sum_congr rfl fun e _ => congrArg₂ (fun a b : EReal => a * b) (h2 i e) (h2 i e))
  · exact fun i e => hs _ _
  · simp only [hm]

/-- The first normalisation, of the tower's rows. -/
theorem norm_at (i : Fin 512) (k : Fin 1024) : k0_pay13 (F := Ideal) (tSum (F := Ideal) x x1 x3 x4 x5 x6) (k0_pay10 x7) (k0_pay11 x8) (tTot (F := Ideal) x x1 x3 x4 x5 x6) (ix2 i k) = rowMid x x1 x3 x4 x5 x6 x7 x8 i k := by
  refine (pay13_apply x7 x8 _ _ i (pay12_apply _ _ _ _ _ _ _ _ _ i) k).trans ?_
  unfold rowMid
  exact congrArg (fun f => layerNorm f _ _ k) (funext fun k => sum_at x x1 x3 x4 x5 x6 i k)

/-- The hidden layer's input, of the tower's rows. -/
theorem in_at (i : Fin 512) (k : Fin 1024) : k0_pay14 (F := Ideal) (tSum (F := Ideal) x x1 x3 x4 x5 x6) (k0_pay10 x7) (k0_pay11 x8) (tTot (F := Ideal) x x1 x3 x4 x5 x6) (modRow (F := Ideal) x1 4 inb_S1x6x1024_S1x1x1024_0_4_0) (modRow (F := Ideal) x1 3 inb_S1x6x1024_S1x1x1024_0_3_0) (ix2 i k) = rowIn x x1 x3 x4 x5 x6 x7 x8 i k := by
  refine (pay14_apply _ _ _ _ _ _ i k).trans ?_
  have h4 : ∀ k : Fin 1024, (modRow (F := Ideal) x1 4 inb_S1x6x1024_S1x1x1024_0_4_0) (ix3 0 0 k) = x1 (ix3 0 4 k) := fun k => ld_mod x1 4 _ k
  have h3 : ∀ k : Fin 1024, (modRow (F := Ideal) x1 3 inb_S1x6x1024_S1x1x1024_0_3_0) (ix3 0 0 k) = x1 (ix3 0 3 k) := fun k => ld_mod x1 3 _ k
  simp only [h3, h4, norm_at]

/-- Part 0's units, of the tower's rows. -/
theorem units0_at (i : Fin 512) (j : Fin 256) : tUnits0 (F := Ideal) x x1 x3 x4 x5 x6 x7 x8 x9 (ix2 i j)
    = part (rowIn x x1 x3 x4 x5 x6 x7 x8 i) (cols (F := Ideal) x9 0 inb_S1024x5632_S1024x256_0_0) (cols (F := Ideal) x9 2816 inb_S1024x5632_S1024x256_0_2816) j := by
  unfold tUnits0
  exact (pay16_apply _ _ _ _ _ _ _ _ i j).trans (congrArg (fun u => part u _ _ j) (funext fun l => in_at x x1 x3 x4 x5 x6 x7 x8 i l))

/-- The feed-forward part. -/
theorem ffn_at (i : Fin 512) (k : Fin 1024) : tFfn (F := Ideal) x x1 x3 x4 x5 x6 x7 x8 x9 x10 (ix2 i k) = ∑ j, hiddenUnit (rowIn x x1 x3 x4 x5 x6 x7 x8 i) (fun l j => x9 (ix2 l j)) j * x10 (ix2 j k) := by
  have hu : (fun l => tIn (F := Ideal) x x1 x3 x4 x5 x6 x7 x8 (ix2 i l)) = rowIn x x1 x3 x4 x5 x6 x7 x8 i := funext (in_at x x1 x3 x4 x5 x6 x7 x8 i)
  have h0 : (fun j => tUnits0 (F := Ideal) x x1 x3 x4 x5 x6 x7 x8 x9 (ix2 i j)) = part (rowIn x x1 x3 x4 x5 x6 x7 x8 i) (cols (F := Ideal) x9 0 inb_S1024x5632_S1024x256_0_0)
      (cols (F := Ideal) x9 2816 inb_S1024x5632_S1024x256_0_2816) := funext (units0_at x x1 x3 x4 x5 x6 x7 x8 x9 i)
  unfold tFfn
  refine (pay25_apply _ _ _ _ _ _ _ _ _ _ _ i k).trans ?_
  unfold tTo7
  rw [pay21_apply]
  unfold tTo4
  rw [pay19_apply]
  unfold tTo2
  rw [pay17_apply, h0, hu]
  rw [chunk x9 x10 0 2816 (by norm_num) rfl, chunk x9 x10 256 3072 (by norm_num) rfl, chunk x9 x10 512 3328 (by norm_num) rfl, chunk x9 x10 768 3584 (by norm_num) rfl, chunk x9 x10 1024 3840 (by norm_num) rfl, chunk x9 x10 1280 4096 (by norm_num) rfl, chunk x9 x10 1536 4352 (by norm_num) rfl, chunk x9 x10 1792 4608 (by norm_num) rfl, chunk x9 x10 2048 4864 (by norm_num) rfl, chunk x9 x10 2304 5120 (by norm_num) rfl, chunk x9 x10 2560 5376 (by norm_num) rfl, ← parts_sum]

/-- A block of results at an index. -/
theorem body_at (i : Fin 512) (k : Fin 1024) : body (F := Ideal) x x1 x3 x4 x5 x6 x7 x8 x9 x10 x11 x12 (ix2 i k)
    = second (rowMid x x1 x3 x4 x5 x6 x7 x8 i) (fun k => x1 (ix3 0 3 k)) (fun k => x1 (ix3 0 4 k)) (fun k => x1 (ix3 0 5 k))
        (fun k => x11 (ix2 0 k)) (fun k => x12 (ix2 0 k)) (fun l j => x9 (ix2 l j)) (fun j k => x10 (ix2 j k)) k := by
  unfold body
  refine (pay1_apply _ _ _ x11 x12 i k).trans (congrArg (fun f => layerNorm f _ _ k) (funext fun k => ?_))
  have h5 : (modRow (F := Ideal) x1 5 inb_S1x6x1024_S1x1x1024_0_5_0) (ix3 0 0 k) = x1 (ix3 0 5 k) := ld_mod x1 5 _ k
  have hr : tMid (F := Ideal) x x1 x3 x4 x5 x6 x7 x8 (ix2 i k) = rowMid x x1 x3 x4 x5 x6 x7 x8 i k := norm_at x x1 x3 x4 x5 x6 x7 x8 i k
  unfold fed
  rw [h5, pay26_apply, hr, ffn_at]

end Cert.Kernel4Ideal.Post4

end
-- ==== Proof.Post4.Arrays.lean ====
/-
  The arrays the kernel of the retention layer's output stage is launched on, read at an element: latent rows before
  context rows, a scan's heads one after another along a row, the gate in the last of three column blocks.
-/
module

public import proofs.«01_k».proof.Proof.Gen.Kernel4Ideal.Frame
public import proofs.«01_k».proof.Proof.Post3.Arrays

@[expose] public section

set_option maxRecDepth 16384

noncomputable section

namespace Cert.Kernel4Ideal.Post4

open Cert.Kernel4Ideal Cert.Kernel4Ideal.Gen
open Cert.Kernel2Ideal.Post (row0 row1)
open Cert.Kernel3Ideal.Post3 (modArr)
open Idealize.ShloMosaic Idealize.ShloMosaic.TcCoe Idealize.SL.Sem

section Arrays

variable {F : FTy → Type} [FloatOps F]

/-- Latent rows, then context rows, as narrow numbers. -/
def rowsArr (x : FVec F S32768x2048 .f32) (y : FVec F S1024x2048 .f32) : FVec F S33792x2048 .bf16 :=
  truncf .bf16 (concatenate S33792x2048 0 [⟨S32768x2048, x⟩, ⟨S1024x2048, y⟩] concatenates_S32768x2048_S1024x2048_S33792x2048_d0 : FVec F S33792x2048 .f32) bitsLt_bf16_f32

/-- The rows of one direction's scan: head after head along a row. -/
def scanArr (x : FVec F S4x4x8192x512 .f32) (y : FVec F S4x4x256x512 .f32) : FVec F S33792x2048 .bf16 :=
  rowsArr (shapeCast S32768x2048 (transpose S4x8192x4x512 [0, 2, 1, 3] x transposes_S4x4x8192x512_S4x8192x4x512_0_2_1_3) shapeCasts_S4x8192x4x512_S32768x2048)
    (shapeCast S1024x2048 (transpose S4x256x4x512 [0, 2, 1, 3] y transposes_S4x4x256x512_S4x256x4x512_0_2_1_3) shapeCasts_S4x256x4x512_S1024x2048)

/-- The gate's rows, in the last of three column blocks. -/
def gateArr (x : FVec F S4x8192x2048 .f32) (y : FVec F S4x256x2048 .f32) : FVec F S33792x6144 .bf16 :=
  pad S33792x6144 ![0, 4096] ![0, 0] ![0, 0]
    (rowsArr (shapeCast S32768x2048 x shapeCasts_S4x8192x2048_S32768x2048) (shapeCast S1024x2048 y shapeCasts_S4x256x2048_S1024x2048))
    (sitofp .bf16 (constantI S_ 32 0#32) : FVec F S_ .bf16) pads_S33792x2048_S33792x6144_000_409600 h_S_

/-- The layer's latent rows. -/
def latArr (x : FVec F S4x8192x1024 .f32) : FVec F S32768x1024 .f32 := shapeCast S32768x1024 x shapeCasts_S4x8192x1024_S32768x1024

/-- The layer's context rows. -/
def ctxArr (x : FVec F S4x256x1024 .f32) : FVec F S1024x1024 .f32 := shapeCast S1024x1024 x shapeCasts_S4x256x1024_S1024x1024

variable (m : (ℓ : Loc nD τ sig) → Buf (Elt F) ℓ) (c : Dev nD)

/-- The launch finds the latent rows so. -/
theorem V_xl : V m c main_v19 = latArr (m ((c : Thread nD τ).loc main_arg0)) := by
  simp only [V, hostOps0, hostOps0_1, hostOps0_2, hostOps0_3, hostOps0_4, List.flatten_cons, List.flatten_nil, List.append_nil, List.cons_append, List.nil_append]
  after_results
  rfl

/-- The launch finds the context rows so. -/
theorem V_xc : V m c main_v20 = ctxArr (m ((c : Thread nD τ).loc main_arg1)) := by
  simp only [V, hostOps0, hostOps0_1, hostOps0_2, hostOps0_3, hostOps0_4, List.flatten_cons, List.flatten_nil, List.append_nil, List.cons_append, List.nil_append]
  after_results
  rfl

/-- The launch finds the modulation's array so. -/
theorem V_mod : V m c main_v18 = modArr (m ((c : Thread nD τ).loc main_arg8)) (m ((c : Thread nD τ).loc main_arg9)) := by
  simp only [V, hostOps0, hostOps0_1, hostOps0_2, hostOps0_3, hostOps0_4, List.flatten_cons, List.flatten_nil, List.append_nil, List.cons_append, List.nil_append]
  after_results
  rfl

/-- The launch finds the forward scan's array so. -/
theorem V_of : V m c main_v10 = scanArr (m ((c : Thread nD τ).loc main_arg2)) (m ((c : Thread nD τ).loc main_arg3)) := by
  simp only [V, hostOps0, hostOps0_1, hostOps0_2, hostOps0_3, hostOps0_4, List.flatten_cons, List.flatten_nil, List.append_nil, List.cons_append, List.nil_append]
  after_results
  rfl

/-- The launch finds the backward scan's array so. -/
theorem V_ob : V m c main_v16 = scanArr (m ((c : Thread nD τ).loc main_arg4)) (m ((c : Thread nD τ).loc main_arg5)) := by
  simp only [V, hostOps0, hostOps0_1, hostOps0_2, hostOps0_3, hostOps0_4, List.flatten_cons, List.flatten_nil, List.append_nil, List.cons_append, List.nil_append]
  after_results
  rfl

/-- The launch finds the gate's array so. -/
theorem V_g : V m c main_v4 = gateArr (m ((c : Thread nD τ).loc main_arg6)) (m ((c : Thread nD τ).loc main_arg7)) := by
  simp only [V, hostOps0, hostOps0_1, hostOps0_2, hostOps0_3, hostOps0_4, List.flatten_cons, List.flatten_nil, List.append_nil, List.cons_append, List.nil_append]
  after_results
  rfl

/-- The launch finds the output projection's array so. -/
theorem V_wo : V m c main_v21 = truncf .bf16 (m ((c : Thread nD τ).loc main_arg10) : FVec F S2048x1024 .f32) bitsLt_bf16_f32 := by
  simp only [V, hostOps0, hostOps0_1, hostOps0_2, hostOps0_3, hostOps0_4, List.flatten_cons, List.flatten_nil, List.append_nil, List.cons_append, List.nil_append]
  after_results

/-- The launch finds the hidden layer's array so. -/
theorem V_w13 : V m c main_v22 = truncf .bf16 (m ((c : Thread nD τ).loc main_arg13) : FVec F S1024x5632 .f32) bitsLt_bf16_f32 := by
  simp only [V, hostOps0, hostOps0_1, hostOps0_2, hostOps0_3, hostOps0_4, List.flatten_cons, List.flatten_nil, List.append_nil, List.cons_append, List.nil_append]
  after_results

/-- The launch finds the array after the hidden layer so. -/
theorem V_w2 : V m c main_v23 = truncf .bf16 (m ((c : Thread nD τ).loc main_arg14) : FVec F S2816x1024 .f32) bitsLt_bf16_f32 := by
  simp only [V, hostOps0, hostOps0_1, hostOps0_2, hostOps0_3, hostOps0_4, List.flatten_cons, List.flatten_nil, List.append_nil, List.cons_append, List.nil_append]
  after_results

/-- The launch finds the first normalisation's gain so. -/
theorem V_g1 : V m c main_v26 = row0 (m ((c : Thread nD τ).loc main_arg11)) := by
  simp only [V, hostOps0, hostOps0_1, hostOps0_2, hostOps0_3, hostOps0_4, List.flatten_cons, List.flatten_nil, List.append_nil, List.cons_append, List.nil_append]
  after_results
  rfl

/-- The launch finds the first normalisation's offset so. -/
theorem V_b1 : V m c main_v29 = row0 (m ((c : Thread nD τ).loc main_arg12)) := by
  simp only [V, hostOps0, hostOps0_1, hostOps0_2, hostOps0_3, hostOps0_4, List.flatten_cons, List.flatten_nil, List.append_nil, List.cons_append, List.nil_append]
  after_results
  rfl

/-- The launch finds the second normalisation's gain so. -/
theorem V_g2 : V m c main_v32 = row1 (m ((c : Thread nD τ).loc main_arg11)) := by
  simp only [V, hostOps0, hostOps0_1, hostOps0_2, hostOps0_3, hostOps0_4, List.flatten_cons, List.flatten_nil, List.append_nil, List.cons_append, List.nil_append]
  after_results
  rfl

/-- The launch finds the second normalisation's offset so. -/
theorem V_b2 : V m c main_v35 = row1 (m ((c : Thread nD τ).loc main_arg12)) := by
  simp only [V, hostOps0, hostOps0_1, hostOps0_2, hostOps0_3, hostOps0_4, List.flatten_cons, List.flatten_nil, List.append_nil, List.cons_append, List.nil_append]
  after_results
  rfl

end Arrays

/-- A reshape of batches of latent rows of heads to rows. -/
theorem cast_headsL {α : Type} (z : S4x8192x4x512.Idx → α) (hc : S4x8192x4x512.ShapeCasts S32768x2048) (b : Fin 4) (p : Fin 8192) (h : Fin 4) (e : Fin 512) :
    shapeCast S32768x2048 z hc (ix2 ⟨8192 * b.val + p.val, by omega⟩ ⟨512 * h.val + e.val, by omega⟩) = z (ix4 b p h e) :=
  shapeCast_apply _ _ _ _ (by
    refine (rowMajor_val4 (d := ![4, 8192, 4, 512]) (ix4 b p h e) 16777216 2048 512 rfl rfl rfl).trans
      (.trans ?_ (rowMajor_val2 (d := ![32768, 2048]) (ix2 ⟨8192 * b.val + p.val, by omega⟩ ⟨512 * h.val + e.val, by omega⟩) 2048 rfl).symm)
    show b.val * 16777216 + p.val * 2048 + h.val * 512 + e.val = (8192 * b.val + p.val) * 2048 + (512 * h.val + e.val)
    omega)

/-- A reshape of batches of latent rows to rows. -/
theorem cast_wideL {α : Type} (z : S4x8192x2048.Idx → α) (hc : S4x8192x2048.ShapeCasts S32768x2048) (b : Fin 4) (p : Fin 8192) (k : Fin 2048) :
    shapeCast S32768x2048 z hc (ix2 ⟨8192 * b.val + p.val, by omega⟩ k) = z (ix3 b p k) :=
  shapeCast_apply _ _ _ _ (by
    refine (rowMajor_val3 (d := ![4, 8192, 2048]) (ix3 b p k) 16777216 2048 rfl rfl).trans
      (.trans ?_ (rowMajor_val2 (d := ![32768, 2048]) (ix2 ⟨8192 * b.val + p.val, by omega⟩ k) 2048 rfl).symm)
    show b.val * 16777216 + p.val * 2048 + k.val = (8192 * b.val + p.val) * 2048 + k.val
    omega)

/-- A reshape of batches of context rows of heads to rows. -/
theorem cast_headsC {α : Type} (z : S4x256x4x512.Idx → α) (hc : S4x256x4x512.ShapeCasts S1024x2048) (b : Fin 4) (p : Fin 256) (h : Fin 4) (e : Fin 512) :
    shapeCast S1024x2048 z hc (ix2 ⟨256 * b.val + p.val, by omega⟩ ⟨512 * h.val + e.val, by omega⟩) = z (ix4 b p h e) :=
  shapeCast_apply _ _ _ _ (by
    refine (rowMajor_val4 (d := ![4, 256, 4, 512]) (ix4 b p h e) 524288 2048 512 rfl rfl rfl).trans
      (.trans ?_ (rowMajor_val2 (d := ![1024, 2048]) (ix2 ⟨256 * b.val + p.val, by omega⟩ ⟨512 * h.val + e.val, by omega⟩) 2048 rfl).symm)
    show b.val * 524288 + p.val * 2048 + h.val * 512 + e.val = (256 * b.val + p.val) * 2048 + (512 * h.val + e.val)
    omega)

/-- A reshape of batches of context rows to rows. -/
theorem cast_wideC {α : Type} (z : S4x256x2048.Idx → α) (hc : S4x256x2048.ShapeCasts S1024x2048) (b : Fin 4) (p : Fin 256) (k : Fin 2048) :
    shapeCast S1024x2048 z hc (ix2 ⟨256 * b.val + p.val, by omega⟩ k) = z (ix3 b p k) :=
  shapeCast_apply _ _ _ _ (by
    refine (rowMajor_val3 (d := ![4, 256, 2048]) (ix3 b p k) 524288 2048 rfl rfl).trans
      (.trans ?_ (rowMajor_val2 (d := ![1024, 2048]) (ix2 ⟨256 * b.val + p.val, by omega⟩ k) 2048 rfl).symm)
    show b.val * 524288 + p.val * 2048 + k.val = (256 * b.val + p.val) * 2048 + k.val
    omega)

/-- An element of the layer's latent rows. -/
theorem latArr_apply (x : FVec Ideal S4x8192x1024 .f32) (b : Fin 4) (p : Fin 8192) (k : Fin 1024) :
    latArr x (ix2 ⟨8192 * b.val + p.val, by omega⟩ k) = x (ix3 b p k) :=
  Cert.Kernel2Ideal.Post.cast_rows x _ b p k

/-- An element of the layer's context rows. -/
theorem ctxArr_apply (x : FVec Ideal S4x256x1024 .f32) (b : Fin 4) (p : Fin 256) (k : Fin 1024) :
    ctxArr x (ix2 ⟨256 * b.val + p.val, by omega⟩ k) = x (ix3 b p k) :=
  Cert.Reference3Ideal.Post3.cast_rows x _ b p k

/-- A latent row's element. -/
theorem rowsArr_lat (x : FVec Ideal S32768x2048 .f32) (y : FVec Ideal S1024x2048 .f32) (r : Fin 32768) (k : Fin 2048) :
    rowsArr x y (ix2 ⟨r.val, by omega⟩ k) = x (ix2 r k) := by
  pointwise [rowsArr]

/-- A context row's element. -/
theorem rowsArr_ctx (x : FVec Ideal S32768x2048 .f32) (y : FVec Ideal S1024x2048 .f32) (r : Fin 1024) (k : Fin 2048) :
    rowsArr x y (ix2 ⟨32768 + r.val, by omega⟩ k) = y (ix2 r k) := by
  pointwise [rowsArr]

/-- The gate's column block. -/
theorem pad_gate {α : Type} (z : S33792x2048.Idx → α) (v : S_.Idx → α) (r : Fin 33792) (k : Fin 2048) :
    pad S33792x6144 ![0, 4096] ![0, 0] ![0, 0] z v pads_S33792x2048_S33792x6144_000_409600 h_S_ (ix2 r ⟨4096 + k.val, by omega⟩) = z (ix2 r k) := by
  pointwise

/-- A latent gate's element. -/
theorem gateArr_lat (x : FVec Ideal S4x8192x2048 .f32) (y : FVec Ideal S4x256x2048 .f32) (b : Fin 4) (p : Fin 8192) (k : Fin 2048) :
    gateArr x y (ix2 ⟨8192 * b.val + p.val, by omega⟩ ⟨4096 + k.val, by omega⟩) = x (ix3 b p k) :=
  (pad_gate _ _ ⟨8192 * b.val + p.val, by omega⟩ k).trans ((rowsArr_lat _ _ ⟨8192 * b.val + p.val, by omega⟩ k).trans (cast_wideL _ _ b p k))

/-- A latent scan's element. -/
theorem scanArr_lat (x : FVec Ideal S4x4x8192x512 .f32) (y : FVec Ideal S4x4x256x512 .f32) (b : Fin 4) (p : Fin 8192) (h : Fin 4) (e : Fin 512) :
    scanArr x y (ix2 ⟨8192 * b.val + p.val, by omega⟩ ⟨512 * h.val + e.val, by omega⟩) = x (ix4 b h p e) := by
  have e1 := cast_headsL (transpose S4x8192x4x512 [0, 2, 1, 3] x transposes_S4x4x8192x512_S4x8192x4x512_0_2_1_3) shapeCasts_S4x8192x4x512_S32768x2048 b p h e
  have e2 : transpose S4x8192x4x512 [0, 2, 1, 3] x transposes_S4x4x8192x512_S4x8192x4x512_0_2_1_3 (ix4 b p h e) = x (ix4 b h p e) := by pointwise
  exact (rowsArr_lat _ _ ⟨8192 * b.val + p.val, by omega⟩ _).trans (e1.trans e2)

/-- A context gate's element. -/
theorem gateArr_ctx (x : FVec Ideal S4x8192x2048 .f32) (y : FVec Ideal S4x256x2048 .f32) (b : Fin 4) (p : Fin 256) (k : Fin 2048) :
    gateArr x y (ix2 ⟨32768 + (256 * b.val + p.val), by omega⟩ ⟨4096 + k.val, by omega⟩) = y (ix3 b p k) :=
  (pad_gate _ _ ⟨32768 + (256 * b.val + p.val), by omega⟩ k).trans ((rowsArr_ctx _ _ ⟨256 * b.val + p.val, by omega⟩ k).trans (cast_wideC _ _ b p k))

/-- A context scan's element. -/
theorem scanArr_ctx (x : FVec Ideal S4x4x8192x512 .f32) (y : FVec Ideal S4x4x256x512 .f32) (b : Fin 4) (p : Fin 256) (h : Fin 4) (e : Fin 512) :
    scanArr x y (ix2 ⟨32768 + (256 * b.val + p.val), by omega⟩ ⟨512 * h.val + e.val, by omega⟩) = y (ix4 b h p e) := by
  have e1 := cast_headsC (transpose S4x256x4x512 [0, 2, 1, 3] y transposes_S4x4x256x512_S4x256x4x512_0_2_1_3) shapeCasts_S4x256x4x512_S1024x2048 b p h e
  have e2 : transpose S4x256x4x512 [0, 2, 1, 3] y transposes_S4x4x256x512_S4x256x4x512_0_2_1_3 (ix4 b p h e) = y (ix4 b h p e) := by pointwise
  exact (rowsArr_ctx _ _ ⟨256 * b.val + p.val, by omega⟩ _).trans (e1.trans e2)

end Cert.Kernel4Ideal.Post4

end
-- ==== Proof.Post4.Ref.lean ====
/-
  The reference of the retention layer's output stage, read at an element, over extended reals. What follows the
  projection is the other layers' stages.
-/
module

public import proofs.«01_k».proof.Proof.Gen.Reference4Ideal.Run
public import proofs.«01_k».proof.Proof.Post3.Ref
public import proofs.«01_k».proof.Proof.Post4.Row

@[expose] public section

set_option maxRecDepth 16384

noncomputable section

namespace Cert.Reference4Ideal.Post4

open Cert.Reference4Ideal Cert.Reference4Ideal.Gen Cert.Reference4Ideal.Value Cert.PostRow
open Idealize.ShloMosaic Idealize.ShloMosaic.TcCoe Idealize.SL.Sem Idealize.ShloMosaic.StableHlo

section Stages

variable {F : FTy → Type} [FloatOps F]

/-- The latent heads normalised, lane after lane along a row. -/
def normedL (o : FVec F S4x4x8192x512 .f32) : FVec F S4x8192x2048 .f32 :=
  shapeCast _ (transpose S4x8192x4x512 [0, 2, 1, 3] (mulf o (broadcastInDim S4x4x8192x512 ![0, 1, 2, 3] bcast_S4x4x8192x1_S4x4x8192x512_0_1_2_3 (Host.rsqrt (addf (Host.divf (broadcastInDim S4x4x8192x1 ![0, 1, 2] bcast_S4x4x8192_S4x4x8192x1_0_1_2 (Host.reduceAdd (mulf o o) (constant S_ .f32 0x00000000#32) reducesTo_S4x4x8192x512_S4x4x8192_d3 h_S_)) (broadcastInDim S4x4x8192x1 ![] bcast_S_S4x4x8192x1 (constant S_ .f32 0x44000000#32))) (broadcastInDim S4x4x8192x1 ![] bcast_S_S4x4x8192x1 (constant S_ .f32 0x358637BD#32)))))) transposes_S4x4x8192x512_S4x8192x4x512_0_2_1_3) shapeCasts_S4x8192x4x512_S4x8192x2048

/-- A latent number times its logistic function. -/
def gatedL (g : FVec F S4x8192x2048 .f32) : FVec F S4x8192x2048 .f32 :=
  mulf g (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf g))))

/-- The latent rows' output projection. -/
def projectL (y : FVec F S4x8192x2048 .f32) (w : FVec F S2048x1024 .f32) : FVec F S4x8192x1024 .f32 := Host.dotGeneral dot_S4x8192x2048_S2048x1024_S4x8192x1024_2_0_01_1_n_n none y w

/-- The context heads normalised, lane after lane along a row. -/
def normedC (o : FVec F S4x4x256x512 .f32) : FVec F S4x256x2048 .f32 :=
  shapeCast _ (transpose S4x256x4x512 [0, 2, 1, 3] (mulf o (broadcastInDim S4x4x256x512 ![0, 1, 2, 3] bcast_S4x4x256x1_S4x4x256x512_0_1_2_3 (Host.rsqrt (addf (Host.divf (broadcastInDim S4x4x256x1 ![0, 1, 2] bcast_S4x4x256_S4x4x256x1_0_1_2 (Host.reduceAdd (mulf o o) (constant S_ .f32 0x00000000#32) reducesTo_S4x4x256x512_S4x4x256_d3 h_S_)) (broadcastInDim S4x4x256x1 ![] bcast_S_S4x4x256x1 (constant S_ .f32 0x44000000#32))) (broadcastInDim S4x4x256x1 ![] bcast_S_S4x4x256x1 (constant S_ .f32 0x358637BD#32)))))) transposes_S4x4x256x512_S4x256x4x512_0_2_1_3) shapeCasts_S4x256x4x512_S4x256x2048

/-- A context number times its logistic function. -/
def gatedC (g : FVec F S4x256x2048 .f32) : FVec F S4x256x2048 .f32 :=
  mulf g (Host.divf (broadcastInDim S4x256x2048 ![] bcast_S_S4x256x2048 (constant S_ .f32 0x3F800000#32)) (addf (broadcastInDim S4x256x2048 ![] bcast_S_S4x256x2048 (constant S_ .f32 0x3F800000#32)) (Host.exp (Host.negf g))))

/-- The context rows' output projection. -/
def projectC (y : FVec F S4x256x2048 .f32) (w : FVec F S2048x1024 .f32) : FVec F S4x256x1024 .f32 := Host.dotGeneral dot_S4x256x2048_S2048x1024_S4x256x1024_2_0_01_1_n_n none y w

/-- The latent rows after the first normalisation. -/
def midL (h : FVec F S4x8192x1024 .f32) (o q : FVec F S4x4x8192x512 .f32) (g : FVec F S4x8192x2048 .f32) (md : FVec F S4x6x1024 .f32) (wo : FVec F S2048x1024 .f32) (lg lb : FVec F S2x1024 .f32) : FVec F S4x8192x1024 .f32 :=
  Cert.Reference2Ideal.Post.scale (Cert.Reference2Ideal.Post.centre (Cert.Reference2Ideal.Post.join h (projectL (mulf (gatedL g) (normedL (addf o q))) wo) (Cert.Reference2Ideal.Post.mod2 md))) (Cert.Reference2Ideal.Post.fst lg) (Cert.Reference2Ideal.Post.fst lb)

/-- The context rows after the first normalisation. -/
def midC (h : FVec F S4x256x1024 .f32) (o q : FVec F S4x4x256x512 .f32) (g : FVec F S4x256x2048 .f32) (md : FVec F S1x6x1024 .f32) (wo : FVec F S2048x1024 .f32) (lg lb : FVec F S2x1024 .f32) : FVec F S4x256x1024 .f32 :=
  Cert.Reference3Ideal.Post3.scale (Cert.Reference3Ideal.Post3.centre (Cert.Reference3Ideal.Post3.join h (projectC (mulf (gatedC g) (normedC (addf o q))) wo) (Cert.Reference3Ideal.Post3.mod2 md))) (Cert.Reference2Ideal.Post.fst lg) (Cert.Reference2Ideal.Post.fst lb)

/-- The result: the latent rows, then the context rows. -/
def stage (h : FVec F S4x8192x1024 .f32) (h' : FVec F S4x256x1024 .f32) (o : FVec F S4x4x8192x512 .f32) (o' : FVec F S4x4x256x512 .f32) (q : FVec F S4x4x8192x512 .f32) (q' : FVec F S4x4x256x512 .f32)
    (g : FVec F S4x8192x2048 .f32) (g' : FVec F S4x256x2048 .f32) (md : FVec F S4x6x1024 .f32) (md' : FVec F S1x6x1024 .f32)
    (wo : FVec F S2048x1024 .f32) (lg lb : FVec F S2x1024 .f32) (w : FVec F S1024x5632 .f32) (w' : FVec F S2816x1024 .f32) : FVec F S33792x1024 .f32 :=
  concatenate S33792x1024 0 [⟨S32768x1024, shapeCast S32768x1024 (Cert.Reference2Ideal.Post.fin (midL h o q g md wo lg lb) md lg lb w w') shapeCasts_S4x8192x1024_S32768x1024⟩,
    ⟨S1024x1024, shapeCast S1024x1024 (Cert.Reference3Ideal.Post3.finC (midC h' o' q' g' md' wo lg lb) md' lg lb w w') shapeCasts_S4x256x1024_S1024x1024⟩] concatenates_S32768x1024_S1024x1024_S33792x1024_d0

variable (V0 : Valuation τ sig (Elt F))

/-- The named latent rows after the first normalisation are these. -/
theorem v52_eq : res_main_v52 V0 = midL (V0 (Proc.devRef .tc main_arg0)) (V0 (Proc.devRef .tc main_arg2)) (V0 (Proc.devRef .tc main_arg4)) (V0 (Proc.devRef .tc main_arg6)) (V0 (Proc.devRef .tc main_arg8)) (V0 (Proc.devRef .tc main_arg10)) (V0 (Proc.devRef .tc main_arg11)) (V0 (Proc.devRef .tc main_arg12)) := by
  unfold res_main_v52 res_main_v36 res_main_v26 res_main_v6
  rfl

/-- The named latent rows before the second normalisation are these. -/
theorem v79_eq : res_main_v79 V0 = Cert.Reference2Ideal.Post.centre (Cert.Reference2Ideal.Post.join (res_main_v52 V0) (Cert.Reference2Ideal.Post.ffn (Cert.Reference2Ideal.Post.pre (res_main_v52 V0) (Cert.Reference2Ideal.Post.mod4 (V0 (Proc.devRef .tc main_arg8))) (Cert.Reference2Ideal.Post.mod3 (V0 (Proc.devRef .tc main_arg8)))
      (V0 (Proc.devRef .tc main_arg13))) (V0 (Proc.devRef .tc main_arg14))) (Cert.Reference2Ideal.Post.mod5 (V0 (Proc.devRef .tc main_arg8)))) := by
  unfold res_main_v79 res_main_v69 res_main_v60 res_main_v59
  rfl

/-- The named context rows after the first normalisation are these. -/
theorem v149_eq : res_main_v149 V0 = midC (V0 (Proc.devRef .tc main_arg1)) (V0 (Proc.devRef .tc main_arg3)) (V0 (Proc.devRef .tc main_arg5)) (V0 (Proc.devRef .tc main_arg7)) (V0 (Proc.devRef .tc main_arg9)) (V0 (Proc.devRef .tc main_arg10)) (V0 (Proc.devRef .tc main_arg11)) (V0 (Proc.devRef .tc main_arg12)) := by
  unfold res_main_v149 res_main_v133 res_main_v123 res_main_v103
  rfl

/-- The named context rows before the second normalisation are these. -/
theorem v176_eq : res_main_v176 V0 = Cert.Reference3Ideal.Post3.centre (Cert.Reference3Ideal.Post3.join (res_main_v149 V0) (Cert.Reference3Ideal.Post3.ffn (Cert.Reference3Ideal.Post3.pre (res_main_v149 V0) (Cert.Reference3Ideal.Post3.mod4 (V0 (Proc.devRef .tc main_arg9))) (Cert.Reference3Ideal.Post3.mod3 (V0 (Proc.devRef .tc main_arg9)))
      (V0 (Proc.devRef .tc main_arg13))) (V0 (Proc.devRef .tc main_arg14))) (Cert.Reference3Ideal.Post3.mod5 (V0 (Proc.devRef .tc main_arg9)))) := by
  unfold res_main_v176 res_main_v166 res_main_v157 res_main_v156
  rfl

end Stages

/-- The reshape of latent heads to a row. -/
theorem cast_headsL {α : Type} (z : S4x8192x4x512.Idx → α) (hc : S4x8192x4x512.ShapeCasts S4x8192x2048) (b : Fin 4) (p : Fin 8192) (h : Fin 4) (e : Fin 512) :
    shapeCast S4x8192x2048 z hc (ix3 b p ⟨512 * h.val + e.val, by omega⟩) = z (ix4 b p h e) :=
  shapeCast_apply _ _ _ _ (by
    refine (rowMajor_val4 (d := ![4, 8192, 4, 512]) (ix4 b p h e) 16777216 2048 512 rfl rfl rfl).trans
      (.trans ?_ (rowMajor_val3 (d := ![4, 8192, 2048]) (ix3 b p ⟨512 * h.val + e.val, by omega⟩) 16777216 2048 rfl rfl).symm)
    show b.val * 16777216 + p.val * 2048 + h.val * 512 + e.val = b.val * 16777216 + p.val * 2048 + (512 * h.val + e.val)
    omega)

/-- A normalised latent head's element. -/
theorem normedL_head (o : FVec Ideal S4x4x8192x512 .f32) (b : Fin 4) (p : Fin 8192) (h : Fin 4) (e : Fin 512) :
    normedL o (ix3 b p ⟨512 * h.val + e.val, by omega⟩) = headNorm4 (fun e => o (ix4 b h p e)) e := by
  refine (cast_headsL _ _ b p h e).trans ?_
  pointwise [headNorm4]

/-- The normalised latent heads' element. -/
theorem normedL_apply (o : FVec Ideal S4x4x8192x512 .f32) (b : Fin 4) (p : Fin 8192) (k : Fin 2048) :
    normedL o (ix3 b p k) = heads4 (fun h => headNorm4 fun e => o (ix4 b h p e)) k := by
  refine .trans (congrArg (fun k => normedL o (ix3 b p k)) (Fin.ext ?_)) (normedL_head o b p ⟨k.val / 512, by omega⟩ ⟨k.val % 512, by omega⟩)
  simp only
  omega

/-- The latent gate's element. -/
theorem gatedL_apply (g : FVec Ideal S4x8192x2048 .f32) (b : Fin 4) (p : Fin 8192) (k : Fin 2048) : gatedL g (ix3 b p k) = silu (g (ix3 b p k)) := by
  pointwise [gatedL, silu, Ideal.logistic]

/-- The latent projection's element. -/
theorem projectL_apply (y : FVec Ideal S4x8192x2048 .f32) (w : FVec Ideal S2048x1024 .f32) (b : Fin 4) (p : Fin 8192) (k : Fin 1024) : projectL y w (ix3 b p k)
    = ∑ j, y (ix3 b p j) * w (ix2 j k) := by
  pointwise [projectL]

/-- The reshape of context heads to a row. -/
theorem cast_headsC {α : Type} (z : S4x256x4x512.Idx → α) (hc : S4x256x4x512.ShapeCasts S4x256x2048) (b : Fin 4) (p : Fin 256) (h : Fin 4) (e : Fin 512) :
    shapeCast S4x256x2048 z hc (ix3 b p ⟨512 * h.val + e.val, by omega⟩) = z (ix4 b p h e) :=
  shapeCast_apply _ _ _ _ (by
    refine (rowMajor_val4 (d := ![4, 256, 4, 512]) (ix4 b p h e) 524288 2048 512 rfl rfl rfl).trans
      (.trans ?_ (rowMajor_val3 (d := ![4, 256, 2048]) (ix3 b p ⟨512 * h.val + e.val, by omega⟩) 524288 2048 rfl rfl).symm)
    show b.val * 524288 + p.val * 2048 + h.val * 512 + e.val = b.val * 524288 + p.val * 2048 + (512 * h.val + e.val)
    omega)

/-- A normalised context head's element. -/
theorem normedC_head (o : FVec Ideal S4x4x256x512 .f32) (b : Fin 4) (p : Fin 256) (h : Fin 4) (e : Fin 512) :
    normedC o (ix3 b p ⟨512 * h.val + e.val, by omega⟩) = headNorm4 (fun e => o (ix4 b h p e)) e := by
  refine (cast_headsC _ _ b p h e).trans ?_
  pointwise [headNorm4]

/-- The normalised context heads' element. -/
theorem normedC_apply (o : FVec Ideal S4x4x256x512 .f32) (b : Fin 4) (p : Fin 256) (k : Fin 2048) :
    normedC o (ix3 b p k) = heads4 (fun h => headNorm4 fun e => o (ix4 b h p e)) k := by
  refine .trans (congrArg (fun k => normedC o (ix3 b p k)) (Fin.ext ?_)) (normedC_head o b p ⟨k.val / 512, by omega⟩ ⟨k.val % 512, by omega⟩)
  simp only
  omega

/-- The context gate's element. -/
theorem gatedC_apply (g : FVec Ideal S4x256x2048 .f32) (b : Fin 4) (p : Fin 256) (k : Fin 2048) : gatedC g (ix3 b p k) = silu (g (ix3 b p k)) := by
  pointwise [gatedC, silu, Ideal.logistic]

/-- The context projection's element. -/
theorem projectC_apply (y : FVec Ideal S4x256x2048 .f32) (w : FVec Ideal S2048x1024 .f32) (b : Fin 4) (p : Fin 256) (k : Fin 1024) : projectC y w (ix3 b p k)
    = ∑ j, y (ix3 b p j) * w (ix2 j k) := by
  pointwise [projectC]

/-- The latent rows' first normalisation at an element. -/
theorem midL_apply (h : FVec Ideal S4x8192x1024 .f32) (o q : FVec Ideal S4x4x8192x512 .f32) (g : FVec Ideal S4x8192x2048 .f32) (md : FVec Ideal S4x6x1024 .f32)
    (wo : FVec Ideal S2048x1024 .f32) (lg lb : FVec Ideal S2x1024 .f32) (b : Fin 4) (p : Fin 8192) (k : Fin 1024) : midL h o q g md wo lg lb (ix3 b p k)
    = layerNorm (added4 (fun k => h (ix3 b p k)) (fun k => md (ix3 b 2 k))
        (fun j => heads4 (fun i => headNorm4 fun e => o (ix4 b i p e) + q (ix4 b i p e)) j * silu (g (ix3 b p j))) fun j k => wo (ix2 j k))
        (fun k => lg (ix2 0 k)) (fun k => lb (ix2 0 k)) k := by
  pointwise [midL, Cert.Reference2Ideal.Post.scale_apply, Cert.Reference2Ideal.Post.centre_apply, Cert.Reference2Ideal.Post.join_apply, projectL_apply, normedL_apply, gatedL_apply, Cert.Reference2Ideal.Post.mod2, Cert.Reference2Ideal.Post.fst, layerNorm, added4]
  refine congrArg (fun f : Fin 1024 → EReal => scaled (centred f) _ _ k) (funext fun k => congrArg (fun z : EReal => _ + _ * z) (Finset.sum_congr rfl fun j _ => ?_))
  exact congrArg (fun z : EReal => z * _) (mul_comm _ _)

/-- The context rows' first normalisation at an element. -/
theorem midC_apply (h : FVec Ideal S4x256x1024 .f32) (o q : FVec Ideal S4x4x256x512 .f32) (g : FVec Ideal S4x256x2048 .f32) (md : FVec Ideal S1x6x1024 .f32)
    (wo : FVec Ideal S2048x1024 .f32) (lg lb : FVec Ideal S2x1024 .f32) (b : Fin 4) (p : Fin 256) (k : Fin 1024) : midC h o q g md wo lg lb (ix3 b p k)
    = layerNorm (added4 (fun k => h (ix3 b p k)) (fun k => md (ix3 0 2 k))
        (fun j => heads4 (fun i => headNorm4 fun e => o (ix4 b i p e) + q (ix4 b i p e)) j * silu (g (ix3 b p j))) fun j k => wo (ix2 j k))
        (fun k => lg (ix2 0 k)) (fun k => lb (ix2 0 k)) k := by
  pointwise [midC, Cert.Reference3Ideal.Post3.scale_apply, Cert.Reference3Ideal.Post3.centre_apply, Cert.Reference3Ideal.Post3.join_apply, projectC_apply, normedC_apply, gatedC_apply, Cert.Reference3Ideal.Post3.mod2, Cert.Reference2Ideal.Post.fst, layerNorm, added4]
  refine congrArg (fun f : Fin 1024 → EReal => scaled (centred f) _ _ k) (funext fun k => congrArg (fun z : EReal => _ + _ * z) (Finset.sum_congr rfl fun j _ => ?_))
  exact congrArg (fun z : EReal => z * _) (mul_comm _ _)

end Cert.Reference4Ideal.Post4

end
-- ==== Proof.Post4.Claim.lean ====
/-
  The launch of the retention layer's output stage ends with the reference's rows, and the claims that rest on it.
-/
module

public import proofs.«01_k».proof.Defs
public import proofs.«01_k».proof.Proof.Post4.Value
public import proofs.«01_k».proof.Proof.Post4.Arrays
public import proofs.«01_k».proof.Proof.Post4.Ref
public import Idealize.ShloMosaic.Lib.Claim

@[expose] public section

set_option maxRecDepth 16384

noncomputable section

namespace Cert.Kernel4Ideal.Post4

open Cert.Kernel4Ideal Cert.Kernel4Ideal.Gen Cert.PostRow
open Cert.Kernel2Ideal.Post (row0_apply row1_apply)
open Cert.Kernel3Ideal.Post3 (modArr_batch modArr_ctx)
open Cert.Reference3Ideal.Post3 (finC_apply rows_fst rows_snd)
open Cert.Reference4Ideal.Post4 (stage midL midC midL_apply midC_apply)
open Idealize.ShloMosaic Idealize.ShloMosaic.TcCoe
open Idealize.SL Idealize.SL.Sem

/-- The block of latent rows at a point. -/
theorem idx0 : ∀ t : Fin cfg0.N, win0_0.index t 0 = min t.val 63 ∧ win0_0.index t 1 = 0 := by
  decide +kernel

/-- The block of context rows at a point. -/
theorem idx2 : ∀ t : Fin cfg0.N, win0_2.index t 0 = t.val - 64 ∧ win0_2.index t 1 = 0 := by
  decide +kernel

/-- The block of results at a point. -/
theorem idx13 : ∀ t : Fin cfg0.N, win0_13.index t 0 = t.val ∧ win0_13.index t 1 = 0 := by
  decide +kernel

/-- The block of modulation rows at a point: a batch's, then the context's. -/
theorem idx1 : ∀ t : Fin cfg0.N, win0_1.index t 0 = (if t.val < 64 then 1 + t.val / 16 else 0) ∧ win0_1.index t 1 = 0 ∧ win0_1.index t 2 = 0 := by
  decide +kernel

/-- The block of the forward scan's rows at a point. -/
theorem idx3 : ∀ t : Fin cfg0.N, win0_3.index t 0 = t.val ∧ win0_3.index t 1 = 0 := by
  decide +kernel

/-- The block of the backward scan's rows at a point. -/
theorem idx4 : ∀ t : Fin cfg0.N, win0_4.index t 0 = t.val ∧ win0_4.index t 1 = 0 := by
  decide +kernel

/-- The block of gates at a point: the last of three column blocks. -/
theorem idx5 : ∀ t : Fin cfg0.N, win0_5.index t 0 = t.val ∧ win0_5.index t 1 = 2 := by
  decide +kernel

/-- The block of the projection at a point: all of it. -/
theorem idx6 : ∀ t : Fin cfg0.N, win0_6.index t 0 = 0 ∧ win0_6.index t 1 = 0 := by
  decide +kernel

/-- The block of the first gain at a point: all of it. -/
theorem idx7 : ∀ t : Fin cfg0.N, win0_7.index t 0 = 0 ∧ win0_7.index t 1 = 0 := by
  decide +kernel

/-- The block of the first offset at a point: all of it. -/
theorem idx8 : ∀ t : Fin cfg0.N, win0_8.index t 0 = 0 ∧ win0_8.index t 1 = 0 := by
  decide +kernel

/-- The block of the hidden layer's weights at a point: all of it. -/
theorem idx9 : ∀ t : Fin cfg0.N, win0_9.index t 0 = 0 ∧ win0_9.index t 1 = 0 := by
  decide +kernel

/-- The block of the weights after the hidden layer at a point: all of it. -/
theorem idx10 : ∀ t : Fin cfg0.N, win0_10.index t 0 = 0 ∧ win0_10.index t 1 = 0 := by
  decide +kernel

/-- The block of the second gain at a point: all of it. -/
theorem idx11 : ∀ t : Fin cfg0.N, win0_11.index t 0 = 0 ∧ win0_11.index t 1 = 0 := by
  decide +kernel

/-- The block of the second offset at a point: all of it. -/
theorem idx12 : ∀ t : Fin cfg0.N, win0_12.index t 0 = 0 ∧ win0_12.index t 1 = 0 := by
  decide +kernel

/-- The batch of a latent point. -/
abbrev latB (t : Fin cfg0.N) (h : t.val < 64) : Fin 4 := ⟨t.val / 16, by omega⟩

/-- A latent row's place in its batch. -/
abbrev latRow (t : Fin cfg0.N) (i : Fin 512) : Fin 8192 := ⟨t.val % 16 * 512 + i.val, by omega⟩

/-- The batch of a context point's row. -/
abbrev ctxB (t : Fin cfg0.N) (h : 64 ≤ t.val) (i : Fin 512) : Fin 4 := ⟨2 * (t.val - 64) + i.val / 256, by have := t.isLt; have : cfg0.N = 66 := N_0; omega⟩

/-- A context row's place in its batch. -/
abbrev ctxRow (i : Fin 512) : Fin 256 := ⟨i.val % 256, by omega⟩

variable (m : (ℓ : Loc nD τ sig) → Buf (Elt Ideal) ℓ) (c : Dev nD)

/-- An input element of a latent point. -/
theorem block_xl (t : Fin cfg0.N) (h : t.val < 64) (i : Fin 512) (k : Fin 1024) : iblk m c 0 t (ix2 i k) = m ((c : Thread nD τ).loc main_arg0) (ix3 (latB t h) (latRow t i) k) := by
  refine .trans ?_ (latArr_apply (m ((c : Thread nD τ).loc main_arg0)) (latB t h) (latRow t i) k)
  rw [← V_xl]
  have e := (idx0 t).1
  rw [show min t.val 63 = t.val by omega] at e
  blk_ext [iblk, e, (idx0 t).2]

/-- An input element of a context point. -/
theorem block_xc (t : Fin cfg0.N) (h : 64 ≤ t.val) (i : Fin 512) (k : Fin 1024) : iblk m c 2 t (ix2 i k) = m ((c : Thread nD τ).loc main_arg1) (ix3 (ctxB t h i) (ctxRow i) k) := by
  refine .trans ?_ (ctxArr_apply (m ((c : Thread nD τ).loc main_arg1)) (ctxB t h i) (ctxRow i) k)
  rw [← V_xc]
  blk_ext [iblk, (idx2 t).1, (idx2 t).2]

/-- A modulation element of a latent point. -/
theorem block_ml (t : Fin cfg0.N) (h : t.val < 64) (j : Fin 6) (k : Fin 1024) : iblk m c 1 t (ix3 0 j k) = m ((c : Thread nD τ).loc main_arg8) (ix3 (latB t h) j k) := by
  refine .trans ?_ (modArr_batch (m ((c : Thread nD τ).loc main_arg8)) (m ((c : Thread nD τ).loc main_arg9)) (latB t h) j k)
  rw [← V_mod]
  have e := (idx1 t).1
  rw [if_pos h] at e
  blk_ext [iblk, e, (idx1 t).2.1, (idx1 t).2.2]

/-- A modulation element of a context point. -/
theorem block_mc (t : Fin cfg0.N) (h : 64 ≤ t.val) (j : Fin 6) (k : Fin 1024) : iblk m c 1 t (ix3 0 j k) = m ((c : Thread nD τ).loc main_arg9) (ix3 0 j k) := by
  refine .trans ?_ (modArr_ctx (m ((c : Thread nD τ).loc main_arg8)) (m ((c : Thread nD τ).loc main_arg9)) j k)
  rw [← V_mod]
  have e := (idx1 t).1
  rw [if_neg (by omega)] at e
  blk_ext [iblk, e, (idx1 t).2.1, (idx1 t).2.2]

/-- An element of the forward scan, of a latent point. -/
theorem block_ofl (t : Fin cfg0.N) (h : t.val < 64) (i : Fin 512) (n : Fin 4) (e : Fin 512) :
    iblk m c 3 t (ix2 i ⟨512 * n.val + e.val, by omega⟩) = m ((c : Thread nD τ).loc main_arg2) (ix4 (latB t h) n (latRow t i) e) := by
  refine .trans ?_ (scanArr_lat (m ((c : Thread nD τ).loc main_arg2)) (m ((c : Thread nD τ).loc main_arg3)) (latB t h) (latRow t i) n e)
  rw [← V_of]
  blk_ext [iblk, (idx3 t).1, (idx3 t).2]

/-- An element of the backward scan, of a latent point. -/
theorem block_obl (t : Fin cfg0.N) (h : t.val < 64) (i : Fin 512) (n : Fin 4) (e : Fin 512) :
    iblk m c 4 t (ix2 i ⟨512 * n.val + e.val, by omega⟩) = m ((c : Thread nD τ).loc main_arg4) (ix4 (latB t h) n (latRow t i) e) := by
  refine .trans ?_ (scanArr_lat (m ((c : Thread nD τ).loc main_arg4)) (m ((c : Thread nD τ).loc main_arg5)) (latB t h) (latRow t i) n e)
  rw [← V_ob]
  blk_ext [iblk, (idx4 t).1, (idx4 t).2]

/-- A gate's element, of a latent point. -/
theorem block_gl (t : Fin cfg0.N) (h : t.val < 64) (i : Fin 512) (k : Fin 2048) : iblk m c 5 t (ix2 i k) = m ((c : Thread nD τ).loc main_arg6) (ix3 (latB t h) (latRow t i) k) := by
  refine .trans ?_ (gateArr_lat (m ((c : Thread nD τ).loc main_arg6)) (m ((c : Thread nD τ).loc main_arg7)) (latB t h) (latRow t i) k)
  rw [← V_g]
  blk_ext [iblk, (idx5 t).1, (idx5 t).2]

/-- An element of the forward scan, of a context point. -/
theorem block_ofc (t : Fin cfg0.N) (h : 64 ≤ t.val) (i : Fin 512) (n : Fin 4) (e : Fin 512) :
    iblk m c 3 t (ix2 i ⟨512 * n.val + e.val, by omega⟩) = m ((c : Thread nD τ).loc main_arg3) (ix4 (ctxB t h i) n (ctxRow i) e) := by
  refine .trans ?_ (scanArr_ctx (m ((c : Thread nD τ).loc main_arg2)) (m ((c : Thread nD τ).loc main_arg3)) (ctxB t h i) (ctxRow i) n e)
  rw [← V_of]
  blk_ext [iblk, (idx3 t).1, (idx3 t).2]

/-- An element of the backward scan, of a context point. -/
theorem block_obc (t : Fin cfg0.N) (h : 64 ≤ t.val) (i : Fin 512) (n : Fin 4) (e : Fin 512) :
    iblk m c 4 t (ix2 i ⟨512 * n.val + e.val, by omega⟩) = m ((c : Thread nD τ).loc main_arg5) (ix4 (ctxB t h i) n (ctxRow i) e) := by
  refine .trans ?_ (scanArr_ctx (m ((c : Thread nD τ).loc main_arg4)) (m ((c : Thread nD τ).loc main_arg5)) (ctxB t h i) (ctxRow i) n e)
  rw [← V_ob]
  blk_ext [iblk, (idx4 t).1, (idx4 t).2]

/-- A gate's element, of a context point. -/
theorem block_gc (t : Fin cfg0.N) (h : 64 ≤ t.val) (i : Fin 512) (k : Fin 2048) : iblk m c 5 t (ix2 i k) = m ((c : Thread nD τ).loc main_arg7) (ix3 (ctxB t h i) (ctxRow i) k) := by
  refine .trans ?_ (gateArr_ctx (m ((c : Thread nD τ).loc main_arg6)) (m ((c : Thread nD τ).loc main_arg7)) (ctxB t h i) (ctxRow i) k)
  rw [← V_g]
  blk_ext [iblk, (idx5 t).1, (idx5 t).2]

/-- A projection element. -/
theorem block_wo (t : Fin cfg0.N) (j : Fin 2048) (k : Fin 1024) : iblk m c 6 t (ix2 j k) = m ((c : Thread nD τ).loc main_arg10) (ix2 j k) := by
  have h : V m c main_v21 (ix2 j k) = m ((c : Thread nD τ).loc main_arg10) (ix2 j k) := congrFun (V_wo m c) (ix2 j k)
  refine .trans ?_ h
  blk_ext [iblk, (idx6 t).1, (idx6 t).2]

/-- The first gain. -/
theorem block_g1 (t : Fin cfg0.N) (k : Fin 1024) : iblk m c 7 t (ix2 0 k) = m ((c : Thread nD τ).loc main_arg11) (ix2 0 k) := by
  refine .trans ?_ (row0_apply (m ((c : Thread nD τ).loc main_arg11)) k)
  rw [← V_g1]
  blk_ext [iblk, (idx7 t).1, (idx7 t).2]

/-- The first offset. -/
theorem block_b1 (t : Fin cfg0.N) (k : Fin 1024) : iblk m c 8 t (ix2 0 k) = m ((c : Thread nD τ).loc main_arg12) (ix2 0 k) := by
  refine .trans ?_ (row0_apply (m ((c : Thread nD τ).loc main_arg12)) k)
  rw [← V_b1]
  blk_ext [iblk, (idx8 t).1, (idx8 t).2]

/-- A hidden layer's weight. -/
theorem block_w13 (t : Fin cfg0.N) (l : Fin 1024) (j : Fin 5632) : iblk m c 9 t (ix2 l j) = m ((c : Thread nD τ).loc main_arg13) (ix2 l j) := by
  have h : V m c main_v22 (ix2 l j) = m ((c : Thread nD τ).loc main_arg13) (ix2 l j) := congrFun (V_w13 m c) (ix2 l j)
  refine .trans ?_ h
  blk_ext [iblk, (idx9 t).1, (idx9 t).2]

/-- A weight after the hidden layer. -/
theorem block_w2 (t : Fin cfg0.N) (j : Fin 2816) (k : Fin 1024) : iblk m c 10 t (ix2 j k) = m ((c : Thread nD τ).loc main_arg14) (ix2 j k) := by
  have h : V m c main_v23 (ix2 j k) = m ((c : Thread nD τ).loc main_arg14) (ix2 j k) := congrFun (V_w2 m c) (ix2 j k)
  refine .trans ?_ h
  blk_ext [iblk, (idx10 t).1, (idx10 t).2]

/-- The second gain. -/
theorem block_g2 (t : Fin cfg0.N) (k : Fin 1024) : iblk m c 11 t (ix2 0 k) = m ((c : Thread nD τ).loc main_arg11) (ix2 1 k) := by
  refine .trans ?_ (row1_apply (m ((c : Thread nD τ).loc main_arg11)) k)
  rw [← V_g2]
  blk_ext [iblk, (idx11 t).1, (idx11 t).2]

/-- The second offset. -/
theorem block_b2 (t : Fin cfg0.N) (k : Fin 1024) : iblk m c 12 t (ix2 0 k) = m ((c : Thread nD τ).loc main_arg12) (ix2 1 k) := by
  refine .trans ?_ (row1_apply (m ((c : Thread nD τ).loc main_arg12)) k)
  rw [← V_b2]
  blk_ext [iblk, (idx12 t).1, (idx12 t).2]

/-- The two scans' sum by heads, from the arguments it stands for. -/
theorem scans_eq (a b : Wide) (f g : Fin 512 → EReal) (i : Fin 512) (h : Fin 4)
    (ha : ∀ e : Fin 512, a (ix2 i ⟨512 * h.val + e.val, by omega⟩) = f e) (hb : ∀ e : Fin 512, b (ix2 i ⟨512 * h.val + e.val, by omega⟩) = g e) :
    scanHead a b i h = fun e => f e + g e :=
  funext fun e => congrArg₂ (fun x y : EReal => x + y) (ha e) (hb e)

/-- The latent rows after the first normalisation are the reference's. -/
theorem mid_lat (t : Fin cfg0.N) (h : t.val < 64) (i : Fin 512) : rowMid (k0_pay2 (F := Ideal) (iblk m c 0 t)) (iblk m c 1 t) (iblk m c 3 t) (iblk m c 4 t) (iblk m c 5 t) (iblk m c 6 t) (iblk m c 7 t) (iblk m c 8 t) i
    = fun k => midL (F := Ideal) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg11)) (m ((c : Thread nD τ).loc main_arg12)) (ix3 (latB t h) (latRow t i) k) := by
  funext k
  refine .trans ?_ (midL_apply (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg11)) (m ((c : Thread nD τ).loc main_arg12)) (latB t h) (latRow t i) k).symm
  unfold rowMid
  have hx : ∀ k : Fin 1024, (k0_pay2 (F := Ideal) (iblk m c 0 t)) (ix2 i k) = m ((c : Thread nD τ).loc main_arg0) (ix3 (latB t h) (latRow t i) k) :=
    fun k => (pay2_apply _ i k).trans (block_xl m c t h i k)
  have hs := fun n : Fin 4 => scans_eq (iblk m c 3 t) (iblk m c 4 t) _ _ i n (block_ofl m c t h i n) (block_obl m c t h i n)
  simp only [hx, hs, block_ml m c t h, block_gl m c t h, block_wo, block_g1, block_b1]

/-- The context rows after the first normalisation are the reference's. -/
theorem mid_ctx (t : Fin cfg0.N) (h : 64 ≤ t.val) (i : Fin 512) : rowMid (k0_pay3 (F := Ideal) (iblk m c 2 t)) (iblk m c 1 t) (iblk m c 3 t) (iblk m c 4 t) (iblk m c 5 t) (iblk m c 6 t) (iblk m c 7 t) (iblk m c 8 t) i
    = fun k => midC (F := Ideal) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (ix3 (ctxB t h i) (ctxRow i) k) := by
  funext k
  refine .trans ?_ (midC_apply (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (ctxB t h i) (ctxRow i) k).symm
  unfold rowMid
  have hx : ∀ k : Fin 1024, (k0_pay3 (F := Ideal) (iblk m c 2 t)) (ix2 i k) = m ((c : Thread nD τ).loc main_arg1) (ix3 (ctxB t h i) (ctxRow i) k) :=
    fun k => (pay3_apply _ i k).trans (block_xc m c t h i k)
  have hs := fun n : Fin 4 => scans_eq (iblk m c 3 t) (iblk m c 4 t) _ _ i n (block_ofc m c t h i n) (block_obc m c t h i n)
  simp only [hx, hs, block_mc m c t h, block_gc m c t h, block_wo, block_g1, block_b1]

/-- The reference's stage of device `c`'s arguments. -/
abbrev rows4 : FVec Ideal S33792x1024 .f32 :=
  stage (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- A latent block of results at any of its indices. -/
theorem rows_lat (t : Fin cfg0.N) (h : t.val < 64) (i : Fin 512) (k : Fin 1024) :
    body (F := Ideal) (k0_pay2 (F := Ideal) (iblk m c 0 t)) (iblk m c 1 t) (iblk m c 3 t) (iblk m c 4 t) (iblk m c 5 t) (iblk m c 6 t) (iblk m c 7 t) (iblk m c 8 t) (iblk m c 9 t) (iblk m c 10 t) (iblk m c 11 t) (iblk m c 12 t) (ix2 i k)
    = rows4 m c (ix2 ⟨t.val * 512 + i.val, by omega⟩ k) := by
  refine (body_at (k0_pay2 (F := Ideal) (iblk m c 0 t)) (iblk m c 1 t) (iblk m c 3 t) (iblk m c 4 t) (iblk m c 5 t) (iblk m c 6 t) (iblk m c 7 t) (iblk m c 8 t) (iblk m c 9 t) (iblk m c 10 t) (iblk m c 11 t) (iblk m c 12 t) i k).trans ?_
  have e : (⟨t.val * 512 + i.val, by omega⟩ : Fin 33792) = ⟨8192 * (latB t h).val + (latRow t i).val, by omega⟩ :=
    Fin.ext (show t.val * 512 + i.val = 8192 * (t.val / 16) + (t.val % 16 * 512 + i.val) by omega)
  rw [e]
  refine .trans ?_ ((rows_fst _ _ ⟨8192 * (latB t h).val + (latRow t i).val, by omega⟩ k).trans
    ((Cert.Reference2Ideal.Post.cast_rows _ _ (latB t h) (latRow t i) k).trans (Cert.Reference2Ideal.Post.fin_apply _ _ _ _ _ _ (latB t h) (latRow t i) k))).symm
  rw [mid_lat m c t h]
  simp only [block_ml m c t h, block_g2, block_b2, block_w13, block_w2]

/-- A context block of results at any of its indices. -/
theorem rows_ctx (t : Fin cfg0.N) (h : 64 ≤ t.val) (i : Fin 512) (k : Fin 1024) :
    body (F := Ideal) (k0_pay3 (F := Ideal) (iblk m c 2 t)) (iblk m c 1 t) (iblk m c 3 t) (iblk m c 4 t) (iblk m c 5 t) (iblk m c 6 t) (iblk m c 7 t) (iblk m c 8 t) (iblk m c 9 t) (iblk m c 10 t) (iblk m c 11 t) (iblk m c 12 t) (ix2 i k)
    = rows4 m c (ix2 ⟨t.val * 512 + i.val, by have := t.isLt; have : cfg0.N = 66 := N_0; omega⟩ k) := by
  refine (body_at (k0_pay3 (F := Ideal) (iblk m c 2 t)) (iblk m c 1 t) (iblk m c 3 t) (iblk m c 4 t) (iblk m c 5 t) (iblk m c 6 t) (iblk m c 7 t) (iblk m c 8 t) (iblk m c 9 t) (iblk m c 10 t) (iblk m c 11 t) (iblk m c 12 t) i k).trans ?_
  have e : (⟨t.val * 512 + i.val, by have := t.isLt; have : cfg0.N = 66 := N_0; omega⟩ : Fin 33792) = ⟨32768 + (256 * (ctxB t h i).val + (ctxRow i).val), by omega⟩ :=
    Fin.ext (show t.val * 512 + i.val = 32768 + (256 * (2 * (t.val - 64) + i.val / 256) + i.val % 256) by omega)
  rw [e]
  refine .trans ?_ ((rows_snd _ _ ⟨256 * (ctxB t h i).val + (ctxRow i).val, by omega⟩ k).trans
    ((Cert.Reference3Ideal.Post3.cast_rows _ _ (ctxB t h i) (ctxRow i) k).trans (finC_apply _ _ _ _ _ _ (ctxB t h i) (ctxRow i) k))).symm
  rw [mid_ctx m c t h]
  simp only [block_mc m c t h, block_g2, block_b2, block_w13, block_w2]

/-- A block of results at any of its indices. -/
theorem out_rows (t : Fin cfg0.N) (i : Fin 512) (k : Fin 1024) : outsAt0 m c t.val t.isLt (ix2 i k)
    = rows4 m c (ix2 ⟨t.val * 512 + i.val, by have := t.isLt; have : cfg0.N = 66 := N_0; omega⟩ k) := by
  by_cases h : t.val < 64
  · rw [outsAt0_A m c t h (by omega), out_A]
    exact rows_lat m c t h i k
  · rw [outsAt0_B m c t h (by omega), out_B]
    exact rows_ctx m c t (by omega) i k

/-- The result array after the run. -/
theorem result : (dats m 0 c).arrAt 13 cfg0.N = rows4 m c := by
  refine (dats m 0 c).arrAt_eq_of_covers 13 _ (by decide +kernel) fun t hf y => ?_
  blk_simp
  rw [after0_13]
  have hy : y = ix2 (⟨(y 0).val, (y 0).isLt⟩ : Fin 512) (⟨(y 1).val, (y 1).isLt⟩ : Fin 1024) := by
    funext a; fin_cases a <;> rfl
  rw [hy]
  refine (out_rows m c t _ _).trans ?_
  blk_ext [(idx13 t).1, (idx13 t).2]

/-- The run: the result array holds the reference's rows. -/
theorem run_value (ρ : Dev nD → PrngReg) : θ_run defs (onTc (τ := τ) (main (F := Ideal))) ⟨m, fun _ => 0, ρ⟩ (fun r => ∀ c : Dev nD,
      r.2.mem ((c.tc : Thread nD τ).loc main_v36) = rows4 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)) :=
  (θ_run defs _ _).mono (fun _ hr c => ⟨((hr.1 c).1 13).trans (result m c), hr.2 c⟩)
    (θ_run_and (run_main m ρ) (frame_of m ρ (dats m) (A_eq m) (run_main m ρ)))

end Cert.Kernel4Ideal.Post4

namespace Cert.Reference4Ideal.Post4

open Cert.Reference4Ideal Cert.Reference4Ideal.Gen Cert.Reference4Ideal.Value
open Idealize.ShloMosaic Idealize.ShloMosaic.TcCoe Idealize.ShloMosaic.StableHlo Idealize.SL.Sem

variable {F : FTy → Type} [FloatOps F]

/-- The reference's run: the result array at `stage` of the arguments, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v194) = stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14) :=
  (θ_run defs _ _).mono (fun _ h c => ⟨(h c).1.trans (by rw [v79_eq, v52_eq, v176_eq, v149_eq]; rfl), (h c).2⟩) (run m ρ)

end Cert.Reference4Ideal.Post4

namespace Cert.Proof

open Idealize.ShloMosaic Idealize.ShloMosaic.TcCoe Idealize.SL.Sem

/-- The kernel of the retention layer's output stage ends quiescent with its arguments unchanged. -/
theorem frame_kernel4Ideal : Cert.quiescent_Kernel4Ideal (hKernel4Ideal := Cert.Kernel4Ideal.Gen.facts) := fun m ρ _ => Cert.Kernel4Ideal.Gen.frame m ρ

/-- Its reference ends with its arguments unchanged; it has no semaphore. -/
theorem frame_reference4Ideal : Cert.quiescent_Reference4Ideal (hReference4Ideal := Cert.Reference4Ideal.Gen.facts) := fun m ρ _ =>
  (θ_run Cert.Reference4Ideal.defs _ _).mono (fun r h => ⟨fun c => (h c).2, funext fun sm => nomatch sm.2⟩)
    (Cert.Reference4Ideal.Post4.run_main (F := Ideal) m ρ)

/-- The kernel of the retention layer's output stage and its reference end with the same rows. -/
theorem algebraic4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Kernel4Ideal.Post4.rows4 m c, Cert.Kernel4Ideal.Post4.run_value m g, ?_⟩
  refine (θ_run Cert.Reference4Ideal.defs _ _).mono (fun _ h c => ⟨(h c).1.trans ?_, (h c).2⟩) (Cert.Reference4Ideal.Post4.run_main (F := Ideal) m' g')
  obtain ⟨h0, h1, h2, h3, h4, h5, h6, h7, h8, h9, h10, h11, h12, h13, h14⟩ := hagree c
  rw [h0, h1, h2, h3, h4, h5, h6, h7, h8, h9, h10, h11, h12, h13, h14]

end Cert.Proof

end
-- ==== Proof.Proj.Ref.lean ====
/-
  The reference of the last layer's input projection, read at an element, over extended reals.
-/
module

public import proofs.«01_k».proof.Proof.Gen.Reference5Ideal.Run
public import proofs.«01_k».proof.Proof.Post.Row

@[expose] public section

set_option maxRecDepth 16384

noncomputable section

namespace Cert.Reference5Ideal.Proj

open Cert.Reference5Ideal Cert.Reference5Ideal.Gen Cert.PostRow
open Idealize.ShloMosaic Idealize.ShloMosaic.TcCoe Idealize.SL.Sem Idealize.ShloMosaic.StableHlo

/-- A row, scaled and shifted, times a column of weights. -/
def projected (x shift scale : Fin 1024 → EReal) (w : Fin 1024 → EReal) : EReal := ∑ l, modulated x shift scale l * w l

section Stages

variable {F : FTy → Type} [FloatOps F]

/-- The latent rows' projection. -/
def projL (h : FVec F S4x8192x1024 .f32) (md : FVec F S4x6x1024 .f32) (w : FVec F S1024x5120 .f32) : FVec F S4x8192x5120 .f32 :=
  Host.dotGeneral dot_S4x8192x1024_S1024x5120_S4x8192x5120_2_0_01_1_n_n none
    (addf (mulf h (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 1, 0] md slices_S4x6x1024_S4x1x1024_0_1_0))))
      (broadcastInDim S4x8192x1024 ![0, 1, 2] bcast_S4x1x1024_S4x8192x1024_0_1_2 (extractStridedSlice S4x1x1024 ![0, 0, 0] md slices_S4x6x1024_S4x1x1024_0_0_0))) w

/-- The context rows' projection. -/
def projC (h : FVec F S4x256x1024 .f32) (md : FVec F S1x6x1024 .f32) (w : FVec F S1024x5120 .f32) : FVec F S4x256x5120 .f32 :=
  Host.dotGeneral dot_S4x256x1024_S1024x5120_S4x256x5120_2_0_01_1_n_n none
    (addf (mulf h (broadcastInDim S4x256x1024 ![0, 1, 2] bcast_S1x1x1024_S4x256x1024_0_1_2 (addf (broadcastInDim S1x1x1024 ![] bcast_S_S1x1x1024 (constant S_ .f32 0x3F800000#32)) (extractStridedSlice S1x1x1024 ![0, 1, 0] md slices_S1x6x1024_S1x1x1024_0_1_0))))
      (broadcastInDim S4x256x1024 ![0, 1, 2] bcast_S1x1x1024_S4x256x1024_0_1_2 (extractStridedSlice S1x1x1024 ![0, 0, 0] md slices_S1x6x1024_S1x1x1024_0_0_0))) w

/-- The rows' projections: the latent rows, then the context rows. -/
def all (h : FVec F S4x8192x1024 .f32) (h' : FVec F S4x256x1024 .f32) (md : FVec F S4x6x1024 .f32) (md' : FVec F S1x6x1024 .f32) (w : FVec F S1024x5120 .f32) : FVec F S33792x5120 .f32 :=
  concatenate S33792x5120 0 [⟨S32768x5120, shapeCast S32768x5120 (projL h md w) shapeCasts_S4x8192x5120_S32768x5120⟩,
    ⟨S1024x5120, shapeCast S1024x5120 (projC h' md' w) shapeCasts_S4x256x5120_S1024x5120⟩] concatenates_S32768x5120_S1024x5120_S33792x5120_d0

/-- The queries, the values and the gate. -/
def qig (y : FVec F S33792x5120 .f32) : FVec F S33792x3072 .bf16 :=
  truncf .bf16 (concatenate S33792x3072 1 [⟨S33792x1024, extractStridedSlice S33792x1024 ![0, 0] y slices_S33792x5120_S33792x1024_0_0⟩,
    ⟨S33792x1024, extractStridedSlice S33792x1024 ![0, 3072] y slices_S33792x5120_S33792x1024_0_3072⟩,
    ⟨S33792x1024, extractStridedSlice S33792x1024 ![0, 4096] y slices_S33792x5120_S33792x1024_0_4096⟩] concatenates_S33792x1024_S33792x1024_S33792x1024_S33792x3072_d1) bitsLt_bf16_f32

/-- The two directions' forget gates, before their function. -/
def ff (y : FVec F S33792x5120 .f32) : FVec F S33792x2048 .f32 :=
  concatenate S33792x2048 1 [⟨S33792x1024, extractStridedSlice S33792x1024 ![0, 1024] y slices_S33792x5120_S33792x1024_0_1024⟩,
    ⟨S33792x1024, extractStridedSlice S33792x1024 ![0, 2048] y slices_S33792x5120_S33792x1024_0_2048⟩] concatenates_S33792x1024_S33792x1024_S33792x2048_d1

/-- The reference's run: the two result arrays at `qig` and `ff` of the projections, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = qig (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        ∧ r.2.mem ((c.tc : Thread nD τ).loc main_v36) = ff (all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c).1.trans (by unfold Value.res_main_v35; rfl), (h c).2.1.trans (by rfl), (h c).2.2⟩) (Value.run m ρ)

end Stages

/-- The latent rows' projection at an element. -/
theorem projL_apply (h : FVec Ideal S4x8192x1024 .f32) (md : FVec Ideal S4x6x1024 .f32) (w : FVec Ideal S1024x5120 .f32) (b : Fin 4) (p : Fin 8192) (j : Fin 5120) : projL h md w (ix3 b p j)
    = projected (fun k => h (ix3 b p k)) (fun k => md (ix3 b 0 k)) (fun k => md (ix3 b 1 k)) fun l => w (ix2 l j) := by
  pointwise [projL, projected, modulated]

/-- The context rows' projection at an element. -/
theorem projC_apply (h : FVec Ideal S4x256x1024 .f32) (md : FVec Ideal S1x6x1024 .f32) (w : FVec Ideal S1024x5120 .f32) (b : Fin 4) (p : Fin 256) (j : Fin 5120) : projC h md w (ix3 b p j)
    = projected (fun k => h (ix3 b p k)) (fun k => md (ix3 0 0 k)) (fun k => md (ix3 0 1 k)) fun l => w (ix2 l j) := by
  pointwise [projC, projected, modulated]

/-- The reshape of batches of latent rows to rows. -/
theorem cast_lat {α : Type} (z : S4x8192x5120.Idx → α) (hc : S4x8192x5120.ShapeCasts S32768x5120) (b : Fin 4) (p : Fin 8192) (k : Fin 5120) :
    shapeCast S32768x5120 z hc (ix2 ⟨8192 * b.val + p.val, by omega⟩ k) = z (ix3 b p k) :=
  shapeCast_apply _ _ _ _ (by
    refine (rowMajor_val3 (d := ![4, 8192, 5120]) (ix3 b p k) 41943040 5120 rfl rfl).trans
      (.trans ?_ (rowMajor_val2 (d := ![32768, 5120]) (ix2 ⟨8192 * b.val + p.val, by omega⟩ k) 5120 rfl).symm)
    show b.val * 41943040 + p.val * 5120 + k.val = (8192 * b.val + p.val) * 5120 + k.val
    omega)

/-- The reshape of batches of context rows to rows. -/
theorem cast_ctx {α : Type} (z : S4x256x5120.Idx → α) (hc : S4x256x5120.ShapeCasts S1024x5120) (b : Fin 4) (p : Fin 256) (k : Fin 5120) :
    shapeCast S1024x5120 z hc (ix2 ⟨256 * b.val + p.val, by omega⟩ k) = z (ix3 b p k) :=
  shapeCast_apply _ _ _ _ (by
    refine (rowMajor_val3 (d := ![4, 256, 5120]) (ix3 b p k) 1310720 5120 rfl rfl).trans
      (.trans ?_ (rowMajor_val2 (d := ![1024, 5120]) (ix2 ⟨256 * b.val + p.val, by omega⟩ k) 5120 rfl).symm)
    show b.val * 1310720 + p.val * 5120 + k.val = (256 * b.val + p.val) * 5120 + k.val
    omega)

/-- A latent row of two arrays of rows, one after the other. -/
theorem rows_fst {α : Type} (x : S32768x5120.Idx → α) (y : S1024x5120.Idx → α) (r : Fin 32768) (k : Fin 5120) :
    concatenate S33792x5120 0 [⟨S32768x5120, x⟩, ⟨S1024x5120, y⟩] concatenates_S32768x5120_S1024x5120_S33792x5120_d0 (ix2 ⟨r.val, by omega⟩ k) = x (ix2 r k) := by
  pointwise

/-- A context row of two arrays of rows, one after the other. -/
theorem rows_snd {α : Type} (x : S32768x5120.Idx → α) (y : S1024x5120.Idx → α) (r : Fin 1024) (k : Fin 5120) :
    concatenate S33792x5120 0 [⟨S32768x5120, x⟩, ⟨S1024x5120, y⟩] concatenates_S32768x5120_S1024x5120_S33792x5120_d0 (ix2 ⟨32768 + r.val, by omega⟩ k) = y (ix2 r k) := by
  pointwise

/-- A query. -/
theorem qig_q (y : FVec Ideal S33792x5120 .f32) (r : Fin 33792) (k : Fin 1024) : qig y (ix2 r ⟨k.val, by omega⟩) = y (ix2 r ⟨k.val, by omega⟩) := by
  pointwise [qig]

/-- A value. -/
theorem qig_i (y : FVec Ideal S33792x5120 .f32) (r : Fin 33792) (k : Fin 1024) : qig y (ix2 r ⟨1024 + k.val, by omega⟩) = y (ix2 r ⟨3072 + k.val, by omega⟩) := by
  pointwise [qig]

/-- A gate. -/
theorem qig_g (y : FVec Ideal S33792x5120 .f32) (r : Fin 33792) (k : Fin 1024) : qig y (ix2 r ⟨2048 + k.val, by omega⟩) = y (ix2 r ⟨4096 + k.val, by omega⟩) := by
  pointwise [qig]
  rw [dif_neg (by omega), dif_neg (by omega)]
  exact congrArg (fun j => y (ix2 r j)) (Fin.ext (by show 4096 + (2048 + k.val - 1024 - 1024) = 4096 + k.val; omega))

/-- A forget gate of the forward direction. -/
theorem ff_f (y : FVec Ideal S33792x5120 .f32) (r : Fin 33792) (k : Fin 1024) : ff y (ix2 r ⟨k.val, by omega⟩) = y (ix2 r ⟨1024 + k.val, by omega⟩) := by
  pointwise [ff]

/-- A forget gate of the backward direction. -/
theorem ff_b (y : FVec Ideal S33792x5120 .f32) (r : Fin 33792) (k : Fin 1024) : ff y (ix2 r ⟨1024 + k.val, by omega⟩) = y (ix2 r ⟨2048 + k.val, by omega⟩) := by
  pointwise [ff]

end Cert.Reference5Ideal.Proj

end
-- ==== Proof.Proj.Body.lean ====
/-
  What a grid point of the last layer's input projection leaves in its two blocks of results, element by element, over
  extended reals.
-/
module

public import proofs.«01_k».proof.Proof.Gen.Kernel5Ideal.Frame
public import proofs.«01_k».proof.Proof.Proj.Ref
public import proofs.«01_k».proof.Proof.Post.Value
public import Idealize.ShloMosaic.Lib.Pipeline.ValueKit

@[expose] public section

set_option maxRecDepth 16384

noncomputable section

namespace Cert.Kernel5Ideal.Proj

open Cert.Kernel5Ideal Cert.Kernel5Ideal.Gen Cert.PostRow
open Cert.Reference5Ideal.Proj (projected)
open Cert.Kernel2Ideal.Post (ld_mod ld_whole)
open Idealize.ShloMosaic Idealize.ShloMosaic.TcCoe
open Idealize.SL Idealize.SL.Sem

section Payloads

variable (x : FVec Ideal S512x1024 .f32) (s t : FVec Ideal S1x1x1024 .f32) (w : FVec Ideal S1024x1024 .bf16) (i : Fin 512) (k : Fin 1024)

/-- The row scaled and shifted. -/
theorem pay3_apply : k0_pay3 (F := Ideal) x s t (ix2 i k) = modulated (fun k => x (ix2 i k)) (fun k => s (ix3 0 0 k)) (fun k => t (ix3 0 0 k)) k := by
  pointwise [k0_pay3, modulated]

/-- The first block of columns. -/
theorem pay4_apply : k0_pay4 (F := Ideal) x s t w (ix2 i k) = projected (fun k => x (ix2 i k)) (fun k => s (ix3 0 0 k)) (fun k => t (ix3 0 0 k)) fun l => w (ix2 l k) := by
  pointwise [k0_pay4, pay3_apply, projected]

/-- The second block of columns. -/
theorem pay5_apply : k0_pay5 (F := Ideal) x s t w (ix2 i k) = projected (fun k => x (ix2 i k)) (fun k => s (ix3 0 0 k)) (fun k => t (ix3 0 0 k)) fun l => w (ix2 l k) := by
  pointwise [k0_pay5, pay3_apply, projected]

/-- The third block of columns. -/
theorem pay6_apply : k0_pay6 (F := Ideal) x s t w (ix2 i k) = projected (fun k => x (ix2 i k)) (fun k => s (ix3 0 0 k)) (fun k => t (ix3 0 0 k)) fun l => w (ix2 l k) := by
  pointwise [k0_pay6, pay3_apply, projected]

/-- The fourth block of columns. -/
theorem pay1_apply : k0_pay1 (F := Ideal) (k0_pay7 (F := Ideal) x s t w) (ix2 i k) = projected (fun k => x (ix2 i k)) (fun k => s (ix3 0 0 k)) (fun k => t (ix3 0 0 k)) fun l => w (ix2 l k) := by
  pointwise [k0_pay1, k0_pay7, pay3_apply, projected]

/-- The fifth block of columns. -/
theorem pay2_apply : k0_pay2 (F := Ideal) (k0_pay3 (F := Ideal) x s t) w (ix2 i k) = projected (fun k => x (ix2 i k)) (fun k => s (ix3 0 0 k)) (fun k => t (ix3 0 0 k)) fun l => w (ix2 l k) := by
  pointwise [k0_pay2, pay3_apply, projected]

end Payloads

variable (x0 : FVec Ideal S512x1024 .f32) (x1 : FVec Ideal S1x6x1024 .f32) (x2 : FVec Ideal S1024x5120 .bf16)

/-- An element of the point's projection. -/
abbrev blockAt (i : Fin 512) (j : Fin 5120) : EReal :=
  projected (fun k => x0 (ix2 i k)) (fun k => x1 (ix3 0 0 k)) (fun k => x1 (ix3 0 1 k)) fun l => x2 (ix2 l j)

/-- A block of columns of the weights, loaded. -/
theorem ld_block (o : ℕ) (h : o + 1024 ≤ 5120) (inb : ∀ a, (![0, o] : Fin 2 → ℕ) a + S1024x1024.size a ≤ S1024x5120.size a) (l k : Fin 1024) :
    (View.ld (Val := Elt Ideal) (e' := .bf16) x2 (Rect.unit (s := S1024x5120) ![0, o] S1024x1024.size inb)) (ix2 l k) = x2 (ix2 l ⟨o + k.val, by omega⟩) :=
  View.ld_unit_apply_of (Val := Elt Ideal) (e := .bf16) x2 _ _ inb (ix2 l k) (ix2 l ⟨o + k.val, by omega⟩) fun a => by
    fin_cases a
    · exact (Nat.zero_add l.val).symm
    · rfl

/-- The block of rows, loaded. -/
theorem ld_rows (i : Fin 512) (k : Fin 1024) : (View.ld (Val := Elt Ideal) (e' := .f32) x0 r0_0) (ix2 i k) = x0 (ix2 i k) :=
  View.ld_unit_apply_of (Val := Elt Ideal) (e := .f32) x0 _ _ inb_S512x1024_S512x1024_0_0 (ix2 i k) (ix2 i k) fun a => by
    fin_cases a
    · exact (Nat.zero_add i.val).symm
    · exact (Nat.zero_add k.val).symm

/-- A block of columns of the projection, of what the point loads. -/
theorem loaded (o : ℕ) (h : o + 1024 ≤ 5120) (inb : ∀ a, (![0, o] : Fin 2 → ℕ) a + S1024x1024.size a ≤ S1024x5120.size a) (i : Fin 512) (k : Fin 1024) :
    projected (fun k => (View.ld (Val := Elt Ideal) (e' := .f32) x0 r0_0) (ix2 i k)) (fun k => (View.ld (Val := Elt Ideal) (e' := .f32) x1 r0_1) (ix3 0 0 k))
      (fun k => (View.ld (Val := Elt Ideal) (e' := .f32) x1 r0_2) (ix3 0 0 k))
      (fun l => (View.ld (Val := Elt Ideal) (e' := .bf16) x2 (Rect.unit (s := S1024x5120) ![0, o] S1024x1024.size inb)) (ix2 l k))
    = blockAt x0 x1 x2 i ⟨o + k.val, by omega⟩ := by
  have h0 : ∀ k : Fin 1024, (View.ld (Val := Elt Ideal) (e' := .f32) x1 r0_1) (ix3 0 0 k) = x1 (ix3 0 0 k) := fun k => ld_mod x1 0 _ k
  have h1 : ∀ k : Fin 1024, (View.ld (Val := Elt Ideal) (e' := .f32) x1 r0_2) (ix3 0 0 k) = x1 (ix3 0 1 k) := fun k => ld_mod x1 1 _ k
  have hr : ∀ k : Fin 1024, (View.ld (Val := Elt Ideal) (e' := .f32) x0 r0_0) (ix2 i k) = x0 (ix2 i k) := ld_rows x0 i
  have hw : ∀ l : Fin 1024, (View.ld (Val := Elt Ideal) (e' := .bf16) x2 (Rect.unit (s := S1024x5120) ![0, o] S1024x1024.size inb)) (ix2 l k) = x2 (ix2 l ⟨o + k.val, by omega⟩) := fun l => ld_block x2 o h inb l k
  rw [funext hr, funext h0, funext h1, funext hw]

/-- An index of a block of columns, by its coordinates. -/
theorem idx_eq (x : S512x1024.Idx) (i : Fin 512) (h0 : i.val = (x 0).val) : x = ix2 i (⟨(x 1).val, (x 1).isLt⟩ : Fin 1024) := by
  funext a
  fin_cases a
  · exact Fin.ext h0.symm
  · rfl

/-- The first block of results: wherever a row of five blocks of columns holds the projection, it holds that row's first,
fourth and fifth. -/
theorem out3_apply (y : FVec Ideal Cert.Reference5Ideal.S33792x5120 .f32) (r : Fin 33792) (i : Fin 512) (hy : ∀ j, blockAt x0 x1 x2 i j = y (ix2 r j)) (k : Fin 3072) :
    out0_3 (F := Ideal) x0 x1 x2 (ix2 i k) = Cert.Reference5Ideal.Proj.qig (F := Ideal) y (ix2 r k) := by
  canon_tiles x h using cover0_3 ..
  · rw [idx_eq x i h0]
    refine (pay2_apply _ _ _ _ i _).trans ((loaded x0 x1 x2 4096 (by norm_num) _ i _).trans ((hy _).trans ?_))
    rw [show k = ⟨2048 + (x 1).val, by omega⟩ from Fin.ext h1]
    exact (Cert.Reference5Ideal.Proj.qig_g y r ⟨(x 1).val, (x 1).isLt⟩).symm
  · rw [idx_eq x i h0]
    refine (pay1_apply _ _ _ _ i _).trans ((loaded x0 x1 x2 3072 (by norm_num) _ i _).trans ((hy _).trans ?_))
    rw [show k = ⟨1024 + (x 1).val, by omega⟩ from Fin.ext h1]
    exact (Cert.Reference5Ideal.Proj.qig_i y r ⟨(x 1).val, (x 1).isLt⟩).symm
  · rw [idx_eq x i h0]
    refine (pay4_apply _ _ _ _ i _).trans ((loaded x0 x1 x2 0 (by norm_num) _ i _).trans ((hy _).trans ?_))
    rw [show k = ⟨(x 1).val, by omega⟩ from Fin.ext h1]
    refine .trans ?_ (Cert.Reference5Ideal.Proj.qig_q y r ⟨(x 1).val, (x 1).isLt⟩).symm
    exact congrArg (fun j : Fin 5120 => y (ix2 r j)) (Fin.ext (Nat.zero_add (x 1).val))

/-- The second block of results: the row's second and third blocks of columns. -/
theorem out4_apply (y : FVec Ideal Cert.Reference5Ideal.S33792x5120 .f32) (r : Fin 33792) (i : Fin 512) (hy : ∀ j, blockAt x0 x1 x2 i j = y (ix2 r j)) (k : Fin 2048) :
    out0_4 (F := Ideal) x0 x1 x2 (ix2 i k) = Cert.Reference5Ideal.Proj.ff (F := Ideal) y (ix2 r k) := by
  canon_tiles x h using cover0_4 ..
  · rw [idx_eq x i h0]
    refine (pay6_apply _ _ _ _ i _).trans ((loaded x0 x1 x2 2048 (by norm_num) _ i _).trans ((hy _).trans ?_))
    rw [show k = ⟨1024 + (x 1).val, by omega⟩ from Fin.ext h1]
    exact (Cert.Reference5Ideal.Proj.ff_b y r ⟨(x 1).val, (x 1).isLt⟩).symm
  · rw [idx_eq x i h0]
    refine (pay5_apply _ _ _ _ i _).trans ((loaded x0 x1 x2 1024 (by norm_num) _ i _).trans ((hy _).trans ?_))
    rw [show k = ⟨(x 1).val, by omega⟩ from Fin.ext h1]
    exact (Cert.Reference5Ideal.Proj.ff_f y r ⟨(x 1).val, (x 1).isLt⟩).symm

end Cert.Kernel5Ideal.Proj

end
-- ==== Proof.Proj.Claim.lean ====
/-
  The launch of the last layer's input projection ends with the reference's rows, and the claims that rest on it.
-/
module

public import proofs.«01_k».proof.Defs
public import proofs.«01_k».proof.Proof.Proj.Body
public import proofs.«01_k».proof.Proof.Post3.Arrays
public import Idealize.ShloMosaic.Lib.Claim

@[expose] public section

set_option maxRecDepth 16384

noncomputable section

namespace Cert.Kernel5Ideal.Proj

open Cert.Kernel5Ideal Cert.Kernel5Ideal.Gen
open Cert.Kernel3Ideal.Post3 (rowArr modArr modArr_batch modArr_ctx rowArr_lat rowArr_ctx)
open Cert.Reference5Ideal.Proj (projected all qig ff projL_apply projC_apply cast_lat cast_ctx rows_fst rows_snd)
open Idealize.ShloMosaic Idealize.ShloMosaic.TcCoe
open Idealize.SL Idealize.SL.Sem

/-- The block of input rows at a point. -/
theorem idx0 : ∀ t : Fin cfg0.N, win0_0.index t 0 = t.val ∧ win0_0.index t 1 = 0 := by
  decide +kernel

/-- The block of modulation rows at a point: a batch's, then the context's. -/
theorem idx1 : ∀ t : Fin cfg0.N, win0_1.index t 0 = (if t.val < 64 then 1 + t.val / 16 else 0) ∧ win0_1.index t 1 = 0 ∧ win0_1.index t 2 = 0 := by
  decide +kernel

/-- The block of weights at a point: all of them. -/
theorem idx2 : ∀ t : Fin cfg0.N, win0_2.index t 0 = 0 ∧ win0_2.index t 1 = 0 := by
  decide +kernel

/-- The first block of results at a point. -/
theorem idx3 : ∀ t : Fin cfg0.N, win0_3.index t 0 = t.val ∧ win0_3.index t 1 = 0 := by
  decide +kernel

/-- The second block of results at a point. -/
theorem idx4 : ∀ t : Fin cfg0.N, win0_4.index t 0 = t.val ∧ win0_4.index t 1 = 0 := by
  decide +kernel

/-- The batch of a latent point. -/
abbrev latB (t : Fin cfg0.N) (h : t.val < 64) : Fin 4 := ⟨t.val / 16, by omega⟩

/-- A latent row's place in its batch. -/
abbrev latRow (t : Fin cfg0.N) (i : Fin 512) : Fin 8192 := ⟨t.val % 16 * 512 + i.val, by omega⟩

/-- The batch of a context point's row. -/
abbrev ctxB (t : Fin cfg0.N) (h : 64 ≤ t.val) (i : Fin 512) : Fin 4 := ⟨2 * (t.val - 64) + i.val / 256, by have := t.isLt; have : cfg0.N = 66 := N_0; omega⟩

/-- A context row's place in its batch. -/
abbrev ctxRow (i : Fin 512) : Fin 256 := ⟨i.val % 256, by omega⟩

/-- A point's row, of all the rows. -/
abbrev row (t : Fin cfg0.N) (i : Fin 512) : Fin 33792 := ⟨t.val * 512 + i.val, by have := t.isLt; have : cfg0.N = 66 := N_0; omega⟩

section Arrays

variable {F : FTy → Type} [FloatOps F]
variable (m : (ℓ : Loc nD τ sig) → Buf (Elt F) ℓ) (c : Dev nD)

/-- The launch finds the rows' array so. -/
theorem V_x : V m c main_v2 = rowArr (m ((c : Thread nD τ).loc main_arg0)) (m ((c : Thread nD τ).loc main_arg1)) := by
  simp only [V, hostOps0, hostOps0_1, hostOps0_2, List.flatten_cons, List.flatten_nil, List.append_nil, List.cons_append, List.nil_append]
  after_results
  rfl

/-- The launch finds the modulation's array so. -/
theorem V_mod : V m c main_v4 = modArr (m ((c : Thread nD τ).loc main_arg2)) (m ((c : Thread nD τ).loc main_arg3)) := by
  simp only [V, hostOps0, hostOps0_1, hostOps0_2, List.flatten_cons, List.flatten_nil, List.append_nil, List.cons_append, List.nil_append]
  after_results
  rfl

/-- The launch finds the weights' array so. -/
theorem V_w : V m c main_v5 = truncf .bf16 (m ((c : Thread nD τ).loc main_arg4) : FVec F S1024x5120 .f32) bitsLt_bf16_f32 := by
  simp only [V, hostOps0, hostOps0_1, hostOps0_2, List.flatten_cons, List.flatten_nil, List.append_nil, List.cons_append, List.nil_append]
  after_results

end Arrays

variable (m : (ℓ : Loc nD τ sig) → Buf (Elt Ideal) ℓ) (c : Dev nD)

/-- An input element of a latent point. -/
theorem block_xl (t : Fin cfg0.N) (h : t.val < 64) (i : Fin 512) (k : Fin 1024) : iblk m c 0 t (ix2 i k) = m ((c : Thread nD τ).loc main_arg0) (ix3 (latB t h) (latRow t i) k) := by
  refine .trans ?_ (rowArr_lat (m ((c : Thread nD τ).loc main_arg0)) (m ((c : Thread nD τ).loc main_arg1)) (latB t h) (latRow t i) k)
  rw [← V_x]
  blk_ext [iblk, (idx0 t).1, (idx0 t).2]

/-- An input element of a context point. -/
theorem block_xc (t : Fin cfg0.N) (h : 64 ≤ t.val) (i : Fin 512) (k : Fin 1024) : iblk m c 0 t (ix2 i k) = m ((c : Thread nD τ).loc main_arg1) (ix3 (ctxB t h i) (ctxRow i) k) := by
  refine .trans ?_ (rowArr_ctx (m ((c : Thread nD τ).loc main_arg0)) (m ((c : Thread nD τ).loc main_arg1)) (ctxB t h i) (ctxRow i) k)
  rw [← V_x]
  blk_ext [iblk, (idx0 t).1, (idx0 t).2]

/-- A modulation element of a latent point. -/
theorem block_ml (t : Fin cfg0.N) (h : t.val < 64) (j : Fin 6) (k : Fin 1024) : iblk m c 1 t (ix3 0 j k) = m ((c : Thread nD τ).loc main_arg2) (ix3 (latB t h) j k) := by
  refine .trans ?_ (modArr_batch (m ((c : Thread nD τ).loc main_arg2)) (m ((c : Thread nD τ).loc main_arg3)) (latB t h) j k)
  rw [← V_mod]
  have e := (idx1 t).1
  rw [if_pos h] at e
  blk_ext [iblk, e, (idx1 t).2.1, (idx1 t).2.2]

/-- A modulation element of a context point. -/
theorem block_mc (t : Fin cfg0.N) (h : 64 ≤ t.val) (j : Fin 6) (k : Fin 1024) : iblk m c 1 t (ix3 0 j k) = m ((c : Thread nD τ).loc main_arg3) (ix3 0 j k) := by
  refine .trans ?_ (modArr_ctx (m ((c : Thread nD τ).loc main_arg2)) (m ((c : Thread nD τ).loc main_arg3)) j k)
  rw [← V_mod]
  have e := (idx1 t).1
  rw [if_neg (by omega)] at e
  blk_ext [iblk, e, (idx1 t).2.1, (idx1 t).2.2]

/-- A weight. -/
theorem block_w (t : Fin cfg0.N) (l : Fin 1024) (j : Fin 5120) : iblk m c 2 t (ix2 l j) = m ((c : Thread nD τ).loc main_arg4) (ix2 l j) := by
  have h : V m c main_v5 (ix2 l j) = m ((c : Thread nD τ).loc main_arg4) (ix2 l j) := congrFun (V_w m c) (ix2 l j)
  refine .trans ?_ h
  blk_ext [iblk, (idx2 t).1, (idx2 t).2]

/-- The reference's projections of device `c`'s arguments. -/
abbrev rows5 : FVec Ideal Cert.Reference5Ideal.S33792x5120 .f32 :=
  all (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A latent point's projection is the reference's. -/
theorem rows_lat (t : Fin cfg0.N) (h : t.val < 64) (i : Fin 512) (j : Fin 5120) :
    blockAt (iblk m c 0 t) (iblk m c 1 t) (iblk m c 2 t) i j = rows5 m c (ix2 (row t i) j) := by
  have e : row t i = ⟨8192 * (latB t h).val + (latRow t i).val, by omega⟩ :=
    Fin.ext (show t.val * 512 + i.val = 8192 * (t.val / 16) + (t.val % 16 * 512 + i.val) by omega)
  rw [e]
  refine .trans ?_ ((rows_fst _ _ ⟨8192 * (latB t h).val + (latRow t i).val, by omega⟩ j).trans
    ((cast_lat _ _ (latB t h) (latRow t i) j).trans (projL_apply _ _ _ (latB t h) (latRow t i) j))).symm
  unfold blockAt
  rw [funext (block_xl m c t h i), funext (block_ml m c t h 0), funext (block_ml m c t h 1), funext fun l => block_w m c t l j]

/-- A context point's projection is the reference's. -/
theorem rows_ctx (t : Fin cfg0.N) (h : 64 ≤ t.val) (i : Fin 512) (j : Fin 5120) :
    blockAt (iblk m c 0 t) (iblk m c 1 t) (iblk m c 2 t) i j = rows5 m c (ix2 (row t i) j) := by
  have e : row t i = ⟨32768 + (256 * (ctxB t h i).val + (ctxRow i).val), by omega⟩ :=
    Fin.ext (show t.val * 512 + i.val = 32768 + (256 * (2 * (t.val - 64) + i.val / 256) + i.val % 256) by omega)
  rw [e]
  refine .trans ?_ ((rows_snd _ _ ⟨256 * (ctxB t h i).val + (ctxRow i).val, by omega⟩ j).trans
    ((cast_ctx _ _ (ctxB t h i) (ctxRow i) j).trans (projC_apply _ _ _ (ctxB t h i) (ctxRow i) j))).symm
  unfold blockAt
  rw [funext (block_xc m c t h i), funext (block_mc m c t h 0), funext (block_mc m c t h 1), funext fun l => block_w m c t l j]

/-- A point's projection is the reference's. -/
theorem rows_at (t : Fin cfg0.N) (i : Fin 512) (j : Fin 5120) :
    blockAt (iblk m c 0 t) (iblk m c 1 t) (iblk m c 2 t) i j = rows5 m c (ix2 (row t i) j) := by
  by_cases h : t.val < 64
  · exact rows_lat m c t h i j
  · exact rows_ctx m c t (by omega) i j

/-- The first result array after the run. -/
theorem result3 : (dats m 0 c).arrAt 3 cfg0.N = qig (F := Ideal) (rows5 m c) := by
  refine (dats m 0 c).arrAt_eq_of_covers 3 _ (by decide +kernel) fun t hf y => ?_
  blk_simp
  rw [after0_3]
  have hy : y = ix2 (⟨(y 0).val, (y 0).isLt⟩ : Fin 512) (⟨(y 1).val, (y 1).isLt⟩ : Fin 3072) := by
    funext a; fin_cases a <;> rfl
  rw [hy]
  refine (out3_apply (iblk m c 0 t) (iblk m c 1 t) (iblk m c 2 t) (rows5 m c) (row t _) _ (rows_at m c t _) _).trans ?_
  blk_ext [(idx3 t).1, (idx3 t).2]

/-- The second result array after the run. -/
theorem result4 : (dats m 0 c).arrAt 4 cfg0.N = ff (F := Ideal) (rows5 m c) := by
  refine (dats m 0 c).arrAt_eq_of_covers 4 _ (by decide +kernel) fun t hf y => ?_
  blk_simp
  rw [after0_4]
  have hy : y = ix2 (⟨(y 0).val, (y 0).isLt⟩ : Fin 512) (⟨(y 1).val, (y 1).isLt⟩ : Fin 2048) := by
    funext a; fin_cases a <;> rfl
  rw [hy]
  refine (out4_apply (iblk m c 0 t) (iblk m c 1 t) (iblk m c 2 t) (rows5 m c) (row t _) _ (rows_at m c t _) _).trans ?_
  blk_ext [(idx4 t).1, (idx4 t).2]

/-- The run: the two result arrays hold the reference's columns of the projections. -/
theorem run_value (ρ : Dev nD → PrngReg) : θ_run defs (onTc (τ := τ) (main (F := Ideal))) ⟨m, fun _ => 0, ρ⟩ (fun r => ∀ c : Dev nD,
      r.2.mem ((c.tc : Thread nD τ).loc main_v6_0) = qig (F := Ideal) (rows5 m c)
        ∧ r.2.mem ((c.tc : Thread nD τ).loc main_v6_1) = ff (F := Ideal) (rows5 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ hr c => ⟨((hr.1 c).1 3).trans (result3 m c), ((hr.1 c).1 4).trans (result4 m c), hr.2 c⟩)
    (θ_run_and (run_main m ρ) (frame_of m ρ (dats m) (A_eq m) (run_main m ρ)))

end Cert.Kernel5Ideal.Proj

namespace Cert.Proof

open Idealize.ShloMosaic Idealize.ShloMosaic.TcCoe Idealize.SL.Sem

/-- The kernel of the last layer's input projection ends quiescent with its arguments unchanged. -/
theorem frame_kernel5Ideal : Cert.quiescent_Kernel5Ideal (hKernel5Ideal := Cert.Kernel5Ideal.Gen.facts) := fun m ρ _ => Cert.Kernel5Ideal.Gen.frame m ρ

/-- Its reference ends with its arguments unchanged; it has no semaphore. -/
theorem frame_reference5Ideal : Cert.quiescent_Reference5Ideal (hReference5Ideal := Cert.Reference5Ideal.Gen.facts) := fun m ρ _ =>
  (θ_run Cert.Reference5Ideal.defs _ _).mono (fun r h => ⟨fun c => (h c).2.2, funext fun sm => nomatch sm.2⟩)
    (Cert.Reference5Ideal.Proj.run_main (F := Ideal) m ρ)

/-- The kernel of the last layer's input projection and its reference end with the same two arrays. -/
theorem algebraic5 : Cert.algebraic_Kernel5Ideal_Reference5Ideal (hKernel5Ideal := Cert.Kernel5Ideal.Gen.facts) (hReference5Ideal := Cert.Reference5Ideal.Gen.facts) := by
  intro m g m' g' _ hagree
  refine ⟨fun c => Cert.Reference5Ideal.Proj.qig (F := Ideal) (Cert.Kernel5Ideal.Proj.rows5 m c), fun c => Cert.Reference5Ideal.Proj.ff (F := Ideal) (Cert.Kernel5Ideal.Proj.rows5 m c),
    Cert.Kernel5Ideal.Proj.run_value m g, ?_⟩
  refine (θ_run Cert.Reference5Ideal.defs _ _).mono (fun _ h c => ⟨(h c).1.trans ?_, (h c).2.1.trans ?_, (h c).2.2⟩) (Cert.Reference5Ideal.Proj.run_main (F := Ideal) m' g')
  · obtain ⟨h0, h1, h2, h3, h4⟩ := hagree c
    rw [h0, h1, h2, h3, h4]
  · obtain ⟨h0, h1, h2, h3, h4⟩ := hagree c
    rw [h0, h1, h2, h3, h4]

end Cert.Proof

end
-- ==== Proof.lean ====
/- The claims of this certificate, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Flash.Frame
public import proofs.«01_k».proof.Proof.Flash.RefRun
public import proofs.«01_k».proof.Proof.Flash.Claim
public import proofs.«01_k».proof.Proof.Post.Claim
public import proofs.«01_k».proof.Proof.Post3.Claim
public import proofs.«01_k».proof.Proof.Post4.Claim
public import proofs.«01_k».proof.Proof.Proj.Claim

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_qk.facts,
  frame_kernel, frame_kernelIdeal, fun m g _ => frame_kernelIdeal m g trivial, frame_referenceIdeal, fun m g _ => frame_referenceIdeal m g trivial,
  fun m g _ => Cert.Kernel2.Gen.frame m g, frame_kernel2Ideal, frame_reference2Ideal,
  fun m g _ => Cert.Kernel3.Gen.frame m g, frame_kernel3Ideal, frame_reference3Ideal,
  fun m g _ => Cert.Kernel4.Gen.frame m g, frame_kernel4Ideal, frame_reference4Ideal,
  fun m g _ => Cert.Kernel5.Gen.frame m g, frame_kernel5Ideal, frame_reference5Ideal,
  trivial, algebraic, trivial, algebraic2, trivial, algebraic3, trivial, algebraic4, trivial, algebraic5⟩

end Cert.Proof

end
